-- ==== Defs.lean ====
def Pre_Kernel [hPre_expert_tables : Cert.Pre_expert_tables.Facts] (m : (ℓ : Loc Cert.Kernel.nD Cert.Kernel.τ Cert.Kernel.sig) → Buf (Elt Bits) ℓ) : Prop :=
  ∀ c : Dev Cert.Kernel.nD,
    (Cert.Pre_expert_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_expert_tables : Cert.Pre_expert_tables.Facts] (m : (ℓ : Loc Cert.KernelIdeal.nD Cert.KernelIdeal.τ Cert.KernelIdeal.sig) → Buf (Elt Ideal) ℓ) : Prop :=
  ∀ c : Dev Cert.KernelIdeal.nD,
    (Cert.Pre_expert_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_expert_tables [hPre_expert_tables : Cert.Pre_expert_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_expert_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_expert_tables : Cert.Pre_expert_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_expert_tables : Cert.Pre_expert_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_expert_tables [hReferenceIdeal : Cert.ReferenceIdeal.Facts] [hPre_expert_tables : Cert.Pre_expert_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_expert_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal_on_live_rows [hKernelIdeal : Cert.KernelIdeal.Facts] [hReferenceIdeal : Cert.ReferenceIdeal.Facts] [hPre_expert_tables : Cert.Pre_expert_tables.Facts] [hOn_live_rows : Cert.On_live_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![270336, 1024]⟩ : Shape).Idx, (Cert.On_live_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.KernelIdeal.nD Cert.KernelIdeal.τ).loc Cert.KernelIdeal.main_v1) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![270336, 1024]⟩ : Shape).Idx, (Cert.On_live_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.ReferenceIdeal.nD Cert.ReferenceIdeal.τ).loc Cert.ReferenceIdeal.main_v18) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v13_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v36)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v36) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v108) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v74) = v0 c
          ∧ r.2.mem ((c.tc : Thread Cert.Reference4Ideal.nD Cert.Reference4Ideal.τ).loc Cert.Reference4Ideal.main_v77) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_expert_tables : Cert.Pre_expert_tables.Facts) (hOn_live_rows : Cert.On_live_rows.Facts),
    quiescent_Kernel (hKernel := hKernel) (hPre_expert_tables := hPre_expert_tables)
    ∧ quiescent_KernelIdeal (hKernelIdeal := hKernelIdeal) (hPre_expert_tables := hPre_expert_tables)
    ∧ quiescent_ReferenceIdeal (hReferenceIdeal := hReferenceIdeal)
    ∧ quiescent_ReferenceIdeal_pre_expert_tables (hReferenceIdeal := hReferenceIdeal) (hPre_expert_tables := hPre_expert_tables)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_on_live_rows (hKernelIdeal := hKernelIdeal) (hReferenceIdeal := hReferenceIdeal) (hPre_expert_tables := hPre_expert_tables) (hOn_live_rows := hOn_live_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== On_live_rows.lean ====
abbrev S278528x1024 : Shape := ⟨2, ![278528, 1024]⟩
abbrev S2x64x1024x256 : Shape := ⟨4, ![2, 64, 1024, 256]⟩
abbrev S2x64x256x1024 : Shape := ⟨4, ![2, 64, 256, 1024]⟩
abbrev S264 : Shape := ⟨1, ![264]⟩
abbrev S1 : Shape := ⟨1, ![1]⟩
abbrev S64 : Shape := ⟨1, ![64]⟩
abbrev S270336x1024 : Shape := ⟨2, ![270336, 1024]⟩
abbrev S_ : Shape := ⟨0, ![]⟩

class Facts : Prop where
  shapeCasts_S1_S_ : S1.ShapeCasts S_
  bcast_S_S270336x1024 : S_.BroadcastsInDim S270336x1024 (![] : Fin 0 → Fin S270336x1024.rank)

variable [Facts]

def fn {F : FTy → Type} [FloatOps F] (main_arg0 : FVec F S278528x1024 .bf16) (main_arg1 : FVec F S2x64x1024x256 .f32) (main_arg2 : FVec F S2x64x1024x256 .f32) (main_arg3 : FVec F S2x64x256x1024 .f32) (main_arg4 : IVec S264 32) (main_arg5 : IVec S1 32) (main_arg6 : IVec S64 32) : IVec S270336x1024 1 :=
  let main_v0 : IVec S270336x1024 32 := iotaInDim S270336x1024 32 0
  let main_v1 : IVec S_ 32 := shapeCast S_ main_arg5 shapeCasts_S1_S_
  let main_c : IVec S_ 32 := constantI S_ 32 1024#32
  let main_v2 : IVec S_ 32 := muli main_v1 main_c
  let main_v3 : IVec S270336x1024 32 := broadcastInDim S270336x1024 ![] bcast_S_S270336x1024 main_v2
  let main_v4 : IVec S270336x1024 1 := cmpi .slt main_v0 main_v3
  main_v4
-- ==== Pre_expert_tables.lean ====
abbrev S278528x1024 : Shape := ⟨2, ![278528, 1024]⟩
abbrev S2x64x1024x256 : Shape := ⟨4, ![2, 64, 1024, 256]⟩
abbrev S2x64x256x1024 : Shape := ⟨4, ![2, 64, 256, 1024]⟩
abbrev S264 : Shape := ⟨1, ![264]⟩
abbrev S1 : Shape := ⟨1, ![1]⟩
abbrev S64 : Shape := ⟨1, ![64]⟩
abbrev S_ : Shape := ⟨0, ![]⟩
abbrev S264x64 : Shape := ⟨2, ![264, 64]⟩
abbrev S264x1 : Shape := ⟨2, ![264, 1]⟩
abbrev S263 : Shape := ⟨1, ![263]⟩
abbrev S1x64 : Shape := ⟨2, ![1, 64]⟩

class Facts : Prop where
  shapeCasts_S1_S_ : S1.ShapeCasts S_
  bcast_S264_S264x1_0 : S264.BroadcastsInDim S264x1 (![0] : Fin 1 → Fin S264x1.rank)
  bcast_S264x1_S264x64_0_1 : S264x1.BroadcastsInDim S264x64 (![0, 1] : Fin 2 → Fin S264x64.rank)
  slices_S264_S263_1 : S264.Slices ![1] S263
  slices_S264_S1_263 : S264.Slices ![263] S1
  concatenates_S263_S1_S264_d0 : Shape.Concatenates [S263, S1] S264 0
  bcast_S64_S1x64_1 : S64.BroadcastsInDim S1x64 (![1] : Fin 1 → Fin S1x64.rank)
  bcast_S1x64_S264x64_0_1 : S1x64.BroadcastsInDim S264x64 (![0, 1] : Fin 2 → Fin S264x64.rank)
  bcast_S_S264x64 : S_.BroadcastsInDim S264x64 (![] : Fin 0 → Fin S264x64.rank)

variable [Facts]

def fn_part2 {F : FTy → Type} [FloatOps F] (main_v16 : IVec S264x64 1) (main_v33 : IVec S_ 1) (main_v36 : IVec S264x64 1) (main_v40 : IVec S264x64 1) : IVec S264x64 1 :=
  let main_v41 : IVec S264x64 1 := andi main_v16 main_v40
  let main_v42 : IVec S264x64 1 := ori main_v36 main_v41
  let main_v43 : IVec S264x64 1 := broadcastInDim S264x64 ![] bcast_S_S264x64 main_v33
  let main_v44 : IVec S264x64 1 := andi main_v43 main_v42
  main_v44

def fn_part1 {F : FTy → Type} [FloatOps F] (main_v0 : IVec S_ 32) (main_v1 : IVec S264x64 32) (main_v2 : IVec S264x64 32) (main_v4 : IVec S264x64 32) (main_v9 : IVec S264x64 32) (main_v11 : IVec S264x64 32) (main_v16 : IVec S264x64 1) (main_v19 : IVec S264x64 1) (main_c_2 : IVec S_ 32) : IVec S264x64 1 :=
  let main_v20 : IVec S264x64 32 := broadcastInDim S264x64 ![] bcast_S_S264x64 main_c_2
  let main_v21 : IVec S264x64 32 := addi main_v1 main_v20
  let main_v22 : IVec S264x64 32 := broadcastInDim S264x64 ![] bcast_S_S264x64 main_v0
  let main_v23 : IVec S264x64 1 := cmpi .slt main_v21 main_v22
  let main_v24 : IVec S264x64 1 := cmpi .ne main_v4 main_v9
  let main_v25 : IVec S264x64 1 := andi main_v23 main_v24
  let main_v26 : IVec S264x64 1 := noti main_v25
  let main_c_3 : IVec S_ 32 := constantI S_ 32 1#32
  let main_v27 : IVec S264x64 32 := broadcastInDim S264x64 ![] bcast_S_S264x64 main_c_3
  let main_v28 : IVec S264x64 32 := addi main_v1 main_v27
  let main_v29 : IVec S264x64 1 := cmpi .eq main_v11 main_v28
  let main_v30 : IVec S264x64 1 := ori main_v26 main_v29
  let main_c_4 : IVec S_ 32 := constantI S_ 32 1#32
  let main_v31 : IVec S_ 1 := cmpi .sge main_v0 main_c_4
  let main_c_5 : IVec S_ 32 := constantI S_ 32 264#32
  let main_v32 : IVec S_ 1 := cmpi .sle main_v0 main_c_5
  let main_v33 : IVec S_ 1 := andi main_v31 main_v32
  let main_v34 : IVec S264x64 32 := broadcastInDim S264x64 ![] bcast_S_S264x64 main_v0
  let main_v35 : IVec S264x64 1 := cmpi .slt main_v1 main_v34
  let main_v36 : IVec S264x64 1 := noti main_v35
  let main_v37 : IVec S264x64 1 := cmpi .eq main_v4 main_v2
  let main_v38 : IVec S264x64 1 := noti main_v37
  let main_v39 : IVec S264x64 1 := andi main_v19 main_v30
  let main_v40 : IVec S264x64 1 := ori main_v38 main_v39
  fn_part2 (F := F) main_v16 main_v33 main_v36 main_v40

def fn {F : FTy → Type} [FloatOps F] (main_arg0 : FVec F S278528x1024 .bf16) (main_arg1 : FVec F S2x64x1024x256 .f32) (main_arg2 : FVec F S2x64x1024x256 .f32) (main_arg3 : FVec F S2x64x256x1024 .f32) (main_arg4 : IVec S264 32) (main_arg5 : IVec S1 32) (main_arg6 : IVec S64 32) : IVec S264x64 1 :=
  let main_v0 : IVec S_ 32 := shapeCast S_ main_arg5 shapeCasts_S1_S_
  let main_v1 : IVec S264x64 32 := iotaInDim S264x64 32 0
  let main_v2 : IVec S264x64 32 := iotaInDim S264x64 32 1
  let main_v3 : IVec S264x1 32 := broadcastInDim S264x1 ![0] bcast_S264_S264x1_0 main_arg4
  let main_v4 : IVec S264x64 32 := broadcastInDim S264x64 ![0, 1] bcast_S264x1_S264x64_0_1 main_v3
  let main_v5 : IVec S263 32 := (extractStridedSlice S263 ![1] · slices_S264_S263_1) main_arg4
  let main_v6 : IVec S1 32 := (extractStridedSlice S1 ![263] · slices_S264_S1_263) main_arg4
  let main_v7 : IVec S264 32 := (fun a b => concatenate S264 0 [⟨S263, a⟩, ⟨S1, b⟩] concatenates_S263_S1_S264_d0) main_v5 main_v6
  let main_v8 : IVec S264x1 32 := broadcastInDim S264x1 ![0] bcast_S264_S264x1_0 main_v7
  let main_v9 : IVec S264x64 32 := broadcastInDim S264x64 ![0, 1] bcast_S264x1_S264x64_0_1 main_v8
  let main_v10 : IVec S1x64 32 := broadcastInDim S1x64 ![1] bcast_S64_S1x64_1 main_arg6
  let main_v11 : IVec S264x64 32 := broadcastInDim S264x64 ![0, 1] bcast_S1x64_S264x64_0_1 main_v10
  let main_c : IVec S_ 32 := constantI S_ 32 0#32
  let main_v12 : IVec S264x64 32 := broadcastInDim S264x64 ![] bcast_S_S264x64 main_c
  let main_v13 : IVec S264x64 1 := cmpi .sge main_v4 main_v12
  let main_c_0 : IVec S_ 32 := constantI S_ 32 64#32
  let main_v14 : IVec S264x64 32 := broadcastInDim S264x64 ![] bcast_S_S264x64 main_c_0
  let main_v15 : IVec S264x64 1 := cmpi .slt main_v4 main_v14
  let main_v16 : IVec S264x64 1 := andi main_v13 main_v15
  let main_c_1 : IVec S_ 32 := constantI S_ 32 1#32
  let main_v17 : IVec S264x64 32 := broadcastInDim S264x64 ![] bcast_S_S264x64 main_c_1
  let main_v18 : IVec S264x64 32 := addi main_v1 main_v17
  let main_v19 : IVec S264x64 1 := cmpi .sge main_v11 main_v18
  let main_c_2 : IVec S_ 32 := constantI S_ 32 1#32
  fn_part1 (F := F) main_v0 main_v1 main_v2 main_v4 main_v9 main_v11 main_v16 main_v19 main_c_2
-- ==== Kernel.lean ====
abbrev S278528x1024 : Shape := ⟨2, ![278528, 1024]⟩
abbrev S2x64x1024x256 : Shape := ⟨4, ![2, 64, 1024, 256]⟩
abbrev S2x64x256x1024 : Shape := ⟨4, ![2, 64, 256, 1024]⟩
abbrev S264 : Shape := ⟨1, ![264]⟩
abbrev S1 : Shape := ⟨1, ![1]⟩
abbrev S64 : Shape := ⟨1, ![64]⟩
abbrev S_ : Shape := ⟨0, ![]⟩
abbrev S270336x1024 : Shape := ⟨2, ![270336, 1024]⟩
abbrev S1024x1024 : Shape := ⟨2, ![1024, 1024]⟩
abbrev S3x1024x1024 : Shape := ⟨3, ![3, 1024, 1024]⟩
abbrev S2x1024x256 : Shape := ⟨3, ![2, 1024, 256]⟩
abbrev S2x256x1024 : Shape := ⟨3, ![2, 256, 1024]⟩
abbrev S1024x256 : Shape := ⟨2, ![1024, 256]⟩
abbrev S256x1024 : Shape := ⟨2, ![256, 1024]⟩
abbrev S3 : Shape := ⟨1, ![3]⟩
abbrev S2 : Shape := ⟨1, ![2]⟩
abbrev S1x1024x256 : Shape := ⟨3, ![1, 1024, 256]⟩
abbrev S1x1x1024x256 : Shape := ⟨4, ![1, 1, 1024, 256]⟩
abbrev S1x256x1024 : Shape := ⟨3, ![1, 256, 1024]⟩
abbrev S1x1x256x1024 : Shape := ⟨4, ![1, 1, 256, 1024]⟩
abbrev S1x1024x1024 : Shape := ⟨3, ![1, 1024, 1024]⟩

abbrev nBuf : Space → Nat
  | .hbm => 5
  | .vmem => 9
  | .smem => 5
  | _ => 0

abbrev bufTy : (tb : Table) → Fin (tcTables nBuf tb) → BufTy
  | .hbm, ⟨0, _⟩ => ⟨S278528x1024, .bf16⟩
  | .hbm, ⟨1, _⟩ => ⟨S2x64x1024x256, .f32⟩
  | .hbm, ⟨2, _⟩ => ⟨S2x64x1024x256, .f32⟩
  | .hbm, ⟨3, _⟩ => ⟨S2x64x256x1024, .f32⟩
  | .hbm, ⟨4, _⟩ => ⟨S270336x1024, .bf16⟩
  | .local _ .vmem, ⟨0, _⟩ => ⟨S1024x1024, .bf16⟩
  | .local _ .vmem, ⟨1, _⟩ => ⟨S1024x1024, .bf16⟩
  | .local _ .vmem, ⟨2, _⟩ => ⟨S3x1024x1024, .bf16⟩
  | .local _ .vmem, ⟨3, _⟩ => ⟨S2x1024x256, .f32⟩
  | .local _ .vmem, ⟨4, _⟩ => ⟨S2x1024x256, .f32⟩
  | .local _ .vmem, ⟨5, _⟩ => ⟨S2x256x1024, .f32⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .smem, ⟨0, _⟩ => ⟨S_, .i32⟩
  | .local _ .smem, ⟨1, _⟩ => ⟨S264, .i32⟩
  | .local _ .smem, ⟨2, _⟩ => ⟨S1, .i32⟩
  | .local _ .smem, ⟨3, _⟩ => ⟨S64, .i32⟩
  | .local _ .smem, ⟨4, _⟩ => ⟨S1, .i32⟩
  | _, _ => ⟨S278528x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨4, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v0 : Ref sig .tc := ⟨.smem, 0, rfl⟩
abbrev main_arg4 : Ref sig .tc := ⟨.smem, 1, rfl⟩
abbrev main_arg5 : Ref sig .tc := ⟨.smem, 2, rfl⟩
abbrev main_arg6 : Ref sig .tc := ⟨.smem, 3, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.smem, 4, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![0], ![true]⟩

abbrev pre0 : Pipeline.Prefetch sig := ⟨4, ![main_v0.idx, main_arg4.idx, main_arg5.idx, main_arg6.idx], fun | 0 => main_v0.names | 1 => main_arg4.names | 2 => main_arg5.names | 3 => main_arg6.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def dynb0 (pf : pre0.Contents (Elt F)) : grid0.Bounds := ![(pf 0 fun a => a.elim0).toNat]

def k0_off1 (arg0 : BitVec 32) (v0 : BitVec 32) : Fin 1 → Nat :=
  let c1_i32 : BitVec 32 := 1#32
  let v2 : BitVec 32 := Scalar.subi v0 c1_i32
  let c0_i32 : BitVec 32 := 0#32
  let v3 : BitVec 32 := Scalar.maxsi v2 c0_i32
  let v4 : BitVec 32 := Scalar.minsi arg0 v3
  let v6 : Index := Scalar.indexCast v4
  ![v6.toNat]

def k0_off2 (arg0 : BitVec 32) (v0 : BitVec 32) : Fin 1 → Nat :=
  let c1_i32 : BitVec 32 := 1#32
  let v2 : BitVec 32 := Scalar.subi v0 c1_i32
  let c0_i32 : BitVec 32 := 0#32
  let v3 : BitVec 32 := Scalar.maxsi v2 c0_i32
  let v4 : BitVec 32 := Scalar.minsi arg0 v3
  let c1_i32_1 : BitVec 32 := 1#32
  let v8 : BitVec 32 := Scalar.subi v4 c1_i32_1
  let c0_i32_2 : BitVec 32 := 0#32
  let v9 : BitVec 32 := Scalar.maxsi v8 c0_i32_2
  let v10 : Index := Scalar.indexCast v9
  ![v10.toNat]
def k0_off3 (v38 : BitVec 32) : Fin 4 → Nat :=
  let c0_i32_17 : BitVec 32 := 0#32
  let c0_i32_22 : BitVec 32 := 0#32
  let c0_i32_23 : BitVec 32 := 0#32
  ![0, v38.toNat, 0, 0]
def k0_cond1 (arg0 : BitVec 32) (v0 : BitVec 32) : BitVec 1 :=
  let c0_i32_3 : BitVec 32 := 0#32
  let v14 : BitVec 1 := Scalar.cmpi .eq arg0 c0_i32_3
  let v1 : BitVec 1 := Scalar.cmpi .slt arg0 v0
  let v15 : BitVec 1 := Scalar.andi v14 v1
  let v16 : BitVec 32 := Scalar.extui v15
  let c0_i32_4 : BitVec 32 := 0#32
  let v17 : BitVec 1 := Scalar.cmpi .ne v16 c0_i32_4
  v17

def k0_off4 (v38 : BitVec 32) : Fin 4 → Nat :=
  let c0_i32_31 : BitVec 32 := 0#32
  let c0_i32_36 : BitVec 32 := 0#32
  let c0_i32_37 : BitVec 32 := 0#32
  ![0, v38.toNat, 0, 0]

def k0_chk2 (arg0 : BitVec 32) (v0 : BitVec 32) (v38 : BitVec 32) : Prop :=
  (∀ (k0_h1 : k0_cond1 arg0 v0 = 1#1), ∀ a, (k0_off3 v38) a + S1x1x1024x256.size a ≤ S2x64x1024x256.size a) ∧
  (∀ (k0_h1 : k0_cond1 arg0 v0 = 1#1), ∀ a, (k0_off4 v38) a + S1x1x256x1024.size a ≤ S2x64x256x1024.size a)
theorem k0_off3_inb : ∀ (arg0 : BitVec 32) (v0 : BitVec 32) (v38 : BitVec 32) (k0_hw2 : k0_chk2 arg0 v0 v38), ∀ (k0_h1 : k0_cond1 arg0 v0 = 1#1), ∀ a, (k0_off3 v38) a + S1x1x1024x256.size a ≤ S2x64x1024x256.size a := fun arg0 v0 v38 k0_hw2 k0_h1 => k0_hw2.1 k0_h1
theorem k0_off4_inb : ∀ (arg0 : BitVec 32) (v0 : BitVec 32) (v38 : BitVec 32) (k0_hw2 : k0_chk2 arg0 v0 v38), ∀ (k0_h1 : k0_cond1 arg0 v0 = 1#1), ∀ a, (k0_off4 v38) a + S1x1x256x1024.size a ≤ S2x64x256x1024.size a := fun arg0 v0 v38 k0_hw2 k0_h1 => k0_hw2.2 k0_h1

def k0_mult1 : BitVec 32 :=
  let c0_i32_14 : BitVec 32 := 0#32
  c0_i32_14
def k0_mult2 : BitVec 32 :=
  let c1024_i32 : BitVec 32 := 1024#32
  c1024_i32
def k0_mult3 (arg0 : BitVec 32) : BitVec 32 :=
  let c2_i32_14 : BitVec 32 := 2#32
  let v37 : BitVec 32 := Scalar.addi arg0 c2_i32_14
  let c1024_i32 : BitVec 32 := 1024#32
  let v48 : BitVec 32 := Scalar.muli v37 c1024_i32
  v48
def k0_cond4 (arg0 : BitVec 32) (v0 : BitVec 32) : BitVec 1 :=
  let c2_i32 : BitVec 32 := 2#32
  let v28 : BitVec 32 := Scalar.addi arg0 c2_i32
  let v29 : BitVec 1 := Scalar.cmpi .slt v28 v0
  let v30 : BitVec 32 := Scalar.extui v29
  let c0_i32_11 : BitVec 32 := 0#32
  let v31 : BitVec 1 := Scalar.cmpi .ne v30 c0_i32_11
  v31

def k0_off5 (arg0 : BitVec 32) : Fin 1 → Nat :=
  let c2_i32_14 : BitVec 32 := 2#32
  let v37 : BitVec 32 := Scalar.addi arg0 c2_i32_14
  let c3_i32 : BitVec 32 := 3#32
  let c0_i32_15 : BitVec 32 := 0#32
  let v38 : BitVec 1 := Scalar.cmpi .eq c3_i32 c0_i32_15
  let c1_i32_16 : BitVec 32 := 1#32
  let v39 : BitVec 32 := Scalar.select v38 c1_i32_16 c3_i32
  let v40 : BitVec 32 := Scalar.remsi v37 v39
  let c0_i32_18 : BitVec 32 := 0#32
  let v42 : BitVec 1 := Scalar.cmpi .slt v40 c0_i32_18
  let c0_i32_19 : BitVec 32 := 0#32
  let v43 : BitVec 1 := Scalar.cmpi .slt v39 c0_i32_19
  let v44 : BitVec 1 := Scalar.xori v42 v43
  let c0_i32_17 : BitVec 32 := 0#32
  let v41 : BitVec 1 := Scalar.cmpi .ne v40 c0_i32_17
  let v45 : BitVec 1 := Scalar.andi v44 v41
  let v46 : BitVec 32 := Scalar.addi v40 v39
  let v47 : BitVec 32 := Scalar.select v45 v46 v40
  ![v47.toNat]
def k0_off6 (arg0 : BitVec 32) : Fin 3 → Nat :=
  let c2_i32_14 : BitVec 32 := 2#32
  let v37 : BitVec 32 := Scalar.addi arg0 c2_i32_14
  let c3_i32 : BitVec 32 := 3#32
  let c0_i32_15 : BitVec 32 := 0#32
  let v38 : BitVec 1 := Scalar.cmpi .eq c3_i32 c0_i32_15
  let c1_i32_16 : BitVec 32 := 1#32
  let v39 : BitVec 32 := Scalar.select v38 c1_i32_16 c3_i32
  let v40 : BitVec 32 := Scalar.remsi v37 v39
  let c0_i32_18 : BitVec 32 := 0#32
  let v42 : BitVec 1 := Scalar.cmpi .slt v40 c0_i32_18
  let c0_i32_19 : BitVec 32 := 0#32
  let v43 : BitVec 1 := Scalar.cmpi .slt v39 c0_i32_19
  let v44 : BitVec 1 := Scalar.xori v42 v43
  let c0_i32_17 : BitVec 32 := 0#32
  let v41 : BitVec 1 := Scalar.cmpi .ne v40 c0_i32_17
  let v45 : BitVec 1 := Scalar.andi v44 v41
  let v46 : BitVec 32 := Scalar.addi v40 v39
  let v47 : BitVec 32 := Scalar.select v45 v46 v40
  let c0_i32_20 : BitVec 32 := 0#32
  let c0_i32_21 : BitVec 32 := 0#32
  ![v47.toNat, 0, 0]
def k0_off7 (arg0 : BitVec 32) : Fin 2 → Nat :=
  let c2_i32_14 : BitVec 32 := 2#32
  let v37 : BitVec 32 := Scalar.addi arg0 c2_i32_14
  let c1024_i32 : BitVec 32 := 1024#32
  let v48 : BitVec 32 := Scalar.muli v37 c1024_i32
  let v49 : BitVec 32 := v48
  let c0_i32_22 : BitVec 32 := 0#32
  ![v49.toNat, 0]
def k0_off8 (arg0 : BitVec 32) (v0 : BitVec 32) : Fin 1 → Nat :=
  let c1_i32 : BitVec 32 := 1#32
  let v2 : BitVec 32 := Scalar.subi v0 c1_i32
  let c0_i32 : BitVec 32 := 0#32
  let v3 : BitVec 32 := Scalar.maxsi v2 c0_i32
  let v4 : BitVec 32 := Scalar.minsi arg0 v3
  let v37 : Index := Scalar.indexCast v4
  ![v37.toNat]
def k0_cond5 (arg0 : BitVec 32) (v0 : BitVec 32) (v7 : BitVec 32) (v11 : BitVec 32) : BitVec 1 :=
  let v1 : BitVec 1 := Scalar.cmpi .slt arg0 v0
  let c0_i32_0 : BitVec 32 := 0#32
  let v5 : BitVec 1 := Scalar.cmpi .eq arg0 c0_i32_0
  let v12 : BitVec 1 := Scalar.cmpi .ne v7 v11
  let v13 : BitVec 1 := Scalar.ori v5 v12
  let v32 : BitVec 1 := Scalar.andi v1 v13
  let v33 : BitVec 32 := Scalar.extui v32
  let c0_i32_12 : BitVec 32 := 0#32
  let v34 : BitVec 1 := Scalar.cmpi .ne v33 c0_i32_12
  v34

def k0_chk3 (arg0 : BitVec 32) (v0 : BitVec 32) (v7 : BitVec 32) (v11 : BitVec 32) : Prop :=
  (∀ (k0_h5 : k0_cond5 arg0 v0 v7 v11 = 1#1), ∀ a, (k0_off8 arg0 v0) a + S1.size a ≤ S264.size a)
theorem k0_off8_inb : ∀ (arg0 : BitVec 32) (v0 : BitVec 32) (v7 : BitVec 32) (v11 : BitVec 32) (k0_hw3 : k0_chk3 arg0 v0 v7 v11), ∀ (k0_h5 : k0_cond5 arg0 v0 v7 v11 = 1#1), ∀ a, (k0_off8 arg0 v0) a + S1.size a ≤ S264.size a := fun arg0 v0 v7 v11 k0_hw3 k0_h5 => k0_hw3 k0_h5

def k0_off9 (v39 : BitVec 32) : Fin 1 → Nat :=
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  ![v49.toNat]

def k0_off10 (v39 : BitVec 32) : Fin 3 → Nat :=
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c0_i32_22 : BitVec 32 := 0#32
  let c0_i32_23 : BitVec 32 := 0#32
  ![v49.toNat, 0, 0]
def k0_off11 (v38 : BitVec 32) : Fin 4 → Nat :=
  let c0_i32_21 : BitVec 32 := 0#32
  let c0_i32_24 : BitVec 32 := 0#32
  let c0_i32_25 : BitVec 32 := 0#32
  ![0, v38.toNat, 0, 0]

def k0_off12 (v39 : BitVec 32) : Fin 1 → Nat :=
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  ![v49.toNat]
def k0_off13 (v39 : BitVec 32) : Fin 3 → Nat :=
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c0_i32_27 : BitVec 32 := 0#32
  let c0_i32_28 : BitVec 32 := 0#32
  ![v49.toNat, 0, 0]
def k0_off14 (v39 : BitVec 32) : Fin 3 → Nat :=
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c0_i32_32 : BitVec 32 := 0#32
  let c0_i32_33 : BitVec 32 := 0#32
  ![v49.toNat, 0, 0]
def k0_off15 (v38 : BitVec 32) : Fin 4 → Nat :=
  let c0_i32_31 : BitVec 32 := 0#32
  let c0_i32_34 : BitVec 32 := 0#32
  let c0_i32_35 : BitVec 32 := 0#32
  ![0, v38.toNat, 0, 0]
def k0_off16 (v39 : BitVec 32) : Fin 3 → Nat :=
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v68 : Index := Scalar.indexCast v49
  let c0_36 : Index := 0#32
  let c0_37 : Index := 0#32
  ![v68.toNat, 0, 0]
def k0_off17 (v39 : BitVec 32) : Fin 3 → Nat :=
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v82 : Index := Scalar.indexCast v49
  let c0_44 : Index := 0#32
  let c0_45 : Index := 0#32
  ![v82.toNat, 0, 0]

def k0_chk4 (arg0 : BitVec 32) (v0 : BitVec 32) (v7 : BitVec 32) (v11 : BitVec 32) (v39 : BitVec 32) : Prop :=
  (∀ (k0_h5 : k0_cond5 arg0 v0 v7 v11 = 1#1), ∀ a, (k0_off9 v39) a + S1.size a ≤ S2.size a) ∧
  (∀ (k0_h5 : k0_cond5 arg0 v0 v7 v11 = 1#1), ∀ a, (k0_off10 v39) a + S1x1024x256.size a ≤ S2x1024x256.size a) ∧
  (∀ (k0_h5 : k0_cond5 arg0 v0 v7 v11 = 1#1), ∀ a, (k0_off12 v39) a + S1.size a ≤ S2.size a) ∧
  (∀ (k0_h5 : k0_cond5 arg0 v0 v7 v11 = 1#1), ∀ a, (k0_off13 v39) a + S1x1024x256.size a ≤ S2x1024x256.size a) ∧
  (∀ (k0_h5 : k0_cond5 arg0 v0 v7 v11 = 1#1), ∀ a, (k0_off14 v39) a + S1x256x1024.size a ≤ S2x256x1024.size a) ∧
  (∀ (k0_h5 : k0_cond5 arg0 v0 v7 v11 = 1#1), ∀ a, (k0_off16 v39) a + S1x1024x256.size a ≤ S2x1024x256.size a) ∧
  (∀ (k0_h5 : k0_cond5 arg0 v0 v7 v11 = 1#1), ∀ a, (k0_off17 v39) a + S1x256x1024.size a ≤ S2x256x1024.size a)
theorem k0_off9_inb : ∀ (arg0 : BitVec 32) (v0 : BitVec 32) (v7 : BitVec 32) (v11 : BitVec 32) (v39 : BitVec 32) (k0_hw4 : k0_chk4 arg0 v0 v7 v11 v39), ∀ (k0_h5 : k0_cond5 arg0 v0 v7 v11 = 1#1), ∀ a, (k0_off9 v39) a + S1.size a ≤ S2.size a := fun arg0 v0 v7 v11 v39 k0_hw4 k0_h5 => k0_hw4.1 k0_h5
theorem k0_off10_inb : ∀ (arg0 : BitVec 32) (v0 : BitVec 32) (v7 : BitVec 32) (v11 : BitVec 32) (v39 : BitVec 32) (k0_hw4 : k0_chk4 arg0 v0 v7 v11 v39), ∀ (k0_h5 : k0_cond5 arg0 v0 v7 v11 = 1#1), ∀ a, (k0_off10 v39) a + S1x1024x256.size a ≤ S2x1024x256.size a := fun arg0 v0 v7 v11 v39 k0_hw4 k0_h5 => k0_hw4.2.1 k0_h5
theorem k0_off12_inb : ∀ (arg0 : BitVec 32) (v0 : BitVec 32) (v7 : BitVec 32) (v11 : BitVec 32) (v39 : BitVec 32) (k0_hw4 : k0_chk4 arg0 v0 v7 v11 v39), ∀ (k0_h5 : k0_cond5 arg0 v0 v7 v11 = 1#1), ∀ a, (k0_off12 v39) a + S1.size a ≤ S2.size a := fun arg0 v0 v7 v11 v39 k0_hw4 k0_h5 => k0_hw4.2.2.1 k0_h5
theorem k0_off13_inb : ∀ (arg0 : BitVec 32) (v0 : BitVec 32) (v7 : BitVec 32) (v11 : BitVec 32) (v39 : BitVec 32) (k0_hw4 : k0_chk4 arg0 v0 v7 v11 v39), ∀ (k0_h5 : k0_cond5 arg0 v0 v7 v11 = 1#1), ∀ a, (k0_off13 v39) a + S1x1024x256.size a ≤ S2x1024x256.size a := fun arg0 v0 v7 v11 v39 k0_hw4 k0_h5 => k0_hw4.2.2.2.1 k0_h5
theorem k0_off14_inb : ∀ (arg0 : BitVec 32) (v0 : BitVec 32) (v7 : BitVec 32) (v11 : BitVec 32) (v39 : BitVec 32) (k0_hw4 : k0_chk4 arg0 v0 v7 v11 v39), ∀ (k0_h5 : k0_cond5 arg0 v0 v7 v11 = 1#1), ∀ a, (k0_off14 v39) a + S1x256x1024.size a ≤ S2x256x1024.size a := fun arg0 v0 v7 v11 v39 k0_hw4 k0_h5 => k0_hw4.2.2.2.2.1 k0_h5
theorem k0_off16_inb : ∀ (arg0 : BitVec 32) (v0 : BitVec 32) (v7 : BitVec 32) (v11 : BitVec 32) (v39 : BitVec 32) (k0_hw4 : k0_chk4 arg0 v0 v7 v11 v39), ∀ (k0_h5 : k0_cond5 arg0 v0 v7 v11 = 1#1), ∀ a, (k0_off16 v39) a + S1x1024x256.size a ≤ S2x1024x256.size a := fun arg0 v0 v7 v11 v39 k0_hw4 k0_h5 => k0_hw4.2.2.2.2.2.1 k0_h5
theorem k0_off17_inb : ∀ (arg0 : BitVec 32) (v0 : BitVec 32) (v7 : BitVec 32) (v11 : BitVec 32) (v39 : BitVec 32) (k0_hw4 : k0_chk4 arg0 v0 v7 v11 v39), ∀ (k0_h5 : k0_cond5 arg0 v0 v7 v11 = 1#1), ∀ a, (k0_off17 v39) a + S1x256x1024.size a ≤ S2x256x1024.size a := fun arg0 v0 v7 v11 v39 k0_hw4 k0_h5 => k0_hw4.2.2.2.2.2.2 k0_h5

def k0_off18 (v38 : BitVec 32) : Fin 1 → Nat :=
  let v89 : Index := Scalar.indexCast v38
  ![v89.toNat]

def k0_chk5 (arg0 : BitVec 32) (v0 : BitVec 32) (v7 : BitVec 32) (v11 : BitVec 32) (v38 : BitVec 32) : Prop :=
  (∀ (k0_h5 : k0_cond5 arg0 v0 v7 v11 = 1#1), ∀ a, (k0_off11 v38) a + S1x1x1024x256.size a ≤ S2x64x1024x256.size a) ∧
  (∀ (k0_h5 : k0_cond5 arg0 v0 v7 v11 = 1#1), ∀ a, (k0_off15 v38) a + S1x1x256x1024.size a ≤ S2x64x256x1024.size a) ∧
  (∀ (k0_h5 : k0_cond5 arg0 v0 v7 v11 = 1#1), ∀ a, (k0_off18 v38) a + S1.size a ≤ S64.size a)
theorem k0_off11_inb : ∀ (arg0 : BitVec 32) (v0 : BitVec 32) (v7 : BitVec 32) (v11 : BitVec 32) (v38 : BitVec 32) (k0_hw5 : k0_chk5 arg0 v0 v7 v11 v38), ∀ (k0_h5 : k0_cond5 arg0 v0 v7 v11 = 1#1), ∀ a, (k0_off11 v38) a + S1x1x1024x256.size a ≤ S2x64x1024x256.size a := fun arg0 v0 v7 v11 v38 k0_hw5 k0_h5 => k0_hw5.1 k0_h5
theorem k0_off15_inb : ∀ (arg0 : BitVec 32) (v0 : BitVec 32) (v7 : BitVec 32) (v11 : BitVec 32) (v38 : BitVec 32) (k0_hw5 : k0_chk5 arg0 v0 v7 v11 v38), ∀ (k0_h5 : k0_cond5 arg0 v0 v7 v11 = 1#1), ∀ a, (k0_off15 v38) a + S1x1x256x1024.size a ≤ S2x64x256x1024.size a := fun arg0 v0 v7 v11 v38 k0_hw5 k0_h5 => k0_hw5.2.1 k0_h5
theorem k0_off18_inb : ∀ (arg0 : BitVec 32) (v0 : BitVec 32) (v7 : BitVec 32) (v11 : BitVec 32) (v38 : BitVec 32) (k0_hw5 : k0_chk5 arg0 v0 v7 v11 v38), ∀ (k0_h5 : k0_cond5 arg0 v0 v7 v11 = 1#1), ∀ a, (k0_off18 v38) a + S1.size a ≤ S64.size a := fun arg0 v0 v7 v11 v38 k0_hw5 k0_h5 => k0_hw5.2.2 k0_h5

def k0_off19 (v90 : BitVec 32) : Fin 1 → Nat :=
  let c263_i32 : BitVec 32 := 263#32
  let v97 : BitVec 32 := Scalar.minsi v90 c263_i32
  let v98 : Index := Scalar.indexCast v97
  ![v98.toNat]
def k0_cond6 (v0 : BitVec 32) (v90 : BitVec 32) : BitVec 1 :=
  let v91 : BitVec 1 := Scalar.cmpi .slt v90 v0
  let v92 : BitVec 32 := Scalar.extui v91
  let c0_i32_48 : BitVec 32 := 0#32
  let v93 : BitVec 1 := Scalar.cmpi .ne v92 c0_i32_48
  v93

def k0_off20 (v39 : BitVec 32) : Fin 1 → Nat :=
  let c1_i32_52 : BitVec 32 := 1#32
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v100 : BitVec 32 := Scalar.subi c1_i32_52 v49
  ![v100.toNat]
def k0_off21 (v39 : BitVec 32) : Fin 3 → Nat :=
  let c1_i32_52 : BitVec 32 := 1#32
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v100 : BitVec 32 := Scalar.subi c1_i32_52 v49
  let c0_i32_54 : BitVec 32 := 0#32
  let c0_i32_55 : BitVec 32 := 0#32
  ![v100.toNat, 0, 0]
def k0_off22 (v99 : BitVec 32) : Fin 4 → Nat :=
  let c0_i32_53 : BitVec 32 := 0#32
  let c0_i32_56 : BitVec 32 := 0#32
  let c0_i32_57 : BitVec 32 := 0#32
  ![0, v99.toNat, 0, 0]

def k0_off23 (v39 : BitVec 32) : Fin 1 → Nat :=
  let c1_i32_52 : BitVec 32 := 1#32
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v100 : BitVec 32 := Scalar.subi c1_i32_52 v49
  ![v100.toNat]
def k0_off24 (v39 : BitVec 32) : Fin 3 → Nat :=
  let c1_i32_52 : BitVec 32 := 1#32
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v100 : BitVec 32 := Scalar.subi c1_i32_52 v49
  let c0_i32_59 : BitVec 32 := 0#32
  let c0_i32_60 : BitVec 32 := 0#32
  ![v100.toNat, 0, 0]
def k0_off25 (v39 : BitVec 32) : Fin 3 → Nat :=
  let c1_i32_52 : BitVec 32 := 1#32
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v100 : BitVec 32 := Scalar.subi c1_i32_52 v49
  let c0_i32_64 : BitVec 32 := 0#32
  let c0_i32_65 : BitVec 32 := 0#32
  ![v100.toNat, 0, 0]

def k0_chk6 (arg0 : BitVec 32) (v0 : BitVec 32) (v7 : BitVec 32) (v11 : BitVec 32) (v39 : BitVec 32) (v90 : BitVec 32) : Prop :=
  (∀ (k0_h5 : k0_cond5 arg0 v0 v7 v11 = 1#1), ∀ (k0_h6 : k0_cond6 v0 v90 = 1#1), ∀ a, (k0_off19 v90) a + S1.size a ≤ S264.size a) ∧
  (∀ (k0_h5 : k0_cond5 arg0 v0 v7 v11 = 1#1), ∀ (k0_h6 : k0_cond6 v0 v90 = 1#1), ∀ a, (k0_off20 v39) a + S1.size a ≤ S2.size a) ∧
  (∀ (k0_h5 : k0_cond5 arg0 v0 v7 v11 = 1#1), ∀ (k0_h6 : k0_cond6 v0 v90 = 1#1), ∀ a, (k0_off21 v39) a + S1x1024x256.size a ≤ S2x1024x256.size a) ∧
  (∀ (k0_h5 : k0_cond5 arg0 v0 v7 v11 = 1#1), ∀ (k0_h6 : k0_cond6 v0 v90 = 1#1), ∀ a, (k0_off23 v39) a + S1.size a ≤ S2.size a) ∧
  (∀ (k0_h5 : k0_cond5 arg0 v0 v7 v11 = 1#1), ∀ (k0_h6 : k0_cond6 v0 v90 = 1#1), ∀ a, (k0_off24 v39) a + S1x1024x256.size a ≤ S2x1024x256.size a) ∧
  (∀ (k0_h5 : k0_cond5 arg0 v0 v7 v11 = 1#1), ∀ (k0_h6 : k0_cond6 v0 v90 = 1#1), ∀ a, (k0_off25 v39) a + S1x256x1024.size a ≤ S2x256x1024.size a)
theorem k0_off19_inb : ∀ (arg0 : BitVec 32) (v0 : BitVec 32) (v7 : BitVec 32) (v11 : BitVec 32) (v39 : BitVec 32) (v90 : BitVec 32) (k0_hw6 : k0_chk6 arg0 v0 v7 v11 v39 v90), ∀ (k0_h5 : k0_cond5 arg0 v0 v7 v11 = 1#1), ∀ (k0_h6 : k0_cond6 v0 v90 = 1#1), ∀ a, (k0_off19 v90) a + S1.size a ≤ S264.size a := fun arg0 v0 v7 v11 v39 v90 k0_hw6 k0_h5 k0_h6 => k0_hw6.1 k0_h5 k0_h6
theorem k0_off20_inb : ∀ (arg0 : BitVec 32) (v0 : BitVec 32) (v7 : BitVec 32) (v11 : BitVec 32) (v39 : BitVec 32) (v90 : BitVec 32) (k0_hw6 : k0_chk6 arg0 v0 v7 v11 v39 v90), ∀ (k0_h5 : k0_cond5 arg0 v0 v7 v11 = 1#1), ∀ (k0_h6 : k0_cond6 v0 v90 = 1#1), ∀ a, (k0_off20 v39) a + S1.size a ≤ S2.size a := fun arg0 v0 v7 v11 v39 v90 k0_hw6 k0_h5 k0_h6 => k0_hw6.2.1 k0_h5 k0_h6
theorem k0_off21_inb : ∀ (arg0 : BitVec 32) (v0 : BitVec 32) (v7 : BitVec 32) (v11 : BitVec 32) (v39 : BitVec 32) (v90 : BitVec 32) (k0_hw6 : k0_chk6 arg0 v0 v7 v11 v39 v90), ∀ (k0_h5 : k0_cond5 arg0 v0 v7 v11 = 1#1), ∀ (k0_h6 : k0_cond6 v0 v90 = 1#1), ∀ a, (k0_off21 v39) a + S1x1024x256.size a ≤ S2x1024x256.size a := fun arg0 v0 v7 v11 v39 v90 k0_hw6 k0_h5 k0_h6 => k0_hw6.2.2.1 k0_h5 k0_h6
theorem k0_off23_inb : ∀ (arg0 : BitVec 32) (v0 : BitVec 32) (v7 : BitVec 32) (v11 : BitVec 32) (v39 : BitVec 32) (v90 : BitVec 32) (k0_hw6 : k0_chk6 arg0 v0 v7 v11 v39 v90), ∀ (k0_h5 : k0_cond5 arg0 v0 v7 v11 = 1#1), ∀ (k0_h6 : k0_cond6 v0 v90 = 1#1), ∀ a, (k0_off23 v39) a + S1.size a ≤ S2.size a := fun arg0 v0 v7 v11 v39 v90 k0_hw6 k0_h5 k0_h6 => k0_hw6.2.2.2.1 k0_h5 k0_h6
theorem k0_off24_inb : ∀ (arg0 : BitVec 32) (v0 : BitVec 32) (v7 : BitVec 32) (v11 : BitVec 32) (v39 : BitVec 32) (v90 : BitVec 32) (k0_hw6 : k0_chk6 arg0 v0 v7 v11 v39 v90), ∀ (k0_h5 : k0_cond5 arg0 v0 v7 v11 = 1#1), ∀ (k0_h6 : k0_cond6 v0 v90 = 1#1), ∀ a, (k0_off24 v39) a + S1x1024x256.size a ≤ S2x1024x256.size a := fun arg0 v0 v7 v11 v39 v90 k0_hw6 k0_h5 k0_h6 => k0_hw6.2.2.2.2.1 k0_h5 k0_h6
theorem k0_off25_inb : ∀ (arg0 : BitVec 32) (v0 : BitVec 32) (v7 : BitVec 32) (v11 : BitVec 32) (v39 : BitVec 32) (v90 : BitVec 32) (k0_hw6 : k0_chk6 arg0 v0 v7 v11 v39 v90), ∀ (k0_h5 : k0_cond5 arg0 v0 v7 v11 = 1#1), ∀ (k0_h6 : k0_cond6 v0 v90 = 1#1), ∀ a, (k0_off25 v39) a + S1x256x1024.size a ≤ S2x256x1024.size a := fun arg0 v0 v7 v11 v39 v90 k0_hw6 k0_h5 k0_h6 => k0_hw6.2.2.2.2.2 k0_h5 k0_h6

def k0_off26 (v99 : BitVec 32) : Fin 4 → Nat :=
  let c0_i32_63 : BitVec 32 := 0#32
  let c0_i32_66 : BitVec 32 := 0#32
  let c0_i32_67 : BitVec 32 := 0#32
  ![0, v99.toNat, 0, 0]

def k0_chk7 (arg0 : BitVec 32) (v0 : BitVec 32) (v7 : BitVec 32) (v11 : BitVec 32) (v90 : BitVec 32) (v99 : BitVec 32) : Prop :=
  (∀ (k0_h5 : k0_cond5 arg0 v0 v7 v11 = 1#1), ∀ (k0_h6 : k0_cond6 v0 v90 = 1#1), ∀ a, (k0_off22 v99) a + S1x1x1024x256.size a ≤ S2x64x1024x256.size a) ∧
  (∀ (k0_h5 : k0_cond5 arg0 v0 v7 v11 = 1#1), ∀ (k0_h6 : k0_cond6 v0 v90 = 1#1), ∀ a, (k0_off26 v99) a + S1x1x256x1024.size a ≤ S2x64x256x1024.size a)
theorem k0_off22_inb : ∀ (arg0 : BitVec 32) (v0 : BitVec 32) (v7 : BitVec 32) (v11 : BitVec 32) (v90 : BitVec 32) (v99 : BitVec 32) (k0_hw7 : k0_chk7 arg0 v0 v7 v11 v90 v99), ∀ (k0_h5 : k0_cond5 arg0 v0 v7 v11 = 1#1), ∀ (k0_h6 : k0_cond6 v0 v90 = 1#1), ∀ a, (k0_off22 v99) a + S1x1x1024x256.size a ≤ S2x64x1024x256.size a := fun arg0 v0 v7 v11 v90 v99 k0_hw7 k0_h5 k0_h6 => k0_hw7.1 k0_h5 k0_h6
theorem k0_off26_inb : ∀ (arg0 : BitVec 32) (v0 : BitVec 32) (v7 : BitVec 32) (v11 : BitVec 32) (v90 : BitVec 32) (v99 : BitVec 32) (k0_hw7 : k0_chk7 arg0 v0 v7 v11 v90 v99), ∀ (k0_h5 : k0_cond5 arg0 v0 v7 v11 = 1#1), ∀ (k0_h6 : k0_cond6 v0 v90 = 1#1), ∀ a, (k0_off26 v99) a + S1x1x256x1024.size a ≤ S2x64x256x1024.size a := fun arg0 v0 v7 v11 v90 v99 k0_hw7 k0_h5 k0_h6 => k0_hw7.2 k0_h5 k0_h6

def k0_mult4 (arg0 : BitVec 32) : BitVec 32 :=
  let c1024_i32 : BitVec 32 := 1024#32
  let v47 : BitVec 32 := Scalar.muli arg0 c1024_i32
  v47
def k0_cond7 (arg0 : BitVec 32) (v0 : BitVec 32) : BitVec 1 :=
  let v1 : BitVec 1 := Scalar.cmpi .slt arg0 v0
  let v35 : BitVec 32 := Scalar.extui v1
  let c0_i32_13 : BitVec 32 := 0#32
  let v36 : BitVec 1 := Scalar.cmpi .ne v35 c0_i32_13
  v36

def k0_off27 (arg0 : BitVec 32) : Fin 1 → Nat :=
  let c3_i32 : BitVec 32 := 3#32
  let c0_i32_14 : BitVec 32 := 0#32
  let v37 : BitVec 1 := Scalar.cmpi .eq c3_i32 c0_i32_14
  let c1_i32_15 : BitVec 32 := 1#32
  let v38 : BitVec 32 := Scalar.select v37 c1_i32_15 c3_i32
  let v39 : BitVec 32 := Scalar.remsi arg0 v38
  let c0_i32_17 : BitVec 32 := 0#32
  let v41 : BitVec 1 := Scalar.cmpi .slt v39 c0_i32_17
  let c0_i32_18 : BitVec 32 := 0#32
  let v42 : BitVec 1 := Scalar.cmpi .slt v38 c0_i32_18
  let v43 : BitVec 1 := Scalar.xori v41 v42
  let c0_i32_16 : BitVec 32 := 0#32
  let v40 : BitVec 1 := Scalar.cmpi .ne v39 c0_i32_16
  let v44 : BitVec 1 := Scalar.andi v43 v40
  let v45 : BitVec 32 := Scalar.addi v39 v38
  let v46 : BitVec 32 := Scalar.select v44 v45 v39
  ![v46.toNat]
def k0_off28 (arg0 : BitVec 32) : Fin 3 → Nat :=
  let c3_i32 : BitVec 32 := 3#32
  let c0_i32_14 : BitVec 32 := 0#32
  let v37 : BitVec 1 := Scalar.cmpi .eq c3_i32 c0_i32_14
  let c1_i32_15 : BitVec 32 := 1#32
  let v38 : BitVec 32 := Scalar.select v37 c1_i32_15 c3_i32
  let v39 : BitVec 32 := Scalar.remsi arg0 v38
  let c0_i32_17 : BitVec 32 := 0#32
  let v41 : BitVec 1 := Scalar.cmpi .slt v39 c0_i32_17
  let c0_i32_18 : BitVec 32 := 0#32
  let v42 : BitVec 1 := Scalar.cmpi .slt v38 c0_i32_18
  let v43 : BitVec 1 := Scalar.xori v41 v42
  let c0_i32_16 : BitVec 32 := 0#32
  let v40 : BitVec 1 := Scalar.cmpi .ne v39 c0_i32_16
  let v44 : BitVec 1 := Scalar.andi v43 v40
  let v45 : BitVec 32 := Scalar.addi v39 v38
  let v46 : BitVec 32 := Scalar.select v44 v45 v39
  let c0_i32_19 : BitVec 32 := 0#32
  let c0_i32_20 : BitVec 32 := 0#32
  ![v46.toNat, 0, 0]
def k0_off29 (arg0 : BitVec 32) : Fin 2 → Nat :=
  let c1024_i32 : BitVec 32 := 1024#32
  let v47 : BitVec 32 := Scalar.muli arg0 c1024_i32
  let v48 : BitVec 32 := v47
  let c0_i32_21 : BitVec 32 := 0#32
  ![v48.toNat, 0]
def k0_off30 (arg0 : BitVec 32) : Fin 3 → Nat :=
  let c3_i32_22 : BitVec 32 := 3#32
  let c0_i32_23 : BitVec 32 := 0#32
  let v54 : BitVec 1 := Scalar.cmpi .eq c3_i32_22 c0_i32_23
  let c1_i32_24 : BitVec 32 := 1#32
  let v55 : BitVec 32 := Scalar.select v54 c1_i32_24 c3_i32_22
  let v56 : BitVec 32 := Scalar.remsi arg0 v55
  let c0_i32_26 : BitVec 32 := 0#32
  let v58 : BitVec 1 := Scalar.cmpi .slt v56 c0_i32_26
  let c0_i32_27 : BitVec 32 := 0#32
  let v59 : BitVec 1 := Scalar.cmpi .slt v55 c0_i32_27
  let v60 : BitVec 1 := Scalar.xori v58 v59
  let c0_i32_25 : BitVec 32 := 0#32
  let v57 : BitVec 1 := Scalar.cmpi .ne v56 c0_i32_25
  let v61 : BitVec 1 := Scalar.andi v60 v57
  let v62 : BitVec 32 := Scalar.addi v56 v55
  let v63 : BitVec 32 := Scalar.select v61 v62 v56
  let v64 : Index := Scalar.indexCast v63
  let c0_28 : Index := 0#32
  let c0_29 : Index := 0#32
  ![v64.toNat, 0, 0]

def k0_chk1 (arg0 : BitVec 32) (v0 : BitVec 32) : Prop :=
  (∀ a, (k0_off1 arg0 v0) a + S1.size a ≤ S264.size a) ∧
  (∀ a, (k0_off2 arg0 v0) a + S1.size a ≤ S264.size a) ∧
  (∀ (k0_h4 : k0_cond4 arg0 v0 = 1#1), 1024 ∣ (k0_mult3 arg0).toNat) ∧
  (∀ (k0_h4 : k0_cond4 arg0 v0 = 1#1), ∀ a, (k0_off5 arg0) a + S1.size a ≤ S3.size a) ∧
  (∀ (k0_h4 : k0_cond4 arg0 v0 = 1#1), ∀ a, (k0_off6 arg0) a + S1x1024x1024.size a ≤ S3x1024x1024.size a) ∧
  (∀ (k0_h4 : k0_cond4 arg0 v0 = 1#1), ∀ a, (k0_off7 arg0) a + S1024x1024.size a ≤ S278528x1024.size a) ∧
  (∀ (k0_h4 : k0_cond4 arg0 v0 = 1#1), ∀ (hinb : ∀ a, (k0_off7 arg0) a + S1024x1024.size a ≤ S278528x1024.size a), (Rect.unit (s := S278528x1024) (k0_off7 arg0) S1024x1024.size hinb).WholeWords (EltTy.packing .bf16)) ∧
  (∀ (k0_h4 : k0_cond4 arg0 v0 = 1#1), ∀ (hinb : ∀ a, (k0_off6 arg0) a + S1x1024x1024.size a ≤ S3x1024x1024.size a), (Rect.unit (s := S3x1024x1024) (k0_off6 arg0) S1x1024x1024.size hinb).WholeWords (EltTy.packing .bf16)) ∧
  (∀ (k0_h7 : k0_cond7 arg0 v0 = 1#1), 1024 ∣ (k0_mult4 arg0).toNat) ∧
  (∀ (k0_h7 : k0_cond7 arg0 v0 = 1#1), ∀ a, (k0_off27 arg0) a + S1.size a ≤ S3.size a) ∧
  (∀ (k0_h7 : k0_cond7 arg0 v0 = 1#1), ∀ a, (k0_off28 arg0) a + S1x1024x1024.size a ≤ S3x1024x1024.size a) ∧
  (∀ (k0_h7 : k0_cond7 arg0 v0 = 1#1), ∀ a, (k0_off29 arg0) a + S1024x1024.size a ≤ S278528x1024.size a) ∧
  (∀ (k0_h7 : k0_cond7 arg0 v0 = 1#1), ∀ (hinb : ∀ a, (k0_off29 arg0) a + S1024x1024.size a ≤ S278528x1024.size a), (Rect.unit (s := S278528x1024) (k0_off29 arg0) S1024x1024.size hinb).WholeWords (EltTy.packing .bf16)) ∧
  (∀ (k0_h7 : k0_cond7 arg0 v0 = 1#1), ∀ (hinb : ∀ a, (k0_off28 arg0) a + S1x1024x1024.size a ≤ S3x1024x1024.size a), (Rect.unit (s := S3x1024x1024) (k0_off28 arg0) S1x1024x1024.size hinb).WholeWords (EltTy.packing .bf16)) ∧
  (∀ (k0_h7 : k0_cond7 arg0 v0 = 1#1), ∀ a, (k0_off30 arg0) a + S1x1024x1024.size a ≤ S3x1024x1024.size a)
theorem k0_off1_inb : ∀ (arg0 : BitVec 32) (v0 : BitVec 32) (k0_hw1 : k0_chk1 arg0 v0), ∀ a, (k0_off1 arg0 v0) a + S1.size a ≤ S264.size a := fun arg0 v0 k0_hw1 => k0_hw1.1
theorem k0_off2_inb : ∀ (arg0 : BitVec 32) (v0 : BitVec 32) (k0_hw1 : k0_chk1 arg0 v0), ∀ a, (k0_off2 arg0 v0) a + S1.size a ≤ S264.size a := fun arg0 v0 k0_hw1 => k0_hw1.2.1
theorem k0_mult3_dvd : ∀ (arg0 : BitVec 32) (v0 : BitVec 32) (k0_hw1 : k0_chk1 arg0 v0), ∀ (k0_h4 : k0_cond4 arg0 v0 = 1#1), 1024 ∣ (k0_mult3 arg0).toNat := fun arg0 v0 k0_hw1 k0_h4 => k0_hw1.2.2.1 k0_h4
theorem k0_off5_inb : ∀ (arg0 : BitVec 32) (v0 : BitVec 32) (k0_hw1 : k0_chk1 arg0 v0), ∀ (k0_h4 : k0_cond4 arg0 v0 = 1#1), ∀ a, (k0_off5 arg0) a + S1.size a ≤ S3.size a := fun arg0 v0 k0_hw1 k0_h4 => k0_hw1.2.2.2.1 k0_h4
theorem k0_off6_inb : ∀ (arg0 : BitVec 32) (v0 : BitVec 32) (k0_hw1 : k0_chk1 arg0 v0), ∀ (k0_h4 : k0_cond4 arg0 v0 = 1#1), ∀ a, (k0_off6 arg0) a + S1x1024x1024.size a ≤ S3x1024x1024.size a := fun arg0 v0 k0_hw1 k0_h4 => k0_hw1.2.2.2.2.1 k0_h4
theorem k0_off7_inb : ∀ (arg0 : BitVec 32) (v0 : BitVec 32) (k0_hw1 : k0_chk1 arg0 v0), ∀ (k0_h4 : k0_cond4 arg0 v0 = 1#1), ∀ a, (k0_off7 arg0) a + S1024x1024.size a ≤ S278528x1024.size a := fun arg0 v0 k0_hw1 k0_h4 => k0_hw1.2.2.2.2.2.1 k0_h4
theorem k0_off7_wordsbf16 : ∀ (arg0 : BitVec 32) (v0 : BitVec 32) (k0_hw1 : k0_chk1 arg0 v0), ∀ (k0_h4 : k0_cond4 arg0 v0 = 1#1), (Rect.unit (s := S278528x1024) (k0_off7 arg0) S1024x1024.size (k0_off7_inb arg0 v0 k0_hw1 k0_h4)).WholeWords (EltTy.packing .bf16) := fun arg0 v0 k0_hw1 k0_h4 => k0_hw1.2.2.2.2.2.2.1 k0_h4 (k0_off7_inb arg0 v0 k0_hw1 k0_h4)
theorem k0_off6_wordsbf16 : ∀ (arg0 : BitVec 32) (v0 : BitVec 32) (k0_hw1 : k0_chk1 arg0 v0), ∀ (k0_h4 : k0_cond4 arg0 v0 = 1#1), (Rect.unit (s := S3x1024x1024) (k0_off6 arg0) S1x1024x1024.size (k0_off6_inb arg0 v0 k0_hw1 k0_h4)).WholeWords (EltTy.packing .bf16) := fun arg0 v0 k0_hw1 k0_h4 => k0_hw1.2.2.2.2.2.2.2.1 k0_h4 (k0_off6_inb arg0 v0 k0_hw1 k0_h4)
theorem k0_mult4_dvd : ∀ (arg0 : BitVec 32) (v0 : BitVec 32) (k0_hw1 : k0_chk1 arg0 v0), ∀ (k0_h7 : k0_cond7 arg0 v0 = 1#1), 1024 ∣ (k0_mult4 arg0).toNat := fun arg0 v0 k0_hw1 k0_h7 => k0_hw1.2.2.2.2.2.2.2.2.1 k0_h7
theorem k0_off27_inb : ∀ (arg0 : BitVec 32) (v0 : BitVec 32) (k0_hw1 : k0_chk1 arg0 v0), ∀ (k0_h7 : k0_cond7 arg0 v0 = 1#1), ∀ a, (k0_off27 arg0) a + S1.size a ≤ S3.size a := fun arg0 v0 k0_hw1 k0_h7 => k0_hw1.2.2.2.2.2.2.2.2.2.1 k0_h7
theorem k0_off28_inb : ∀ (arg0 : BitVec 32) (v0 : BitVec 32) (k0_hw1 : k0_chk1 arg0 v0), ∀ (k0_h7 : k0_cond7 arg0 v0 = 1#1), ∀ a, (k0_off28 arg0) a + S1x1024x1024.size a ≤ S3x1024x1024.size a := fun arg0 v0 k0_hw1 k0_h7 => k0_hw1.2.2.2.2.2.2.2.2.2.2.1 k0_h7
theorem k0_off29_inb : ∀ (arg0 : BitVec 32) (v0 : BitVec 32) (k0_hw1 : k0_chk1 arg0 v0), ∀ (k0_h7 : k0_cond7 arg0 v0 = 1#1), ∀ a, (k0_off29 arg0) a + S1024x1024.size a ≤ S278528x1024.size a := fun arg0 v0 k0_hw1 k0_h7 => k0_hw1.2.2.2.2.2.2.2.2.2.2.2.1 k0_h7
theorem k0_off29_wordsbf16 : ∀ (arg0 : BitVec 32) (v0 : BitVec 32) (k0_hw1 : k0_chk1 arg0 v0), ∀ (k0_h7 : k0_cond7 arg0 v0 = 1#1), (Rect.unit (s := S278528x1024) (k0_off29 arg0) S1024x1024.size (k0_off29_inb arg0 v0 k0_hw1 k0_h7)).WholeWords (EltTy.packing .bf16) := fun arg0 v0 k0_hw1 k0_h7 => k0_hw1.2.2.2.2.2.2.2.2.2.2.2.2.1 k0_h7 (k0_off29_inb arg0 v0 k0_hw1 k0_h7)
theorem k0_off28_wordsbf16 : ∀ (arg0 : BitVec 32) (v0 : BitVec 32) (k0_hw1 : k0_chk1 arg0 v0), ∀ (k0_h7 : k0_cond7 arg0 v0 = 1#1), (Rect.unit (s := S3x1024x1024) (k0_off28 arg0) S1x1024x1024.size (k0_off28_inb arg0 v0 k0_hw1 k0_h7)).WholeWords (EltTy.packing .bf16) := fun arg0 v0 k0_hw1 k0_h7 => k0_hw1.2.2.2.2.2.2.2.2.2.2.2.2.2.1 k0_h7 (k0_off28_inb arg0 v0 k0_hw1 k0_h7)
theorem k0_off30_inb : ∀ (arg0 : BitVec 32) (v0 : BitVec 32) (k0_hw1 : k0_chk1 arg0 v0), ∀ (k0_h7 : k0_cond7 arg0 v0 = 1#1), ∀ a, (k0_off30 arg0) a + S1x1024x1024.size a ≤ S3x1024x1024.size a := fun arg0 v0 k0_hw1 k0_h7 => k0_hw1.2.2.2.2.2.2.2.2.2.2.2.2.2.2 k0_h7

def cc0_transform_4 (inb_S1_S1_0 : ∀ a, (![0] : Fin 1 → Nat) a + S1.size a ≤ S1.size a) (numel1_S1 : S1.numel = 1) (pf : pre0.Contents (Elt F)) (b : grid0.Bounds) (i : (grid0.at b).Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S278528x1024 : Shape := ⟨2, ![278528, 1024]⟩
abbrev S2x64x1024x256 : Shape := ⟨4, ![2, 64, 1024, 256]⟩
abbrev S2x64x256x1024 : Shape := ⟨4, ![2, 64, 256, 1024]⟩
abbrev S264 : Shape := ⟨1, ![264]⟩
abbrev S1 : Shape := ⟨1, ![1]⟩
abbrev S64 : Shape := ⟨1, ![64]⟩
abbrev S270336x1024 : Shape := ⟨2, ![270336, 1024]⟩
abbrev S264x1024x1024 : Shape := ⟨3, ![264, 1024, 1024]⟩
abbrev S1x64x1024x256 : Shape := ⟨4, ![1, 64, 1024, 256]⟩
abbrev S64x1024x256 : Shape := ⟨3, ![64, 1024, 256]⟩
abbrev S264x1 : Shape := ⟨2, ![264, 1]⟩
abbrev S264x1024x256 : Shape := ⟨3, ![264, 1024, 256]⟩
abbrev S1x64x256x1024 : Shape := ⟨4, ![1, 64, 256, 1024]⟩
abbrev S64x256x1024 : Shape := ⟨3, ![64, 256, 1024]⟩
abbrev S264x256x1024 : Shape := ⟨3, ![264, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S278528x1024, .bf16⟩
  | .hbm, ⟨1, _⟩ => ⟨S2x64x1024x256, .f32⟩
  | .hbm, ⟨2, _⟩ => ⟨S2x64x1024x256, .f32⟩
  | .hbm, ⟨3, _⟩ => ⟨S2x64x256x1024, .f32⟩
  | .hbm, ⟨4, _⟩ => ⟨S264, .i32⟩
  | .hbm, ⟨5, _⟩ => ⟨S1, .i32⟩
  | .hbm, ⟨6, _⟩ => ⟨S64, .i32⟩
  | .hbm, ⟨7, _⟩ => ⟨S270336x1024, .bf16⟩
  | .hbm, ⟨8, _⟩ => ⟨S270336x1024, .f32⟩
  | .hbm, ⟨9, _⟩ => ⟨S264x1024x1024, .f32⟩
  | .hbm, ⟨10, _⟩ => ⟨S1x64x1024x256, .f32⟩
  | .hbm, ⟨11, _⟩ => ⟨S64x1024x256, .f32⟩
  | .hbm, ⟨12, _⟩ => ⟨S264x1, .i32⟩
  | .hbm, ⟨13, _⟩ => ⟨S264x1024x256, .f32⟩
  | .hbm, ⟨14, _⟩ => ⟨S1x64x1024x256, .f32⟩
  | .hbm, ⟨15, _⟩ => ⟨S64x1024x256, .f32⟩
  | .hbm, ⟨16, _⟩ => ⟨S264x1, .i32⟩
  | .hbm, ⟨17, _⟩ => ⟨S264x1024x256, .f32⟩
  | .hbm, ⟨18, _⟩ => ⟨S1x64x256x1024, .f32⟩
  | .hbm, ⟨19, _⟩ => ⟨S64x256x1024, .f32⟩
  | .hbm, ⟨20, _⟩ => ⟨S264x1, .i32⟩
  | .hbm, ⟨21, _⟩ => ⟨S264x256x1024, .f32⟩
  | .hbm, ⟨22, _⟩ => ⟨S264x1024x256, .f32⟩
  | .hbm, ⟨23, _⟩ => ⟨S264x1024x256, .f32⟩
  | .hbm, ⟨24, _⟩ => ⟨S264x1024x256, .f32⟩
  | .hbm, ⟨25, _⟩ => ⟨S_, .f32⟩
  | .hbm, ⟨26, _⟩ => ⟨S264x1024x256, .f32⟩
  | .hbm, ⟨27, _⟩ => ⟨S264x1024x256, .f32⟩
  | .hbm, ⟨28, _⟩ => ⟨S_, .f32⟩
  | .hbm, ⟨29, _⟩ => ⟨S264x1024x256, .f32⟩
  | .hbm, ⟨30, _⟩ => ⟨S264x1024x256, .f32⟩
  | .hbm, ⟨31, _⟩ => ⟨S264x1024x256, .f32⟩
  | .hbm, ⟨32, _⟩ => ⟨S264x1024x256, .f32⟩
  | .hbm, ⟨33, _⟩ => ⟨S264x1024x256, .f32⟩
  | .hbm, ⟨34, _⟩ => ⟨S264x1024x1024, .f32⟩
  | .hbm, ⟨35, _⟩ => ⟨S270336x1024, .f32⟩
  | .hbm, ⟨36, _⟩ => ⟨S270336x1024, .bf16⟩
  | _, _ => ⟨S278528x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call2_v0 : Ref sig .tc := ⟨.hbm, 20, rfl⟩
abbrev main_v11 : Ref sig .tc := ⟨.hbm, 21, rfl⟩
abbrev main_v12 : Ref sig .tc := ⟨.hbm, 22, rfl⟩
abbrev main_call3_v0 : Ref sig .tc := ⟨.hbm, 23, rfl⟩
abbrev main_call3_v1 : Ref sig .tc := ⟨.hbm, 24, rfl⟩
abbrev main_call3_cst : Ref sig .tc := ⟨.hbm, 25, rfl⟩
abbrev main_call3_v2 : Ref sig .tc := ⟨.hbm, 26, rfl⟩
abbrev main_call3_v3 : Ref sig .tc := ⟨.hbm, 27, rfl⟩
abbrev main_call3_cst_0 : Ref sig .tc := ⟨.hbm, 28, rfl⟩
abbrev main_call3_v4 : Ref sig .tc := ⟨.hbm, 29, rfl⟩
abbrev main_call3_v5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]
-- ==== Kernel2.lean ====
abbrev S17408x1024 : Shape := ⟨2, ![17408, 1024]⟩
abbrev S8x6x1024 : Shape := ⟨3, ![8, 6, 1024]⟩
abbrev S1x1024 : Shape := ⟨2, ![1, 1024]⟩
abbrev S1024x3072 : Shape := ⟨2, ![1024, 3072]⟩
abbrev S1024x16 : Shape := ⟨2, ![1024, 16]⟩
abbrev S16x512 : Shape := ⟨2, ![16, 512]⟩
abbrev S512 : Shape := ⟨1, ![512]⟩
abbrev S_ : Shape := ⟨0, ![]⟩
abbrev S1024x96 : Shape := ⟨2, ![1024, 96]⟩
abbrev S1024x3200 : Shape := ⟨2, ![1024, 3200]⟩
abbrev S128x512 : Shape := ⟨2, ![128, 512]⟩
abbrev S128x1024 : Shape := ⟨2, ![128, 1024]⟩
abbrev S384x1024 : Shape := ⟨2, ![384, 1024]⟩
abbrev S1024 : Shape := ⟨1, ![1024]⟩
abbrev S17408x3072 : Shape := ⟨2, ![17408, 3072]⟩
abbrev S17408x512 : Shape := ⟨2, ![17408, 512]⟩
abbrev S1024x1024 : Shape := ⟨2, ![1024, 1024]⟩
abbrev S1x6x1024 : Shape := ⟨3, ![1, 6, 1024]⟩
abbrev S1024x512 : Shape := ⟨2, ![1024, 512]⟩
abbrev S6x1024 : Shape := ⟨2, ![6, 1024]⟩
abbrev S1024x1 : Shape := ⟨2, ![1024, 1]⟩
abbrev S1024x128 : Shape := ⟨2, ![1024, 128]⟩
abbrev S1024x384 : Shape := ⟨2, ![1024, 384]⟩

abbrev nBuf : Space → Nat
  | .hbm => 31
  | .vmem => 14
  | .smem => 0
  | _ => 0

abbrev bufTy : (tb : Table) → Fin (tcTables nBuf tb) → BufTy
  | .hbm, ⟨0, _⟩ => ⟨S17408x1024, .f32⟩
  | .hbm, ⟨1, _⟩ => ⟨S8x6x1024, .f32⟩
  | .hbm, ⟨2, _⟩ => ⟨S1x1024, .f32⟩
  | .hbm, ⟨3, _⟩ => ⟨S1024x3072, .f32⟩
  | .hbm, ⟨4, _⟩ => ⟨S1024x16, .f32⟩
  | .hbm, ⟨5, _⟩ => ⟨S1024x16, .f32⟩
  | .hbm, ⟨6, _⟩ => ⟨S16x512, .f32⟩
  | .hbm, ⟨7, _⟩ => ⟨S16x512, .f32⟩
  | .hbm, ⟨8, _⟩ => ⟨S512, .f32⟩
  | .hbm, ⟨9, _⟩ => ⟨S512, .f32⟩
  | .hbm, ⟨10, _⟩ => ⟨S_, .f32⟩
  | .hbm, ⟨11, _⟩ => ⟨S1024x96, .f32⟩
  | .hbm, ⟨12, _⟩ => ⟨S1024x3200, .f32⟩
  | .hbm, ⟨13, _⟩ => ⟨S1024x3200, .bf16⟩
  | .hbm, ⟨14, _⟩ => ⟨S_, .i32⟩
  | .hbm, ⟨15, _⟩ => ⟨S_, .f32⟩
  | .hbm, ⟨16, _⟩ => ⟨S128x512, .f32⟩
  | .hbm, ⟨17, _⟩ => ⟨S_, .i32⟩
  | .hbm, ⟨18, _⟩ => ⟨S_, .f32⟩
  | .hbm, ⟨19, _⟩ => ⟨S128x512, .f32⟩
  | .hbm, ⟨20, _⟩ => ⟨S128x1024, .f32⟩
  | .hbm, ⟨21, _⟩ => ⟨S128x1024, .bf16⟩
  | .hbm, ⟨22, _⟩ => ⟨S128x1024, .f32⟩
  | .hbm, ⟨23, _⟩ => ⟨S128x1024, .f32⟩
  | .hbm, ⟨24, _⟩ => ⟨S128x1024, .bf16⟩
  | .hbm, ⟨25, _⟩ => ⟨S384x1024, .bf16⟩
  | .hbm, ⟨26, _⟩ => ⟨S1024, .f32⟩
  | .hbm, ⟨27, _⟩ => ⟨S1x1024, .f32⟩
  | .hbm, ⟨28, _⟩ => ⟨S17408x3072, .bf16⟩
  | .hbm, ⟨29, _⟩ => ⟨S17408x512, .f32⟩
  | .hbm, ⟨30, _⟩ => ⟨S17408x512, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3200, .bf16⟩
  | .local _ .vmem, ⟨6, _⟩ => ⟨S384x1024, .bf16⟩
  | .local _ .vmem, ⟨7, _⟩ => ⟨S1x1024, .f32⟩
  | .local _ .vmem, ⟨8, _⟩ => ⟨S1024x3072, .bf16⟩
  | .local _ .vmem, ⟨9, _⟩ => ⟨S1024x3072, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c1024_i32 : BitVec 32 := 1024#32
  let v1 : BitVec 32 := Scalar.muli arg0 c1024_i32
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi c1_i32_4 v18
  let c0_i32_5 : BitVec 32 := 0#32
  let v20 : BitVec 32 := Scalar.select v0 v19 c0_i32_5
  let c0_i32_6 : BitVec 32 := 0#32
  let c0_i32_7 : BitVec 32 := 0#32
  let c0_i32_8 : BitVec 32 := 0#32
  ![v20.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S17408x1024 : Shape := ⟨2, ![17408, 1024]⟩
abbrev S8x6x1024 : Shape := ⟨3, ![8, 6, 1024]⟩
abbrev S1x1024 : Shape := ⟨2, ![1, 1024]⟩
abbrev S1024x3072 : Shape := ⟨2, ![1024, 3072]⟩
abbrev S1024x16 : Shape := ⟨2, ![1024, 16]⟩
abbrev S16x512 : Shape := ⟨2, ![16, 512]⟩
abbrev S512 : Shape := ⟨1, ![512]⟩
abbrev S16384x1024 : Shape := ⟨2, ![16384, 1024]⟩
abbrev S4x4096x1024 : Shape := ⟨3, ![4, 4096, 1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩
abbrev S4x1x1024 : Shape := ⟨3, ![4, 1, 1024]⟩
abbrev S4x1024 : Shape := ⟨2, ![4, 1024]⟩
abbrev S1024x1 : Shape := ⟨2, ![1024, 1]⟩
abbrev S17408x3072 : Shape := ⟨2, ![17408, 3072]⟩
abbrev S17408x512 : Shape := ⟨2, ![17408, 512]⟩
abbrev S17408x2560 : Shape := ⟨2, ![17408, 2560]⟩

abbrev nBuf : Space → Nat
  | .hbm => 83
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S8x6x1024, .f32⟩
  | .hbm, ⟨2, _⟩ => ⟨S1x1024, .f32⟩
  | .hbm, ⟨3, _⟩ => ⟨S1024x3072, .f32⟩
  | .hbm, ⟨4, _⟩ => ⟨S1024x16, .f32⟩
  | .hbm, ⟨5, _⟩ => ⟨S1024x16, .f32⟩
  | .hbm, ⟨6, _⟩ => ⟨S16x512, .f32⟩
  | .hbm, ⟨7, _⟩ => ⟨S16x512, .f32⟩
  | .hbm, ⟨8, _⟩ => ⟨S512, .f32⟩
  | .hbm, ⟨9, _⟩ => ⟨S512, .f32⟩
  | .hbm, ⟨10, _⟩ => ⟨S16384x1024, .f32⟩
  | .hbm, ⟨11, _⟩ => ⟨S4x4096x1024, .f32⟩
  | .hbm, ⟨12, _⟩ => ⟨S1024x1024, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S4x1x1024, .f32⟩
  | .hbm, ⟨31, _⟩ => ⟨S4x1024, .f32⟩
  | .hbm, ⟨32, _⟩ => ⟨S4x1x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x4096x1024, .f32⟩
  | .hbm, ⟨37, _⟩ => ⟨S4x4096x1024, .f32⟩
  | .hbm, ⟨38, _⟩ => ⟨S4x1x1024, .f32⟩
  | .hbm, ⟨39, _⟩ => ⟨S4x1024, .f32⟩
  | .hbm, ⟨40, _⟩ => ⟨S4x1x1024, .f32⟩
  | .hbm, ⟨41, _⟩ => ⟨S4x4096x1024, .f32⟩
  | .hbm, ⟨42, _⟩ => ⟨S4x4096x1024, .f32⟩
  | .hbm, ⟨43, _⟩ => ⟨S1024x1024, .f32⟩
  | .hbm, ⟨44, _⟩ => ⟨S_, .f32⟩
  | .hbm, ⟨45, _⟩ => ⟨S1024, .f32⟩
  | .hbm, ⟨46, _⟩ => ⟨S1024x1, .f32⟩
  | .hbm, ⟨47, _⟩ => ⟨S_, .f32⟩
  | .hbm, ⟨48, _⟩ => ⟨S1024x1, .f32⟩
  | .hbm, ⟨49, _⟩ => ⟨S1024x1, .f32⟩
  | .hbm, ⟨50, _⟩ => ⟨S_, .f32⟩
  | .hbm, ⟨51, _⟩ => ⟨S1024x1, .f32⟩
  | .hbm, ⟨52, _⟩ => ⟨S1024x1, .f32⟩
  | .hbm, ⟨53, _⟩ => ⟨S1024x1, .f32⟩
  | .hbm, ⟨54, _⟩ => ⟨S1024x1024, .f32⟩
  | .hbm, ⟨55, _⟩ => ⟨S1024x1024, .f32⟩
  | .hbm, ⟨56, _⟩ => ⟨S1024, .f32⟩
  | .hbm, ⟨57, _⟩ => ⟨S1x1024, .f32⟩
  | .hbm, ⟨58, _⟩ => ⟨S1024x1024, .f32⟩
  | .hbm, ⟨59, _⟩ => ⟨S1024x1024, .f32⟩
  | .hbm, ⟨60, _⟩ => ⟨S1x1x1024, .f32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S1x1024, .f32⟩
  | .hbm, ⟨66, _⟩ => ⟨S1024x1024, .f32⟩
  | .hbm, ⟨67, _⟩ => ⟨S1024x1024, .f32⟩
  | .hbm, ⟨68, _⟩ => ⟨S1x1x1024, .f32⟩
  | .hbm, ⟨69, _⟩ => ⟨S1024, .f32⟩
  | .hbm, ⟨70, _⟩ => ⟨S1x1024, .f32⟩
  | .hbm, ⟨71, _⟩ => ⟨S1024x1024, .f32⟩
  | .hbm, ⟨72, _⟩ => ⟨S1024x1024, .f32⟩
  | .hbm, ⟨73, _⟩ => ⟨S16384x1024, .f32⟩
  | .hbm, ⟨74, _⟩ => ⟨S17408x1024, .f32⟩
  | .hbm, ⟨75, _⟩ => ⟨S17408x3072, .f32⟩
  | .hbm, ⟨76, _⟩ => ⟨S17408x512, .f32⟩
  | .hbm, ⟨77, _⟩ => ⟨S_, .f32⟩
  | .hbm, ⟨78, _⟩ => ⟨S17408x512, .f32⟩
  | .hbm, ⟨79, _⟩ => ⟨S17408x512, .f32⟩
  | .hbm, ⟨80, _⟩ => ⟨S17408x2560, .f32⟩
  | .hbm, ⟨81, _⟩ => ⟨S17408x3072, .f32⟩
  | .hbm, ⟨82, _⟩ => ⟨S17408x3072, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_7 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== Kernel3.lean ====
abbrev S16384x1024 : Shape := ⟨2, ![16384, 1024]⟩
abbrev S1024x1024 : Shape := ⟨2, ![1024, 1024]⟩
abbrev S8x6x1024 : Shape := ⟨3, ![8, 6, 1024]⟩
abbrev S1x1024 : Shape := ⟨2, ![1, 1024]⟩
abbrev S1024x3072 : Shape := ⟨2, ![1024, 3072]⟩
abbrev S4096x16 : Shape := ⟨2, ![4096, 16]⟩
abbrev S_ : Shape := ⟨0, ![]⟩
abbrev S256 : Shape := ⟨1, ![256]⟩
abbrev S512 : Shape := ⟨1, ![512]⟩
abbrev S1024x512 : Shape := ⟨2, ![1024, 512]⟩
abbrev S1x512 : Shape := ⟨2, ![1, 512]⟩
abbrev S1024x2560 : Shape := ⟨2, ![1024, 2560]⟩
abbrev S512x1 : Shape := ⟨2, ![512, 1]⟩
abbrev S1024x3584 : Shape := ⟨2, ![1024, 3584]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S17408x3072 : Shape := ⟨2, ![17408, 3072]⟩
abbrev S1x6x1024 : Shape := ⟨3, ![1, 6, 1024]⟩
abbrev S1024x128 : Shape := ⟨2, ![1024, 128]⟩
abbrev S6x1024 : Shape := ⟨2, ![6, 1024]⟩
abbrev S1024 : Shape := ⟨1, ![1024]⟩
abbrev S1024x1 : Shape := ⟨2, ![1024, 1]⟩

abbrev nBuf : Space → Nat
  | .hbm => 74
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S8x6x1024, .f32⟩
  | .hbm, ⟨3, _⟩ => ⟨S1x1024, .f32⟩
  | .hbm, ⟨4, _⟩ => ⟨S1024x3072, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S4096x16, .f32⟩
  | .hbm, ⟨9, _⟩ => ⟨S_, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S512, .f32⟩
  | .hbm, ⟨14, _⟩ => ⟨S1024x512, .f32⟩
  | .hbm, ⟨15, _⟩ => ⟨S1x512, .f32⟩
  | .hbm, ⟨16, _⟩ => ⟨S1024x512, .f32⟩
  | .hbm, ⟨17, _⟩ => ⟨S1024x512, .f32⟩
  | .hbm, ⟨18, _⟩ => ⟨S1024x2560, .f32⟩
  | .hbm, ⟨19, _⟩ => ⟨S512, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S_, .i32⟩
  | .hbm, ⟨35, _⟩ => ⟨S_, .i1⟩
  | .hbm, ⟨36, _⟩ => ⟨S512, .i1⟩
  | .hbm, ⟨37, _⟩ => ⟨S512, .i1⟩
  | .hbm, ⟨38, _⟩ => ⟨S512, .i1⟩
  | .hbm, ⟨39, _⟩ => ⟨S512, .i32⟩
  | .hbm, ⟨40, _⟩ => ⟨S512, .i32⟩
  | .hbm, ⟨41, _⟩ => ⟨S512, .i32⟩
  | .hbm, ⟨42, _⟩ => ⟨S_, .i32⟩
  | .hbm, ⟨43, _⟩ => ⟨S512, .i32⟩
  | .hbm, ⟨44, _⟩ => ⟨S512, .i1⟩
  | .hbm, ⟨45, _⟩ => ⟨S_, .i32⟩
  | .hbm, ⟨46, _⟩ => ⟨S512, .i32⟩
  | .hbm, ⟨47, _⟩ => ⟨S512, .i32⟩
  | .hbm, ⟨48, _⟩ => ⟨S_, .i32⟩
  | .hbm, ⟨49, _⟩ => ⟨S512, .i32⟩
  | .hbm, ⟨50, _⟩ => ⟨S512, .i32⟩
  | .hbm, ⟨51, _⟩ => ⟨S512, .i32⟩
  | .hbm, ⟨52, _⟩ => ⟨S_, .i32⟩
  | .hbm, ⟨53, _⟩ => ⟨S512, .i32⟩
  | .hbm, ⟨54, _⟩ => ⟨S512, .i1⟩
  | .hbm, ⟨55, _⟩ => ⟨S_, .i32⟩
  | .hbm, ⟨56, _⟩ => ⟨S512, .i32⟩
  | .hbm, ⟨57, _⟩ => ⟨S512, .i32⟩
  | .hbm, ⟨58, _⟩ => ⟨S512, .i32⟩
  | .hbm, ⟨59, _⟩ => ⟨S512x1, .i32⟩
  | .hbm, ⟨60, _⟩ => ⟨S1024x512, .f32⟩
  | .hbm, ⟨61, _⟩ => ⟨S1024x3584, .f32⟩
  | .hbm, ⟨62, _⟩ => ⟨S1024x3584, .bf16⟩
  | .hbm, ⟨63, _⟩ => ⟨S4096x64, .f32⟩
  | .hbm, ⟨64, _⟩ => ⟨S4096x16, .f32⟩
  | .hbm, ⟨65, _⟩ => ⟨S4096x16, .f32⟩
  | .hbm, ⟨66, _⟩ => ⟨S4096x64, .f32⟩
  | .hbm, ⟨67, _⟩ => ⟨S1x4096x1x64, .f32⟩
  | .hbm, ⟨68, _⟩ => ⟨S1x4096x2x64, .f32⟩
  | .hbm, ⟨69, _⟩ => ⟨S4096x128, .f32⟩
  | .hbm, ⟨70, _⟩ => ⟨S1x4096x1x64, .f32⟩
  | .hbm, ⟨71, _⟩ => ⟨S1x4096x2x64, .f32⟩
  | .hbm, ⟨72, _⟩ => ⟨S4096x128, .f32⟩
  | .hbm, ⟨73, _⟩ => ⟨S17408x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1024x3584, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x3072, .bf16⟩
  | .local _ .vmem, ⟨13, _⟩ => ⟨S1024x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v9 : Ref sig .tc := ⟨.hbm, 41, rfl⟩
abbrev main_c_1 : Ref sig .tc := ⟨.hbm, 42, rfl⟩
abbrev main_v10 : Ref sig .tc := ⟨.hbm, 43, rfl⟩
abbrev main_v11 : Ref sig .tc := ⟨.hbm, 44, rfl⟩
abbrev main_c_2 : Ref sig .tc := ⟨.hbm, 45, rfl⟩
abbrev main_v12 : Ref sig .tc := ⟨.hbm, 46, rfl⟩
abbrev main_v13 : Ref sig .tc := ⟨.hbm, 47, rfl⟩
abbrev main_c_3 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_c_4 : Ref sig .tc := ⟨.hbm, 52, rfl⟩
abbrev main_v17 : Ref sig .tc := ⟨.hbm, 53, rfl⟩
abbrev main_v18 : Ref sig .tc := ⟨.hbm, 54, rfl⟩
abbrev main_c_5 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c1024_i32 : BitVec 32 := 1024#32
  let v1 : BitVec 32 := Scalar.muli arg0 c1024_i32
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi c1_i32_4 v18
  let c0_i32_5 : BitVec 32 := 0#32
  let v20 : BitVec 32 := Scalar.select v0 v19 c0_i32_5
  let c0_i32_6 : BitVec 32 := 0#32
  let c0_i32_7 : BitVec 32 := 0#32
  let c0_i32_8 : BitVec 32 := 0#32
  ![v20.toNat, c0_i32_6.toNat, c0_i32_7.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let v0 : BitVec 1 := Scalar.cmpi .slt arg0 c16_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 32 := Scalar.select v0 v10 c0_i32_3
  let c0_i32_4 : BitVec 32 := 0#32
  let c0_i32_5 : BitVec 32 := 0#32
  ![v11.toNat, c0_i32_4.toNat]

def cc0_transform_6 (i : grid0.Coords) : Fin 2 → Nat :=
  let arg0 : BitVec 32 := BitVec.ofNat 32 (i 0).val
  let c16_i32 : BitVec 32 := 16#32
  let v0 : BitVec 1 := Scalar.cmpi .slt arg0 c16_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 32 := Scalar.select v0 v10 c0_i32_3
  let c0_i32_4 : BitVec 32 := 0#32
  let c0_i32_5 : BitVec 32 := 0#32
  ![v11.toNat, c0_i32_4.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16384x1024 : Shape := ⟨2, ![16384, 1024]⟩
abbrev S1024x1024 : Shape := ⟨2, ![1024, 1024]⟩
abbrev S8x6x1024 : Shape := ⟨3, ![8, 6, 1024]⟩
abbrev S1x1024 : Shape := ⟨2, ![1, 1024]⟩
abbrev S1024x3072 : Shape := ⟨2, ![1024, 3072]⟩
abbrev S4096x16 : Shape := ⟨2, ![4096, 16]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩
abbrev S4x1x1024 : Shape := ⟨3, ![4, 1, 1024]⟩
abbrev S4x1024 : Shape := ⟨2, ![4, 1024]⟩
abbrev S1024x1 : Shape := ⟨2, ![1024, 1]⟩
abbrev S17408x1024 : Shape := ⟨2, ![17408, 1024]⟩
abbrev S17408x3072 : Shape := ⟨2, ![17408, 3072]⟩
abbrev S17408x256 : Shape := ⟨2, ![17408, 256]⟩
abbrev S17408x2560 : Shape := ⟨2, ![17408, 2560]⟩
abbrev S16384x512 : Shape := ⟨2, ![16384, 512]⟩
abbrev S4x4096x8x64 : Shape := ⟨4, ![4, 4096, 8, 64]⟩
abbrev S4x4096x8x16 : Shape := ⟨4, ![4, 4096, 8, 16]⟩
abbrev S4096x1x16 : Shape := ⟨3, ![4096, 1, 16]⟩
abbrev S1x4096x1x16 : Shape := ⟨4, ![1, 4096, 1, 16]⟩
abbrev S4x4096x8x32 : Shape := ⟨4, ![4, 4096, 8, 32]⟩
abbrev S1024x512 : Shape := ⟨2, ![1024, 512]⟩
abbrev S17408x512 : Shape := ⟨2, ![17408, 512]⟩

abbrev nBuf : Space → Nat
  | .hbm => 127
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S8x6x1024, .f32⟩
  | .hbm, ⟨3, _⟩ => ⟨S1x1024, .f32⟩
  | .hbm, ⟨4, _⟩ => ⟨S1024x3072, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S4096x16, .f32⟩
  | .hbm, ⟨9, _⟩ => ⟨S4x4096x1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1024, .f32⟩
  | .hbm, ⟨24, _⟩ => ⟨S1x1x1024, .f32⟩
  | .hbm, ⟨25, _⟩ => ⟨S4x4096x1024, .f32⟩
  | .hbm, ⟨26, _⟩ => ⟨S4x4096x1024, .f32⟩
  | .hbm, ⟨27, _⟩ => ⟨S4x1x1024, .f32⟩
  | .hbm, ⟨28, _⟩ => ⟨S4x1024, .f32⟩
  | .hbm, ⟨29, _⟩ => ⟨S4x1x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x4096x1024, .f32⟩
  | .hbm, ⟨34, _⟩ => ⟨S4x4096x1024, .f32⟩
  | .hbm, ⟨35, _⟩ => ⟨S4x1x1024, .f32⟩
  | .hbm, ⟨36, _⟩ => ⟨S4x1024, .f32⟩
  | .hbm, ⟨37, _⟩ => ⟨S4x1x1024, .f32⟩
  | .hbm, ⟨38, _⟩ => ⟨S4x4096x1024, .f32⟩
  | .hbm, ⟨39, _⟩ => ⟨S4x4096x1024, .f32⟩
  | .hbm, ⟨40, _⟩ => ⟨S1024x1024, .f32⟩
  | .hbm, ⟨41, _⟩ => ⟨S_, .f32⟩
  | .hbm, ⟨42, _⟩ => ⟨S1024, .f32⟩
  | .hbm, ⟨43, _⟩ => ⟨S1024x1, .f32⟩
  | .hbm, ⟨44, _⟩ => ⟨S_, .f32⟩
  | .hbm, ⟨45, _⟩ => ⟨S1024x1, .f32⟩
  | .hbm, ⟨46, _⟩ => ⟨S1024x1, .f32⟩
  | .hbm, ⟨47, _⟩ => ⟨S_, .f32⟩
  | .hbm, ⟨48, _⟩ => ⟨S1024x1, .f32⟩
  | .hbm, ⟨49, _⟩ => ⟨S1024x1, .f32⟩
  | .hbm, ⟨50, _⟩ => ⟨S1024x1, .f32⟩
  | .hbm, ⟨51, _⟩ => ⟨S1024x1024, .f32⟩
  | .hbm, ⟨52, _⟩ => ⟨S1024x1024, .f32⟩
  | .hbm, ⟨53, _⟩ => ⟨S1024, .f32⟩
  | .hbm, ⟨54, _⟩ => ⟨S1x1024, .f32⟩
  | .hbm, ⟨55, _⟩ => ⟨S1024x1024, .f32⟩
  | .hbm, ⟨56, _⟩ => ⟨S1024x1024, .f32⟩
  | .hbm, ⟨57, _⟩ => ⟨S1x1x1024, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S1x1024, .f32⟩
  | .hbm, ⟨63, _⟩ => ⟨S1024x1024, .f32⟩
  | .hbm, ⟨64, _⟩ => ⟨S1024x1024, .f32⟩
  | .hbm, ⟨65, _⟩ => ⟨S1x1x1024, .f32⟩
  | .hbm, ⟨66, _⟩ => ⟨S1024, .f32⟩
  | .hbm, ⟨67, _⟩ => ⟨S1x1024, .f32⟩
  | .hbm, ⟨68, _⟩ => ⟨S1024x1024, .f32⟩
  | .hbm, ⟨69, _⟩ => ⟨S1024x1024, .f32⟩
  | .hbm, ⟨70, _⟩ => ⟨S16384x1024, .f32⟩
  | .hbm, ⟨71, _⟩ => ⟨S17408x1024, .f32⟩
  | .hbm, ⟨72, _⟩ => ⟨S17408x3072, .f32⟩
  | .hbm, ⟨73, _⟩ => ⟨S17408x256, .f32⟩
  | .hbm, ⟨74, _⟩ => ⟨S17408x256, .f32⟩
  | .hbm, ⟨75, _⟩ => ⟨S_, .f32⟩
  | .hbm, ⟨76, _⟩ => ⟨S17408x256, .f32⟩
  | .hbm, ⟨77, _⟩ => ⟨S17408x256, .f32⟩
  | .hbm, ⟨78, _⟩ => ⟨S17408x2560, .f32⟩
  | .hbm, ⟨79, _⟩ => ⟨S17408x3072, .f32⟩
  | .hbm, ⟨80, _⟩ => ⟨S16384x512, .f32⟩
  | .hbm, ⟨81, _⟩ => ⟨S4x4096x8x64, .f32⟩
  | .hbm, ⟨82, _⟩ => ⟨S4x4096x8x16, .f32⟩
  | .hbm, ⟨83, _⟩ => ⟨S4x4096x8x16, .f32⟩
  | .hbm, ⟨84, _⟩ => ⟨S4096x1x16, .f32⟩
  | .hbm, ⟨85, _⟩ => ⟨S4096x1x16, .f32⟩
  | .hbm, ⟨86, _⟩ => ⟨S1x4096x1x16, .f32⟩
  | .hbm, ⟨87, _⟩ => ⟨S4x4096x8x16, .f32⟩
  | .hbm, ⟨88, _⟩ => ⟨S4x4096x8x16, .f32⟩
  | .hbm, ⟨89, _⟩ => ⟨S1x4096x1x16, .f32⟩
  | .hbm, ⟨90, _⟩ => ⟨S4x4096x8x16, .f32⟩
  | .hbm, ⟨91, _⟩ => ⟨S4x4096x8x16, .f32⟩
  | .hbm, ⟨92, _⟩ => ⟨S4x4096x8x16, .f32⟩
  | .hbm, ⟨93, _⟩ => ⟨S1x4096x1x16, .f32⟩
  | .hbm, ⟨94, _⟩ => ⟨S4x4096x8x16, .f32⟩
  | .hbm, ⟨95, _⟩ => ⟨S4x4096x8x16, .f32⟩
  | .hbm, ⟨96, _⟩ => ⟨S1x4096x1x16, .f32⟩
  | .hbm, ⟨97, _⟩ => ⟨S4x4096x8x16, .f32⟩
  | .hbm, ⟨98, _⟩ => ⟨S4x4096x8x16, .f32⟩
  | .hbm, ⟨99, _⟩ => ⟨S4x4096x8x16, .f32⟩
  | .hbm, ⟨100, _⟩ => ⟨S4x4096x8x32, .f32⟩
  | .hbm, ⟨101, _⟩ => ⟨S4x4096x8x16, .f32⟩
  | .hbm, ⟨102, _⟩ => ⟨S4x4096x8x16, .f32⟩
  | .hbm, ⟨103, _⟩ => ⟨S4096x1x16, .f32⟩
  | .hbm, ⟨104, _⟩ => ⟨S4096x1x16, .f32⟩
  | .hbm, ⟨105, _⟩ => ⟨S1x4096x1x16, .f32⟩
  | .hbm, ⟨106, _⟩ => ⟨S4x4096x8x16, .f32⟩
  | .hbm, ⟨107, _⟩ => ⟨S4x4096x8x16, .f32⟩
  | .hbm, ⟨108, _⟩ => ⟨S1x4096x1x16, .f32⟩
  | .hbm, ⟨109, _⟩ => ⟨S4x4096x8x16, .f32⟩
  | .hbm, ⟨110, _⟩ => ⟨S4x4096x8x16, .f32⟩
  | .hbm, ⟨111, _⟩ => ⟨S4x4096x8x16, .f32⟩
  | .hbm, ⟨112, _⟩ => ⟨S1x4096x1x16, .f32⟩
  | .hbm, ⟨113, _⟩ => ⟨S4x4096x8x16, .f32⟩
  | .hbm, ⟨114, _⟩ => ⟨S4x4096x8x16, .f32⟩
  | .hbm, ⟨115, _⟩ => ⟨S1x4096x1x16, .f32⟩
  | .hbm, ⟨116, _⟩ => ⟨S4x4096x8x16, .f32⟩
  | .hbm, ⟨117, _⟩ => ⟨S4x4096x8x16, .f32⟩
  | .hbm, ⟨118, _⟩ => ⟨S4x4096x8x16, .f32⟩
  | .hbm, ⟨119, _⟩ => ⟨S4x4096x8x32, .f32⟩
  | .hbm, ⟨120, _⟩ => ⟨S4x4096x8x64, .f32⟩
  | .hbm, ⟨121, _⟩ => ⟨S16384x512, .f32⟩
  | .hbm, ⟨122, _⟩ => ⟨S1024x512, .f32⟩
  | .hbm, ⟨123, _⟩ => ⟨S17408x512, .f32⟩
  | .hbm, ⟨124, _⟩ => ⟨S17408x2560, .f32⟩
  | .hbm, ⟨125, _⟩ => ⟨S17408x3072, .f32⟩
  | .hbm, ⟨126, _⟩ => ⟨S17408x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩

abbrev nD : Nat := 1
abbrev τ : Topo := Topo.v7x

variable {F : FTy → Type} [FloatOps F]
-- ==== Kernel4.lean ====
abbrev S16384x512 : Shape := ⟨2, ![16384, 512]⟩
abbrev S1024x512 : Shape := ⟨2, ![1024, 512]⟩
abbrev S16384x1024 : Shape := ⟨2, ![16384, 1024]⟩
abbrev S1024x1024 : Shape := ⟨2, ![1024, 1024]⟩
abbrev S8x6x1024 : Shape := ⟨3, ![8, 6, 1024]⟩
abbrev S1x1024 : Shape := ⟨2, ![1, 1024]⟩
abbrev S1024x64 : Shape := ⟨2, ![1024, 64]⟩
abbrev S64x1024 : Shape := ⟨2, ![64, 1024]⟩
abbrev S1x64x1024 : Shape := ⟨3, ![1, 64, 1024]⟩
abbrev S2x64x1024 : Shape := ⟨3, ![2, 64, 1024]⟩
abbrev S17408x1024 : Shape := ⟨2, ![17408, 1024]⟩
abbrev S64x17408 : Shape := ⟨2, ![64, 17408]⟩
abbrev S1x6x1024 : Shape := ⟨3, ![1, 6, 1024]⟩
abbrev S512x1024 : Shape := ⟨2, ![512, 1024]⟩
abbrev S6x1024 : Shape := ⟨2, ![6, 1024]⟩
abbrev S1024 : Shape := ⟨1, ![1024]⟩
abbrev S1024x1 : Shape := ⟨2, ![1024, 1]⟩

abbrev nBuf : Space → Nat
  | .hbm => 22
  | .vmem => 23
  | .smem => 0
  | _ => 0

abbrev bufTy : (tb : Table) → Fin (tcTables nBuf tb) → BufTy
  | .hbm, ⟨0, _⟩ => ⟨S16384x512, .bf16⟩
  | .hbm, ⟨1, _⟩ => ⟨S1024x512, .bf16⟩
  | .hbm, ⟨2, _⟩ => ⟨S16384x512, .bf16⟩
  | .hbm, ⟨3, _⟩ => ⟨S1024x512, .bf16⟩
  | .hbm, ⟨4, _⟩ => ⟨S16384x1024, .f32⟩
  | .hbm, ⟨5, _⟩ => ⟨S1024x1024, .f32⟩
  | .hbm, ⟨6, _⟩ => ⟨S8x6x1024, .f32⟩
  | .hbm, ⟨7, _⟩ => ⟨S1x1024, .f32⟩
  | .hbm, ⟨8, _⟩ => ⟨S1024x1024, .f32⟩
  | .hbm, ⟨9, _⟩ => ⟨S1024x64, .f32⟩
  | .hbm, ⟨10, _⟩ => ⟨S64x1024, .f32⟩
  | .hbm, ⟨11, _⟩ => ⟨S64x1024, .bf16⟩
  | .hbm, ⟨12, _⟩ => ⟨S64x1024, .f32⟩
  | .hbm, ⟨13, _⟩ => ⟨S64x1024, .f32⟩
  | .hbm, ⟨14, _⟩ => ⟨S64x1024, .bf16⟩
  | .hbm, ⟨15, _⟩ => ⟨S1x64x1024, .bf16⟩
  | .hbm, ⟨16, _⟩ => ⟨S1x64x1024, .bf16⟩
  | .hbm, ⟨17, _⟩ => ⟨S2x64x1024, .bf16⟩
  | .hbm, ⟨18, _⟩ => ⟨S1024x1024, .bf16⟩
  | .hbm, ⟨19, _⟩ => ⟨S17408x1024, .f32⟩
  | .hbm, ⟨20, _⟩ => ⟨S17408x1024, .bf16⟩
  | .hbm, ⟨21, _⟩ => ⟨S64x17408, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x6x1024, .f32⟩
  | .local _ .vmem, ⟨13, _⟩ => ⟨S1x6x1024, .f32⟩
  | .local _ .vmem, ⟨14, _⟩ => ⟨S1x1024, .f32⟩
  | .local _ .vmem, ⟨15, _⟩ => ⟨S1024x1024, .bf16⟩
  | .local _ .vmem, ⟨16, _⟩ => ⟨S2x64x1024, .bf16⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | .local _ .vmem, ⟨20, _⟩ => ⟨S1024x1024, .bf16⟩
  | .local _ .vmem, ⟨21, _⟩ => ⟨S64x1024, .f32⟩
  | .local _ .vmem, ⟨22, _⟩ => ⟨S64x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_6 (i : grid0.Coords) : Fin 3 → Nat :=
  let arg0 : BitVec 32 := BitVec.ofNat 32 (i 0).val
  let c16_i32 : BitVec 32 := 16#32
  let v0 : BitVec 1 := Scalar.cmpi .slt arg0 c16_i32
  let c1024_i32 : BitVec 32 := 1024#32
  let v1 : BitVec 32 := Scalar.muli arg0 c1024_i32
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi c1_i32_4 v18
  let c0_i32_5 : BitVec 32 := 0#32
  let v20 : BitVec 32 := Scalar.select v0 v19 c0_i32_5
  let c0_i32_6 : BitVec 32 := 0#32
  let c0_i32_7 : BitVec 32 := 0#32
  let c0_i32_8 : BitVec 32 := 0#32
  ![v20.toNat, c0_i32_6.toNat, c0_i32_7.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x64x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S16384x512 : Shape := ⟨2, ![16384, 512]⟩
abbrev S1024x512 : Shape := ⟨2, ![1024, 512]⟩
abbrev S16384x1024 : Shape := ⟨2, ![16384, 1024]⟩
abbrev S1024x1024 : Shape := ⟨2, ![1024, 1024]⟩
abbrev S8x6x1024 : Shape := ⟨3, ![8, 6, 1024]⟩
abbrev S1x1024 : Shape := ⟨2, ![1, 1024]⟩
abbrev S1024x64 : Shape := ⟨2, ![1024, 64]⟩
abbrev S17408x1024 : Shape := ⟨2, ![17408, 1024]⟩
abbrev S4x4096x1024 : Shape := ⟨3, ![4, 4096, 1024]⟩
abbrev S4x1x1024 : Shape := ⟨3, ![4, 1, 1024]⟩
abbrev S4x1024 : Shape := ⟨2, ![4, 1024]⟩
abbrev S1x1x1024 : Shape := ⟨3, ![1, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1024x1 : Shape := ⟨2, ![1024, 1]⟩

abbrev nBuf : Space → Nat
  | .hbm => 96
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S1024x512, .bf16⟩
  | .hbm, ⟨2, _⟩ => ⟨S16384x512, .bf16⟩
  | .hbm, ⟨3, _⟩ => ⟨S1024x512, .bf16⟩
  | .hbm, ⟨4, _⟩ => ⟨S16384x1024, .f32⟩
  | .hbm, ⟨5, _⟩ => ⟨S1024x1024, .f32⟩
  | .hbm, ⟨6, _⟩ => ⟨S8x6x1024, .f32⟩
  | .hbm, ⟨7, _⟩ => ⟨S1x1024, .f32⟩
  | .hbm, ⟨8, _⟩ => ⟨S1024x1024, .f32⟩
  | .hbm, ⟨9, _⟩ => ⟨S1024x64, .f32⟩
  | .hbm, ⟨10, _⟩ => ⟨S16384x1024, .bf16⟩
  | .hbm, ⟨11, _⟩ => ⟨S1024x1024, .bf16⟩
  | .hbm, ⟨12, _⟩ => ⟨S17408x1024, .bf16⟩
  | .hbm, ⟨13, _⟩ => ⟨S17408x1024, .f32⟩
  | .hbm, ⟨14, _⟩ => ⟨S17408x1024, .f32⟩
  | .hbm, ⟨15, _⟩ => ⟨S4x4096x1024, .f32⟩
  | .hbm, ⟨16, _⟩ => ⟨S4x1x1024, .f32⟩
  | .hbm, ⟨17, _⟩ => ⟨S4x1024, .f32⟩
  | .hbm, ⟨18, _⟩ => ⟨S4x1x1024, .f32⟩
  | .hbm, ⟨19, _⟩ => ⟨S16384x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S1x1x1024, .f32⟩
  | .hbm, ⟨25, _⟩ => ⟨S1024, .f32⟩
  | .hbm, ⟨26, _⟩ => ⟨S1024x1024, .f32⟩
  | .hbm, ⟨27, _⟩ => ⟨S1x1024, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S4x4096x1024, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1, .f32⟩
  | .hbm, ⟨42, _⟩ => ⟨S4x4096x1024, .f32⟩
  | .hbm, ⟨43, _⟩ => ⟨S4x4096x1024, .f32⟩
  | .hbm, ⟨44, _⟩ => ⟨S1024, .f32⟩
  | .hbm, ⟨45, _⟩ => ⟨S1x1x1024, .f32⟩
  | .hbm, ⟨46, _⟩ => ⟨S4x4096x1024, .f32⟩
  | .hbm, ⟨47, _⟩ => ⟨S4x4096x1024, .f32⟩
  | .hbm, ⟨48, _⟩ => ⟨S4x1x1024, .f32⟩
  | .hbm, ⟨49, _⟩ => ⟨S4x1024, .f32⟩
  | .hbm, ⟨50, _⟩ => ⟨S4x1x1024, .f32⟩
  | .hbm, ⟨51, _⟩ => ⟨S_, .f32⟩
  | .hbm, ⟨52, _⟩ => ⟨S4x1x1024, .f32⟩
  | .hbm, ⟨53, _⟩ => ⟨S4x1x1024, .f32⟩
  | .hbm, ⟨54, _⟩ => ⟨S4x4096x1024, .f32⟩
  | .hbm, ⟨55, _⟩ => ⟨S4x4096x1024, .f32⟩
  | .hbm, ⟨56, _⟩ => ⟨S4x1x1024, .f32⟩
  | .hbm, ⟨57, _⟩ => ⟨S4x1024, .f32⟩
  | .hbm, ⟨58, _⟩ => ⟨S4x1x1024, .f32⟩
  | .hbm, ⟨59, _⟩ => ⟨S4x4096x1024, .f32⟩
  | .hbm, ⟨60, _⟩ => ⟨S4x4096x1024, .f32⟩
  | .hbm, ⟨61, _⟩ => ⟨S1024x1024, .f32⟩
  | .hbm, ⟨62, _⟩ => ⟨S_, .f32⟩
  | .hbm, ⟨63, _⟩ => ⟨S1024, .f32⟩
  | .hbm, ⟨64, _⟩ => ⟨S1024x1, .f32⟩
  | .hbm, ⟨65, _⟩ => ⟨S_, .f32⟩
  | .hbm, ⟨66, _⟩ => ⟨S1024x1, .f32⟩
  | .hbm, ⟨67, _⟩ => ⟨S1024x1, .f32⟩
  | .hbm, ⟨68, _⟩ => ⟨S_, .f32⟩
  | .hbm, ⟨69, _⟩ => ⟨S1024x1, .f32⟩
  | .hbm, ⟨70, _⟩ => ⟨S1024x1, .f32⟩
  | .hbm, ⟨71, _⟩ => ⟨S1024x1, .f32⟩
  | .hbm, ⟨72, _⟩ => ⟨S1024x1024, .f32⟩
  | .hbm, ⟨73, _⟩ => ⟨S1024x1024, .f32⟩
  | .hbm, ⟨74, _⟩ => ⟨S1024, .f32⟩
  | .hbm, ⟨75, _⟩ => ⟨S1x1024, .f32⟩
  | .hbm, ⟨76, _⟩ => ⟨S1024x1024, .f32⟩
  | .hbm, ⟨77, _⟩ => ⟨S1024x1024, .f32⟩
  | .hbm, ⟨78, _⟩ => ⟨S1x1x1024, .f32⟩
  | .hbm, ⟨79, _⟩ => ⟨S1024, .f32⟩
  | .hbm, ⟨80, _⟩ => ⟨S_, .f32⟩
  | .hbm, ⟨81, _⟩ => ⟨S1024, .f32⟩
  | .hbm, ⟨82, _⟩ => ⟨S1024, .f32⟩
  | .hbm, ⟨83, _⟩ => ⟨S1x1024, .f32⟩
  | .hbm, ⟨84, _⟩ => ⟨S1024x1024, .f32⟩
  | .hbm, ⟨85, _⟩ => ⟨S1024x1024, .f32⟩
  | .hbm, ⟨86, _⟩ => ⟨S1x1x1024, .f32⟩
  | .hbm, ⟨87, _⟩ => ⟨S1024, .f32⟩
  | .hbm, ⟨88, _⟩ => ⟨S1x1024, .f32⟩
  | .hbm, ⟨89, _⟩ => ⟨S1024x1024, .f32⟩
  | .hbm, ⟨90, _⟩ => ⟨S1024x1024, .f32⟩
  | .hbm, ⟨91, _⟩ => ⟨S16384x1024, .f32⟩
  | .hbm, ⟨92, _⟩ => ⟨S17408x1024, .f32⟩
  | .hbm, ⟨93, _⟩ => ⟨S16384x1024, .f32⟩
  | .hbm, ⟨94, _⟩ => ⟨S17408x1024, .f32⟩
  | .hbm, ⟨95, _⟩ => ⟨S17408x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_cst_0 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_3 : Ref sig .tc := ⟨.hbm, 62, rfl⟩
abbrev main_v48 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_6 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩

abbrev nD : Nat := 1
abbrev τ : Topo := Topo.v7x

variable {F : FTy → Type} [FloatOps F]
-- ==== Proof.ExpertsIdeal.Words.lean ====
/-
  The words the expert kernel computes with, read as numbers: where its slices start and which of its guards hold, at
  grid point `t` of `n`, at a number of runs `k` and at an expert `e`.
-/
module

public import proofs.«01_k».proof.Proof.Gen.KernelIdeal.Skeleton
public import Idealize.ShloMosaic.Lib.WordCmp

@[expose] public section

namespace Cert.Proof.KernI

open Cert.KernelIdeal Cert.KernelIdeal.Gen
open Idealize.ShloMosaic

/-- A small number as a 32-bit word. -/
abbrev wd (k : Nat) : BitVec 32 := BitVec.ofNat 32 k

theorem wd_toNat {k : Nat} (h : k < 2 ^ 31) : (wd k).toNat = k := by
  rw [BitVec.toNat_ofNat]; omega

theorem wd_toInt {k : Nat} (h : k < 2 ^ 31) : (wd k).toInt = k := by
  rw [BitVec.toInt_eq_toNat_of_lt (by rw [wd_toNat h]; omega), wd_toNat h]

theorem eq_wd (w : BitVec 32) : w = wd w.toNat := by apply BitVec.eq_of_toNat_eq; rw [BitVec.toNat_ofNat]; exact (Nat.mod_eq_of_lt w.isLt).symm

/-! ## Slices at a grid point -/

set_option maxRecDepth 100000 in
theorem off5_all : ∀ t : Fin 264, k0_off5 (wd t.val) = ![(t.val + 2) % 3] := by decide +kernel
set_option maxRecDepth 100000 in
theorem off6_all : ∀ t : Fin 264, k0_off6 (wd t.val) = ![(t.val + 2) % 3, 0, 0] := by decide +kernel
set_option maxRecDepth 100000 in
theorem off7_all : ∀ t : Fin 264, k0_off7 (wd t.val) = ![(t.val + 2) * 1024, 0] := by decide +kernel
set_option maxRecDepth 100000 in
theorem off27_all : ∀ t : Fin 264, k0_off27 (wd t.val) = ![t.val % 3] := by decide +kernel
theorem off28_all : ∀ t : Fin 264, k0_off28 (wd t.val) = ![t.val % 3, 0, 0] := by decide +kernel
theorem off29_all : ∀ t : Fin 264, k0_off29 (wd t.val) = ![t.val * 1024, 0] := by decide +kernel
theorem off30_all : ∀ t : Fin 264, k0_off30 (wd t.val) = ![t.val % 3, 0, 0] := by decide +kernel

/-! ## Slices at a number of runs -/

theorem off9_all : ∀ k : Fin 265, k0_off9 (wd k.val) = ![k.val % 2] := by decide +kernel
theorem off10_all : ∀ k : Fin 265, k0_off10 (wd k.val) = ![k.val % 2, 0, 0] := by decide +kernel
theorem off12_all : ∀ k : Fin 265, k0_off12 (wd k.val) = ![k.val % 2] := by decide +kernel
theorem off13_all : ∀ k : Fin 265, k0_off13 (wd k.val) = ![k.val % 2, 0, 0] := by decide +kernel
theorem off14_all : ∀ k : Fin 265, k0_off14 (wd k.val) = ![k.val % 2, 0, 0] := by decide +kernel
theorem off16_all : ∀ k : Fin 265, k0_off16 (wd k.val) = ![k.val % 2, 0, 0] := by decide +kernel
theorem off17_all : ∀ k : Fin 265, k0_off17 (wd k.val) = ![k.val % 2, 0, 0] := by decide +kernel
theorem off20_all : ∀ k : Fin 265, k0_off20 (wd k.val) = ![(k.val + 1) % 2] := by decide +kernel
theorem off21_all : ∀ k : Fin 265, k0_off21 (wd k.val) = ![(k.val + 1) % 2, 0, 0] := by decide +kernel
theorem off23_all : ∀ k : Fin 265, k0_off23 (wd k.val) = ![(k.val + 1) % 2] := by decide +kernel
theorem off24_all : ∀ k : Fin 265, k0_off24 (wd k.val) = ![(k.val + 1) % 2, 0, 0] := by decide +kernel
theorem off25_all : ∀ k : Fin 265, k0_off25 (wd k.val) = ![(k.val + 1) % 2, 0, 0] := by decide +kernel

/-! ## Slices at an expert -/

theorem off3_all : ∀ e : Fin 64, k0_off3 (wd e.val) = ![0, e.val, 0, 0] := by decide +kernel
theorem off4_all : ∀ e : Fin 64, k0_off4 (wd e.val) = ![0, e.val, 0, 0] := by decide +kernel
theorem off11_all : ∀ e : Fin 64, k0_off11 (wd e.val) = ![0, e.val, 0, 0] := by decide +kernel
theorem off15_all : ∀ e : Fin 64, k0_off15 (wd e.val) = ![0, e.val, 0, 0] := by decide +kernel
theorem off18_all : ∀ e : Fin 64, k0_off18 (wd e.val) = ![e.val] := by decide +kernel
theorem off22_all : ∀ e : Fin 64, k0_off22 (wd e.val) = ![0, e.val, 0, 0] := by decide +kernel
theorem off26_all : ∀ e : Fin 64, k0_off26 (wd e.val) = ![0, e.val, 0, 0] := by decide +kernel

/-! ## Guards and table positions -/

theorem ofBool_eq_one (b : Bool) : BitVec.ofBool b = 1#1 ↔ b = true := by cases b <;> decide

theorem off19_all : ∀ p : Fin 264, k0_off19 (wd p.val) = ![p.val] := by decide +kernel

theorem slt_wd {a b : Nat} (ha : a < 2 ^ 31) (hb : b < 2 ^ 31) : (wd a).slt (wd b) = decide (a < b) := by
  unfold BitVec.slt; rw [wd_toInt ha, wd_toInt hb]; simp

theorem sub_wd {a b : Nat} (ha : a < 2 ^ 31) (h : b ≤ a) : wd a - wd b = wd (a - b) := by
  apply BitVec.eq_of_toNat_eq
  rw [BitVec.toNat_sub, wd_toNat ha, wd_toNat (by omega), wd_toNat (by omega)]; omega

theorem min_wd {t n : Nat} (hn : n ≤ 264) (ht : t < n) :
    Scalar.minsi (wd t) (Scalar.maxsi (Scalar.subi (wd n) 1#32) 0#32) = wd t := by
  show IntOp.minsi (wd t) (IntOp.maxsi (wd n - wd 1) (wd 0)) = wd t
  rw [sub_wd (by omega) (by omega)]
  unfold IntOp.minsi IntOp.maxsi
  rw [slt_wd (by omega) (by omega)]
  by_cases h : 0 < n - 1
  · rw [decide_eq_true h, if_pos rfl, slt_wd (by omega) (by omega)]
    by_cases h' : t < n - 1
    · rw [decide_eq_true h', if_pos rfl]
    · rw [decide_eq_false h', if_neg Bool.false_ne_true]; congr 1; omega
  · rw [decide_eq_false h, if_neg Bool.false_ne_true, slt_wd (by omega) (by omega), decide_eq_false (by omega), if_neg Bool.false_ne_true]
    congr 1; omega

theorem off1_eq {t n : Nat} (hn : n ≤ 264) (ht : t < n) : k0_off1 (wd t) (wd n) = ![t] := by
  show ![(Scalar.minsi (wd t) (Scalar.maxsi (Scalar.subi (wd n) 1#32) 0#32)).toNat] = _
  rw [min_wd hn ht, wd_toNat (by omega)]
theorem off8_eq {t n : Nat} (hn : n ≤ 264) (ht : t < n) : k0_off8 (wd t) (wd n) = ![t] := off1_eq hn ht
theorem off2_eq {t n : Nat} (hn : n ≤ 264) (ht : t < n) : k0_off2 (wd t) (wd n) = ![t - 1] := by
  show ![(Scalar.maxsi (Scalar.subi (Scalar.minsi (wd t) (Scalar.maxsi (Scalar.subi (wd n) 1#32) 0#32)) 1#32) 0#32).toNat] = _
  rw [min_wd hn ht]
  have h : ∀ t : Fin 264, (Scalar.maxsi (Scalar.subi (wd t.val) 1#32) 0#32).toNat = t.val - 1 := by decide +kernel
  rw [h ⟨t, by omega⟩]

theorem guard_eq (v : BitVec 1) : Scalar.cmpi .ne (Scalar.extui v) 0#32 = v := by revert v; decide

theorem cond1_eq {t n : Nat} (hn : n ≤ 264) (ht : t < n) : k0_cond1 (wd t) (wd n) = 1#1 ↔ t = 0 := by
  show Scalar.cmpi .ne (Scalar.extui (IntOp.cmpi .eq (wd t) (wd 0) &&& IntOp.cmpi .slt (wd t) (wd n))) 0#32 = 1#1 ↔ _
  rw [guard_eq, show IntOp.cmpi .slt (wd t) (wd n) = BitVec.ofBool ((wd t).slt (wd n)) from rfl,
    slt_wd (by omega) (by omega), decide_eq_true ht]
  have h : ∀ t : Fin 264, (IntOp.cmpi .eq (wd t.val) (wd 0) &&& BitVec.ofBool true = 1#1 ↔ t.val = 0) := by decide +kernel
  exact h ⟨t, by omega⟩
theorem cond4_eq {t n : Nat} (hn : n ≤ 264) (ht : t < n) : k0_cond4 (wd t) (wd n) = 1#1 ↔ t + 2 < n := by
  show Scalar.cmpi .ne (Scalar.extui (IntOp.cmpi .slt (wd t + wd 2) (wd n))) 0#32 = 1#1 ↔ _
  rw [guard_eq, show wd t + wd 2 = wd (t + 2) from (BitVec.ofNat_add ..).symm,
    show IntOp.cmpi .slt (wd (t + 2)) (wd n) = BitVec.ofBool ((wd (t + 2)).slt (wd n)) from rfl,
    slt_wd (by omega) (by omega), ofBool_eq_one, decide_eq_true_iff]
theorem cond7_eq {t n : Nat} (hn : n ≤ 264) (ht : t < n) : k0_cond7 (wd t) (wd n) = 1#1 := by
  show Scalar.cmpi .ne (Scalar.extui (BitVec.ofBool ((wd t).slt (wd n)))) 0#32 = 1#1
  rw [guard_eq, slt_wd (by omega) (by omega), decide_eq_true ht]; rfl
theorem cond5_eq {t n : Nat} (hn : n ≤ 264) (ht : t < n) (u v : BitVec 32) :
    k0_cond5 (wd t) (wd n) u v = 1#1 ↔ t = 0 ∨ u ≠ v := by
  show Scalar.cmpi .ne (Scalar.extui (BitVec.ofBool ((wd t).slt (wd n))
    &&& (BitVec.ofBool (wd t == wd 0) ||| BitVec.ofBool (u != v)))) 0#32 = 1#1 ↔ _
  rw [guard_eq, slt_wd (by omega) (by omega), decide_eq_true ht]
  have h : ∀ a b : Bool, (BitVec.ofBool true &&& (BitVec.ofBool a ||| BitVec.ofBool b) = 1#1 ↔ a = true ∨ b = true) := by decide
  rw [h, beq_iff_eq, bne_iff_ne]
  refine or_congr_left ⟨fun h => ?_, fun h => by rw [h]⟩
  have := congrArg BitVec.toNat h
  rwa [wd_toNat (by omega), wd_toNat (by omega)] at this
theorem cond6_eq {n : Nat} (hn : n ≤ 264) (v : BitVec 32) : k0_cond6 (wd n) v = 1#1 ↔ v.toInt < n := by
  show Scalar.cmpi .ne (Scalar.extui (BitVec.ofBool (v.slt (wd n)))) 0#32 = 1#1 ↔ _
  rw [guard_eq, ofBool_eq_one]; unfold BitVec.slt; rw [wd_toInt (by omega), decide_eq_true_iff]

end Cert.Proof.KernI
-- ==== Proof.ExpertsIdeal.Base.lean ====
/-
  What the expert kernel holds while it runs: the slots of its rings, the copies in flight into them, and the rules that
  start and wait for a copy, stated so that a slot or a block spelled by the kernel's own offsets is one named here.
-/
module

public import proofs.«01_k».proof.Proof.ExpertsIdeal.Words
public import proofs.«01_k».proof.Proof.Gen.KernelIdeal.Launch
public import Idealize.ShloMosaic.Lib.Tactic
public import Idealize.ShloMosaic.Lib.Pipeline.Kit

@[expose] public section

noncomputable section

namespace Cert.Proof.KernI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- The algebra: the pipeline's staging cells beside the counters of the kernel's own copies. -/
abbrev UU : Type := UR sig nD τ × Counters

local notation "𝕄" => MT nD τ sig Unit (Elt F) ℕ UU ℕ

/-- The counters' embedding. -/
abbrev EC : UEmb Counters (MT nD τ sig Unit (Elt F) ℕ UU ℕ) := countersEmb

/-- The contents of a memref's buffer on core `c`. -/
abbrev Bf (c : Dev nD) {sp : Space} {S : Shape} {e : EltTy} (M : Memref sig .tc sp S e) : Type := Buf (Elt F) (M.view.loc (c : Thread nD τ))
/-- A memref's whole buffer held at `f`. -/
abbrev pt (c : Dev nD) {sp : Space} {S : Shape} {e : EltTy} (M : Memref sig .tc sp S e) (f : Bf (F := F) c M) : sProp 𝕄 :=
  M.view.loc (c : Thread nD τ) ↦{fullShare} f

/-! ## One copy: what is held before it, while it flies, and once it has landed -/

section Copy

variable (c : Dev nD) {sp sp' : Space} {S S' : Shape} {e : EltTy}
variable (src : Memref sig .tc sp S e) (dst : Memref sig .tc sp' S e)
variable (q : PosShare TreeShare) (X : Bf (F := F) c src)

/-- The destination's elements, at anything. -/
def Any : sProp 𝕄 := iprop(∃ f : Bf (F := F) c dst, dst.view.loc (c : Thread nD τ) ↦[dst.view.set]{fullShare} f)

/-- The destination's elements holding what the source reads. -/
def Has : sProp 𝕄 :=
  iprop(∃ f : Bf (F := F) c dst, (dst.view.loc (c : Thread nD τ) ↦[dst.view.set]{fullShare} f)
    ∗ ⌜dst.view.read (Elt F) f = src.view.read (Elt F) X⌝)

/-- What the copy delivers: the destination filled and the share of the source's elements it was lent. -/
def Got : sProp 𝕄 := iprop(Has c src dst X ∗ src.view.loc (c : Thread nD τ) ↦[src.view.set]{q} X)

/-- The source's other elements. -/
def Rest : sProp 𝕄 := src.view.loc (c : Thread nD τ) ↦[Finset.univ \ src.view.set]{q} X

theorem got_intro (f : Bf (F := F) c dst) :
    iprop((dst.view.loc (c : Thread nD τ) ↦[dst.view.set]{fullShare}
        (dst.view.write (Elt F) f (ReadAs.same.apply (src.view.read (Elt F) X)) Finset.univ))
      ∗ (src.view.loc (c : Thread nD τ) ↦[src.view.set]{q} X)) ⊢ Got c src dst q X := by
  unfold Got Has
  iintro ⟨Hd, Hs⟩
  isplitl [Hd]
  · iexists _
    isplitl [Hd]; · iexact Hd
    ipureintro
    exact View.read_write_univ _ _
  · iexact Hs

theorem has_any : Has c src dst X ⊢ (Any (F := F) c dst : sProp 𝕄) := by
  unfold Has Any
  iintro ⟨%f, Hf, -⟩
  iexists f; iexact Hf

instance got_storable : BI.Storable (upEmb : UEmb _ 𝕄) (Got c src dst q X) := by
  unfold Got Has; infer_instance

theorem lend : (src.view.loc (c : Thread nD τ) ↦{q} X : sProp 𝕄)
    ⊣⊢ iprop((src.view.loc (c : Thread nD τ) ↦[src.view.set]{q} X) ∗ Rest c src q X) :=
  pointsTo_split_subset (Finset.subset_univ _)

end Copy

/-! ## The rules -/

section Rules

variable (c : Dev nD) {sp sp' : Space} {S : Shape} {e : EltTy} {α : Type} {Q : α → sProp (MT nD τ sig Unit (Elt F) ℕ UU ℕ)}
variable (src src' : Memref sig .tc sp S e) (dst dst' : Memref sig .tc sp' S e)
variable (q : PosShare TreeShare) (X : Bf (F := F) c src)

theorem wp_start1 {sm sm' : SemLoc sig} (N : ℕ) (es : src' = src) (ed : dst' = dst) (em : sm' = sm)
    {hsrc : src'.view.WordExact} {hdst : dst'.view.WordExact} {hsem : DmaTarget.Typed (nD := nD) (τ := τ) (p := .tc) sp sm' (.here dst')}
    {k : PUnit → Prog (TpuEff nD τ sig (Elt F) Λ₀ .tc) α}
    (hN : dst.view.amount sm = N) (hN0 : 0 < N) :
    iprop((src.view.loc (c : Thread nD τ) ↦{q} X) ∗ Any (F := F) c dst ∗ semVal ((c : Thread nD τ), sm) 0)
      ⊢ iprop((iprop(Flight EC (c : Thread nD τ) sm () N (Got c src dst q X) ∗ Rest c src q X)
            -∗ wp frame (wpE (defs₀ (F := F)) Variants.none (c : Thread nD τ) none) Set.univ (k ⟨⟩) Q)
          -∗ wp frame (wpE (defs₀ (F := F)) Variants.none (c : Thread nD τ) none) Set.univ
            (.op (.enqueueDmaAs src' (.here dst') .same sm' hsrc hdst hsem) k) Q) := by
  subst es ed em
  unfold Any
  iintro ⟨Hs, ⟨%f, Hd⟩, Hv⟩ Hk
  ihave Hs' := (lend c src' q X).1 $$ Hs
  icases Hs' with ⟨Hs, Hr⟩
  iapply (wp_dmaLocal EC Variants.none (c : Thread nD τ) none () N hN hN0 (Finset.Subset.refl _)) $$ [Hs Hd Hv]
  · isplitl [Hs]; · iexact Hs
    isplitl [Hd]; · iexact Hd
    iexact Hv
  iintro Hf
  iapply Hk
  isplitl [Hf]
  · iapply (Flight_mono EC (c : Thread nD τ) (got_intro c src' dst' q X f)) $$ Hf
  · iexact Hr

theorem wp_done1 {sem sem' : DmaSem sig} (N : ℕ) {sp₂ sp₃ : Space} {S₂ S₃ : Shape} {e₂ e₃ : EltTy} {srcw : Memref sig .tc sp₂ S₂ e₂} {dstw : Memref sig .tc sp₃ S₃ e₃}
    (em : sem' = sem)
    {hsrc : srcw.view.WordExact} {hdst : dstw.view.WordExact}
    {k : PUnit → Prog (TpuEff nD τ sig (Elt F) Λ₀ .tc) α} (hN : dstw.view.dmaCredit = N) (W : Waits sig Unit) :
    iprop(Flight EC (c : Thread nD τ) (.dma sem) () N (Got c src dst q X) ∗ Rest c src q X ∗ owes (c : Thread nD τ) 0 W)
      ⊢ iprop((iprop(Has c src dst X ∗ (src.view.loc (c : Thread nD τ) ↦{q} X) ∗ semVal ((c : Thread nD τ), .dma sem) 0
              ∗ ∃ W, owes (c : Thread nD τ) 0 W)
            -∗ wp frame (wpE (defs₀ (F := F)) Variants.none (c : Thread nD τ) none) Set.univ (k ⟨⟩) Q)
          -∗ wp frame (wpE (defs₀ (F := F)) Variants.none (c : Thread nD τ) none) Set.univ
            (.op (.waitDma2 sem' srcw dstw hsrc hdst) k) Q) := by
  subst em
  iintro ⟨Hf, Hr, HO⟩ Hk
  iapply (wp_waitLocal EC Variants.none (c : Thread nD τ) none () hN) $$ [Hf HO]
  · isplitl [Hf] <;> iassumption
  unfold Got
  iintro ⟨⟨Hh, Hs⟩, Hv, HO⟩
  iapply Hk
  isplitl [Hh]; · iexact Hh
  isplitl [Hs Hr]
  · iapply (lend c src q X).2
    isplitl [Hs] <;> iassumption
  isplitl [Hv]; · iexact Hv
  iexists _; iexact HO

theorem wp_startB {n : ℕ} {sm sm' : SemLoc sig} (N : ℕ) (D : Fin n → sProp 𝕄) (j : ℕ) (hj : j < n) (es : src' = src) (ed : dst' = dst) (em : sm' = sm)
    {hsrc : src'.view.WordExact} {hdst : dst'.view.WordExact} {hsem : DmaTarget.Typed (nD := nD) (τ := τ) (p := .tc) sp sm' (.here dst')}
    {k : PUnit → Prog (TpuEff nD τ sig (Elt F) Λ₀ .tc) α}
    (hN : dst.view.amount sm = N) (hD : D ⟨j, hj⟩ = Got c src dst q X) :
    iprop((src.view.loc (c : Thread nD τ) ↦{q} X) ∗ Any (F := F) c dst ∗ Batch EC (c : Thread nD τ) sm () N D j 0)
      ⊢ iprop((iprop(Batch EC (c : Thread nD τ) sm () N D (j + 1) 0 ∗ Rest c src q X)
            -∗ wp frame (wpE (defs₀ (F := F)) Variants.none (c : Thread nD τ) none) Set.univ (k ⟨⟩) Q)
          -∗ wp frame (wpE (defs₀ (F := F)) Variants.none (c : Thread nD τ) none) Set.univ
            (.op (.enqueueDmaAs src' (.here dst') .same sm' hsrc hdst hsem) k) Q) := by
  subst es ed em
  unfold Any
  iintro ⟨Hs, ⟨%f, Hd⟩, Hv⟩ Hk
  ihave Hs' := (lend c src' q X).1 $$ Hs
  icases Hs' with ⟨Hs, Hr⟩
  have hG := got_intro c src' dst' q X f
  rw [← hD] at hG
  iapply (wp_dmaBatch EC Variants.none (c : Thread nD τ) none () N hN (Finset.Subset.refl _) hj (Nat.zero_le _) hG) $$ [Hs Hd Hv]
  · isplitl [Hs]; · iexact Hs
    isplitl [Hd]; · iexact Hd
    iexact Hv
  iintro Hf
  iapply Hk
  isplitl [Hf]; · iexact Hf
  iexact Hr

theorem wp_doneB {n : ℕ} {sem sem' : DmaSem sig} (N : ℕ) (D : Fin n → sProp 𝕄) {sp₂ sp₃ : Space} {S₂ S₃ : Shape} {e₂ e₃ : EltTy} {srcw : Memref sig .tc sp₂ S₂ e₂} {dstw : Memref sig .tc sp₃ S₃ e₃}
    (em : sem' = sem) {hsrc : srcw.view.WordExact} {hdst : dstw.view.WordExact}
    {k : PUnit → Prog (TpuEff nD τ sig (Elt F) Λ₀ .tc) α} (hN : dstw.view.dmaCredit = N) (u u' : ℕ) (hu : u + N < N * n) (hu' : u' = u + N) :
    iprop(Batch EC (c : Thread nD τ) (.dma sem) () N D n u ∗ (∃ W, owes (c : Thread nD τ) 0 W))
      ⊢ iprop((iprop(Batch EC (c : Thread nD τ) (.dma sem) () N D n u' ∗ ∃ W, owes (c : Thread nD τ) 0 W)
            -∗ wp frame (wpE (defs₀ (F := F)) Variants.none (c : Thread nD τ) none) Set.univ (k ⟨⟩) Q)
          -∗ wp frame (wpE (defs₀ (F := F)) Variants.none (c : Thread nD τ) none) Set.univ
            (.op (.waitDma2 sem' srcw dstw hsrc hdst) k) Q) := by
  subst em hu'
  iintro ⟨Hf, ⟨%W, HO⟩⟩ Hk
  iapply (wp_waitBatch EC Variants.none (c : Thread nD τ) none () hN hu) $$ [Hf HO]
  · isplitl [Hf] <;> iassumption
  iintro ⟨Hf, HO⟩
  iapply Hk
  isplitl [Hf]; · iexact Hf
  iexists _; iexact HO

theorem wp_lastB {n : ℕ} {sem sem' : DmaSem sig} (N : ℕ) (hN0 : 0 < N) (D : Fin n → sProp 𝕄) {sp₂ sp₃ : Space} {S₂ S₃ : Shape} {e₂ e₃ : EltTy} {srcw : Memref sig .tc sp₂ S₂ e₂} {dstw : Memref sig .tc sp₃ S₃ e₃}
    (em : sem' = sem) {hsrc : srcw.view.WordExact} {hdst : dstw.view.WordExact}
    {k : PUnit → Prog (TpuEff nD τ sig (Elt F) Λ₀ .tc) α} (hN : dstw.view.dmaCredit = N) (u : ℕ) (hu : u + N = N * n) :
    iprop(Batch EC (c : Thread nD τ) (.dma sem) () N D n u ∗ (∃ W, owes (c : Thread nD τ) 0 W))
      ⊢ iprop((iprop(bigSep Finset.univ D ∗ semVal ((c : Thread nD τ), .dma sem) 0 ∗ ∃ W, owes (c : Thread nD τ) 0 W)
            -∗ wp frame (wpE (defs₀ (F := F)) Variants.none (c : Thread nD τ) none) Set.univ (k ⟨⟩) Q)
          -∗ wp frame (wpE (defs₀ (F := F)) Variants.none (c : Thread nD τ) none) Set.univ
            (.op (.waitDma2 sem' srcw dstw hsrc hdst) k) Q) := by
  subst em
  iintro ⟨Hf, ⟨%W, HO⟩⟩ Hk
  iapply (wp_waitBatchLast EC Variants.none (c : Thread nD τ) none () hN hN0 hu) $$ [Hf HO]
  · isplitl [Hf] <;> iassumption
  iintro ⟨HD, Hv, HO⟩
  iapply Hk
  isplitl [HD]; · iexact HD
  isplitl [Hv]; · iexact Hv
  iexists _; iexact HO

end Rules

end Cert.Proof.KernI

end
-- ==== Proof.ExpertsIdeal.Ring.lean ====
/-
  The rings of the expert kernel, each slot, block and semaphore by its number, and the states they are in.
-/
module

public import proofs.«01_k».proof.Proof.ExpertsIdeal.Base

@[expose] public section

noncomputable section

namespace Cert.Proof.KernI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Steps at the head of a sequence -/

section Steps

variable (c : Dev nD) {α β : Type} {Q : α → sProp (MT nD τ sig Unit (Elt F) ℕ UU ℕ)}

/-- Core `c` runs `p` to `Q`. -/
abbrev WP (p : Prog (TpuEff nD τ sig (Elt F) Λ₀ .tc) α) (Q : α → sProp (MT nD τ sig Unit (Elt F) ℕ UU ℕ)) : sProp (MT nD τ sig Unit (Elt F) ℕ UU ℕ) :=
  wp frame (wpE (defs₀ (F := F)) Variants.none (c : Thread nD τ) none) Set.univ p Q

/-- A word read from a table, at the name `v` it has. -/
theorem wp_word {S : Shape} {M : Memref sig .tc .smem S .i32} {r : Rect S} {h1 : r.shape.numel = 1} {hp : EltTy.i32.packing = 1}
    {k : BitVec 32 → Prog (TpuEff nD τ sig (Elt F) Λ₀ .tc) α} {q : PosShare TreeShare} {f : Bf (F := F) c M} (v : BitVec 32)
    (hv : (M.access r).read (Elt F) f (Shape.Idx.first (h1.symm ▸ Nat.one_pos)) = v) :
    (M.view.loc (c : Thread nD τ) ↦{q} f : sProp 𝕄)
      ⊢ iprop(((M.view.loc (c : Thread nD τ) ↦{q} f) -∗ WP c (k v) Q) -∗ WP c (smemLoad M r h1 hp >>= k) Q) := by
  subst hv
  have h : (smemLoad M r h1 hp >>= k : Prog (TpuEff nD τ sig (Elt F) Λ₀ .tc) α)
      = smemLoadElt M r (View.loads_smem_one hp h1) (Shape.Idx.first (h1.symm ▸ Nat.one_pos)) k := rfl
  rw [h]
  iintro H Hk
  iapply (wp_smemLoadElt Variants.none (c : Thread nD τ) none Set.univ (m := M) (r := r) (f := f) (q := q) (S := Finset.univ) (Finset.subset_univ _)) $$ H
  iexact Hk

theorem wp_assumed {P : Prop} {d : Decidable P} {k : PLift P → Prog (TpuEff nD τ sig (Elt F) Λ₀ .tc) α} (h : P) :
    WP c (k ⟨h⟩) Q ⊢ WP c (Prog.lift (.assume P d) >>= k) Q := by
  have e : (Prog.lift (.assume P d) >>= k : Prog (TpuEff nD τ sig (Elt F) Λ₀ .tc) α) = .op (.assume P d) k := rfl
  rw [e]
  exact wp_assume Variants.none (c : Thread nD τ) none Set.univ h

theorem wp_loaded {cs : CoreSpace} {S : Shape} {e : EltTy} {M : Memref sig .tc cs S e} {r : Rect S} {hl : M.view.LoadsAt r.toLoadRect}
    {k : (r.shape.Idx → Elt F e) → Prog (TpuEff nD τ sig (Elt F) Λ₀ .tc) α} {q : PosShare TreeShare} {f : Bf (F := F) c M}
    {I : Finset (Idx (M.view.loc (c : Thread nD τ)))} (hS : (M.access r).set ⊆ I) (v : r.shape.Idx → Elt F e) (hv : (M.access r).read (Elt F) f = v) :
    (M.view.loc (c : Thread nD τ) ↦[I]{q} f : sProp 𝕄)
      ⊢ iprop(((M.view.loc (c : Thread nD τ) ↦[I]{q} f) -∗ WP c (k v) Q) -∗ WP c (Prog.lift (.load M r.toLoadRect hl) >>= k) Q) := by
  subst hv
  have h : (Prog.lift (.load M r.toLoadRect hl) >>= k : Prog (TpuEff nD τ sig (Elt F) Λ₀ .tc) α) = .op (.load M r.toLoadRect hl) k := rfl
  rw [h]
  iintro H Hk
  iapply (wp_load_rect Variants.none (c : Thread nD τ) none Set.univ hS) $$ H
  iexact Hk

theorem wp_stored {cs : CoreSpace} {S : Shape} {e : EltTy} {M : Memref sig .tc cs S e} {r : Rect S} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} {f : Bf (F := F) c M} (g : Bf (F := F) c M)
    (hg : (M.access r).write (Elt F) f w Finset.univ = g) :
    pt c M f ⊢ iprop((pt c M g -∗ WP c (k ⟨⟩) Q) -∗ WP c (Prog.lift (.store M r w Finset.univ hx hm) >>= k) Q) := by
  subst hg
  have h : (Prog.lift (.store M r w Finset.univ hx hm) >>= k : Prog (TpuEff nD τ sig (Elt F) Λ₀ .tc) α) = .op (.store M r w Finset.univ hx hm) k := rfl
  rw [h]
  iintro H Hk
  iapply (wp_store Variants.none (c : Thread nD τ) none Set.univ (m := M) (r := r) (f := f) (S := Finset.univ) (Finset.subset_univ _)) $$ H
  iexact Hk

theorem wp_then {p : Prog (TpuEff nD τ sig (Elt F) Λ₀ .tc) β} {k : β → Prog (TpuEff nD τ sig (Elt F) Λ₀ .tc) α}
    {P R : sProp (MT nD τ sig Unit (Elt F) ℕ UU ℕ)} {M : β → sProp (MT nD τ sig Unit (Elt F) ℕ UU ℕ)} (h : P ⊢ WP c p M) (hk : ∀ a, iprop(R ∗ M a) ⊢ WP c (k a) Q) :
    iprop(R ∗ P) ⊢ WP c (p >>= k) Q := by
  rw [WP, wp_bind]
  exact ((sep_mono_right h).trans (wp_frame_l _ _ _)).trans (wp_mono _ _ _ hk)

end Steps

/-! ## Slots, blocks and semaphores by number -/

theorem xslot_inb (b : ℕ) : ∀ a, (![b % 3, 0, 0] : Fin 3 → Nat) a + S1x1024x1024.size a ≤ S3x1024x1024.size a := by
  intro a; fin_cases a
  · show b % 3 + 1 ≤ 3; omega
  · exact Nat.le_refl 1024
  · exact Nat.le_refl 1024
theorem xblk_inb (b : ℕ) : ∀ a, (![b % 264 * 1024, 0] : Fin 2 → Nat) a + S1024x1024.size a ≤ S278528x1024.size a := by
  intro a; fin_cases a
  · show b % 264 * 1024 + 1024 ≤ 278528; omega
  · exact Nat.le_refl 1024
theorem xsem_inb (b : ℕ) : ∀ a, (![b % 3] : Fin 1 → Nat) a + S1.size a ≤ S3.size a := by
  intro a; fin_cases a; show b % 3 + 1 ≤ 3; omega
theorem wslot_inb (k : ℕ) : ∀ a, (![k % 2, 0, 0] : Fin 3 → Nat) a + S1x1024x256.size a ≤ S2x1024x256.size a := by
  intro a; fin_cases a
  · show k % 2 + 1 ≤ 2; omega
  · exact Nat.le_refl 1024
  · exact Nat.le_refl 256
theorem dslot_inb (k : ℕ) : ∀ a, (![k % 2, 0, 0] : Fin 3 → Nat) a + S1x256x1024.size a ≤ S2x256x1024.size a := by
  intro a; fin_cases a
  · show k % 2 + 1 ≤ 2; omega
  · exact Nat.le_refl 256
  · exact Nat.le_refl 1024
theorem wblk_inb (e : ℕ) : ∀ a, (![0, e % 64, 0, 0] : Fin 4 → Nat) a + S1x1x1024x256.size a ≤ S2x64x1024x256.size a := by
  intro a; fin_cases a
  · show 0 + 1 ≤ 2; omega
  · show e % 64 + 1 ≤ 64; omega
  · exact Nat.le_refl 1024
  · exact Nat.le_refl 256
theorem dblk_inb (e : ℕ) : ∀ a, (![0, e % 64, 0, 0] : Fin 4 → Nat) a + S1x1x256x1024.size a ≤ S2x64x256x1024.size a := by
  intro a; fin_cases a
  · show 0 + 1 ≤ 2; omega
  · show e % 64 + 1 ≤ 64; omega
  · exact Nat.le_refl 256
  · exact Nat.le_refl 1024
theorem wsem_inb (k : ℕ) : ∀ a, (![k % 2] : Fin 1 → Nat) a + S1.size a ≤ S2.size a := by
  intro a; fin_cases a; show k % 2 + 1 ≤ 2; omega

/-- The slot of the token ring that tile `b` is copied into. -/
abbrev xSlot (b : ℕ) : Memref sig .tc .vmem S1024x1024 .bf16 :=
  ((Memref.whole cc0_scratch0).slice (Rect.unit (s := S3x1024x1024) ![b % 3, 0, 0] S1x1024x1024.size (xslot_inb b)) (fun _ => rfl)).squeeze
    S1024x1024 squeezes_S1x1024x1024_S1024x1024
/-- The rows of tile `b`. -/
abbrev xBlk (b : ℕ) : Memref sig .tc .hbm S1024x1024 .bf16 :=
  (Memref.whole main_arg0).slice (Rect.unit (s := S278528x1024) ![b % 264 * 1024, 0] S1024x1024.size (xblk_inb b)) (fun _ => rfl)
/-- The semaphore of that slot. -/
abbrev xSem (b : ℕ) : DmaSem sig :=
  ((cc0_scratch8.slice (Rect.unit (s := S3) ![b % 3] S1.size (xsem_inb b))).squeeze S_ squeezes_S1_S_).sem

/-- The slots of the three weight rings at turn `k`. -/
abbrev gSlot (k : ℕ) : Memref sig .tc .vmem S1024x256 .f32 :=
  ((Memref.whole cc0_scratch1).slice (Rect.unit (s := S2x1024x256) ![k % 2, 0, 0] S1x1024x256.size (wslot_inb k)) (fun _ => rfl)).squeeze
    S1024x256 squeezes_S1x1024x256_S1024x256
abbrev uSlot (k : ℕ) : Memref sig .tc .vmem S1024x256 .f32 :=
  ((Memref.whole cc0_scratch2).slice (Rect.unit (s := S2x1024x256) ![k % 2, 0, 0] S1x1024x256.size (wslot_inb k)) (fun _ => rfl)).squeeze
    S1024x256 squeezes_S1x1024x256_S1024x256
abbrev dSlot (k : ℕ) : Memref sig .tc .vmem S256x1024 .f32 :=
  ((Memref.whole cc0_scratch3).slice (Rect.unit (s := S2x256x1024) ![k % 2, 0, 0] S1x256x1024.size (dslot_inb k)) (fun _ => rfl)).squeeze
    S256x1024 squeezes_S1x256x1024_S256x1024
/-- The weights of expert `e`. -/
abbrev gBlk (e : ℕ) : Memref sig .tc .hbm S1024x256 .f32 :=
  ((Memref.whole main_arg1).slice (Rect.unit (s := S2x64x1024x256) ![0, e % 64, 0, 0] S1x1x1024x256.size (wblk_inb e)) (fun _ => rfl)).squeeze
    S1024x256 squeezes_S1x1x1024x256_S1024x256
abbrev uBlk (e : ℕ) : Memref sig .tc .hbm S1024x256 .f32 :=
  ((Memref.whole main_arg2).slice (Rect.unit (s := S2x64x1024x256) ![0, e % 64, 0, 0] S1x1x1024x256.size (wblk_inb e)) (fun _ => rfl)).squeeze
    S1024x256 squeezes_S1x1x1024x256_S1024x256
abbrev dBlk (e : ℕ) : Memref sig .tc .hbm S256x1024 .f32 :=
  ((Memref.whole main_arg3).slice (Rect.unit (s := S2x64x256x1024) ![0, e % 64, 0, 0] S1x1x256x1024.size (dblk_inb e)) (fun _ => rfl)).squeeze
    S256x1024 squeezes_S1x1x256x1024_S256x1024
/-- The semaphore of the weight rings' slots at turn `k`. -/
abbrev wSem (k : ℕ) : DmaSem sig :=
  ((cc0_scratch9.slice (Rect.unit (s := S2) ![k % 2] S1.size (wsem_inb k))).squeeze S_ squeezes_S1_S_).sem

/-- A slice taken at an offset written otherwise. -/
theorem slice_eq {sp : Space} {S : Shape} {e : EltTy} (M : Memref sig .tc sp S e) {o o' : Fin S.rank → Nat} {sz : Fin S.rank → Nat} (h : o = o')
    (i : ∀ a, o a + sz a ≤ S.size a) (i' : ∀ a, o' a + sz a ≤ S.size a) :
    M.slice (Rect.unit (s := S) o sz i) (fun _ => rfl) = M.slice (Rect.unit (s := S) o' sz i') (fun _ => rfl) := by subst h; rfl
theorem squeeze_eq {sp : Space} {S S' : Shape} {e : EltTy} (M : Memref sig .tc sp S e) {o o' : Fin S.rank → Nat} {sz : Fin S.rank → Nat} (h : o = o')
    (i : ∀ a, o a + sz a ≤ S.size a) (i' : ∀ a, o' a + sz a ≤ S.size a) (q : (Rect.unit (s := S) o sz i).shape.Squeezes S') :
    (M.slice (Rect.unit (s := S) o sz i) (fun _ => rfl)).squeeze S' q = (M.slice (Rect.unit (s := S) o' sz i') (fun _ => rfl)).squeeze S' q := by subst h; rfl
theorem sem_eq {S : Shape} (M : DmaSems sig S) {o o' : Fin S.rank → Nat} {sz : Fin S.rank → Nat} (h : o = o')
    (i : ∀ a, o a + sz a ≤ S.size a) (i' : ∀ a, o' a + sz a ≤ S.size a) (q : (Rect.unit (s := S) o sz i).shape.Squeezes S_) :
    ((M.slice (Rect.unit (s := S) o sz i)).squeeze S_ q).sem = ((M.slice (Rect.unit (s := S) o' sz i')).squeeze S_ q).sem := by subst h; rfl

/-! ## States -/

section States

variable (c : Dev nD)

/-- What a core's copies read: the tokens and the three weight arrays. -/
structure Arrs where
  x : Buf (Elt F) ((c : Thread nD τ).loc main_arg0)
  g : Buf (Elt F) ((c : Thread nD τ).loc main_arg1)
  u : Buf (Elt F) ((c : Thread nD τ).loc main_arg2)
  d : Buf (Elt F) ((c : Thread nD τ).loc main_arg3)

variable (A : Arrs (F := F) c)

/-- The share of the tokens that goes with slot `b`. -/
def xq (b : ℕ) : PosShare TreeShare :=
  if b % 3 = 0 then fullShare.left else if b % 3 = 1 then fullShare.right.left else fullShare.right.right
/-- The share of a weight array that goes with turn `k`. -/
def wq (k : ℕ) : PosShare TreeShare := if k % 2 = 0 then fullShare.left else fullShare.right

/-- What one copy of a tile, and one of a weight block, adds to its semaphore. -/
def NX : ℕ := (xSlot 0).view.dmaCredit
def NW : ℕ := (gSlot 0).view.dmaCredit

/-- Slot `b` of the token ring, idle. -/
def XFree (b : ℕ) : sProp 𝕄 :=
  iprop(Any (F := F) c (xSlot b) ∗ ((c : Thread nD τ).loc main_arg0 ↦{xq b} A.x) ∗ semVal ((c : Thread nD τ), .dma (xSem b)) 0)
/-- Tile `b` on its way into its slot. -/
def XFly (b : ℕ) : sProp 𝕄 :=
  iprop(Flight EC (c : Thread nD τ) (.dma (xSem b)) () NX (Got (F := F) c (xBlk b) (xSlot b) (xq b) A.x) ∗ Rest (F := F) c (xBlk b) (xq b) A.x)

/-- What the three copies of expert `e` into the slots of turn `k` deliver. -/
def WD (k e : ℕ) : Fin 3 → sProp 𝕄
  | ⟨0, _⟩ => Got (F := F) c (gBlk e) (gSlot k) (wq k) A.g
  | ⟨1, _⟩ => Got (F := F) c (uBlk e) (uSlot k) (wq k) A.u
  | ⟨_ + 2, _⟩ => Got (F := F) c (dBlk e) (dSlot k) (wq k) A.d

instance wd_storable (k e : ℕ) : ∀ t, BI.Storable (upEmb : UEmb _ 𝕄) (WD c A k e t)
  | ⟨0, _⟩ => got_storable ..
  | ⟨1, _⟩ => got_storable ..
  | ⟨_ + 2, _⟩ => got_storable ..

/-- The weight arrays' shares that go with turn `k`. -/
def WArr (k : ℕ) : sProp 𝕄 :=
  iprop(((c : Thread nD τ).loc main_arg1 ↦{wq k} A.g) ∗ ((c : Thread nD τ).loc main_arg2 ↦{wq k} A.u) ∗ ((c : Thread nD τ).loc main_arg3 ↦{wq k} A.d))
/-- The slots of turn `k`, idle. -/
def WFree (k : ℕ) : sProp 𝕄 :=
  iprop((Any (F := F) c (gSlot k) ∗ Any (F := F) c (uSlot k) ∗ Any (F := F) c (dSlot k)) ∗ WArr c A k ∗ semVal ((c : Thread nD τ), .dma (wSem k)) 0)
/-- The weights of expert `e` on their way into the slots of turn `k`. -/
def WFly (k e : ℕ) : sProp 𝕄 :=
  iprop(Batch EC (c : Thread nD τ) (.dma (wSem k)) () NW (WD c A k e) 3 0
    ∗ Rest (F := F) c (gBlk e) (wq k) A.g ∗ Rest (F := F) c (uBlk e) (wq k) A.u ∗ Rest (F := F) c (dBlk e) (wq k) A.d)
/-- The weights of expert `e` in the slots of turn `k`. -/
def WHas (k e : ℕ) : sProp 𝕄 :=
  iprop((Has (F := F) c (gBlk e) (gSlot k) A.g ∗ Has (F := F) c (uBlk e) (uSlot k) A.u ∗ Has (F := F) c (dBlk e) (dSlot k) A.d)
    ∗ WArr c A k ∗ semVal ((c : Thread nD τ), .dma (wSem k)) 0)

end States

/-! ## Starting and awaiting -/

section Moves

variable (c : Dev nD) (A : Arrs (F := F) c) {α : Type} {Q : α → sProp (MT nD τ sig Unit (Elt F) ℕ UU ℕ)}

theorem wp_xstart (b : ℕ) {src : Memref sig .tc .hbm S1024x1024 .bf16} {dst : Memref sig .tc .vmem S1024x1024 .bf16} {sm : DmaSem sig}
    (es : src = xBlk b) (ed : dst = xSlot b) (em : sm = xSem b)
    {hsrc : src.view.WordExact} {hdst : dst.view.WordExact} {hsem : DmaTarget.Typed (nD := nD) (τ := τ) (p := .tc) .hbm (.dma sm) (.here dst)}
    {k : PUnit → Prog (TpuEff nD τ sig (Elt F) Λ₀ .tc) α} :
    XFree c A b ⊢ iprop((XFly c A b -∗ WP c (k ⟨⟩) Q)
      -∗ WP c (Prog.lift (.enqueueDma src (.here dst) (.dma sm) hsrc hdst hsem) >>= k) Q) := by
  have h : (Prog.lift (.enqueueDma src (.here dst) (.dma sm) hsrc hdst hsem) >>= k : Prog (TpuEff nD τ sig (Elt F) Λ₀ .tc) α)
      = .op (.enqueueDmaAs src (.here dst) .same (.dma sm) hsrc hdst hsem) k := rfl
  rw [h]
  unfold XFree XFly
  iintro ⟨Ha, Hx, Hv⟩ Hk
  iapply (wp_start1 c (xBlk b) src (xSlot b) dst (xq b) A.x NX es ed (congrArg SemLoc.dma em) rfl (by decide)) $$ [Ha Hx Hv]
  · isplitl [Hx]; · iexact Hx
    isplitl [Ha] <;> iassumption
  iexact Hk

theorem wp_xdone (b : ℕ) {sm : DmaSem sig} {srcw : Memref sig .tc .hbm S1024x1024 .bf16} {dstw : Memref sig .tc .vmem S1024x1024 .bf16}
    (ed : dstw = xSlot b) (em : sm = xSem b) {hsrc : srcw.view.WordExact} {hdst : dstw.view.WordExact}
    {k : PUnit → Prog (TpuEff nD τ sig (Elt F) Λ₀ .tc) α} (W : Waits sig Unit) :
    iprop(XFly c A b ∗ owes (c : Thread nD τ) 0 W)
      ⊢ iprop((iprop(Has (F := F) c (xBlk b) (xSlot b) A.x ∗ ((c : Thread nD τ).loc main_arg0 ↦{xq b} A.x)
            ∗ semVal ((c : Thread nD τ), .dma (xSem b)) 0 ∗ ∃ W, owes (c : Thread nD τ) 0 W) -∗ WP c (k ⟨⟩) Q)
      -∗ WP c (Prog.lift (.waitDma2 sm srcw dstw hsrc hdst) >>= k) Q) := by
  have h : (Prog.lift (.waitDma2 sm srcw dstw hsrc hdst) >>= k : Prog (TpuEff nD τ sig (Elt F) Λ₀ .tc) α) = .op (.waitDma2 sm srcw dstw hsrc hdst) k := rfl
  rw [h]
  unfold XFly
  iintro ⟨⟨Hf, Hr⟩, HO⟩ Hk
  iapply (wp_done1 c (xBlk b) (xSlot b) (xq b) A.x NX em (by rw [ed]; rfl) W) $$ [Hf Hr HO]
  · isplitl [Hf]; · iexact Hf
    isplitl [Hr] <;> iassumption
  iexact Hk

theorem wp_wstart (k e : ℕ) {sg su : Memref sig .tc .hbm S1024x256 .f32} {sd : Memref sig .tc .hbm S256x1024 .f32}
    {tg tu : Memref sig .tc .vmem S1024x256 .f32} {td : Memref sig .tc .vmem S256x1024 .f32} {mg mu md : DmaSem sig}
    (esg : sg = gBlk e) (esu : su = uBlk e) (esd : sd = dBlk e) (etg : tg = gSlot k) (etu : tu = uSlot k) (etd : td = dSlot k)
    (emg : mg = wSem k) (emu : mu = wSem k) (emd : md = wSem k)
    {h1 : sg.view.WordExact} {h2 : tg.view.WordExact} {h3 : DmaTarget.Typed (nD := nD) (τ := τ) (p := .tc) .hbm (.dma mg) (.here tg)}
    {h4 : su.view.WordExact} {h5 : tu.view.WordExact} {h6 : DmaTarget.Typed (nD := nD) (τ := τ) (p := .tc) .hbm (.dma mu) (.here tu)}
    {h7 : sd.view.WordExact} {h8 : td.view.WordExact} {h9 : DmaTarget.Typed (nD := nD) (τ := τ) (p := .tc) .hbm (.dma md) (.here td)}
    {p : PUnit → Prog (TpuEff nD τ sig (Elt F) Λ₀ .tc) α} :
    WFree c A k ⊢ iprop((WFly c A k e -∗ WP c (p ⟨⟩) Q)
      -∗ WP c (Prog.lift (.enqueueDma sg (.here tg) (.dma mg) h1 h2 h3) >>= fun _ =>
          Prog.lift (.enqueueDma su (.here tu) (.dma mu) h4 h5 h6) >>= fun _ =>
          Prog.lift (.enqueueDma sd (.here td) (.dma md) h7 h8 h9) >>= p) Q) := by
  have h : (Prog.lift (.enqueueDma sg (.here tg) (.dma mg) h1 h2 h3) >>= fun _ =>
          Prog.lift (.enqueueDma su (.here tu) (.dma mu) h4 h5 h6) >>= fun _ =>
          Prog.lift (.enqueueDma sd (.here td) (.dma md) h7 h8 h9) >>= p : Prog (TpuEff nD τ sig (Elt F) Λ₀ .tc) α)
      = .op (.enqueueDmaAs sg (.here tg) .same (.dma mg) h1 h2 h3) fun _ => .op (.enqueueDmaAs su (.here tu) .same (.dma mu) h4 h5 h6) fun _ =>
          .op (.enqueueDmaAs sd (.here td) .same (.dma md) h7 h8 h9) p := rfl
  rw [h]
  unfold WFree WFly WArr
  iintro ⟨⟨Hg, Hu, Hd⟩, ⟨Ag, Au, Ad⟩, Hv⟩ Hk
  imod (batch_alloc' EC (c : Thread nD τ) () NW (WD c A k e) (sm := .dma (wSem k))) $$ Hv with HB
  iapply (wp_startB c (gBlk e) sg (gSlot k) tg (wq k) A.g NW (WD c A k e) 0 (by decide) esg etg (congrArg SemLoc.dma emg) rfl rfl) $$ [Hg Ag HB]
  · isplitl [Ag]; · iexact Ag
    isplitl [Hg] <;> iassumption
  iintro ⟨HB, Rg⟩
  iapply (wp_startB c (uBlk e) su (uSlot k) tu (wq k) A.u NW (WD c A k e) 1 (by decide) esu etu (congrArg SemLoc.dma emu) rfl rfl) $$ [Hu Au HB]
  · isplitl [Au]; · iexact Au
    isplitl [Hu] <;> iassumption
  iintro ⟨HB, Ru⟩
  iapply (wp_startB c (dBlk e) sd (dSlot k) td (wq k) A.d NW (WD c A k e) 2 (by decide) esd etd (congrArg SemLoc.dma emd) rfl rfl) $$ [Hd Ad HB]
  · isplitl [Ad]; · iexact Ad
    isplitl [Hd] <;> iassumption
  iintro ⟨HB, Rd⟩
  iapply Hk
  isplitl [HB]; · iexact HB
  isplitl [Rg]; · iexact Rg
  isplitl [Ru] <;> iassumption

theorem wp_wdone (k e : ℕ) {s1 s2 : Memref sig .tc .hbm S1024x256 .f32} {s3 : Memref sig .tc .hbm S256x1024 .f32}
    {tg tu : Memref sig .tc .vmem S1024x256 .f32} {td : Memref sig .tc .vmem S256x1024 .f32} {mg mu md : DmaSem sig}
    (etg : tg = gSlot k) (etu : tu = uSlot k) (etd : td = dSlot k) (emg : mg = wSem k) (emu : mu = wSem k) (emd : md = wSem k)
    {h1 : s1.view.WordExact} {h2 : tg.view.WordExact} {h4 : s2.view.WordExact} {h5 : tu.view.WordExact} {h7 : s3.view.WordExact} {h8 : td.view.WordExact}
    {p : PUnit → Prog (TpuEff nD τ sig (Elt F) Λ₀ .tc) α} :
    iprop(WFly c A k e ∗ ∃ W, owes (c : Thread nD τ) 0 W)
      ⊢ iprop((iprop(WHas c A k e ∗ ∃ W, owes (c : Thread nD τ) 0 W) -∗ WP c (p ⟨⟩) Q)
      -∗ WP c (Prog.lift (.waitDma2 mg s1 tg h1 h2) >>= fun _ => Prog.lift (.waitDma2 mu s2 tu h4 h5) >>= fun _ =>
          Prog.lift (.waitDma2 md s3 td h7 h8) >>= p) Q) := by
  have h : (Prog.lift (.waitDma2 mg s1 tg h1 h2) >>= fun _ => Prog.lift (.waitDma2 mu s2 tu h4 h5) >>= fun _ =>
          Prog.lift (.waitDma2 md s3 td h7 h8) >>= p : Prog (TpuEff nD τ sig (Elt F) Λ₀ .tc) α)
      = .op (.waitDma2 mg s1 tg h1 h2) fun _ => .op (.waitDma2 mu s2 tu h4 h5) fun _ => .op (.waitDma2 md s3 td h7 h8) p := rfl
  rw [h]
  unfold WFly WHas WArr
  iintro ⟨⟨HB, Rg, Ru, Rd⟩, HO⟩ Hk
  iapply (wp_doneB c NW (WD c A k e) emg (by rw [etg]; rfl) 0 NW (by decide) (Nat.zero_add _).symm) $$ [HB HO]
  · isplitl [HB] <;> iassumption
  iintro ⟨HB, HO⟩
  iapply (wp_doneB c NW (WD c A k e) emu (by rw [etu]; rfl) NW (NW + NW) (by decide) rfl) $$ [HB HO]
  · isplitl [HB] <;> iassumption
  iintro ⟨HB, HO⟩
  iapply (wp_lastB c NW (by decide) (WD c A k e) emd (by rw [etd]; rfl) (NW + NW) (by decide)) $$ [HB HO]
  · isplitl [HB] <;> iassumption
  have hD : bigSep Finset.univ (WD c A k e) = iprop(WD c A k e 0 ∗ WD c A k e 1 ∗ WD c A k e 2) :=
    bigSep_univ_eq_bigSepL [(0 : Fin 3), 1, 2] (by decide) (by decide) _
  rw [hD]
  iintro ⟨⟨Dg, Du, Dd⟩, Hv, HO⟩
  iapply Hk
  unfold WD Got
  icases Dg with ⟨Dg, Ag⟩
  icases Du with ⟨Du, Au⟩
  icases Dd with ⟨Dd, Ad⟩
  isplitr [HO]
  · isplitl [Dg Du Dd]
    · isplitl [Dg]; · iexact Dg
      isplitl [Du] <;> iassumption
    isplitr [Hv]
    · isplitl [Ag Rg]
      · iapply (lend c (gBlk e) (wq k) A.g).2
        isplitl [Ag] <;> iassumption
      isplitl [Au Ru]
      · iapply (lend c (uBlk e) (wq k) A.u).2
        isplitl [Au] <;> iassumption
      · iapply (lend c (dBlk e) (wq k) A.d).2
        isplitl [Ad] <;> iassumption
    · iexact Hv
  · iexact HO

theorem whas_free (k e : ℕ) : WHas c A k e ⊢ WFree c A k := by
  unfold WHas WFree
  iintro ⟨⟨Hg, Hu, Hd⟩, HA, Hv⟩
  isplitl [Hg Hu Hd]
  · isplitl [Hg]; · iapply (has_any c (gBlk e) (gSlot k) A.g) $$ Hg
    isplitl [Hu]; · iapply (has_any c (uBlk e) (uSlot k) A.u) $$ Hu
    · iapply (has_any c (dBlk e) (dSlot k) A.d) $$ Hd
  isplitl [HA] <;> iassumption

end Moves

end Cert.Proof.KernI

end
-- ==== Proof.ExpertsIdeal.Checks.lean ====
/-
  The side conditions the expert kernel assumes of the words it reads, from the numbers those words are.
-/
module

public import proofs.«01_k».proof.Proof.ExpertsIdeal.Ring

@[expose] public section

namespace Cert.Proof.KernI

open Cert.KernelIdeal Cert.KernelIdeal.Gen
open Idealize.ShloMosaic

theorem le_of_off {r : ℕ} {S : Fin r → ℕ} {o o' sz : Fin r → ℕ} (h : o = o') (h' : ∀ a, o' a + sz a ≤ S a) : ∀ a, o a + sz a ≤ S a := by
  subst h; exact h'

theorem words_of {S : Shape} {o o' : Fin S.rank → ℕ} {sz : Fin S.rank → ℕ} {p : ℕ} (h : o = o')
    (h' : S.WholeWordsAt p o' sz fun _ => 1) (inb : ∀ a, o a + sz a ≤ S.size a) : (Rect.unit (s := S) o sz inb).WholeWords p := by
  subst h; exact h'

theorem tok_words : ∀ t : Fin 272, S278528x1024.WholeWordsAt (EltTy.packing .bf16) ![t.val * 1024, 0] S1024x1024.size fun _ => 1 := by decide +kernel
theorem slot_words : ∀ s : Fin 3, S3x1024x1024.WholeWordsAt (EltTy.packing .bf16) ![s.val, 0, 0] S1x1024x1024.size fun _ => 1 := by decide +kernel
theorem te_inb : ∀ t : Fin 264, ∀ a, (![t.val] : Fin 1 → ℕ) a + S1.size a ≤ S264.size a := by decide +kernel
theorem en_inb : ∀ t : Fin 64, ∀ a, (![t.val] : Fin 1 → ℕ) a + S1.size a ≤ S64.size a := by decide +kernel
theorem tok_inb : ∀ t : Fin 272, ∀ a, (![t.val * 1024, 0] : Fin 2 → ℕ) a + S1024x1024.size a ≤ S278528x1024.size a := by decide +kernel
theorem gate_inb : ∀ e : Fin 64, ∀ a, (![0, e.val, 0, 0] : Fin 4 → ℕ) a + S1x1x1024x256.size a ≤ S2x64x1024x256.size a := by decide +kernel
theorem down_inb : ∀ e : Fin 64, ∀ a, (![0, e.val, 0, 0] : Fin 4 → ℕ) a + S1x1x256x1024.size a ≤ S2x64x256x1024.size a := by decide +kernel
theorem mult3_all : ∀ t : Fin 264, 1024 ∣ (k0_mult3 (wd t.val)).toNat := by decide +kernel
theorem mult4_all : ∀ t : Fin 264, 1024 ∣ (k0_mult4 (wd t.val)).toNat := by decide +kernel

theorem chk1_of {t n : ℕ} (hn : n ≤ 264) (ht : t < n) : k0_chk1 (wd t) (wd n) := by
  have h : t < 264 := by omega
  let T : Fin 264 := ⟨t, h⟩
  refine ⟨le_of_off (off1_eq hn ht) (te_inb T), le_of_off (off2_eq hn ht) (te_inb ⟨t - 1, by omega⟩), fun _ => mult3_all T,
    fun _ => le_of_off (off5_all T) (xsem_inb (t + 2)), fun _ => le_of_off (off6_all T) (xslot_inb (t + 2)),
    fun _ => le_of_off (off7_all T) (tok_inb ⟨t + 2, by omega⟩), fun _ => words_of (off7_all T) (tok_words ⟨t + 2, by omega⟩),
    fun _ => words_of (off6_all T) (slot_words ⟨(t + 2) % 3, by omega⟩), fun _ => mult4_all T,
    fun _ => le_of_off (off27_all T) (xsem_inb t), fun _ => le_of_off (off28_all T) (xslot_inb t),
    fun _ => le_of_off (off29_all T) (tok_inb ⟨t, by omega⟩), fun _ => words_of (off29_all T) (tok_words ⟨t, by omega⟩),
    fun _ => words_of (off28_all T) (slot_words ⟨t % 3, by omega⟩), fun _ => le_of_off (off30_all T) (xslot_inb t)⟩

theorem chk2_of (a n : BitVec 32) {e : ℕ} (he : e < 64) : k0_chk2 a n (wd e) :=
  ⟨fun _ => le_of_off (off3_all ⟨e, he⟩) (gate_inb ⟨e, he⟩), fun _ => le_of_off (off4_all ⟨e, he⟩) (down_inb ⟨e, he⟩)⟩

theorem chk3_of {t n : ℕ} (hn : n ≤ 264) (ht : t < n) (u v : BitVec 32) : k0_chk3 (wd t) (wd n) u v :=
  fun _ => le_of_off (off8_eq hn ht) (te_inb ⟨t, by omega⟩)

theorem chk4_of (a n u v : BitVec 32) {k : ℕ} (hk : k < 265) : k0_chk4 a n u v (wd k) :=
  ⟨fun _ => le_of_off (off9_all ⟨k, hk⟩) (wsem_inb k), fun _ => le_of_off (off10_all ⟨k, hk⟩) (wslot_inb k),
    fun _ => le_of_off (off12_all ⟨k, hk⟩) (wsem_inb k), fun _ => le_of_off (off13_all ⟨k, hk⟩) (wslot_inb k),
    fun _ => le_of_off (off14_all ⟨k, hk⟩) (dslot_inb k), fun _ => le_of_off (off16_all ⟨k, hk⟩) (wslot_inb k),
    fun _ => le_of_off (off17_all ⟨k, hk⟩) (dslot_inb k)⟩

theorem chk5_of (a n u v : BitVec 32) {e : ℕ} (he : e < 64) : k0_chk5 a n u v (wd e) :=
  ⟨fun _ => le_of_off (off11_all ⟨e, he⟩) (gate_inb ⟨e, he⟩), fun _ => le_of_off (off15_all ⟨e, he⟩) (down_inb ⟨e, he⟩),
    fun _ => le_of_off (off18_all ⟨e, he⟩) (en_inb ⟨e, he⟩)⟩

theorem chk6_of (a u v : BitVec 32) {n k : ℕ} (hn : n ≤ 264) (hk : k < 265) (w : BitVec 32) (hw : w.toInt < n → w.toNat < 264) :
    k0_chk6 a (wd n) u v (wd k) w := by
  refine ⟨fun _ h => ?_, fun _ _ => le_of_off (off20_all ⟨k, hk⟩) (wsem_inb (k + 1)), fun _ _ => le_of_off (off21_all ⟨k, hk⟩) (wslot_inb (k + 1)),
    fun _ _ => le_of_off (off23_all ⟨k, hk⟩) (wsem_inb (k + 1)), fun _ _ => le_of_off (off24_all ⟨k, hk⟩) (wslot_inb (k + 1)),
    fun _ _ => le_of_off (off25_all ⟨k, hk⟩) (dslot_inb (k + 1))⟩
  have hq := hw ((cond6_eq hn w).1 h)
  have := off19_all ⟨w.toNat, hq⟩
  rw [← eq_wd] at this
  exact le_of_off this (te_inb ⟨w.toNat, hq⟩)

theorem chk7_of (a n u v w : BitVec 32) {e : ℕ} (he : e < 64) : k0_chk7 a n u v w (wd e) :=
  ⟨fun _ _ => le_of_off (off22_all ⟨e, he⟩) (gate_inb ⟨e, he⟩), fun _ _ => le_of_off (off26_all ⟨e, he⟩) (down_inb ⟨e, he⟩)⟩

end Cert.Proof.KernI
-- ==== Proof.ExpertsIdeal.State.lean ====
/-
  The expert kernel's state between grid points, in terms of the tables it reads.
-/
module

public import proofs.«01_k».proof.Proof.ExpertsIdeal.Checks
public import Idealize.ShloMosaic.Lib.VecWindow

@[expose] public section

noncomputable section

namespace Cert.Proof.KernI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## The tables -/

/-- Entry `t` of the table of tiles, of the table of experts, and of the one-word tables. -/
def ixT (t : ℕ) : S264.Idx := Fin.cons ⟨t % 264, Nat.mod_lt _ (by decide)⟩ fun a => a.elim0
def ixE (e : ℕ) : S64.Idx := Fin.cons ⟨e % 64, Nat.mod_lt _ (by decide)⟩ fun a => a.elim0
def ix1 : S1.Idx := Fin.cons ⟨0, by decide⟩ fun a => a.elim0

/-- The tables: each tile's expert, the number of live tiles, and the tile each expert's run of tiles ends before. -/
structure Tab where
  te : S264.Idx → BitVec 32
  nt : S1.Idx → BitVec 32
  en : S64.Idx → BitVec 32

namespace Tab
variable (B : Tab)
/-- The word and the number of tile `t`'s expert, and the word at which expert `e`'s run ends. -/
def T (t : ℕ) : BitVec 32 := B.te (ixT t)
def ex (t : ℕ) : ℕ := (B.T t).toNat
def E (e : ℕ) : BitVec 32 := B.en (ixE e)

/-- The tables describe `n` live tiles grouped by expert. -/
structure Ok (n : ℕ) : Prop where
  pos : 1 ≤ n
  le : n ≤ 264
  nt : B.nt ix1 = wd n
  named : ∀ t, t < n → B.ex t < 64
  past : ∀ t, t < n → (t : Int) + 1 ≤ (B.E (B.ex t)).toInt
  ends : ∀ t, t + 1 < n → B.T t ≠ B.T (t + 1) → B.E (B.ex t) = wd (t + 1)
end Tab

section Reads
variable (c : Dev nD) {f4 : Bf (F := F) c (Memref.whole main_arg4)} {f6 : Bf (F := F) c (Memref.whole main_arg6)} {f5 : Bf (F := F) c (Memref.whole main_arg5)}

omit [FloatOps F] in
theorem read_te {o : Fin 1 → ℕ} {inb} {h1 : (Rect.unit (s := S264) o S1.size inb).shape.numel = 1} (t : ℕ) (ht : t < 264) (h : o = ![t]) :
    ((Memref.whole main_arg4).access (Rect.unit (s := S264) o S1.size inb)).read (Elt F) f4 (Shape.Idx.first (h1.symm ▸ Nat.one_pos)) = f4 (ixT t) := by
  subst h
  refine congrArg f4 (funext fun a => ?_)
  fin_cases a
  refine Fin.ext ?_
  show t + 1 * 0 = t % 264
  rw [Nat.mod_eq_of_lt ht]; rfl

omit [FloatOps F] in
theorem read_en {o : Fin 1 → ℕ} {inb} {h1 : (Rect.unit (s := S64) o S1.size inb).shape.numel = 1} (t : ℕ) (ht : t < 64) (h : o = ![t]) :
    ((Memref.whole main_arg6).access (Rect.unit (s := S64) o S1.size inb)).read (Elt F) f6 (Shape.Idx.first (h1.symm ▸ Nat.one_pos)) = f6 (ixE t) := by
  subst h
  refine congrArg f6 (funext fun a => ?_)
  fin_cases a
  refine Fin.ext ?_
  show t + 1 * 0 = t % 64
  rw [Nat.mod_eq_of_lt ht]; rfl

omit [FloatOps F] in
theorem read_nt {inb} {h1 : (Rect.unit (s := S1) ![0] S1.size inb).shape.numel = 1} :
    ((Memref.whole main_arg5).access (Rect.unit (s := S1) ![0] S1.size inb)).read (Elt F) f5 (Shape.Idx.first (h1.symm ▸ Nat.one_pos)) = f5 ix1 := by
  refine congrArg f5 (funext fun a => ?_)
  fin_cases a
  exact Fin.ext rfl

omit [FloatOps F] in
theorem write_full (b : Ref sig .tc) {o : Fin b.ty.shape.rank → ℕ} {inb : ∀ a, o a + b.ty.shape.size a ≤ b.ty.shape.size a}
    (f : b.ty.Contents (Elt F)) (w : b.ty.shape.Idx → Elt F b.ty.elt) :
    ((View.whole b).slice (Rect.unit o b.ty.shape.size inb)).write (Elt F) f w Finset.univ = w :=
  View.read_writes_full (View.whole b) f inb w []

omit [FloatOps F] in
theorem read_full (b : Ref sig .tc) {o : Fin b.ty.shape.rank → ℕ} {inb : ∀ a, o a + b.ty.shape.size a ≤ b.ty.shape.size a}
    (f : b.ty.Contents (Elt F)) :
    ((View.whole b).slice (Rect.unit o b.ty.shape.size inb)).read (Elt F) f = f :=
  View.readAt_full (View.whole b) f inb
end Reads

/-! ## States -/

section States
variable (c : Dev nD) (A : Arrs (F := F) c) (B : Tab) (n : ℕ)

/-- The tables, held at a share. -/
def Tabs (q : PosShare TreeShare) : sProp 𝕄 :=
  iprop(((c : Thread nD τ).loc main_arg4 ↦{q} (B.te : Buf (Elt F) ((c : Thread nD τ).loc main_arg4)))
    ∗ ((c : Thread nD τ).loc main_arg5 ↦{q} (B.nt : Buf (Elt F) ((c : Thread nD τ).loc main_arg5)))
    ∗ ((c : Thread nD τ).loc main_arg6 ↦{q} (B.en : Buf (Elt F) ((c : Thread nD τ).loc main_arg6))))

/-- Tile `b`'s slot once its copy has been asked for: on its way if the tile is live. -/
def XOpt (b : ℕ) : sProp 𝕄 := if b < n then XFly c A b else XFree c A b
/-- The same before the first point has asked for anything. -/
def XPre (t b : ℕ) : sProp 𝕄 := if t = 0 then XFree c A b else XOpt c A n b

/-- The turn. -/
def Turn (k : ℕ) : sProp 𝕄 := (c : Thread nD τ).loc cc0_scratch7 ↦{fullShare} (fun _ => wd k : Buf (Elt F) ((c : Thread nD τ).loc cc0_scratch7))

/-- The next expert's weights: those of the tile at which the present run ends, if that tile is live. -/
def Wnext (k : ℕ) (v : BitVec 32) : sProp 𝕄 := if v.toInt < n then WFly c A k (B.ex v.toNat) else WFree c A k

/-- The weights of expert `e`, rounded to the narrow type. -/
def wG (e : ℕ) : Vec F S1024x256 .bf16 :=
  shapeCast S1024x256 (truncf .bf16 ((gBlk e).view.read (Elt F) A.g) bitsLt_bf16_f32) shapeCasts_S1024x256_S1024x256
def wU (e : ℕ) : Vec F S1024x256 .bf16 :=
  shapeCast S1024x256 (truncf .bf16 ((uBlk e).view.read (Elt F) A.u) bitsLt_bf16_f32) shapeCasts_S1024x256_S1024x256
def wD (e : ℕ) : Vec F S256x1024 .bf16 :=
  shapeCast S256x1024 (truncf .bf16 ((dBlk e).view.read (Elt F) A.d) bitsLt_bf16_f32) shapeCasts_S256x1024_S256x1024

/-- The rounded weights' buffers holding expert `e`'s, and holding anything. -/
def Bufs (e : ℕ) : sProp 𝕄 :=
  iprop(((c : Thread nD τ).loc cc0_scratch4 ↦{fullShare} (wG c A e : Buf (Elt F) ((c : Thread nD τ).loc cc0_scratch4)))
    ∗ ((c : Thread nD τ).loc cc0_scratch5 ↦{fullShare} (wU c A e : Buf (Elt F) ((c : Thread nD τ).loc cc0_scratch5)))
    ∗ ((c : Thread nD τ).loc cc0_scratch6 ↦{fullShare} (wD c A e : Buf (Elt F) ((c : Thread nD τ).loc cc0_scratch6))))
def BufsAny : sProp 𝕄 :=
  iprop((∃ f : Buf (Elt F) ((c : Thread nD τ).loc cc0_scratch4), (c : Thread nD τ).loc cc0_scratch4 ↦{fullShare} f)
    ∗ (∃ f : Buf (Elt F) ((c : Thread nD τ).loc cc0_scratch5), (c : Thread nD τ).loc cc0_scratch5 ↦{fullShare} f)
    ∗ (∃ f : Buf (Elt F) ((c : Thread nD τ).loc cc0_scratch6), (c : Thread nD τ).loc cc0_scratch6 ↦{fullShare} f))

/-- The weights at the start, and after tile `t`. -/
def WStart : sProp 𝕄 :=
  iprop((∃ f : Buf (Elt F) ((c : Thread nD τ).loc cc0_scratch7), (c : Thread nD τ).loc cc0_scratch7 ↦{fullShare} f)
    ∗ WFree c A 0 ∗ WFree c A 1 ∗ BufsAny (F := F) c)
def WDone (t : ℕ) : sProp 𝕄 :=
  iprop(∃ k, ⌜k ≤ t + 1⌝ ∗ Turn (F := F) c k ∗ Wnext c A B n k (B.E (B.ex t)) ∗ WFree c A (k + 1) ∗ Bufs c A (B.ex t))
/-- The weights on their way for tile `t`, the first of its expert's. -/
def WNew (t : ℕ) : sProp 𝕄 :=
  iprop(∃ k, ⌜k ≤ t⌝ ∗ Turn (F := F) c k ∗ WFly c A k (B.ex t) ∗ WFree c A (k + 1) ∗ BufsAny (F := F) c)
/-- The weights before tile `t`. -/
def WInv : ℕ → sProp 𝕄
  | 0 => WStart c A
  | t + 1 => WDone c A B n t

/-- Tile `t` begins a run. -/
def Tab.New (t : ℕ) : Prop := t = 0 ∨ B.T t ≠ B.T (t - 1)

/-- The weights at tile `t` once the first point has asked for its expert's. -/
def WMid (t : ℕ) : sProp 𝕄 := iprop((⌜B.New t⌝ ∗ WNew c A B t) ∨ (⌜¬ B.New t⌝ ∗ WDone c A B n t))

theorem wfree_two (k : ℕ) : WFree c A (k + 2) = WFree c A k := by
  have h0 : (k + 2) % 2 = k % 2 := Nat.add_mod_right k 2
  have h1 : gSlot (k + 2) = gSlot k := squeeze_eq _ (by rw [h0]) _ _ _
  have h2 : uSlot (k + 2) = uSlot k := squeeze_eq _ (by rw [h0]) _ _ _
  have h3 : dSlot (k + 2) = dSlot k := squeeze_eq _ (by rw [h0]) _ _ _
  have h4 : wSem (k + 2) = wSem k := sem_eq _ (by rw [h0]) _ _ _
  unfold WFree WArr wq
  rw [h0, h1, h2, h3, h4]
theorem xfree_three (b : ℕ) : XFree c A (b + 3) = XFree c A b := by
  have h0 : (b + 3) % 3 = b % 3 := Nat.add_mod_right b 3
  have h1 : xSlot (b + 3) = xSlot b := squeeze_eq _ (by rw [h0]) _ _ _
  have h4 : xSem (b + 3) = xSem b := sem_eq _ (by rw [h0]) _ _ _
  unfold XFree xq
  rw [h0, h1, h4]

theorem bufs_any (e : ℕ) : Bufs c A e ⊢ BufsAny (F := F) c := by
  unfold Bufs BufsAny
  iintro ⟨H1, H2, H3⟩
  isplitl [H1]; · iexists _; iexact H1
  isplitl [H2]; · iexists _; iexact H2
  · iexists _; iexact H3
end States

end Cert.Proof.KernI

end
-- ==== Proof.ExpertsIdeal.Parts.lean ====
/-
  The expert kernel's two straight pieces: the wait for an expert's weights, and the wait for a tile with the first product.
-/
module

public import proofs.«01_k».proof.Proof.ExpertsIdeal.State

@[expose] public section

noncomputable section

namespace Cert.Proof.KernI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (c : Dev nD) (A : Arrs (F := F) c) (B : Tab) (n : ℕ)

/-- What a core owes while the kernel runs: nothing, having waited for anything. -/
abbrev Ow : sProp (MT nD τ sig Unit (Elt F) ℕ UU ℕ) := iprop(∃ W, owes (c : Thread nD τ) 0 W)

theorem wp_end {α : Type} {Q : α → sProp (MT nD τ sig Unit (Elt F) ℕ UU ℕ)} (a : α) :
    Q a ⊢ WP c (Pure.pure a : Prog (TpuEff nD τ sig (Elt F) Λ₀ .tc) α) Q := by
  rw [WP, wp_pure]
  exact fupd_intro

omit [FloatOps F] in
/-- A load of a whole slot touches the slot's elements only, -/
theorem slot_sub {cs : Space} {S S' : Shape} {e : EltTy} (M : Memref sig .tc cs S e) {o o' : Fin S.rank → ℕ} {sz : Fin S.rank → ℕ} (h : o = o')
    (i : ∀ a, o a + sz a ≤ S.size a) (i' : ∀ a, o' a + sz a ≤ S.size a) (q : (Rect.unit (s := S) o' sz i').shape.Squeezes S') :
    (M.access (Rect.unit (s := S) o sz i)).set ⊆ ((M.slice (Rect.unit (s := S) o' sz i') (fun _ => rfl)).squeeze S' q).view.set := by
  subst h
  exact subset_of_eq (View.set_reshape _ _).symm

omit [FloatOps F] in
/-- and read as the slot is what the slot reads. -/
theorem slot_val {cs : Space} {S S' : Shape} {e : EltTy} (M : Memref sig .tc cs S e) {o o' : Fin S.rank → ℕ} {sz : Fin S.rank → ℕ} (h : o = o')
    (i : ∀ a, o a + sz a ≤ S.size a) (i' : ∀ a, o' a + sz a ≤ S.size a) (q : (Rect.unit (s := S) o' sz i').shape.Squeezes S')
    (hc : (Rect.unit (s := S) o sz i).shape.ShapeCasts S') (f : M.view.ty.Contents (Elt F)) :
    shapeCast S' ((M.access (Rect.unit (s := S) o sz i)).read (Elt F) f) hc
      = ((M.slice (Rect.unit (s := S) o' sz i') (fun _ => rfl)).squeeze S' q).view.read (Elt F) f := by
  subst h; rfl

/-- A load of a slot that holds what `src` reads. -/
theorem wp_slot {α : Type} {Q : α → sProp (MT nD τ sig Unit (Elt F) ℕ UU ℕ)} {cs : CoreSpace} {sp : Space} {S S' : Shape} {e : EltTy}
    (src : Memref sig .tc sp S' e) (X : Bf (F := F) c src) (M : Memref sig .tc cs S e)
    {o o' : Fin S.rank → ℕ} {sz : Fin S.rank → ℕ} (h : o = o')
    (i : ∀ a, o a + sz a ≤ S.size a) (i' : ∀ a, o' a + sz a ≤ S.size a) (q : (Rect.unit (s := S) o' sz i').shape.Squeezes S')
    (hc : (Rect.unit (s := S) o sz i).shape.ShapeCasts S') {hl : M.view.LoadsAt (Rect.unit (s := S) o sz i).toLoadRect}
    {k : ((Rect.unit (s := S) o sz i).shape.Idx → Elt F e) → Prog (TpuEff nD τ sig (Elt F) Λ₀ .tc) α} :
    Has c src ((M.slice (Rect.unit (s := S) o' sz i') (fun _ => rfl)).squeeze S' q) X
      ⊢ iprop((∀ w, iprop(⌜shapeCast S' w hc = src.view.read (Elt F) X⌝ ∗ Has c src ((M.slice (Rect.unit (s := S) o' sz i') (fun _ => rfl)).squeeze S' q) X) -∗ WP c (k w) Q)
        -∗ WP c (Prog.lift (.load M (Rect.unit (s := S) o sz i).toLoadRect hl) >>= k) Q) := by
  subst h
  unfold Has
  iintro ⟨%f, Hf, %hf⟩ Hk
  iapply (wp_loaded c (M := M) (slot_sub M rfl i i' q) _ rfl) $$ Hf
  iintro Hf
  ispecialize Hk $$ %((M.access (Rect.unit (s := S) o sz i)).read (Elt F) f)
  iapply Hk
  isplitr [Hf]
  · ipureintro; exact (slot_val M rfl i i' q hc f).trans hf
  · iexists f
    isplitl [Hf]; · iexact Hf
    ipureintro; exact hf

/-- A load of tile `t`'s slot once the tile is in it. -/
theorem wp_xload {α : Type} {Q : α → sProp (MT nD τ sig Unit (Elt F) ℕ UU ℕ)} (t : ℕ) {o : Fin S3x1024x1024.rank → ℕ} (h : o = ![t % 3, 0, 0])
    (i : ∀ a, o a + S1x1024x1024.size a ≤ S3x1024x1024.size a)
    {hl : (Memref.whole cc0_scratch0).view.LoadsAt (Rect.unit (s := S3x1024x1024) o S1x1024x1024.size i).toLoadRect}
    {k : Vec F S1x1024x1024 .bf16 → Prog (TpuEff nD τ sig (Elt F) Λ₀ .tc) α} :
    Has c (xBlk t) (xSlot t) A.x
      ⊢ iprop((∀ w : Vec F S1x1024x1024 .bf16, iprop(⌜shapeCast S1024x1024 w shapeCasts_S1x1024x1024_S1024x1024 = (xBlk t).view.read (Elt F) A.x⌝ ∗ Has c (xBlk t) (xSlot t) A.x) -∗ WP c (k w) Q)
        -∗ WP c (Prog.lift (.load (Memref.whole cc0_scratch0) (Rect.unit (s := S3x1024x1024) o S1x1024x1024.size i).toLoadRect hl) >>= k) Q) :=
  wp_slot c (S := S3x1024x1024) (S' := S1024x1024) (xBlk t) A.x (Memref.whole cc0_scratch0) h i (xslot_inb t) squeezes_S1x1024x1024_S1024x1024 shapeCasts_S1x1024x1024_S1024x1024

section Loads

variable {α : Type} {Q : α → sProp (MT nD τ sig Unit (Elt F) ℕ UU ℕ)}

theorem wp_load4 (v : Vec F S1024x256 .bf16)
    {hl : (Memref.whole cc0_scratch4).view.LoadsAt (Rect.unit (s := S1024x256) ![0, 0] S1024x256.size inb_S1024x256_S1024x256_0_0).toLoadRect}
    {k : Vec F S1024x256 .bf16 → Prog (TpuEff nD τ sig (Elt F) Λ₀ .tc) α} :
    ((c : Thread nD τ).loc cc0_scratch4 ↦{fullShare} (v : Buf (Elt F) ((c : Thread nD τ).loc cc0_scratch4)) : sProp 𝕄)
      ⊢ iprop((((c : Thread nD τ).loc cc0_scratch4 ↦{fullShare} (v : Buf (Elt F) ((c : Thread nD τ).loc cc0_scratch4))) -∗ WP c (k v) Q)
        -∗ WP c (Prog.lift (.load (Memref.whole cc0_scratch4) (Rect.unit (s := S1024x256) ![0, 0] S1024x256.size inb_S1024x256_S1024x256_0_0).toLoadRect hl) >>= k) Q) :=
  wp_loaded c (S := S1024x256) (M := Memref.whole cc0_scratch4) (r := Rect.unit (s := S1024x256) ![0, 0] S1024x256.size inb_S1024x256_S1024x256_0_0) (k := k) (I := Finset.univ)
    (Finset.subset_univ _) v (read_full cc0_scratch4 v)

theorem wp_store4 (f v : Vec F S1024x256 .bf16)
    {hx : ((Memref.whole cc0_scratch4).access (Rect.unit (s := S1024x256) ![0, 0] S1024x256.size inb_S1024x256_S1024x256_0_0)).Stores Finset.univ}
    {hm : (Finset.univ : Finset (Rect.unit (s := S1024x256) ![0, 0] S1024x256.size inb_S1024x256_S1024x256_0_0).shape.Idx) = Finset.univ ∨ ∀ a, (Rect.unit (s := S1024x256) ![0, 0] S1024x256.size inb_S1024x256_S1024x256_0_0).stride a = 1}
    {k : PUnit → Prog (TpuEff nD τ sig (Elt F) Λ₀ .tc) α} :
    ((c : Thread nD τ).loc cc0_scratch4 ↦{fullShare} (f : Buf (Elt F) ((c : Thread nD τ).loc cc0_scratch4)) : sProp 𝕄)
      ⊢ iprop((((c : Thread nD τ).loc cc0_scratch4 ↦{fullShare} (v : Buf (Elt F) ((c : Thread nD τ).loc cc0_scratch4))) -∗ WP c (k ⟨⟩) Q)
        -∗ WP c (Prog.lift (.store (Memref.whole cc0_scratch4) (Rect.unit (s := S1024x256) ![0, 0] S1024x256.size inb_S1024x256_S1024x256_0_0) v Finset.univ hx hm) >>= k) Q) :=
  wp_stored c (S := S1024x256) (M := Memref.whole cc0_scratch4) (r := Rect.unit (s := S1024x256) ![0, 0] S1024x256.size inb_S1024x256_S1024x256_0_0) (w := v) (f := f) (k := k) v
    (write_full cc0_scratch4 f v)

theorem wp_load5 (v : Vec F S1024x256 .bf16)
    {hl : (Memref.whole cc0_scratch5).view.LoadsAt (Rect.unit (s := S1024x256) ![0, 0] S1024x256.size inb_S1024x256_S1024x256_0_0).toLoadRect}
    {k : Vec F S1024x256 .bf16 → Prog (TpuEff nD τ sig (Elt F) Λ₀ .tc) α} :
    ((c : Thread nD τ).loc cc0_scratch5 ↦{fullShare} (v : Buf (Elt F) ((c : Thread nD τ).loc cc0_scratch5)) : sProp 𝕄)
      ⊢ iprop((((c : Thread nD τ).loc cc0_scratch5 ↦{fullShare} (v : Buf (Elt F) ((c : Thread nD τ).loc cc0_scratch5))) -∗ WP c (k v) Q)
        -∗ WP c (Prog.lift (.load (Memref.whole cc0_scratch5) (Rect.unit (s := S1024x256) ![0, 0] S1024x256.size inb_S1024x256_S1024x256_0_0).toLoadRect hl) >>= k) Q) :=
  wp_loaded c (S := S1024x256) (M := Memref.whole cc0_scratch5) (r := Rect.unit (s := S1024x256) ![0, 0] S1024x256.size inb_S1024x256_S1024x256_0_0) (k := k) (I := Finset.univ)
    (Finset.subset_univ _) v (read_full cc0_scratch5 v)

theorem wp_store5 (f v : Vec F S1024x256 .bf16)
    {hx : ((Memref.whole cc0_scratch5).access (Rect.unit (s := S1024x256) ![0, 0] S1024x256.size inb_S1024x256_S1024x256_0_0)).Stores Finset.univ}
    {hm : (Finset.univ : Finset (Rect.unit (s := S1024x256) ![0, 0] S1024x256.size inb_S1024x256_S1024x256_0_0).shape.Idx) = Finset.univ ∨ ∀ a, (Rect.unit (s := S1024x256) ![0, 0] S1024x256.size inb_S1024x256_S1024x256_0_0).stride a = 1}
    {k : PUnit → Prog (TpuEff nD τ sig (Elt F) Λ₀ .tc) α} :
    ((c : Thread nD τ).loc cc0_scratch5 ↦{fullShare} (f : Buf (Elt F) ((c : Thread nD τ).loc cc0_scratch5)) : sProp 𝕄)
      ⊢ iprop((((c : Thread nD τ).loc cc0_scratch5 ↦{fullShare} (v : Buf (Elt F) ((c : Thread nD τ).loc cc0_scratch5))) -∗ WP c (k ⟨⟩) Q)
        -∗ WP c (Prog.lift (.store (Memref.whole cc0_scratch5) (Rect.unit (s := S1024x256) ![0, 0] S1024x256.size inb_S1024x256_S1024x256_0_0) v Finset.univ hx hm) >>= k) Q) :=
  wp_stored c (S := S1024x256) (M := Memref.whole cc0_scratch5) (r := Rect.unit (s := S1024x256) ![0, 0] S1024x256.size inb_S1024x256_S1024x256_0_0) (w := v) (f := f) (k := k) v
    (write_full cc0_scratch5 f v)

theorem wp_load6 (v : Vec F S256x1024 .bf16)
    {hl : (Memref.whole cc0_scratch6).view.LoadsAt (Rect.unit (s := S256x1024) ![0, 0] S256x1024.size inb_S256x1024_S256x1024_0_0).toLoadRect}
    {k : Vec F S256x1024 .bf16 → Prog (TpuEff nD τ sig (Elt F) Λ₀ .tc) α} :
    ((c : Thread nD τ).loc cc0_scratch6 ↦{fullShare} (v : Buf (Elt F) ((c : Thread nD τ).loc cc0_scratch6)) : sProp 𝕄)
      ⊢ iprop((((c : Thread nD τ).loc cc0_scratch6 ↦{fullShare} (v : Buf (Elt F) ((c : Thread nD τ).loc cc0_scratch6))) -∗ WP c (k v) Q)
        -∗ WP c (Prog.lift (.load (Memref.whole cc0_scratch6) (Rect.unit (s := S256x1024) ![0, 0] S256x1024.size inb_S256x1024_S256x1024_0_0).toLoadRect hl) >>= k) Q) :=
  wp_loaded c (S := S256x1024) (M := Memref.whole cc0_scratch6) (r := Rect.unit (s := S256x1024) ![0, 0] S256x1024.size inb_S256x1024_S256x1024_0_0) (k := k) (I := Finset.univ)
    (Finset.subset_univ _) v (read_full cc0_scratch6 v)

theorem wp_store6 (f v : Vec F S256x1024 .bf16)
    {hx : ((Memref.whole cc0_scratch6).access (Rect.unit (s := S256x1024) ![0, 0] S256x1024.size inb_S256x1024_S256x1024_0_0)).Stores Finset.univ}
    {hm : (Finset.univ : Finset (Rect.unit (s := S256x1024) ![0, 0] S256x1024.size inb_S256x1024_S256x1024_0_0).shape.Idx) = Finset.univ ∨ ∀ a, (Rect.unit (s := S256x1024) ![0, 0] S256x1024.size inb_S256x1024_S256x1024_0_0).stride a = 1}
    {k : PUnit → Prog (TpuEff nD τ sig (Elt F) Λ₀ .tc) α} :
    ((c : Thread nD τ).loc cc0_scratch6 ↦{fullShare} (f : Buf (Elt F) ((c : Thread nD τ).loc cc0_scratch6)) : sProp 𝕄)
      ⊢ iprop((((c : Thread nD τ).loc cc0_scratch6 ↦{fullShare} (v : Buf (Elt F) ((c : Thread nD τ).loc cc0_scratch6))) -∗ WP c (k ⟨⟩) Q)
        -∗ WP c (Prog.lift (.store (Memref.whole cc0_scratch6) (Rect.unit (s := S256x1024) ![0, 0] S256x1024.size inb_S256x1024_S256x1024_0_0) v Finset.univ hx hm) >>= k) Q) :=
  wp_stored c (S := S256x1024) (M := Memref.whole cc0_scratch6) (r := Rect.unit (s := S256x1024) ![0, 0] S256x1024.size inb_S256x1024_S256x1024_0_0) (w := v) (f := f) (k := k) v
    (write_full cc0_scratch6 f v)

theorem wp_gload (t e : ℕ) {o : Fin S2x1024x256.rank → ℕ} (h : o = ![t % 2, 0, 0])
    (i : ∀ a, o a + S1x1024x256.size a ≤ S2x1024x256.size a)
    {hl : (Memref.whole cc0_scratch1).view.LoadsAt (Rect.unit (s := S2x1024x256) o S1x1024x256.size i).toLoadRect}
    {k : Vec F S1x1024x256 .f32 → Prog (TpuEff nD τ sig (Elt F) Λ₀ .tc) α} :
    Has c (gBlk e) (gSlot t) A.g
      ⊢ iprop((∀ w : Vec F S1x1024x256 .f32, iprop(⌜shapeCast S1024x256 w shapeCasts_S1x1024x256_S1024x256 = (gBlk e).view.read (Elt F) A.g⌝ ∗ Has c (gBlk e) (gSlot t) A.g) -∗ WP c (k w) Q)
        -∗ WP c (Prog.lift (.load (Memref.whole cc0_scratch1) (Rect.unit (s := S2x1024x256) o S1x1024x256.size i).toLoadRect hl) >>= k) Q) :=
  wp_slot c (S := S2x1024x256) (S' := S1024x256) (gBlk e) A.g (Memref.whole cc0_scratch1) h i (wslot_inb t) squeezes_S1x1024x256_S1024x256 shapeCasts_S1x1024x256_S1024x256

theorem wp_uload (t e : ℕ) {o : Fin S2x1024x256.rank → ℕ} (h : o = ![t % 2, 0, 0])
    (i : ∀ a, o a + S1x1024x256.size a ≤ S2x1024x256.size a)
    {hl : (Memref.whole cc0_scratch2).view.LoadsAt (Rect.unit (s := S2x1024x256) o S1x1024x256.size i).toLoadRect}
    {k : Vec F S1x1024x256 .f32 → Prog (TpuEff nD τ sig (Elt F) Λ₀ .tc) α} :
    Has c (uBlk e) (uSlot t) A.u
      ⊢ iprop((∀ w : Vec F S1x1024x256 .f32, iprop(⌜shapeCast S1024x256 w shapeCasts_S1x1024x256_S1024x256 = (uBlk e).view.read (Elt F) A.u⌝ ∗ Has c (uBlk e) (uSlot t) A.u) -∗ WP c (k w) Q)
        -∗ WP c (Prog.lift (.load (Memref.whole cc0_scratch2) (Rect.unit (s := S2x1024x256) o S1x1024x256.size i).toLoadRect hl) >>= k) Q) :=
  wp_slot c (S := S2x1024x256) (S' := S1024x256) (uBlk e) A.u (Memref.whole cc0_scratch2) h i (wslot_inb t) squeezes_S1x1024x256_S1024x256 shapeCasts_S1x1024x256_S1024x256

theorem wp_dload (t e : ℕ) {o : Fin S2x256x1024.rank → ℕ} (h : o = ![t % 2, 0, 0])
    (i : ∀ a, o a + S1x256x1024.size a ≤ S2x256x1024.size a)
    {hl : (Memref.whole cc0_scratch3).view.LoadsAt (Rect.unit (s := S2x256x1024) o S1x256x1024.size i).toLoadRect}
    {k : Vec F S1x256x1024 .f32 → Prog (TpuEff nD τ sig (Elt F) Λ₀ .tc) α} :
    Has c (dBlk e) (dSlot t) A.d
      ⊢ iprop((∀ w : Vec F S1x256x1024 .f32, iprop(⌜shapeCast S256x1024 w shapeCasts_S1x256x1024_S256x1024 = (dBlk e).view.read (Elt F) A.d⌝ ∗ Has c (dBlk e) (dSlot t) A.d) -∗ WP c (k w) Q)
        -∗ WP c (Prog.lift (.load (Memref.whole cc0_scratch3) (Rect.unit (s := S2x256x1024) o S1x256x1024.size i).toLoadRect hl) >>= k) Q) :=
  wp_slot c (S := S2x256x1024) (S' := S256x1024) (dBlk e) A.d (Memref.whole cc0_scratch3) h i (dslot_inb t) squeezes_S1x256x1024_S256x1024 shapeCasts_S1x256x1024_S256x1024

end Loads

theorem part1_run {t : ℕ} (hn : B.Ok n) (ht : t < n) (q : PosShare TreeShare) (b : grid0.Bounds) (i : grid0.Static)
    (M8 : Memref sig .tc .vmem S1024x1024 .bf16) (h8 : M8.IsWhole) (v4 u v : BitVec 32) (hw3 : k0_chk3 (wd t) (wd n) u v) (h5 : k0_cond5 (wd t) (wd n) u v = 1#1) :
    iprop(Tabs (F := F) c B q ∗ WNew c A B t ∗ Ow c)
      ⊢ WP c (k0_part1 (F := F) b i (wd t) (Memref.whole main_arg4) (Memref.isWhole_whole _) (Memref.whole main_arg5) (Memref.isWhole_whole _) (Memref.whole main_arg6) (Memref.isWhole_whole _) (Memref.whole main_arg0) (Memref.isWhole_whole _) (Memref.whole main_arg1) (Memref.isWhole_whole _) (Memref.whole main_arg2) (Memref.isWhole_whole _) (Memref.whole main_arg3) (Memref.isWhole_whole _) M8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 (wd n) v4 u v hw3 h5)
        fun r => iprop(∃ k, ⌜k ≤ t ∧ r.1 = wd (B.ex t) ∧ r.2.2.1 = wd k⌝ ∗ Tabs (F := F) c B q ∗ Turn (F := F) c k ∗ WHas c A k (B.ex t) ∗ WFree c A (k + 1)
          ∗ BufsAny (F := F) c ∗ Ow c) := by
  rw [k0_part1_eq_skeleton]
  unfold k0_part1_skel
  dsimp only
  have hle := hn.le
  have he := hn.named t ht
  unfold Tabs WNew Turn
  iintro ⟨⟨H4, H5, H6⟩, ⟨%k, %hk, Ht, HF, HN, Hb⟩, HO⟩
  iapply (wp_word c (h1 := numel1_S1) (M := Memref.whole main_arg4) (wd (B.ex t)) ((read_te c (h1 := numel1_S1) t (by omega) (off8_eq hle ht)).trans (eq_wd _))) $$ H4
  iintro H4
  iapply (wp_assumed c (chk5_of (wd t) (wd n) u v he))
  iapply (wp_word c (h1 := numel1_S1) (M := Memref.whole cc0_scratch7) (wd k) rfl) $$ Ht
  iintro Ht
  iapply (wp_assumed c (chk4_of (wd t) (wd n) u v (k := k) (by omega)))
  iapply (wp_wdone c A k (B.ex t) (squeeze_eq _ (off10_all ⟨k, by omega⟩) _ _ _) (squeeze_eq _ (off13_all ⟨k, by omega⟩) _ _ _) (squeeze_eq _ (off14_all ⟨k, by omega⟩) _ _ _)
    (sem_eq _ (off9_all ⟨k, by omega⟩) _ _ _) (sem_eq _ (off12_all ⟨k, by omega⟩) _ _ _) (sem_eq _ (off12_all ⟨k, by omega⟩) _ _ _)) $$ [HF HO]
  · isplitl [HF] <;> iassumption
  iintro ⟨HH, HO⟩
  iapply (wp_end c)
  iexists k
  isplitr [H4 H5 H6 Ht HH HN Hb HO]
  · ipureintro; exact ⟨hk, rfl, rfl⟩
  isplitl [H4 H5 H6]
  · isplitl [H4]; · iexact H4
    isplitl [H5] <;> iassumption
  isplitl [Ht]; · iexact Ht
  isplitl [HH]; · iexact HH
  isplitl [HN]; · iexact HN
  isplitl [Hb]; · iexact Hb
  · iexact HO

/-- The rows of tile `t`, -/
def xR (t : ℕ) : Vec F S1024x1024 .bf16 := (xBlk t).view.read (Elt F) A.x
/-- the gate of rows `x` through the weights `g`, -/
def gate (x : Vec F S1024x1024 .bf16) (g : Vec F S1024x256 .bf16) : FVec F S1024x256 .f32 :=
  mulf (matmul dot_S1024x1024_S1024x256_S1024x256_1_0_0_1_n_n none x g (constant S1024x256 .f32 0x00000000#32))
    (logistic (matmul dot_S1024x1024_S1024x256_S1024x256_1_0_0_1_n_n none x g (constant S1024x256 .f32 0x00000000#32)))
/-- and what the kernel leaves in tile `t`'s block when its expert is `e`. -/
def outE (t e : ℕ) : Vec F S1024x1024 .bf16 :=
  k0_pay1 (xR c A t) (gate (xR c A t) (wG c A e)) (wU c A e) (constant S1024x256 .f32 0x00000000#32) (wD c A e)

theorem part2_run {t : ℕ} (hn : B.Ok n) (ht : t < n) (b : grid0.Bounds) (i : grid0.Static)
    (M8 : Memref sig .tc .vmem S1024x1024 .bf16) (h8 : M8.IsWhole) (e : ℕ) (hw1 : k0_chk1 (wd t) (wd n)) (h7 : k0_cond7 (wd t) (wd n) = 1#1) :
    iprop(XFly c A t ∗ Bufs c A e ∗ Ow c)
      ⊢ WP c (k0_part2 (F := F) b i (wd t) (Memref.whole main_arg4) (Memref.isWhole_whole _) (Memref.whole main_arg5) (Memref.isWhole_whole _) (Memref.whole main_arg6) (Memref.isWhole_whole _) (Memref.whole main_arg0) (Memref.isWhole_whole _) (Memref.whole main_arg1) (Memref.isWhole_whole _) (Memref.whole main_arg2) (Memref.isWhole_whole _) (Memref.whole main_arg3) (Memref.isWhole_whole _) M8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 (wd n) hw1 h7)
        fun r => iprop(⌜r.1 = xR c A t ∧ r.2.1 = gate (xR c A t) (wG c A e) ∧ r.2.2.1 = wU c A e ∧ r.2.2.2 = constant S1024x256 .f32 0x00000000#32⌝ ∗ XFree c A t ∗ Bufs c A e ∗ Ow c) := by
  rw [k0_part2_eq_skeleton]
  unfold k0_part2_skel
  dsimp only
  have hle := hn.le
  let T : Fin 264 := ⟨t, by omega⟩
  unfold Bufs Ow
  iintro ⟨HF, ⟨H1, H2, H3⟩, ⟨%W, HO⟩⟩
  iapply (wp_xdone c A t (squeeze_eq _ (off28_all T) _ _ _) (sem_eq _ (off27_all T) _ _ _) W) $$ [HF HO]
  · isplitl [HF] <;> iassumption
  iintro ⟨Hh, Hx, Hv, HO⟩
  iapply (wp_xload c A t (off30_all T) _) $$ Hh
  iintro %w ⟨%hw, Hh⟩
  iapply (wp_load4 c (wG c A e)) $$ H1
  iintro H1
  iapply (wp_load5 c (wU c A e)) $$ H2
  iintro H2
  iapply (wp_end c)
  isplitr [Hh Hx Hv H1 H2 H3 HO]
  · ipureintro
    have hx : k0_pay2 w = xR c A t := hw
    refine ⟨hx, ?_, rfl, rfl⟩
    unfold k0_pay3
    rw [hx]
    rfl
  isplitl [Hh Hx Hv]
  · unfold XFree
    isplitl [Hh]; · iapply (has_any c (xBlk t) (xSlot t) A.x) $$ Hh
    isplitl [Hx] <;> iassumption
  isplitl [H1 H2 H3]
  · isplitl [H1]; · iexact H1
    isplitl [H2] <;> iassumption
  · iexact HO

end Cert.Proof.KernI

end
-- ==== Proof.ExpertsIdeal.Body.lean ====
/-
  One grid point of the expert kernel.
-/
module

public import proofs.«01_k».proof.Proof.ExpertsIdeal.Parts

@[expose] public section

noncomputable section

namespace Cert.Proof.KernI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (c : Dev nD) (A : Arrs (F := F) c) (B : Tab) (n : ℕ)

theorem wp_storeTurn {α : Type} {Q : α → sProp (MT nD τ sig Unit (Elt F) ℕ UU ℕ)} (f v : S1.Idx → BitVec 32)
    {hx : ((Memref.whole cc0_scratch7).access (Rect.unit (s := S1) ![0] S1.size inb_S1_S1_0)).Stores Finset.univ}
    {hm : (Finset.univ : Finset (Rect.unit (s := S1) ![0] S1.size inb_S1_S1_0).shape.Idx) = Finset.univ ∨ ∀ a, (Rect.unit (s := S1) ![0] S1.size inb_S1_S1_0).stride a = 1}
    {k : PUnit → Prog (TpuEff nD τ sig (Elt F) Λ₀ .tc) α} :
    ((c : Thread nD τ).loc cc0_scratch7 ↦{fullShare} (f : Buf (Elt F) ((c : Thread nD τ).loc cc0_scratch7)) : sProp 𝕄)
      ⊢ iprop((((c : Thread nD τ).loc cc0_scratch7 ↦{fullShare} (v : Buf (Elt F) ((c : Thread nD τ).loc cc0_scratch7))) -∗ WP c (k ⟨⟩) Q)
        -∗ WP c (Prog.lift (.store (Memref.whole cc0_scratch7) (Rect.unit (s := S1) ![0] S1.size inb_S1_S1_0) v Finset.univ hx hm) >>= k) Q) :=
  wp_stored c (S := S1) (M := Memref.whole cc0_scratch7) (r := Rect.unit (s := S1) ![0] S1.size inb_S1_S1_0) (w := v) (f := f) (k := k) v
    (write_full cc0_scratch7 f v)

theorem read_turn (f : Buf (Elt F) ((c : Thread nD τ).loc cc0_scratch7)) {inb} {h1 : (Rect.unit (s := S1) ![0] S1.size inb).shape.numel = 1} :
    ((Memref.whole cc0_scratch7).access (Rect.unit (s := S1) ![0] S1.size inb)).read (Elt F) f (Shape.Idx.first (h1.symm ▸ Nat.one_pos)) = f ix1 := by
  refine congrArg f (funext fun a => ?_)
  fin_cases a
  rfl

theorem guard_first {t n m : ℕ} (hn : n ≤ 264) (ht : t < n) (hm : m < 264) :
    Scalar.cmpi .ne (Scalar.extui (Scalar.andi (Scalar.cmpi .eq (wd t) 0#32) (Scalar.cmpi .sgt (wd n) (wd m)))) 0#32 = 1#1 ↔ t = 0 ∧ m < n := by
  show Scalar.cmpi .ne (Scalar.extui (BitVec.ofBool (wd t == wd 0) &&& BitVec.ofBool ((wd m).slt (wd n)))) 0#32 = 1#1 ↔ _
  rw [guard_eq, slt_wd (by omega) (by omega)]
  have h : ∀ a b : Bool, (BitVec.ofBool a &&& BitVec.ofBool b = 1#1 ↔ a = true ∧ b = true) := by decide
  rw [h, beq_iff_eq, decide_eq_true_iff]
  refine and_congr_left fun _ => ⟨fun h => ?_, fun h => by rw [h]⟩
  have := congrArg BitVec.toNat h
  rwa [wd_toNat (by omega), wd_toNat (by omega)] at this

/-- What holds beside the weights while they are dealt with. -/
def Beside (t : ℕ) (q : PosShare TreeShare) : sProp 𝕄 :=
  iprop(Tabs (F := F) c B q ∗ XOpt c A n t ∗ XOpt c A n (t + 1) ∗ XOpt c A n (t + 2) ∗ Ow c)

/-- What the first piece of the body leaves. -/
def Post3 (t : ℕ) (q : PosShare TreeShare) (r : Σ' (v0 : Elt F .i32) (_ : k0_chk1 (wd t) v0), BitVec 32) : sProp 𝕄 :=
  iprop(⌜r.1 = wd n⌝ ∗ Beside c A B n t q ∗ WDone c A B n t)

theorem mod_e {e : ℕ} (he : e < 64) : (![0, e, 0, 0] : Fin 4 → ℕ) = ![0, e % 64, 0, 0] := by rw [Nat.mod_eq_of_lt he]

theorem new_start (t : ℕ) (h0 : t ≠ 0) : WInv c A B n t ⊢ WDone c A B n (t - 1) := by
  cases t with
  | zero => exact absurd rfl h0
  | succ t => exact BIBase.Entails.rfl

/-- A tile after the first has its weights on the way already, or in hand. -/
theorem mid_of_inv {t : ℕ} (hn : B.Ok n) (ht : t < n) (h0 : t ≠ 0) : WInv c A B n t ⊢ WMid c A B n t := by
  cases t with
  | zero => exact absurd rfl h0
  | succ t =>
    show WDone c A B n t ⊢ _
    unfold WMid
    by_cases h : B.T t = B.T (t + 1)
    · have hnew : ¬ B.New (t + 1) := fun h' => h'.elim (Nat.succ_ne_zero t) fun h' => h' h.symm
      have he : B.ex (t + 1) = B.ex t := congrArg BitVec.toNat h.symm
      unfold WDone
      rw [he]
      iintro ⟨%k, %hk, H⟩
      iright
      isplitr [H]; · ipureintro; exact hnew
      iexists k
      isplitr [H]; · ipureintro; omega
      iexact H
    · have hnew : B.New (t + 1) := Or.inr fun h' => h h'.symm
      have hE := hn.ends t ht h
      have hle := hn.le
      have hw : ∀ k, Wnext c A B n k (wd (t + 1)) = WFly c A k (B.ex (t + 1)) := fun k => by
        unfold Wnext
        rw [wd_toInt (by omega), if_pos (by exact_mod_cast ht), wd_toNat (by omega)]
      unfold WDone WNew
      simp only [hE, hw]
      iintro ⟨%k, %hk, Ht, HF, HN, Hb⟩
      ileft
      isplitr [Ht HF HN Hb]; · ipureintro; exact hnew
      iexists k
      isplitr [Ht HF HN Hb]; · ipureintro; exact hk
      isplitl [Ht]; · iexact Ht
      isplitl [HF]; · iexact HF
      isplitl [HN]; · iexact HN
      iapply (bufs_any c A (B.ex t)) $$ Hb

theorem start_open : WInv c A B n 0 ⊢ iprop((∃ f : Buf (Elt F) ((c : Thread nD τ).loc cc0_scratch7), (c : Thread nD τ).loc cc0_scratch7 ↦{fullShare} f)
    ∗ WFree c A 0 ∗ WFree c A 1 ∗ BufsAny (F := F) c) := BIBase.Entails.rfl

theorem tabs_mk (q : PosShare TreeShare) : iprop(((c : Thread nD τ).loc main_arg4 ↦{q} (B.te : Buf (Elt F) ((c : Thread nD τ).loc main_arg4)))
    ∗ ((c : Thread nD τ).loc main_arg5 ↦{q} (B.nt : Buf (Elt F) ((c : Thread nD τ).loc main_arg5)))
    ∗ ((c : Thread nD τ).loc main_arg6 ↦{q} (B.en : Buf (Elt F) ((c : Thread nD τ).loc main_arg6)))) ⊢ Tabs (F := F) c B q := BIBase.Entails.rfl

/-- Where a run of live tiles' next run begins is a tile. -/
theorem next_tile {t : ℕ} (hn : B.Ok n) (ht : t < n) (h : (B.E (B.ex t)).toInt < n) :
    (B.E (B.ex t)).toNat < n := by
  have h1 := hn.past t ht
  have h2 := BitVec.toInt_eq_toNat_cond (B.E (B.ex t))
  have h3 := (B.E (B.ex t)).isLt
  split at h2 <;> omega

theorem part3_run {t : ℕ} (hn : B.Ok n) (ht : t < n) (q : PosShare TreeShare) (b : grid0.Bounds) (i : grid0.Static)
    (M8 : Memref sig .tc .vmem S1024x1024 .bf16) (h8 : M8.IsWhole) :
    iprop(Tabs (F := F) c B q ∗ XPre c A n t t ∗ XPre c A n t (t + 1) ∗ XFree c A (t + 2) ∗ WInv c A B n t ∗ Ow c)
      ⊢ WP c (k0_part3 (F := F) b i (wd t) (Memref.whole main_arg4) (Memref.isWhole_whole _) (Memref.whole main_arg5) (Memref.isWhole_whole _) (Memref.whole main_arg6) (Memref.isWhole_whole _) (Memref.whole main_arg0) (Memref.isWhole_whole _) (Memref.whole main_arg1) (Memref.isWhole_whole _) (Memref.whole main_arg2) (Memref.isWhole_whole _) (Memref.whole main_arg3) (Memref.isWhole_whole _) M8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9)
        (Post3 c A B n t q) := by
  rw [k0_part3_eq_skeleton]
  unfold k0_part3_skel
  have hle := hn.le
  have he := hn.named t ht
  let T : Fin 264 := ⟨t, by omega⟩
  unfold Tabs
  iintro ⟨⟨H4, H5, H6⟩, HX0, HX1, HX2, HW, HO⟩
  iapply (wp_word c (h1 := numel1_S1) (M := Memref.whole main_arg5) (wd n) ((read_nt c (h1 := numel1_S1)).trans hn.nt)) $$ H5
  iintro H5
  iapply (wp_assumed c (chk1_of hle ht))
  iapply (wp_word c (h1 := numel1_S1) (M := Memref.whole main_arg4) (B.T t) (read_te c (h1 := numel1_S1) t (by omega) (off1_eq hle ht))) $$ H4
  iintro H4
  iapply (wp_word c (h1 := numel1_S1) (M := Memref.whole main_arg4) (B.T (t - 1)) (read_te c (h1 := numel1_S1) (t - 1) (by omega) (off2_eq hle ht))) $$ H4
  iintro H4
  iapply (wp_assumed c (chk3_of hle ht (B.T t) (B.T (t - 1))))
  extract_lets hw3 v18 v19 v20 v21 v22 v24 v25 v26 v27 v35 jpE jpT jp5 jp4 s1 s2 s3 s4 s5 jpB s6 s7 s8 s9 s10 jpA r1 r2 r3 r4 r5 r6 r7 r8
  have hE : iprop(Beside c A B n t q ∗ WDone c A B n t) ⊢ WP c (jpE ⟨⟩) (Post3 c A B n t q) := by
    dsimp only [jpE]
    iintro H
    iapply (wp_end c)
    unfold Post3
    isplitr [H]; · ipureintro; rfl
    iexact H
  clear_value jpE
  have hT : iprop(Beside c A B n t q ∗ ∃ k, ⌜k ≤ t⌝ ∗ Turn (F := F) c k ∗ Wnext c A B n (k + 1) (B.E (B.ex t)) ∗ WFree c A k ∗ Bufs c A (B.ex t))
      ⊢ WP c (jpT ⟨⟩) (Post3 c A B n t q) := by
    dsimp only [jpT]
    unfold Turn
    iintro ⟨HR, ⟨%k, %hk, Ht, HN, HF, Hb⟩⟩
    iapply (wp_word c (h1 := numel1_S1) (M := Memref.whole cc0_scratch7) (wd k) rfl) $$ Ht
    iintro Ht
    iapply (wp_word c (h1 := numel1_S1) (M := Memref.whole cc0_scratch7) (wd k) rfl) $$ Ht
    iintro Ht
    iapply (wp_storeTurn c (fun _ => wd k)) $$ Ht
    iintro Ht
    iapply hE
    isplitl [HR]; · iexact HR
    unfold WDone Turn
    iexists (k + 1)
    isplitr [Ht HN HF Hb]; · ipureintro; omega
    isplitl [Ht]
    · have h1 : Scalar.addi (wd k) 1#32 = wd (k + 1) := (BitVec.ofNat_add k 1).symm
      rw [← h1]; iexact Ht
    isplitl [HN]; · iexact HN
    isplitl [HF]; · rw [show k + 1 + 1 = k + 2 from rfl, wfree_two]; iexact HF
    iexact Hb
  clear_value jpT
  have h5 : iprop(Beside c A B n t q ∗ WMid c A B n t) ⊢ WP c (jp5 ⟨⟩) (Post3 c A B n t q) := by
    dsimp only [jp5]
    unfold Beside WMid
    iintro ⟨⟨HT, HX0, HX1, HX2, HO⟩, ⟨⟨%hnew, HW⟩ | ⟨%hnew, HW⟩⟩⟩
    · have hc := (cond5_eq hle ht (B.T t) (B.T (t - 1))).2 hnew
      rw [dif_pos hc]
      iapply (wp_then c (R := iprop(XOpt c A n t ∗ XOpt c A n (t + 1) ∗ XOpt c A n (t + 2)))
        (part1_run c A B n hn ht q b i M8 h8 _ (B.T t) (B.T (t - 1)) hw3 hc) ?_) $$ [HT HX0 HX1 HX2 HO HW]
      rotate_left
      · isplitl [HX0 HX1 HX2]
        · isplitl [HX0]; · iexact HX0
          isplitl [HX1] <;> iassumption
        isplitl [HT]; · iexact HT
        isplitl [HW] <;> iassumption
      rintro ⟨v38, hw5, v39, hw4, v49⟩
      iintro ⟨⟨HX0, HX1, HX2⟩, ⟨%k, %hk, HT, Ht, HH, HN, Hb, HO⟩⟩
      obtain ⟨hk, h1, h2⟩ := hk
      dsimp only at h1 h2
      subst h1 h2
      dsimp only
      unfold WHas BufsAny
      icases HH with ⟨⟨Hg, Hu, Hd⟩, HA, Hv⟩
      icases Hb with ⟨⟨%f4, H4⟩, ⟨%f5, H5⟩, ⟨%f6, H6⟩⟩
      let K : Fin 265 := ⟨k, by omega⟩
      iapply (wp_gload c A k (B.ex t) (off16_all K) _) $$ Hg
      iintro %w1 ⟨%hw1, Hg⟩
      iapply (wp_load4 c f4) $$ H4
      iintro H4
      iapply (wp_store4 c f4 (k0_pay4 w1)) $$ H4
      iintro H4
      iapply (wp_uload c A k (B.ex t) (off16_all K) _) $$ Hu
      iintro %w2 ⟨%hw2, Hu⟩
      iapply (wp_load5 c f5) $$ H5
      iintro H5
      iapply (wp_store5 c f5 (k0_pay5 w2)) $$ H5
      iintro H5
      iapply (wp_dload c A k (B.ex t) (off17_all K) _) $$ Hd
      iintro %w3 ⟨%hw3, Hd⟩
      iapply (wp_load6 c f6) $$ H6
      iintro H6
      iapply (wp_store6 c f6 (k0_pay6 w3)) $$ H6
      iintro H6
      have p4 : k0_pay4 w1 = wG c A (B.ex t) := by unfold k0_pay4 wG; rw [hw1]
      have p5 : k0_pay5 w2 = wU c A (B.ex t) := by unfold k0_pay5 wU; rw [hw2]
      have p6 : k0_pay6 w3 = wD c A (B.ex t) := by unfold k0_pay6 wD; rw [hw3]
      rw [p4, p5, p6]
      unfold Tabs
      icases HT with ⟨T4, T5, T6⟩
      iapply (wp_word c (h1 := numel1_S1) (M := Memref.whole main_arg6) (B.E (B.ex t)) (read_en c (h1 := numel1_S1) (B.ex t) he (off18_all ⟨B.ex t, he⟩))) $$ T6
      iintro T6
      iapply (wp_assumed c (chk6_of (wd t) (B.T t) (B.T (t - 1)) hle (k := k) (by omega) (B.E (B.ex t)) (fun h => by have := next_tile B n hn ht h; omega)))
      by_cases hx : (B.E (B.ex t)).toInt < n
      · rw [dif_pos ((cond6_eq hle (B.E (B.ex t))).2 hx)]
        have hp := next_tile B n hn ht hx
        have he' := hn.named (B.E (B.ex t)).toNat hp
        let P : Fin 264 := ⟨(B.E (B.ex t)).toNat, by omega⟩
        iapply (wp_word c (h1 := numel1_S1) (M := Memref.whole main_arg4) (wd (B.ex (B.E (B.ex t)).toNat))
          ((read_te c (h1 := numel1_S1) (B.E (B.ex t)).toNat (by omega) ((congrArg k0_off19 (eq_wd _)).trans (off19_all P))).trans (eq_wd _))) $$ T4
        iintro T4
        iapply (wp_assumed c (chk7_of (wd t) (wd n) (B.T t) (B.T (t - 1)) (B.E (B.ex t)) he'))
        iapply (wp_wstart c A (k + 1) (B.ex (B.E (B.ex t)).toNat) (squeeze_eq _ ((off22_all ⟨_, he'⟩).trans (mod_e he')) _ _ _)
          (squeeze_eq _ ((off22_all ⟨_, he'⟩).trans (mod_e he')) _ _ _) (squeeze_eq _ ((off26_all ⟨_, he'⟩).trans (mod_e he')) _ _ _)
          (squeeze_eq _ (off21_all K) _ _ _) (squeeze_eq _ (off24_all K) _ _ _) (squeeze_eq _ (off25_all K) _ _ _)
          (sem_eq _ (off20_all K) _ _ _) (sem_eq _ (off23_all K) _ _ _) (sem_eq _ (off23_all K) _ _ _)) $$ HN
        iintro HN
        iapply hT
        unfold Beside
        isplitl [T4 T5 T6 HX0 HX1 HX2 HO]
        · isplitl [T4 T5 T6]
          · iapply (tabs_mk c B q)
            isplitl [T4]; · iexact T4
            isplitl [T5] <;> iassumption
          isplitl [HX0]; · iexact HX0
          isplitl [HX1]; · iexact HX1
          isplitl [HX2] <;> iassumption
        iexists k
        isplitr [Ht HN HA Hv Hg Hu Hd H4 H5 H6]; · ipureintro; exact hk
        isplitl [Ht]; · iexact Ht
        isplitl [HN]
        · unfold Wnext; rw [if_pos hx]; iexact HN
        isplitl [HA Hv Hg Hu Hd]
        · iapply (whas_free c A k (B.ex t))
          unfold WHas
          isplitl [Hg Hu Hd]
          · isplitl [Hg]; · iexact Hg
            isplitl [Hu] <;> iassumption
          isplitl [HA] <;> iassumption
        · unfold Bufs
          isplitl [H4]; · iexact H4
          isplitl [H5] <;> iassumption
      · rw [dif_neg (fun h => hx ((cond6_eq hle (B.E (B.ex t))).1 h))]
        iapply hT
        unfold Beside
        isplitl [T4 T5 T6 HX0 HX1 HX2 HO]
        · isplitl [T4 T5 T6]
          · iapply (tabs_mk c B q)
            isplitl [T4]; · iexact T4
            isplitl [T5] <;> iassumption
          isplitl [HX0]; · iexact HX0
          isplitl [HX1]; · iexact HX1
          isplitl [HX2] <;> iassumption
        iexists k
        isplitr [Ht HN HA Hv Hg Hu Hd H4 H5 H6]; · ipureintro; exact hk
        isplitl [Ht]; · iexact Ht
        isplitl [HN]
        · unfold Wnext; rw [if_neg hx]; iexact HN
        isplitl [HA Hv Hg Hu Hd]
        · iapply (whas_free c A k (B.ex t))
          unfold WHas
          isplitl [Hg Hu Hd]
          · isplitl [Hg]; · iexact Hg
            isplitl [Hu] <;> iassumption
          isplitl [HA] <;> iassumption
        · unfold Bufs
          isplitl [H4]; · iexact H4
          isplitl [H5] <;> iassumption
    · rw [dif_neg (fun h => hnew ((cond5_eq hle ht (B.T t) (B.T (t - 1))).1 h))]
      iapply hE
      isplitr [HW]
      · unfold Beside
        isplitl [HT]; · iexact HT
        isplitl [HX0]; · iexact HX0
        isplitl [HX1]; · iexact HX1
        isplitl [HX2] <;> iassumption
      iexact HW
  clear_value jp5
  have h4 : iprop(Tabs (F := F) c B q ∗ XOpt c A n t ∗ XOpt c A n (t + 1) ∗ XFree c A (t + 2) ∗ WMid c A B n t ∗ Ow c)
      ⊢ WP c (jp4 ⟨⟩) (Post3 c A B n t q) := by
    dsimp only [jp4]
    iintro ⟨HT, HX0, HX1, HX2, HW, HO⟩
    by_cases hc : t + 2 < n
    · rw [dif_pos ((cond4_eq hle ht).2 hc)]
      iapply (wp_xstart c A (t + 2) (slice_eq _ ((off7_all T).trans (by rw [Nat.mod_eq_of_lt (show t + 2 < 264 by omega)])) _ _)
        (squeeze_eq _ (off6_all T) _ _ _) (sem_eq _ (off5_all T) _ _ _)) $$ HX2
      iintro HX2
      iapply h5
      unfold Beside
      isplitr [HW]
      · isplitl [HT]; · iexact HT
        isplitl [HX0]; · iexact HX0
        isplitl [HX1]; · iexact HX1
        isplitr [HO]
        · unfold XOpt; rw [if_pos hc]; iexact HX2
        · iexact HO
      · iexact HW
    · rw [dif_neg (fun h => hc ((cond4_eq hle ht).1 h))]
      iapply h5
      unfold Beside
      isplitr [HW]
      · isplitl [HT]; · iexact HT
        isplitl [HX0]; · iexact HX0
        isplitl [HX1]; · iexact HX1
        isplitr [HO]
        · unfold XOpt; rw [if_neg hc]; iexact HX2
        · iexact HO
      · iexact HW
  clear_value jp4
  have hB : iprop(Tabs (F := F) c B q ∗ XOpt c A n t ∗ XPre c A n t (t + 1) ∗ XFree c A (t + 2) ∗ WMid c A B n t ∗ Ow c)
      ⊢ WP c (jpB ⟨⟩) (Post3 c A B n t q) := by
    dsimp only [jpB]
    by_cases hc : t = 0 ∧ 1 < n
    · rw [show XPre c A n t (t + 1) = XFree c A (t + 1) from if_pos hc.1]
      iintro ⟨HT, HX0, HX1, HX2, HW, HO⟩
      rw [if_pos ((guard_first hle ht (m := 1) (by omega)).2 hc)]
      obtain ⟨h0, h1⟩ := hc
      subst h0
      have e1 : s5 = xBlk 1 := rfl
      have e2 : s4 = xSlot 1 := rfl
      have e3 : SemArray.sem s2 = xSem 1 := rfl
      iapply (wp_xstart c A 1 e1 e2 e3) $$ HX1
      iintro HX1
      iapply h4
      isplitl [HT]; · iexact HT
      isplitl [HX0]; · iexact HX0
      isplitl [HX1]; · unfold XOpt; rw [if_pos h1]; iexact HX1
      isplitl [HX2]; · iexact HX2
      isplitl [HW] <;> iassumption
    · have hx : XPre c A n t (t + 1) = XOpt c A n (t + 1) := by
        unfold XPre XOpt
        by_cases h0 : t = 0
        · rw [if_pos h0, if_neg (by omega)]
        · rw [if_neg h0]
      rw [hx]
      iintro ⟨HT, HX0, HX1, HX2, HW, HO⟩
      rw [if_neg (fun h => hc ((guard_first hle ht (m := 1) (by omega)).1 h))]
      iapply h4
      isplitl [HT]; · iexact HT
      isplitl [HX0]; · iexact HX0
      isplitl [HX1]; · iexact HX1
      isplitl [HX2]; · iexact HX2
      isplitl [HW] <;> iassumption
  clear_value jpB
  have hA : iprop(Tabs (F := F) c B q ∗ XPre c A n t t ∗ XPre c A n t (t + 1) ∗ XFree c A (t + 2) ∗ WMid c A B n t ∗ Ow c)
      ⊢ WP c (jpA ⟨⟩) (Post3 c A B n t q) := by
    dsimp only [jpA]
    by_cases hc : t = 0 ∧ 0 < n
    · rw [show XPre c A n t t = XFree c A t from if_pos hc.1]
      iintro ⟨HT, HX0, HX1, HX2, HW, HO⟩
      rw [if_pos ((guard_first hle ht (m := 0) (by omega)).2 hc)]
      obtain ⟨h0, h1⟩ := hc
      subst h0
      have e1 : s10 = xBlk 0 := rfl
      have e2 : s9 = xSlot 0 := rfl
      have e3 : SemArray.sem s7 = xSem 0 := rfl
      iapply (wp_xstart c A 0 e1 e2 e3) $$ HX0
      iintro HX0
      iapply hB
      isplitl [HT]; · iexact HT
      isplitl [HX0]; · unfold XOpt; rw [if_pos h1]; iexact HX0
      isplitl [HX1]; · iexact HX1
      isplitl [HX2]; · iexact HX2
      isplitl [HW] <;> iassumption
    · rw [show XPre c A n t t = XOpt c A n t from if_neg (by omega)]
      iintro ⟨HT, HX0, HX1, HX2, HW, HO⟩
      rw [if_neg (fun h => hc ((guard_first hle ht (m := 0) (by omega)).1 h))]
      iapply hB
      isplitl [HT]; · iexact HT
      isplitl [HX0]; · iexact HX0
      isplitl [HX1]; · iexact HX1
      isplitl [HX2]; · iexact HX2
      isplitl [HW] <;> iassumption
  clear_value jpA
  by_cases h0 : t = 0
  · rw [dif_pos ((cond1_eq hle ht).2 h0)]
    subst h0
    have he' : (⟨B.ex 0, he⟩ : Fin 64).val % 64 = B.ex 0 := Nat.mod_eq_of_lt he
    icases (start_open c A B n) $$ HW with ⟨⟨%f0, Ht⟩, HF0, HF1, Hb⟩
    iapply (wp_word c (h1 := numel1_S1) (M := Memref.whole cc0_scratch7) (f0 ix1) (read_turn c (h1 := numel1_S1) f0)) $$ Ht
    iintro Ht
    iapply (wp_storeTurn c f0 (fun _ => wd 0)) $$ Ht
    iintro Ht
    iapply (wp_word c (h1 := numel1_S1) (M := Memref.whole main_arg4) (wd (B.ex 0)) ((read_te c (h1 := numel1_S1) 0 (by omega) rfl).trans (eq_wd _))) $$ H4
    iintro H4
    iapply (wp_assumed c (chk2_of (wd 0) (wd n) he))
    have e1 : r4 = gSlot 0 := rfl
    have e2 : r6 = uSlot 0 := rfl
    have e3 : r8 = dSlot 0 := rfl
    have e4 : SemArray.sem r2 = wSem 0 := rfl
    iapply (wp_wstart c A 0 (B.ex 0) (squeeze_eq _ ((off3_all ⟨B.ex 0, he⟩).trans (mod_e he)) _ _ _) (squeeze_eq _ ((off3_all ⟨B.ex 0, he⟩).trans (mod_e he)) _ _ _)
      (squeeze_eq _ ((off4_all ⟨B.ex 0, he⟩).trans (mod_e he)) _ _ _) e1 e2 e3 e4 e4 e4) $$ HF0
    iintro HF0
    iapply hA
    isplitl [H4 H5 H6]
    · iapply (tabs_mk c B q)
      isplitl [H4]; · iexact H4
      isplitl [H5] <;> iassumption
    isplitl [HX0]; · iexact HX0
    isplitl [HX1]; · iexact HX1
    isplitl [HX2]; · iexact HX2
    isplitr [HO]
    · unfold WMid WNew Turn
      ileft
      isplitr [Ht HF0 HF1 Hb]; · ipureintro; exact Or.inl rfl
      iexists 0
      isplitr [Ht HF0 HF1 Hb]; · ipureintro; exact le_refl 0
      isplitl [Ht]; · iexact Ht
      isplitl [HF0]; · iexact HF0
      isplitl [HF1] <;> iassumption
    iexact HO
  · rw [dif_neg (fun h => h0 ((cond1_eq hle ht).1 h))]
    iapply hA
    isplitl [H4 H5 H6]
    · iapply (tabs_mk c B q)
      isplitl [H4]; · iexact H4
      isplitl [H5] <;> iassumption
    isplitl [HX0]; · iexact HX0
    isplitl [HX1]; · iexact HX1
    isplitl [HX2]; · iexact HX2
    isplitl [HW]; · iapply (mid_of_inv c A B n hn ht h0) $$ HW
    iexact HO

/-- A load of the output's staging buffer, whatever it holds. -/
theorem wp_oload {α : Type} {Q : α → sProp (MT nD τ sig Unit (Elt F) ℕ UU ℕ)} (M8 : Memref sig .tc .vmem S1024x1024 .bf16) (f : Bf (F := F) c M8)
    {hl : M8.view.LoadsAt (Rect.unit (s := S1024x1024) ![0, 0] S1024x1024.size inb_S1024x1024_S1024x1024_0_0).toLoadRect}
    {k : Vec F S1024x1024 .bf16 → Prog (TpuEff nD τ sig (Elt F) Λ₀ .tc) α} :
    pt c M8 f
      ⊢ iprop((∀ v, pt c M8 f -∗ WP c (k v) Q)
        -∗ WP c (Prog.lift (.load M8 (Rect.unit (s := S1024x1024) ![0, 0] S1024x1024.size inb_S1024x1024_S1024x1024_0_0).toLoadRect hl) >>= k) Q) := by
  iintro H Hk
  iapply (wp_loaded c (S := S1024x1024) (M := M8) (r := Rect.unit (s := S1024x1024) ![0, 0] S1024x1024.size inb_S1024x1024_S1024x1024_0_0) (k := k) (I := Finset.univ)
    (Finset.subset_univ _) _ rfl) $$ H
  iapply Hk

/-- A store of the whole output block. -/
theorem wp_ostore {α : Type} {Q : α → sProp (MT nD τ sig Unit (Elt F) ℕ UU ℕ)} (M8 : Memref sig .tc .vmem S1024x1024 .bf16) (h8 : M8.IsWhole)
    (f : Bf (F := F) c M8) (v : Vec F S1024x1024 .bf16)
    {hx : (M8.access (Rect.unit (s := S1024x1024) ![0, 0] S1024x1024.size inb_S1024x1024_S1024x1024_0_0)).Stores Finset.univ}
    {hm : (Finset.univ : Finset (Rect.unit (s := S1024x1024) ![0, 0] S1024x1024.size inb_S1024x1024_S1024x1024_0_0).shape.Idx) = Finset.univ ∨ ∀ a, (Rect.unit (s := S1024x1024) ![0, 0] S1024x1024.size inb_S1024x1024_S1024x1024_0_0).stride a = 1}
    {k : PUnit → Prog (TpuEff nD τ sig (Elt F) Λ₀ .tc) α} :
    pt c M8 f
      ⊢ iprop((owns (c : Thread nD τ) M8 fullShare v -∗ WP c (k ⟨⟩) Q)
        -∗ WP c (Prog.lift (.store M8 (Rect.unit (s := S1024x1024) ![0, 0] S1024x1024.size inb_S1024x1024_S1024x1024_0_0) v Finset.univ hx hm) >>= k) Q) := by
  unfold owns
  rw [h8.set_eq_univ]
  iintro H Hk
  iapply (wp_stored c (S := S1024x1024) (M := M8) (r := Rect.unit (s := S1024x1024) ![0, 0] S1024x1024.size inb_S1024x1024_S1024x1024_0_0) (w := v) (k := k) _ rfl) $$ H
  iintro H
  iapply Hk
  iexists _
  isplitr [H]; swap; · iexact H
  ipureintro
  exact View.read_writes_full M8.view f inb_S1024x1024_S1024x1024_0_0 v []

theorem xopt_live {b : ℕ} (h : b < n) : XOpt c A n b ⊢ XFly c A b := by
  unfold XOpt; rw [if_pos h]

/-- What the points hand on: before point `t`, -/
def Hold (t : ℕ) (q : PosShare TreeShare) : sProp 𝕄 :=
  iprop(Tabs (F := F) c B q ∗ XPre c A n t t ∗ XPre c A n t (t + 1) ∗ XFree c A (t + 2) ∗ WInv c A B n t)

theorem done_mk (t : ℕ) : iprop(∃ k, ⌜k ≤ t + 1⌝ ∗ Turn (F := F) c k ∗ Wnext c A B n k (B.E (B.ex t)) ∗ WFree c A (k + 1) ∗ Bufs c A (B.ex t))
    ⊢ WInv c A B n (t + 1) := BIBase.Entails.rfl

theorem body_run {t : ℕ} (hn : B.Ok n) (ht : t < n) (q : PosShare TreeShare) (b : grid0.Bounds) (i : grid0.Static)
    (M8 : Memref sig .tc .vmem S1024x1024 .bf16) (h8 : M8.IsWhole) (f : Bf (F := F) c M8) :
    iprop(Hold c A B n t q ∗ Ow c ∗ pt c M8 f)
      ⊢ WP c (cc0_moe_experts (F := F) b i (wd t) (Memref.whole main_arg4) (Memref.isWhole_whole _) (Memref.whole main_arg5) (Memref.isWhole_whole _) (Memref.whole main_arg6) (Memref.isWhole_whole _) (Memref.whole main_arg0) (Memref.isWhole_whole _) (Memref.whole main_arg1) (Memref.isWhole_whole _) (Memref.whole main_arg2) (Memref.isWhole_whole _) (Memref.whole main_arg3) (Memref.isWhole_whole _) M8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9)
        fun _ => iprop(Hold c A B n (t + 1) q ∗ Ow c ∗ owns (c : Thread nD τ) M8 fullShare (outE c A t (B.ex t))) := by
  rw [cc0_moe_experts_eq_skeleton]
  unfold cc0_moe_experts_skel
  unfold Hold
  iintro ⟨⟨HT, HX0, HX1, HX2, HW⟩, HO, H8⟩
  iapply (wp_then c (R := pt c M8 f) (part3_run c A B n hn ht q b i M8 h8) ?_) $$ [HT HX0 HX1 HX2 HO HW H8]
  rotate_left
  · isplitl [H8]; · iexact H8
    isplitl [HT]; · iexact HT
    isplitl [HX0]; · iexact HX0
    isplitl [HX1]; · iexact HX1
    isplitl [HX2]; · iexact HX2
    isplitl [HW] <;> iassumption
  rintro ⟨v0, hw1, v35⟩
  unfold Post3 Beside
  iintro ⟨H8, %h0, ⟨HT, HX0, HX1, HX2, HO⟩, HW⟩
  dsimp only at h0
  subst h0
  dsimp only
  have h7 := cond7_eq hn.le ht
  rw [dif_pos h7]
  unfold WDone
  icases HW with ⟨%k, %hk, Ht, HN, HF, Hb⟩
  ihave HX0 := (xopt_live c A n ht) $$ HX0
  iapply (wp_then c (R := iprop(pt c M8 f ∗ Tabs (F := F) c B q ∗ XOpt c A n (t + 1) ∗ XOpt c A n (t + 2) ∗ Turn (F := F) c k ∗ Wnext c A B n k (B.E (B.ex t)) ∗ WFree c A (k + 1)))
    (part2_run c A B n hn ht b i M8 h8 (B.ex t) hw1 h7) ?_) $$ [HT HX0 HX1 HX2 HO Ht HN HF Hb H8]
  rotate_left
  · isplitl [H8 HT HX1 HX2 Ht HN HF]
    · isplitl [H8]; · iexact H8
      isplitl [HT]; · iexact HT
      isplitl [HX1]; · iexact HX1
      isplitl [HX2]; · iexact HX2
      isplitl [Ht]; · iexact Ht
      isplitl [HN] <;> iassumption
    isplitl [HX0]; · iexact HX0
    isplitl [Hb] <;> iassumption
  rintro ⟨v66, v70, v71, cst⟩
  iintro ⟨⟨H8, HT, HX1, HX2, Ht, HN, HF⟩, %hv, HX0, Hb, HO⟩
  obtain ⟨rfl, rfl, rfl, rfl⟩ := hv
  dsimp only
  unfold Bufs
  icases Hb with ⟨B4, B5, B6⟩
  iapply (wp_load6 c (wD c A (B.ex t))) $$ B6
  iintro B6
  iapply (wp_oload c M8 f) $$ H8
  iintro %v H8
  iapply (wp_ostore c M8 h8 f) $$ H8
  iintro H8
  iapply (wp_end c)
  isplitr [HO H8]
  · isplitl [HT]; · iexact HT
    isplitl [HX1]; · rw [show XPre c A n (t + 1) (t + 1) = XOpt c A n (t + 1) from if_neg (Nat.succ_ne_zero t)]; iexact HX1
    isplitl [HX2]; · rw [show XPre c A n (t + 1) (t + 1 + 1) = XOpt c A n (t + 2) from if_neg (Nat.succ_ne_zero t)]; iexact HX2
    isplitl [HX0]; · rw [show t + 1 + 2 = t + 3 from rfl, xfree_three]; iexact HX0
    iapply (done_mk c A B n t)
    iexists k
    isplitr [Ht HN HF B4 B5 B6]; · ipureintro; exact hk
    isplitl [Ht]; · iexact Ht
    isplitl [HN]; · iexact HN
    isplitl [HF]; · iexact HF
    unfold Bufs
    isplitl [B4]; · iexact B4
    isplitl [B5] <;> iassumption
  isplitl [HO]; · iexact HO
  iexact H8

end Cert.Proof.KernI

end
-- ==== Proof.ExpertsIdeal.Tables.lean ====
/-
  The prefetched tables of the expert kernel and the grid they give: one point for each live tile, the output's block
  at point `t` the rows of tile `t`.
-/
module

public import proofs.«01_k».proof.Proof.ExpertsIdeal.Body
public import Idealize.ShloMosaic.Lib.Pipeline.Regions
public import Idealize.ShloMosaic.Lib.Pipeline.Launch
public import Idealize.ShloMosaic.Lib.StableHlo.Run

@[expose] public section

noncomputable section

namespace Cert.Proof.KernI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

/-! ## The grid of a run-time bound -/

theorem grid_N (b : grid0.Bounds) : (grid0.at b).N = b 0 := by
  show (List.ofFn (grid0.boundAt b)).prod = b 0
  simp [List.ofFn_succ, Pipeline.Grid.boundAt]

theorem grid_coord (b : grid0.Bounds) (t : Fin (grid0.at b).N) : ((grid0.at b).coords t 0).val = t.val := by
  have hN := grid_N b
  have hb : (grid0.at b).bound 0 = b 0 := by
    show grid0.boundAt b 0 = b 0
    simp [Pipeline.Grid.boundAt]
  have hs : (grid0.at b).stride 0 = 1 := by
    unfold Pipeline.Grid.stride
    simp [List.ofFn_succ]
  show t.val / (grid0.at b).stride 0 % (grid0.at b).bound 0 = t.val
  rw [hs, hb, Nat.div_one, Nat.mod_eq_of_lt (hN ▸ t.isLt)]

/-! ## The tables -/

set_option backward.proofsInPublic true in
/-- The prefetched tables: the number of live tiles, as a scalar, then the three tables. -/
def pfN (B : Tab) : pre0.Contents (Elt F) := fun
  | ⟨0, _⟩ => fun _ => B.nt ix1
  | ⟨1, _⟩ => B.te
  | ⟨2, _⟩ => B.nt
  | ⟨3, _⟩ => B.en
  | ⟨_ + 4, h⟩ => absurd h (by simp)

omit [FloatOps F] in
theorem dynb0_pfN (B : Tab) : dynb0 (F := F) (pfN B) = ![(B.nt ix1).toNat] := rfl

theorem Tab.Ok.count {B : Tab} {n : ℕ} (hn : B.Ok n) : (B.nt ix1).toNat = n := by
  rw [hn.nt, wd_toNat (by have := hn.le; omega)]

theorem blk_inb : ∀ (t : Fin 264) a, ((![t.val, 0] : Fin 2 → ℕ) a + 1) * S1024x1024.size a ≤ S270336x1024.size a := by
  intro t a
  have := t.isLt
  fin_cases a
  · show (t.val + 1) * 1024 ≤ 270336; omega
  · exact Nat.le_refl 1024

theorem blk_words : ∀ t : Fin 264, (Rect.block (s := S270336x1024) S1024x1024.size ![t.val, 0] (blk_inb t)).WholeWords (EltTy.packing .bf16) := by
  decide +kernel

theorem tile_index (B : Tab) {n : ℕ} (hn : B.Ok n) (i : (grid0.at (dynb0 (F := F) (pfN B))).Coords) :
    cc0_transform_4 inb_S1_S1_0 numel1_S1 (pfN (F := F) B) (dynb0 (pfN B)) i = ![(i 0).val, 0] := by
  have hi : (i 0).val < n := by
    have := (i 0).isLt
    have hb : (grid0.at (dynb0 (F := F) (pfN B))).bound 0 = n := by
      show grid0.boundAt (dynb0 (F := F) (pfN B)) 0 = n
      rw [dynb0_pfN, hn.count]
      simp [Pipeline.Grid.boundAt]
    omega
  have h1 : (pfN (F := F) B).at 2 (Rect.unit (s := S1) ![0] S1.size inb_S1_S1_0) numel1_S1 = wd n := by
    rw [← hn.nt]
    refine congrArg B.nt (funext fun a => ?_)
    fin_cases a
    exact Fin.ext rfl
  have h2 : Scalar.minsi (BitVec.ofNat 32 (i 0).val) (Scalar.maxsi (Scalar.subi ((pfN (F := F) B).at 2 (Rect.unit (s := S1) ![0] S1.size inb_S1_S1_0) numel1_S1) 1#32) 0#32) = wd (i 0).val := by
    rw [h1]; exact min_wd hn.le hi
  unfold cc0_transform_4
  funext a
  fin_cases a
  · refine (congrArg BitVec.toNat h2).trans ?_
    rw [wd_toNat (by have := hn.le; omega)]; rfl
  · rfl

theorem ok_pfN (B : Tab) {n : ℕ} (hn : B.Ok n) : ok0 (F := F) (pfN B) := by
  have hle := hn.le
  unfold ok0
  constructor
  · show (grid0.at (dynb0 (F := F) (pfN B))).N + 2 < 2 ^ 31
    rw [grid_N, dynb0_pfN, hn.count]
    show n + 2 < 2 ^ 31
    omega
  · intro i
    have hi : (i 0).val < 264 := by
      have := (i 0).isLt
      have hb : (grid0.at (dynb0 (F := F) (pfN B))).bound 0 = n := by
        show grid0.boundAt (dynb0 (F := F) (pfN B)) 0 = n
        rw [dynb0_pfN, hn.count]
        simp [Pipeline.Grid.boundAt]
      omega
    rw [tile_index B hn i]
    exact ⟨blk_inb ⟨_, hi⟩, .inr (blk_words ⟨_, hi⟩)⟩

end Cert.Proof.KernI

end
-- ==== Proof.ExpertsIdeal.Split.lean ====
/-
  The scratch buffers and the arrays taken apart into the slots of the rings, and put together again.
-/
module

public import proofs.«01_k».proof.Proof.ExpertsIdeal.Tables

@[expose] public section

noncomputable section

namespace Cert.Proof.KernI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Sets of elements -/

section Sets
variable {ℓ : Loc nD τ sig} {I J K : Finset (Idx ℓ)}

omit [FloatOps F] in
theorem cut_two (h : Disjoint I J) (hu : I ∪ J = Finset.univ) :
    (iprop(∃ f : Buf (Elt F) ℓ, ℓ ↦{fullShare} f) : sProp 𝕄)
      ⊢ iprop((∃ f : Buf (Elt F) ℓ, ℓ ↦[I]{fullShare} f) ∗ ∃ f : Buf (Elt F) ℓ, ℓ ↦[J]{fullShare} f) := by
  rw [← hu]
  iintro ⟨%f, H⟩
  ihave H := (pointsTo_union h).1 $$ H
  icases H with ⟨H1, H2⟩
  isplitl [H1]
  · iexists f; iexact H1
  · iexists f; iexact H2

omit [FloatOps F] in
theorem join_two (h : Disjoint I J) (hu : I ∪ J = Finset.univ) :
    (iprop((∃ f : Buf (Elt F) ℓ, ℓ ↦[I]{fullShare} f) ∗ ∃ f : Buf (Elt F) ℓ, ℓ ↦[J]{fullShare} f) : sProp 𝕄)
      ⊢ iprop(∃ f : Buf (Elt F) ℓ, ℓ ↦{fullShare} f) := by
  rw [← hu]
  iintro ⟨⟨%f, H1⟩, ⟨%g, H2⟩⟩
  ihave H := (pointsTo_join h) $$ [H1 H2]
  · isplitl [H1] <;> iassumption
  iexists _; iexact H

omit [FloatOps F] in
theorem cut_three (h : Disjoint I J) (h' : Disjoint (I ∪ J) K) (hu : I ∪ J ∪ K = Finset.univ) :
    (iprop(∃ f : Buf (Elt F) ℓ, ℓ ↦{fullShare} f) : sProp 𝕄)
      ⊢ iprop((∃ f : Buf (Elt F) ℓ, ℓ ↦[I]{fullShare} f) ∗ (∃ f : Buf (Elt F) ℓ, ℓ ↦[J]{fullShare} f) ∗ ∃ f : Buf (Elt F) ℓ, ℓ ↦[K]{fullShare} f) := by
  rw [← hu]
  iintro ⟨%f, H⟩
  ihave H := (pointsTo_union h').1 $$ H
  icases H with ⟨H, H3⟩
  ihave H := (pointsTo_union h).1 $$ H
  icases H with ⟨H1, H2⟩
  isplitl [H1]; · iexists f; iexact H1
  isplitl [H2]; · iexists f; iexact H2
  · iexists f; iexact H3

omit [FloatOps F] in
theorem join_three (h : Disjoint I J) (h' : Disjoint (I ∪ J) K) (hu : I ∪ J ∪ K = Finset.univ) :
    (iprop((∃ f : Buf (Elt F) ℓ, ℓ ↦[I]{fullShare} f) ∗ (∃ f : Buf (Elt F) ℓ, ℓ ↦[J]{fullShare} f) ∗ ∃ f : Buf (Elt F) ℓ, ℓ ↦[K]{fullShare} f) : sProp 𝕄)
      ⊢ iprop(∃ f : Buf (Elt F) ℓ, ℓ ↦{fullShare} f) := by
  rw [← hu]
  iintro ⟨⟨%f, H1⟩, ⟨%g, H2⟩, ⟨%k, H3⟩⟩
  ihave H := (pointsTo_join h) $$ [H1 H2]
  · isplitl [H1] <;> iassumption
  ihave H := (pointsTo_join h') $$ [H H3]
  · isplitl [H] <;> iassumption
  iexists _; iexact H

omit [FloatOps F] in
theorem share_two (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)
omit [FloatOps F] in
theorem share_right (f : Buf (Elt F) ℓ) :
    (ℓ ↦{fullShare.right} f : sProp 𝕄) ⊣⊢ iprop((ℓ ↦{fullShare.right.left} f) ∗ ℓ ↦{fullShare.right.right} f) :=
  pointsTo_share (PosShare.mem_left_op_right fullShare.right)
end Sets

/-! ## The slots -/

theorem xset (b : ℕ) : (xSlot b).view.set = (Rect.unit (s := S3x1024x1024) ![b % 3, 0, 0] S1x1024x1024.size (xslot_inb b)).set :=
  (View.set_reshape _ _).trans (View.set_slice_whole cc0_scratch0 _)
theorem gset (k : ℕ) : (gSlot k).view.set = (Rect.unit (s := S2x1024x256) ![k % 2, 0, 0] S1x1024x256.size (wslot_inb k)).set :=
  (View.set_reshape _ _).trans (View.set_slice_whole cc0_scratch1 _)
theorem uset (k : ℕ) : (uSlot k).view.set = (Rect.unit (s := S2x1024x256) ![k % 2, 0, 0] S1x1024x256.size (wslot_inb k)).set :=
  (View.set_reshape _ _).trans (View.set_slice_whole cc0_scratch2 _)
theorem dset (k : ℕ) : (dSlot k).view.set = (Rect.unit (s := S2x256x1024) ![k % 2, 0, 0] S1x256x1024.size (dslot_inb k)).set :=
  (View.set_reshape _ _).trans (View.set_slice_whole cc0_scratch3 _)

/-- A slot is the elements whose first coordinate is its number. -/
theorem mem_slot {N a b : ℕ} (j : ℕ) (inb : ∀ x, (![j, 0, 0] : Fin 3 → ℕ) x + (![1, a, b] : Fin 3 → ℕ) x ≤ (![N, a, b] : Fin 3 → ℕ) x)
    (i : Shape.Idx ⟨3, ![N, a, b]⟩) : i ∈ (Rect.unit (s := ⟨3, ![N, a, b]⟩) ![j, 0, 0] ![1, a, b] inb).set ↔ (i 0).val = j := by
  rw [Rect.mem_set_unit]
  constructor
  · intro h
    have := h 0
    have h1 : j ≤ (i 0).val := this.1
    have h2 : (i 0).val < j + 1 := this.2
    omega
  · intro h x
    fin_cases x
    · exact ⟨h.ge, show (i 0).val < j + 1 by omega⟩
    · exact ⟨Nat.zero_le _, show (i 1).val < 0 + a by have h1 : (i 1).val < a := (i 1).isLt; omega⟩
    · exact ⟨Nat.zero_le _, show (i 2).val < 0 + b by have h1 : (i 2).val < b := (i 2).isLt; omega⟩

theorem mem_x (b : ℕ) (i : S3x1024x1024.Idx) : i ∈ (xSlot b).view.set ↔ (i 0).val = b % 3 := by
  rw [xset]; exact mem_slot (N := 3) (a := 1024) (b := 1024) _ (xslot_inb b) i
theorem mem_g (k : ℕ) (i : S2x1024x256.Idx) : i ∈ (gSlot k).view.set ↔ (i 0).val = k % 2 := by
  rw [gset]; exact mem_slot (N := 2) (a := 1024) (b := 256) _ (wslot_inb k) i
theorem mem_u (k : ℕ) (i : S2x1024x256.Idx) : i ∈ (uSlot k).view.set ↔ (i 0).val = k % 2 := by
  rw [uset]; exact mem_slot (N := 2) (a := 1024) (b := 256) _ (wslot_inb k) i
theorem mem_d (k : ℕ) (i : S2x256x1024.Idx) : i ∈ (dSlot k).view.set ↔ (i 0).val = k % 2 := by
  rw [dset]; exact mem_slot (N := 2) (a := 256) (b := 1024) _ (dslot_inb k) i

/-- Two sets told apart by a coordinate, and two that take both its values. -/
theorem apart {α : Type} [Fintype α] [DecidableEq α] {I J : Finset α} {f : α → ℕ} {x y : ℕ} (hI : ∀ i, i ∈ I ↔ f i = x) (hJ : ∀ i, i ∈ J ↔ f i = y) (h : x ≠ y) :
    Disjoint I J :=
  Finset.disjoint_left.mpr fun i h1 h2 => h (((hI i).mp h1).symm.trans ((hJ i).mp h2))

variable (c : Dev nD) (A : Arrs (F := F) c)

theorem x_apart {a b : ℕ} (h : a % 3 ≠ b % 3) : Disjoint (xSlot a).view.set (xSlot b).view.set := apart (mem_x a) (mem_x b) h
theorem x_apart3 {a b d : ℕ} (h : a % 3 ≠ d % 3) (h' : b % 3 ≠ d % 3) : Disjoint ((xSlot a).view.set ∪ (xSlot b).view.set) (xSlot d).view.set :=
  Finset.disjoint_union_left.mpr ⟨x_apart h, x_apart h'⟩
theorem x_all {a b d : ℕ} (h : a % 3 ≠ b % 3) (h1 : a % 3 ≠ d % 3) (h2 : b % 3 ≠ d % 3) :
    (xSlot a).view.set ∪ (xSlot b).view.set ∪ (xSlot d).view.set = Finset.univ := by
  refine Finset.eq_univ_iff_forall.mpr fun i => ?_
  have hi : (i 0).val < 3 := (i 0).isLt
  rw [Finset.mem_union, Finset.mem_union]
  have e1 := mem_x a i
  have e2 := mem_x b i
  have e3 := mem_x d i
  rcases (show (i 0).val = a % 3 ∨ (i 0).val = b % 3 ∨ (i 0).val = d % 3 by omega) with h | h | h
  · exact .inl (.inl (e1.mpr h))
  · exact .inl (.inr (e2.mpr h))
  · exact .inr (e3.mpr h)

theorem two_all {α : Type} [Fintype α] [DecidableEq α] {I J : Finset α} {f : α → ℕ} {k : ℕ} (hf : ∀ i, f i < 2)
    (hI : ∀ i, i ∈ I ↔ f i = k % 2) (hJ : ∀ i, i ∈ J ↔ f i = (k + 1) % 2) : I ∪ J = Finset.univ := by
  refine Finset.eq_univ_iff_forall.mpr fun i => Finset.mem_union.mpr ?_
  have := hf i
  rcases (show f i = k % 2 ∨ f i = (k + 1) % 2 by omega) with h | h
  · exact .inl ((hI i).mpr h)
  · exact .inr ((hJ i).mpr h)

/-- The tokens' ring. -/
theorem cut_x : (iprop(∃ f : Buf (Elt F) ((c : Thread nD τ).loc cc0_scratch0), (c : Thread nD τ).loc cc0_scratch0 ↦{fullShare} f) : sProp 𝕄)
    ⊢ iprop(Any (F := F) c (xSlot 0) ∗ Any (F := F) c (xSlot 1) ∗ Any (F := F) c (xSlot 2)) :=
  cut_three (x_apart (by decide)) (x_apart3 (by decide) (by decide)) (x_all (by decide) (by decide) (by decide))
theorem join_x (t : ℕ) : (iprop(Any (F := F) c (xSlot t) ∗ Any (F := F) c (xSlot (t + 1)) ∗ Any (F := F) c (xSlot (t + 2))) : sProp 𝕄)
    ⊢ iprop(∃ f : Buf (Elt F) ((c : Thread nD τ).loc cc0_scratch0), (c : Thread nD τ).loc cc0_scratch0 ↦{fullShare} f) :=
  join_three (x_apart (by omega)) (x_apart3 (by omega) (by omega)) (x_all (by omega) (by omega) (by omega))

theorem cut_g : (iprop(∃ f : Buf (Elt F) ((c : Thread nD τ).loc cc0_scratch1), (c : Thread nD τ).loc cc0_scratch1 ↦{fullShare} f) : sProp 𝕄)
    ⊢ iprop(Any (F := F) c (gSlot 0) ∗ Any (F := F) c (gSlot 1)) :=
  cut_two (apart (mem_g 0) (mem_g 1) (by decide)) (two_all (fun i => (i 0).isLt) (mem_g 0) (mem_g 1))
theorem join_g (k : ℕ) : (iprop(Any (F := F) c (gSlot k) ∗ Any (F := F) c (gSlot (k + 1))) : sProp 𝕄)
    ⊢ iprop(∃ f : Buf (Elt F) ((c : Thread nD τ).loc cc0_scratch1), (c : Thread nD τ).loc cc0_scratch1 ↦{fullShare} f) :=
  join_two (apart (mem_g k) (mem_g (k + 1)) (by omega)) (two_all (fun i => (i 0).isLt) (mem_g k) (mem_g (k + 1)))
theorem cut_u : (iprop(∃ f : Buf (Elt F) ((c : Thread nD τ).loc cc0_scratch2), (c : Thread nD τ).loc cc0_scratch2 ↦{fullShare} f) : sProp 𝕄)
    ⊢ iprop(Any (F := F) c (uSlot 0) ∗ Any (F := F) c (uSlot 1)) :=
  cut_two (apart (mem_u 0) (mem_u 1) (by decide)) (two_all (fun i => (i 0).isLt) (mem_u 0) (mem_u 1))
theorem join_u (k : ℕ) : (iprop(Any (F := F) c (uSlot k) ∗ Any (F := F) c (uSlot (k + 1))) : sProp 𝕄)
    ⊢ iprop(∃ f : Buf (Elt F) ((c : Thread nD τ).loc cc0_scratch2), (c : Thread nD τ).loc cc0_scratch2 ↦{fullShare} f) :=
  join_two (apart (mem_u k) (mem_u (k + 1)) (by omega)) (two_all (fun i => (i 0).isLt) (mem_u k) (mem_u (k + 1)))
theorem cut_d : (iprop(∃ f : Buf (Elt F) ((c : Thread nD τ).loc cc0_scratch3), (c : Thread nD τ).loc cc0_scratch3 ↦{fullShare} f) : sProp 𝕄)
    ⊢ iprop(Any (F := F) c (dSlot 0) ∗ Any (F := F) c (dSlot 1)) :=
  cut_two (apart (mem_d 0) (mem_d 1) (by decide)) (two_all (fun i => (i 0).isLt) (mem_d 0) (mem_d 1))
theorem join_d (k : ℕ) : (iprop(Any (F := F) c (dSlot k) ∗ Any (F := F) c (dSlot (k + 1))) : sProp 𝕄)
    ⊢ iprop(∃ f : Buf (Elt F) ((c : Thread nD τ).loc cc0_scratch3), (c : Thread nD τ).loc cc0_scratch3 ↦{fullShare} f) :=
  join_two (apart (mem_d k) (mem_d (k + 1)) (by omega)) (two_all (fun i => (i 0).isLt) (mem_d k) (mem_d (k + 1)))

/-! ## The shares of the arrays -/

theorem share_x (t : ℕ) : (iprop(((c : Thread nD τ).loc main_arg0 ↦{xq t} A.x) ∗ ((c : Thread nD τ).loc main_arg0 ↦{xq (t + 1)} A.x)
      ∗ ((c : Thread nD τ).loc main_arg0 ↦{xq (t + 2)} A.x)) : sProp 𝕄)
    ⊣⊢ ((c : Thread nD τ).loc main_arg0 ↦{fullShare} A.x) := by
  have key : (iprop(((c : Thread nD τ).loc main_arg0 ↦{fullShare.left} A.x) ∗ ((c : Thread nD τ).loc main_arg0 ↦{fullShare.right.left} A.x)
      ∗ ((c : Thread nD τ).loc main_arg0 ↦{fullShare.right.right} A.x)) : sProp 𝕄)
    ⊣⊢ ((c : Thread nD τ).loc main_arg0 ↦{fullShare} A.x) := by
    constructor
    · iintro ⟨H1, H2, H3⟩
      iapply (share_two A.x).2
      isplitl [H1]; · iexact H1
      iapply (share_right A.x).2
      isplitl [H2] <;> iassumption
    · iintro H
      ihave H := (share_two A.x).1 $$ H
      icases H with ⟨H1, H⟩
      ihave H := (share_right A.x).1 $$ H
      icases H with ⟨H2, H3⟩
      isplitl [H1]; · iexact H1
      isplitl [H2] <;> iassumption
  rcases (show t % 3 = 0 ∨ t % 3 = 1 ∨ t % 3 = 2 by omega) with h | h | h
  · have e0 : xq t = fullShare.left := by unfold xq; rw [if_pos h]
    have e1 : xq (t + 1) = fullShare.right.left := by unfold xq; rw [if_neg (by omega), if_pos (by omega)]
    have e2 : xq (t + 2) = fullShare.right.right := by unfold xq; rw [if_neg (by omega), if_neg (by omega)]
    rw [e0, e1, e2]; exact key
  · have e0 : xq t = fullShare.right.left := by unfold xq; rw [if_neg (by omega), if_pos (by omega)]
    have e1 : xq (t + 1) = fullShare.right.right := by unfold xq; rw [if_neg (by omega), if_neg (by omega)]
    have e2 : xq (t + 2) = fullShare.left := by unfold xq; rw [if_pos (by omega)]
    rw [e0, e1, e2]
    constructor
    · iintro ⟨H1, H2, H3⟩
      iapply key.1
      isplitl [H3]; · iexact H3
      isplitl [H1] <;> iassumption
    · iintro H
      ihave H := key.2 $$ H
      icases H with ⟨H1, H2, H3⟩
      isplitl [H2]; · iexact H2
      isplitl [H3] <;> iassumption
  · have e0 : xq t = fullShare.right.right := by unfold xq; rw [if_neg (by omega), if_neg (by omega)]
    have e1 : xq (t + 1) = fullShare.left := by unfold xq; rw [if_pos (by omega)]
    have e2 : xq (t + 2) = fullShare.right.left := by unfold xq; rw [if_neg (by omega), if_pos (by omega)]
    rw [e0, e1, e2]
    constructor
    · iintro ⟨H1, H2, H3⟩
      iapply key.1
      isplitl [H2]; · iexact H2
      isplitl [H3] <;> iassumption
    · iintro H
      ihave H := key.2 $$ H
      icases H with ⟨H1, H2, H3⟩
      isplitl [H3]; · iexact H3
      isplitl [H1] <;> iassumption

omit [FloatOps F] in
theorem share_w {ℓ : Loc nD τ sig} (f : Buf (Elt F) ℓ) (k : ℕ) :
    (iprop((ℓ ↦{wq k} f) ∗ ℓ ↦{wq (k + 1)} f) : sProp 𝕄) ⊣⊢ (ℓ ↦{fullShare} f) := by
  rcases (show k % 2 = 0 ∨ k % 2 = 1 by omega) with h | h
  · have e0 : wq k = fullShare.left := by unfold wq; rw [if_pos h]
    have e1 : wq (k + 1) = fullShare.right := by unfold wq; rw [if_neg (by omega)]
    rw [e0, e1]; exact ⟨(share_two f).2, (share_two f).1⟩
  · have e0 : wq k = fullShare.right := by unfold wq; rw [if_neg (by omega)]
    have e1 : wq (k + 1) = fullShare.left := by unfold wq; rw [if_pos (by omega)]
    rw [e0, e1]; exact ⟨sep_comm.1.trans (share_two f).2, (share_two f).1.trans sep_comm.1⟩

/-! ## The rings -/

/-- The four arrays. -/
def Four : sProp 𝕄 :=
  iprop(((c : Thread nD τ).loc main_arg0 ↦{fullShare} A.x) ∗ ((c : Thread nD τ).loc main_arg1 ↦{fullShare} A.g)
    ∗ ((c : Thread nD τ).loc main_arg2 ↦{fullShare} A.u) ∗ ((c : Thread nD τ).loc main_arg3 ↦{fullShare} A.d))

/-- The kernel's own semaphores at zero. -/
def Sems : sProp 𝕄 :=
  iprop(semVal ((c : Thread nD τ), .dma (xSem 0)) 0 ∗ semVal ((c : Thread nD τ), .dma (xSem 1)) 0 ∗ semVal ((c : Thread nD τ), .dma (xSem 2)) 0
    ∗ semVal ((c : Thread nD τ), .dma (wSem 0)) 0 ∗ semVal ((c : Thread nD τ), .dma (wSem 1)) 0)

abbrev Scr (b : Ref sig .tc) : sProp 𝕄 :=
  iprop(∃ f : Buf (Elt F) ((c : Thread nD τ).loc b), (c : Thread nD τ).loc b ↦{fullShare} f)

/-- The scratch buffers at anything. -/
def Scratch : sProp 𝕄 :=
  iprop(Scr (F := F) c cc0_scratch0 ∗ Scr (F := F) c cc0_scratch1 ∗ Scr (F := F) c cc0_scratch2 ∗ Scr (F := F) c cc0_scratch3
    ∗ Scr (F := F) c cc0_scratch4 ∗ Scr (F := F) c cc0_scratch5 ∗ Scr (F := F) c cc0_scratch6 ∗ Scr (F := F) c cc0_scratch7)

variable (B : Tab) (n : ℕ)

theorem hold_start (q : PosShare TreeShare) :
    iprop(Tabs (F := F) c B q ∗ Four c A ∗ Sems (F := F) c ∗ Scratch (F := F) c) ⊢ Hold c A B n 0 q := by
  have ex : XPre c A n 0 0 = XFree c A 0 := if_pos rfl
  have ex1 : XPre c A n 0 (0 + 1) = XFree c A 1 := if_pos rfl
  have ew : WInv c A B n 0 = WStart c A := rfl
  unfold Hold
  rw [ex, ex1, ew]
  unfold XFree WStart WFree WArr BufsAny Four Sems Scratch Scr
  iintro ⟨HT, ⟨Hx, Hg, Hu, Hd⟩, ⟨S0, S1, S2, S3, S4⟩, B0, B1, B2, B3, B4, B5, B6, B7⟩
  ihave B0 := (cut_x c) $$ B0
  icases B0 with ⟨X0, X1, X2⟩
  ihave B1 := (cut_g c) $$ B1
  icases B1 with ⟨G0, G1⟩
  ihave B2 := (cut_u c) $$ B2
  icases B2 with ⟨U0, U1⟩
  ihave B3 := (cut_d c) $$ B3
  icases B3 with ⟨D0, D1⟩
  ihave Hx := (share_x c A 0).2 $$ Hx
  icases Hx with ⟨Hx0, Hx1, Hx2⟩
  ihave Hg := (share_w A.g 0).2 $$ Hg
  icases Hg with ⟨Hg0, Hg1⟩
  ihave Hu := (share_w A.u 0).2 $$ Hu
  icases Hu with ⟨Hu0, Hu1⟩
  ihave Hd := (share_w A.d 0).2 $$ Hd
  icases Hd with ⟨Hd0, Hd1⟩
  isplitl [HT]; · iexact HT
  isplitl [X0 Hx0 S0]
  · isplitl [X0]; · iexact X0
    isplitl [Hx0] <;> iassumption
  isplitl [X1 Hx1 S1]
  · isplitl [X1]; · iexact X1
    isplitl [Hx1] <;> iassumption
  isplitl [X2 Hx2 S2]
  · isplitl [X2]; · iexact X2
    isplitl [Hx2] <;> iassumption
  isplitl [B7]; · iexact B7
  isplitl [G0 U0 D0 Hg0 Hu0 Hd0 S3]
  · isplitl [G0 U0 D0]
    · isplitl [G0]; · iexact G0
      isplitl [U0] <;> iassumption
    isplitl [Hg0 Hu0 Hd0]
    · isplitl [Hg0]; · iexact Hg0
      isplitl [Hu0] <;> iassumption
    iexact S3
  isplitl [G1 U1 D1 Hg1 Hu1 Hd1 S4]
  · isplitl [G1 U1 D1]
    · isplitl [G1]; · iexact G1
      isplitl [U1] <;> iassumption
    isplitl [Hg1 Hu1 Hd1]
    · isplitl [Hg1]; · iexact Hg1
      isplitl [Hu1] <;> iassumption
    iexact S4
  isplitl [B4]; · iexact B4
  isplitl [B5] <;> iassumption

/-- The semaphores of three slots in a row are the three; of two turns in a row, the two. -/
theorem sems_x (t : ℕ) : (iprop(semVal ((c : Thread nD τ), .dma (xSem t)) 0 ∗ semVal ((c : Thread nD τ), .dma (xSem (t + 1))) 0 ∗ semVal ((c : Thread nD τ), .dma (xSem (t + 2))) 0) : sProp 𝕄)
    ⊢ iprop(semVal ((c : Thread nD τ), .dma (xSem 0)) 0 ∗ semVal ((c : Thread nD τ), .dma (xSem 1)) 0 ∗ semVal ((c : Thread nD τ), .dma (xSem 2)) 0) := by
  have e : ∀ a b : ℕ, a % 3 = b % 3 → xSem a = xSem b := fun a b h => sem_eq _ (by rw [h]) _ _ _
  rcases (show t % 3 = 0 ∨ t % 3 = 1 ∨ t % 3 = 2 by omega) with h | h | h
  · rw [e t 0 (by omega), e (t + 1) 1 (by omega), e (t + 2) 2 (by omega)]
  · rw [e t 1 (by omega), e (t + 1) 2 (by omega), e (t + 2) 0 (by omega)]
    iintro ⟨H1, H2, H3⟩
    isplitl [H3]; · iexact H3
    isplitl [H1] <;> iassumption
  · rw [e t 2 (by omega), e (t + 1) 0 (by omega), e (t + 2) 1 (by omega)]
    iintro ⟨H1, H2, H3⟩
    isplitl [H2]; · iexact H2
    isplitl [H3] <;> iassumption
theorem sems_w (k : ℕ) : (iprop(semVal ((c : Thread nD τ), .dma (wSem k)) 0 ∗ semVal ((c : Thread nD τ), .dma (wSem (k + 1))) 0) : sProp 𝕄)
    ⊢ iprop(semVal ((c : Thread nD τ), .dma (wSem 0)) 0 ∗ semVal ((c : Thread nD τ), .dma (wSem 1)) 0) := by
  have e : ∀ a b : ℕ, a % 2 = b % 2 → wSem a = wSem b := fun a b h => sem_eq _ (by rw [h]) _ _ _
  rcases (show k % 2 = 0 ∨ k % 2 = 1 by omega) with h | h
  · rw [e k 0 (by omega), e (k + 1) 1 (by omega)]
  · rw [e k 1 (by omega), e (k + 1) 0 (by omega)]
    exact sep_comm.1

/-- After the last live tile every slot is idle. -/
theorem hold_end (hn : B.Ok n) (q : PosShare TreeShare) :
    Hold c A B n n q ⊢ iprop(Tabs (F := F) c B q ∗ Four c A ∗ Sems (F := F) c ∗ Scratch (F := F) c) := by
  obtain ⟨t, rfl⟩ : ∃ t, n = t + 1 := ⟨n - 1, by have := hn.pos; omega⟩
  have ex : XPre c A (t + 1) (t + 1) (t + 1) = XFree c A (t + 1) := (if_neg (by omega)).trans (if_neg (by omega))
  have ex1 : XPre c A (t + 1) (t + 1) (t + 1 + 1) = XFree c A (t + 1 + 1) := (if_neg (by omega)).trans (if_neg (by omega))
  have ew : ∀ k, Wnext c A B (t + 1) k (B.E (B.ex t)) = WFree c A k := fun k => if_neg (by
    have := hn.past t (by omega)
    push_cast
    omega)
  have ewi : WInv c A B (t + 1) (t + 1) = WDone c A B (t + 1) t := rfl
  unfold Hold
  rw [ex, ex1, ewi]
  unfold WDone
  simp only [ew]
  unfold XFree WFree WArr Bufs Turn Four Sems Scratch Scr
  iintro ⟨HT, ⟨X0, Hx0, S0⟩, ⟨X1, Hx1, S1⟩, ⟨X2, Hx2, S2⟩, ⟨%k, -, B7, ⟨⟨G0, U0, D0⟩, ⟨Hg0, Hu0, Hd0⟩, S3⟩, ⟨⟨G1, U1, D1⟩, ⟨Hg1, Hu1, Hd1⟩, S4⟩, B4, B5, B6⟩⟩
  ihave HS := (sems_x c (t + 1)) $$ [S0 S1 S2]
  · isplitl [S0]; · iexact S0
    isplitl [S1] <;> iassumption
  icases HS with ⟨S0, S1, S2⟩
  ihave HS := (sems_w c k) $$ [S3 S4]
  · isplitl [S3] <;> iassumption
  icases HS with ⟨S3, S4⟩
  isplitl [HT]; · iexact HT
  isplitl [Hx0 Hx1 Hx2 Hg0 Hg1 Hu0 Hu1 Hd0 Hd1]
  · isplitl [Hx0 Hx1 Hx2]
    · iapply (share_x c A (t + 1)).1
      isplitl [Hx0]; · iexact Hx0
      isplitl [Hx1] <;> iassumption
    isplitl [Hg0 Hg1]
    · iapply (share_w A.g k).1
      isplitl [Hg0] <;> iassumption
    isplitl [Hu0 Hu1]
    · iapply (share_w A.u k).1
      isplitl [Hu0] <;> iassumption
    · iapply (share_w A.d k).1
      isplitl [Hd0] <;> iassumption
  isplitl [S0 S1 S2 S3 S4]
  · isplitl [S0]; · iexact S0
    isplitl [S1]; · iexact S1
    isplitl [S2]; · iexact S2
    isplitl [S3] <;> iassumption
  isplitl [X0 X1 X2]
  · iapply (join_x c (t + 1))
    isplitl [X0]; · iexact X0
    isplitl [X1] <;> iassumption
  isplitl [G0 G1]
  · iapply (join_g c k)
    isplitl [G0] <;> iassumption
  isplitl [U0 U1]
  · iapply (join_u c k)
    isplitl [U0] <;> iassumption
  isplitl [D0 D1]
  · iapply (join_d c k)
    isplitl [D0] <;> iassumption
  isplitl [B4]; · iexists _; iexact B4
  isplitl [B5]; · iexists _; iexact B5
  isplitl [B6]; · iexists _; iexact B6
  iexists _; iexact B7

end Cert.Proof.KernI

end
-- ==== Proof.ExpertsIdeal.Data.lean ====
/-
  The proof data of the expert kernel's pipeline, and one grid point against it.
-/
module

public import proofs.«01_k».proof.Proof.ExpertsIdeal.Split

@[expose] public section

noncomputable section

namespace Cert.Proof.KernI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## @main before the region: one reshape -/

/-- Core `c`'s buffers at launch, and when the region is entered. -/
abbrev V₀ (c : Dev nD) : Valuation τ sig (Elt F) := fun b => (s₀ m ρ).mem ((c : Dev nD), b)
abbrev V (c : Dev nD) (b : Ref sig .tc) : Buf (Elt F) ((c : Thread nD τ).loc b) := StableHlo.after hostOps0 (V₀ m ρ c) b

theorem V_of_ne (c : Dev nD) {b : Ref sig .tc} (h : b ≠ main_v0) : V m ρ c b = m ((c : Thread nD τ).loc b) :=
  StableHlo.reshape_result_ne (τ := τ) (Val := Elt F) main_arg5 main_v0 rfl shapeCasts_S1_S_ _ _ (V₀ m ρ c) h

/-- The tables as launched, and the arrays the copies read. -/
def tab : Tab :=
  ⟨m (((0 : Dev nD) : Thread nD τ).loc main_arg4), m (((0 : Dev nD) : Thread nD τ).loc main_arg5), m (((0 : Dev nD) : Thread nD τ).loc main_arg6)⟩
def arrs (c : Dev nD) : Arrs (F := F) c :=
  ⟨m ((c : Thread nD τ).loc main_arg0), m ((c : Thread nD τ).loc main_arg1), m ((c : Thread nD τ).loc main_arg2), m ((c : Thread nD τ).loc main_arg3)⟩

theorem V_v0 : V m ρ 0 main_v0 = (fun _ => (tab m).nt ix1 : Buf (Elt F) (((0 : Dev nD) : Thread nD τ).loc main_v0)) := by
  show StableHlo.after hostOps0 (V₀ m ρ 0) (Proc.devRef .tc main_v0) = _
  rw [StableHlo.after_cons, StableHlo.after_nil, StableHlo.reshape_result]
  funext i
  refine congrArg (m (((0 : Dev nD) : Thread nD τ).loc main_arg5)) (funext fun a => ?_)
  fin_cases a
  exact Subsingleton.elim (α := Fin 1) _ _

variable {n : ℕ} (hn : (tab m).Ok n)

/-- The tables' contents pass the pipeline's side condition. -/
abbrev adm0 : (pcfg0 (F := F)).Adm := ⟨pfN (tab m), ok_pfN (tab m) hn⟩
abbrev adm : (p : Fin 1) → (pcfgs (F := F) p).Adm := fun _ => adm0 m hn
abbrev cfgA : Pipeline.Cfg sig Λ₀ := cfg0 (adm0 m hn)

theorem cfgA_N : (cfgA m hn).N = n := (grid_N (dynb0 (F := F) (pfN (tab m)))).trans hn.count

/-- Before point `t`: what the points hand on, and the scalar copy of the number of live tiles. -/
def Phi (c : Dev nD) (t : ℕ) : sProp 𝕄 :=
  iprop(Hold c (arrs m c) (tab m) n t fullShare
    ∗ ((c : Thread nD τ).loc main_v0 ↦{fullShare} (fun _ => (tab m).nt ix1 : Buf (Elt F) ((c : Thread nD τ).loc main_v0))))

/-- The proof data: the output's array at its entry contents; after point `t` its buffer holds tile `t`'s rows through
    their expert. -/
def dats (_ : Fin 1) (c : Dev nD) : Dat τ (Elt F) Unit ℕ UU ℕ (cfgA m hn) c where
  A w := V m ρ c (Pipeline.arrRef spec0 w)
  after w t := match w with | ⟨0, _⟩ => outE c (arrs m c) t.val ((tab m).ex t.val)
  Φ t := Phi m (n := n) c t.val
  q _ := fullShare
  owed _ := 0

theorem A_eq (c : Dev nD) (w : Fin (cfgA m hn).W) : (dats m ρ hn 0 c).A w = V m ρ c (Pipeline.arrRef spec0 w) := by
  dsimp only [dats]

abbrev 𝒱₀ : Variants := Variants.none

/-- Every point of the grid computes. -/
theorem not_idle (t : Fin (cfgA m hn).N) : (cfgA m hn).idle 0 ((cfgA m hn).grid.coords t) = false := by
  have ht : t.val < n := lt_of_lt_of_eq t.isLt (cfgA_N m hn)
  show (!(k0_cond7 (BitVec.ofNat 32 ((grid0.at (dynb0 (F := F) (pfN (tab m)))).coords t 0).val) ((pfN (F := F) (tab m)).atD 2 ![0]) == 1#1)) = false
  have h2 : (pfN (F := F) (tab m)).atD 2 ![0] = wd n := by
    rw [← hn.nt]
    unfold Pipeline.Prefetch.Contents.atD
    rw [dif_pos (by decide)]
    refine congrArg (tab m).nt (funext fun a => ?_)
    fin_cases a
    exact Fin.ext rfl
  rw [grid_coord, h2]
  have := cond7_eq hn.le ht
  rw [show BitVec.ofNat 32 t.val = wd t.val from rfl, this]
  rfl

theorem owns_start (c : Dev nD) (s : Fin (spec0 0).nbuf) (X : S1024x1024.Idx → Elt F .bf16) :
    (owns (c : Thread nD τ) (spec0_0.stage s) fullShare X : sProp 𝕄)
      ⊢ iprop(∃ f : Bf (F := F) c (spec0_0.stage s), pt c (spec0_0.stage s) f) := by
  unfold owns pt
  rw [(stage_whole0 0 s).set_eq_univ]
  iintro ⟨%f, -, H⟩
  iexists f
  iexact H

theorem wp_keep {α : Type} (c : Dev nD) {p : Prog (TpuEff nD τ sig (Elt F) Λ₀ .tc) α} {P R : sProp (MT nD τ sig Unit (Elt F) ℕ UU ℕ)}
    {M Q : α → sProp (MT nD τ sig Unit (Elt F) ℕ UU ℕ)} (h : P ⊢ WP c p M) (hk : ∀ a, iprop(R ∗ M a) ⊢ Q a) : iprop(R ∗ P) ⊢ WP c p Q :=
  ((sep_mono_right h).trans (wp_frame_l _ _ _)).trans (wp_mono _ _ _ hk)

theorem body_obligation (c : Dev nD) : BodyObligation (dats m ρ hn 0 c) (defs₀ (F := F)) 𝒱₀ () Set.univ := fun t => by
  have ht : t.val < n := lt_of_lt_of_eq t.isLt (cfgA_N m hn)
  rw [bigSep_W0, bigSep_W0]
  have live : idle0 (F := F) (pfN (tab m)) (dynb0 (pfN (tab m))) 0 ((pcfg0.gridAt (pfN (tab m))).coords t) = false := not_idle m hn t
  simp only [live]
  rw [show (dats m ρ hn 0 c).Φ t.castSucc = Phi m (n := n) c t.val from rfl, show (dats m ρ hn 0 c).Φ t.succ = Phi m (n := n) c (t.val + 1) from rfl]
  unfold Phi Dat.owesAt Pipeline.owesWithin
  rw [show (dats m ρ hn 0 c).owed t.castSucc = 0 from rfl, show (dats m ρ hn 0 c).owed t.succ = 0 from rfl]
  have key := fun f => body_run c (arrs m c) (tab m) n hn ht fullShare (dynb0 (F := F) (pfN (tab m)))
    (Pipeline.Grid.Coords.static grid0 ((grid0.at (dynb0 (F := F) (pfN (tab m)))).coords t)) (spec0_0.stage ((cfgA m hn).slots t 0))
    (hstage0_0 (((cfgA m hn).slots t 0).cast nbuf0_0)) f
  rw [show wd t.val = BitVec.ofNat 32 ((grid0.at (dynb0 (F := F) (pfN (tab m)))).coords t 0).val by rw [grid_coord]] at key
  iintro ⟨⟨HH, Hv⟩, ⟨%W, %hW, HO⟩, ⟨%d0, Hs⟩⟩
  ihave Hs := (owns_start c _ _) $$ Hs
  icases Hs with ⟨%f, Hs⟩
  iapply (wp_keep c (R := ((c : Thread nD τ).loc main_v0 ↦{fullShare} (fun _ => (tab m).nt ix1 : Buf (Elt F) ((c : Thread nD τ).loc main_v0)))) (key f) ?_) $$ [HH Hv HO Hs]
  rotate_left
  · isplitl [Hv]; · iexact Hv
    isplitl [HH]; · iexact HH
    isplitl [HO]; · iexists W; iexact HO
    iexact Hs
  intro _
  iintro ⟨Hv, HH, ⟨%W', HO⟩, Hs⟩
  isplitl [HH Hv]
  · isplitl [HH] <;> iassumption
  isplitl [HO]
  · iexists W'; isplitr; · ipureintro; exact fun _ _ => Or.inl trivial
    iexact HO
  iexact Hs

end Cert.Proof.KernI

end
-- ==== Proof.ExpertsIdeal.Run.lean ====
/-
  The launch of the expert kernel: one reshape, then the region.
-/
module

public import proofs.«01_k».proof.Proof.ExpertsIdeal.Data

@[expose] public section

noncomputable section

namespace Cert.Proof.KernI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

/-- The pipeline library's algebra is the left component. -/
abbrev EP : Emb (UR sig nD τ) (MT nD τ sig Unit (Elt F) ℕ UU ℕ) := embL

/-! ## Held buffers -/

/-- The references the one host operation runs within. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

omit [FloatOps F] in
/-- The prefetched tables one by one. -/
theorem prefHeld_eq (c : Dev nD) (f : pre0.Contents (Elt F)) :
    (Pipeline.prefHeld (Ix := Unit) (Name := ℕ) (U := UU) (Lvl := ℕ) (τ := τ) pre0 c (fun _ => fullShare) f : sProp 𝕄)
      = iprop(((c : Thread nD τ).loc main_v0 ↦{fullShare} f 0) ∗ ((c : Thread nD τ).loc main_arg4 ↦{fullShare} f 1)
        ∗ ((c : Thread nD τ).loc main_arg5 ↦{fullShare} f 2) ∗ ((c : Thread nD τ).loc main_arg6 ↦{fullShare} f 3)) :=
  bigSep_univ_eq_bigSepL [(0 : Fin 4), 1, 2, 3] (by decide) (by decide) _

/-- The kernel's own semaphores. -/
def osem : Fin 5 → SemLoc sig
  | ⟨0, _⟩ => .dma (xSem 0)
  | ⟨1, _⟩ => .dma (xSem 1)
  | ⟨2, _⟩ => .dma (xSem 2)
  | ⟨3, _⟩ => .dma (wSem 0)
  | ⟨_ + 4, _⟩ => .dma (wSem 1)

theorem ownSemFacts : Pipeline.OwnSemFacts spec0 osem := by decide

omit [FloatOps F] in
theorem ownSems0_eq (c : Dev nD) :
    (Pipeline.ownSems0 (Ix := Unit) (Name := ℕ) (U := UU) (Lvl := ℕ) (Val := Elt F) (τ := τ) osem c : sProp 𝕄) = Sems (F := F) c :=
  Pipeline.ownSems0_eq_of_list c osem [0, 1, 2, 3, 4] (by decide) (by decide)

theorem scratch_eq (c : Dev nD) :
    (Pipeline.scopedRest (Ix := Unit) (Name := ℕ) (U := UU) (Lvl := ℕ) (Val := Elt F) spec0 c : sProp 𝕄) = Scratch (F := F) c :=
  scopedRest0_eq c

variable (m : (ℓ : Loc nD τ sig) → Buf (Elt F) ℓ) (ρ : Dev nD → PrngReg) {n : ℕ} (hn : (tab m).Ok n)

/-- The tables as the region reads them. -/
theorem tables_eq (c : Dev nD) : (fun k => V m ρ c (pre0.ref k) : pre0.Contents (Elt F)) = pfN (tab m) := by
  obtain rfl : c = 0 := Subsingleton.elim _ _
  funext k
  match k with
  | ⟨0, _⟩ => exact V_v0 m ρ
  | ⟨1, _⟩ => exact V_of_ne m ρ 0 (b := main_arg4) (by decide)
  | ⟨2, _⟩ => exact V_of_ne m ρ 0 (b := main_arg5) (by decide)
  | ⟨3, _⟩ => exact V_of_ne m ρ 0 (b := main_arg6) (by decide)

/-! ## The launch -/

/-- The launch element: the pipeline library's at the staging cells; the counters' unit. -/
def u₀ : UU := (initOf (Pipeline.cells (Pipeline.pin (pcfgs (F := F)) (adm m hn)) (Gen.cellOf_inj (adm m hn)))
  (Pipeline.launchToks (Pipeline.pin (pcfgs (F := F)) (adm m hn)) (Gen.cellOf_inj (adm m hn))), 1)

/-- The output's contents after the run. -/
def finalA (c : Dev nD) (w : Fin (cfgA m hn).W) : Buf (Elt F) (((cfgA m hn).win w).arr.view.loc (c : Thread nD τ)) :=
  (dats m ρ hn 0 c).arrAt w (cfgA m hn).N

/-- What the run leaves: the output's array, and every argument as it was. -/
def QD (c : Dev nD) (s : MemSt nD τ sig (Elt F)) : Prop :=
  (∀ w : Fin (cfgA m hn).W, s.mem (((cfgA m hn).win w).arr.view.loc (c : Thread nD τ)) = finalA m ρ hn c w)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)

def QC : PUnit × MemSt nD τ sig (Elt F) → Prop := fun r => ∀ c : Dev nD, QD m ρ hn c r.2

abbrev L : GSem nD τ sig → Finset Unit := fun _ => ∅
abbrev lv : GSem nD τ sig → Unit → ℕ := fun _ _ => 0

/-- What rides beside the buffers. -/
abbrev R (c : Dev nD) : sProp 𝕄 := iprop(∃ W, owes (c : Thread nD τ) (0 : CellTallies nD τ sig Unit) W)

/-- The host operation. -/
def seg0 : Pipeline.HostSeg (Name := ℕ) (U := UU) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m ρ) R

/-- What the region leaves beside the output's array: the tables and the arrays as launched. -/
def Kept (c : Dev nD) : sProp 𝕄 := iprop(Tabs (F := F) c (tab m) fullShare ∗ Four c (arrs m c))

abbrev Tₙ (c : Dev nD) : sProp 𝕄 :=
  iprop((dats m ρ hn 0 c).arrays ((dats m ρ hn 0 c).arrAt · (cfgA m hn).N) ∗ Kept m c)

theorem phi_first (c : Dev nD) : (dats m ρ hn 0 c).Φ 0 = Phi m (n := n) c 0 := rfl
theorem phi_last (c : Dev nD) : (dats m ρ hn 0 c).Φ (Fin.last (cfgA m hn).N) = Phi m (n := n) c n := by
  show Phi m (n := n) c (cfgA m hn).N = Phi m (n := n) c n
  rw [cfgA_N]

/-- The arrays no window stages. -/
theorem four_eq (c : Dev nD) :
    (Pipeline.unscopedRestP (Ix := Unit) (Name := ℕ) (U := UU) (Lvl := ℕ) pre0 spec0 c (V m ρ c) : sProp 𝕄) = Four c (arrs m c) := by
  rw [unscopedRestP0_eq, V_of_ne m ρ c (b := main_arg0) (by decide), V_of_ne m ρ c (b := main_arg1) (by decide),
    V_of_ne m ρ c (b := main_arg2) (by decide), V_of_ne m ρ c (b := main_arg3) (by decide)]
  rfl

set_option backward.isDefEq.respectTransparency.types false in
/-- The region. -/
def reg0 : Pipeline.RegionSeg (pcfgs (F := F)) (adm m hn) (dats m ρ hn) () defs₀ 𝒱₀ L lv 0 where
  win := (launch0 (F := F)).win.to₀
  block_pos := (launch0 (F := F)).block_pos
  stage_whole := (launch0 (F := F)).stage_whole
  K := Fin 5
  osem := osem
  ho := ownSemFacts
  hbody c := (body_obligation m ρ hn c).loose
  hwaits := Pipeline.hwaits_of_owed_zero _ _ _ _ L lv 0 fun _ _ => rfl
  pre c := iprop(StableHlo.held (c : Thread nD τ) ucRefs (StableHlo.after hostOps0 (V₀ m ρ c)) ∗ R c)
  post c := iprop(Tₙ m ρ hn c ∗ R c)
  X c := iprop(Four c (arrs m c) ∗ Sems (F := F) c)
  Y c := Kept m c
  Z _ := iprop(emp)
  hentry c := by
    rw [show StableHlo.held (c : Thread nD τ) ucRefs (StableHlo.after hostOps0 (V₀ m ρ c)) = unscopedBufs c (V m ρ c) from (unscopedBufs_held c _).symm,
      ownSems0_eq]
    have hsplit := (Pipeline.arrays_of_unscopedBufs (pcfgs (F := F)) (adm m hn) (dats m ρ hn) (launch0 (F := F)).win (launch0 (F := F)).arr_whole c
      ((dats m ρ hn 0 c).share_full fun _ => rfl) (V m ρ c) (A_eq m ρ hn c)).trans
        (sep_mono .rfl (Entails.of_eq ((Pipeline.unscopedRest_split preFacts0 c (V m ρ c)).trans (by rw [tables_eq m ρ c, four_eq m ρ c]))))
    iintro ⟨⟨Hub, HO⟩, Hos, -⟩
    ihave H := hsplit $$ Hub
    icases H with ⟨Ha, Hp, H4⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitl [H4 Hos]
    · isplitl [H4] <;> iassumption
    iempintro
  hin c := by
    rw [phi_first, show (Pipeline.scopedRest (Pipeline.pin (pcfgs (F := F)) (adm m hn) 0).spec c : sProp 𝕄) = Scratch (F := F) c from scratch_eq c]
    refine (sep_mono_right (sep_mono_left (Entails.of_eq (prefHeld_eq c (pfN (tab m)))))).trans ?_
    unfold Phi
    iintro ⟨⟨H4, Hos⟩, ⟨Hv, T1, T2, T3⟩, Hr⟩
    isplitr [Hv]
    · iapply (hold_start c (arrs m c) (tab m) n fullShare)
      isplitl [T1 T2 T3]
      · unfold Tabs
        isplitl [T1]; · iexact T1
        isplitl [T2]; · iexact T2
        iexact T3
      isplitl [H4]; · iexact H4
      isplitl [Hos] <;> iassumption
    iexact Hv
  hout c := by
    rw [ownSems0_eq, phi_last, show (Pipeline.scopedRest (Pipeline.pin (pcfgs (F := F)) (adm m hn) 0).spec c : sProp 𝕄) = Scratch (F := F) c from scratch_eq c]
    unfold Phi Kept
    iintro ⟨HH, -⟩
    ihave H := (hold_end c (arrs m c) (tab m) n hn fullShare) $$ HH
    icases H with ⟨HT, H4, HS, HB⟩
    isplitl [HT H4]
    · isplitl [HT] <;> iassumption
    isplitl [HS]; · iexact HS
    iexact HB
  hexit c := by
    iintro ⟨Ha, HO, HY, -⟩
    imodintro
    isplitr [HO]
    · isplitl [Ha] <;> iassumption
    · unfold Pipeline.Dat.owesAt Pipeline.owesWithin
      icases HO with ⟨%W, -, HO⟩; iexists W; iexact HO

abbrev segs : List (Pipeline.Seg (pcfgs (F := F)) (adm m hn) (dats m ρ hn) () defs₀ 𝒱₀ L lv) := [.host (seg0 m ρ), .region (reg0 m ρ hn)]

set_option backward.isDefEq.respectTransparency.types false in
/-- From any memory whose tables describe `n` live tiles, every fair run ends with the output's array at what the points
    wrote back, the arguments as they were and every counter at zero. -/
theorem run_main : θ_run defs (onTc (τ := τ) (main (F := F))) (s₀ m ρ) (fun r => QC m ρ hn r ∧ r.2.sem = fun _ => 0) :=
  Pipeline.θ_run_regions_kit_sems (pcfgs (F := F)) (adm m hn) (dats m ρ hn) () (Gen.cellOf_inj (adm m hn)) EP defs₀ 𝒱₀ L lv m ρ main (segs m ρ hn)
    (fun c Q => by rw [main_segs (adm m hn) (dats m ρ hn) () 𝒱₀ L lv (seg0 m ρ) (reg0 m ρ hn) rfl c])
    (by simp only [Pipeline.Seg.pipes_host, Pipeline.Seg.pipes_region, Pipeline.Seg.pipes_nil]; decide) (O₀ := 0) (hL := fun _ _ => rfl) (G := fun _ => iprop(emp)) (u₀ := u₀ m hn)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m ρ c) ∗ R c)) (Tₙ := Tₙ m ρ hn)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m ρ c) from unscopedBufs_held c (V₀ m ρ c)]
      iintro ⟨⟨Hh, -, HO, -, -, -⟩, -⟩
      imodintro
      isplitl [Hh]; · iexact Hh
      iexists ∅; iexact HO)
    (QY := fun c s => QD m ρ hn c s)
    (hfin := fun c s' => by
      obtain rfl : c = 0 := Subsingleton.elim _ _
      dsimp only [Tₙ, Kept, Tabs, Four]
      iintro ⟨⟨Ha, ⟨H4, H5, H6⟩, H0, H1, H2, H3⟩, HSI⟩
      icombine HSI H0 gives %h0
      icombine HSI H1 gives %h1
      icombine HSI H2 gives %h2
      icombine HSI H3 gives %h3
      icombine HSI H4 gives %h4
      icombine HSI H5 gives %h5
      icombine HSI H6 gives %h6
      ihave Hr := (Pipeline.arrays_read (pcfgs (F := F)) (adm m hn) (dats m ρ hn) (launch0 (F := F)).arr_whole (0 : Dev nD) ((dats m ρ hn 0 0).share_full fun _ => rfl) ((dats m ρ hn 0 0).arrAt · (cfgA m hn).N) s') $$ [Ha HSI]
      · isplitl [Ha] <;> iassumption
      icases Hr with ⟨%ha, HSI⟩
      imodintro
      isplitr
      · ipureintro
        exact ⟨ha, Buf.eq_of_forall_mem_univ h0, Buf.eq_of_forall_mem_univ h1, Buf.eq_of_forall_mem_univ h2, Buf.eq_of_forall_mem_univ h3,
          Buf.eq_of_forall_mem_univ h4, Buf.eq_of_forall_mem_univ h5, Buf.eq_of_forall_mem_univ h6⟩
      iexact HSI)
    (hQ := fun _ h hz => ⟨h, funext fun g => hz g (.inr (by revert g; decide))⟩)

end Cert.Proof.KernI

end
-- ==== Proof.ExpertsIdeal.Pre.lean ====
/-
  What the precondition `expert_tables` says of the tables: read at a tile and at that tile's own expert, its one word is
  the conditions under which the tables describe tiles grouped by expert.
-/
module

public import proofs.«01_k».proof.Pre_expert_tables
public import proofs.«01_k».proof.Proof.Gen.Pre_expert_tables
public import proofs.«01_k».proof.Proof.ExpertsIdeal.State
public import Idealize.ShloMosaic.Lib.Pipeline.Value

@[expose] public section

noncomputable section

namespace Cert.Proof.KernI.Pre

open Idealize.ShloMosaic
open Cert.Pre_expert_tables

variable {F : FTy → Type} [FloatOps F]

/-- Tile `t` and expert `e` as an index of the precondition's array. -/
def ix2 (t : Fin 264) (e : Fin 64) : S264x64.Idx := Fin.cons t (Fin.cons e fun a => a.elim0)

variable {α : Type}

theorem column (h1 : S264.BroadcastsInDim S264x1 ![0]) (h2 : S264x1.BroadcastsInDim S264x64 ![0, 1]) (x : S264.Idx → α) (t : Fin 264) (e : Fin 64) :
    broadcastInDim S264x64 ![0, 1] h2 (broadcastInDim S264x1 ![0] h1 x) (ix2 t e) = x (ixT t) := by
  refine congrArg x (funext fun a => ?_)
  fin_cases a
  exact Fin.ext (Nat.mod_eq_of_lt t.isLt).symm

theorem row (h1 : S64.BroadcastsInDim S1x64 ![1]) (h2 : S1x64.BroadcastsInDim S264x64 ![0, 1]) (x : S64.Idx → α) (t : Fin 264) (e : Fin 64) :
    broadcastInDim S264x64 ![0, 1] h2 (broadcastInDim S1x64 ![1] h1 x) (ix2 t e) = x (ixE e) := by
  refine congrArg x (funext fun a => ?_)
  fin_cases a
  exact Fin.ext (Nat.mod_eq_of_lt e.isLt).symm

theorem scalar (h1 : S1.ShapeCasts S_) (x : S1.Idx → α) (i : S_.Idx) : shapeCast S_ x h1 i = x ix1 := by
  refine congrArg x (funext fun a => ?_)
  fin_cases a
  exact Subsingleton.elim (α := Fin 1) _ _

/-- The table of the tiles that follow: entry `t` is the next tile's, for every tile but the last. -/
theorem shifted (h1 : S264.Slices ![1] S263) (h2 : Shape.Concatenates [S263, S1] S264 0) (x : S264.Idx → α) (z : S1.Idx → α) (t : ℕ) (ht : t + 1 < 264) :
    concatenate S264 0 [⟨S263, extractStridedSlice S263 ![1] x h1⟩, ⟨S1, z⟩] h2 (ixT t) = x (ixT (t + 1)) := by
  refine (concatenate_pair_apply_left 0 _ _ h2 (ixT t) rfl (Fin.cons ⟨t, (by omega : t < 263)⟩ fun a => a.elim0) ?_).trans ?_
  · intro b
    fin_cases b
    exact (Nat.mod_eq_of_lt (by omega : t < 264)).symm
  · refine congrArg x (funext fun a => ?_)
    fin_cases a
    refine Fin.ext ?_
    show 1 + t = (t + 1) % 264
    rw [Nat.mod_eq_of_lt ht]; omega

/-- The conditions at tile `t` and expert `e`, over the words they read: the number of tiles, the tile's own number and
    expert, the next tile's expert, and the tile the expert's run ends before. -/
def cond (N t e T T' E : BitVec 32) : BitVec 1 :=
  IntOp.andi (IntOp.andi (IntOp.cmpi .sge N 1#32) (IntOp.cmpi .sle N 264#32))
    (IntOp.ori (~~~(IntOp.cmpi .slt t N))
      (IntOp.andi (IntOp.andi (IntOp.cmpi .sge T 0#32) (IntOp.cmpi .slt T 64#32))
        (IntOp.ori (~~~(IntOp.cmpi .eq T e))
          (IntOp.andi (IntOp.cmpi .sge E (t + 1#32))
            (IntOp.ori (~~~(IntOp.andi (IntOp.cmpi .slt (t + 1#32) N) (IntOp.cmpi .ne T T'))) (IntOp.cmpi .eq E (t + 1#32)))))))

theorem fn_apply (x0 : FVec F S278528x1024 .bf16) (x1 x2 : FVec F S2x64x1024x256 .f32) (x3 : FVec F S2x64x256x1024 .f32)
    (te : IVec S264 32) (nt : IVec S1 32) (en : IVec S64 32) (t : Fin 264) (e : Fin 64) :
    fn (F := F) x0 x1 x2 x3 te nt en (ix2 t e) = cond (nt ix1) (wd t.val) (wd e.val) (te (ixT t.val))
      (concatenate S264 0 [⟨S263, extractStridedSlice S263 ![1] te Facts.slices_S264_S263_1⟩, ⟨S1, extractStridedSlice S1 ![263] te Facts.slices_S264_S1_263⟩]
        Facts.concatenates_S263_S1_S264_d0 (ixT t.val)) (en (ixE e.val)) := by
  rw [← column Facts.bcast_S264_S264x1_0 Facts.bcast_S264x1_S264x64_0_1 te t e, ← column Facts.bcast_S264_S264x1_0 Facts.bcast_S264x1_S264x64_0_1 (concatenate _ _ _ _) t e,
    ← row Facts.bcast_S64_S1x64_1 Facts.bcast_S1x64_S264x64_0_1 en t e, ← scalar Facts.shapeCasts_S1_S_ nt (fun a => a.elim0)]
  unfold fn fn_part1 fn_part2 cond
  refine congrArg₂ IntOp.andi (congrArg₂ IntOp.andi ?_ ?_) (congrArg₂ IntOp.ori ?_ ?_)
  all_goals rfl

theorem and_one (a b : BitVec 1) : IntOp.andi a b = 1#1 ↔ a = 1#1 ∧ b = 1#1 := by revert a b; decide
theorem or_one (a b : BitVec 1) : IntOp.ori a b = 1#1 ↔ a = 1#1 ∨ b = 1#1 := by revert a b; decide
theorem not_one (a : BitVec 1) : ~~~a = 1#1 ↔ ¬ a = 1#1 := by revert a; decide

theorem cond_one (N t e T T' E : BitVec 32) : cond N t e T T' E = 1#1 ↔
    ((1 ≤ N.toInt ∧ N.toInt ≤ 264) ∧ (¬ t.toInt < N.toInt ∨ ((0 ≤ T.toInt ∧ T.toInt < 64) ∧
      (¬ T = e ∨ ((t + 1#32).toInt ≤ E.toInt ∧ (¬ ((t + 1#32).toInt < N.toInt ∧ T ≠ T') ∨ E = t + 1#32)))))) := by
  unfold cond
  simp only [and_one, or_one, not_one, IntOp.cmpi, ofBool_eq_one, beq_iff_eq, bne_iff_ne, BitVec.slt_iff_toInt_lt, BitVec.sle_iff_toInt_le]
  rfl

/-- Where the precondition holds, the tables describe the number of live tiles they state, grouped by expert. -/
theorem ok {x0 : FVec F S278528x1024 .bf16} {x1 x2 : FVec F S2x64x1024x256 .f32} {x3 : FVec F S2x64x256x1024 .f32}
    {te : IVec S264 32} {nt : IVec S1 32} {en : IVec S64 32}
    (h : fn (F := F) x0 x1 x2 x3 te nt en = fun _ => 1#1) : (⟨te, nt, en⟩ : Tab).Ok (nt ix1).toNat := by
  have at_ (t : Fin 264) (e : Fin 64) := (cond_one _ _ _ _ _ _).mp ((fn_apply x0 x1 x2 x3 te nt en t e).symm.trans (congrFun h _))
  have hN := (at_ 0 0).1
  have hn : ((nt ix1).toNat : Int) = (nt ix1).toInt := by rw [BitVec.toInt_eq_toNat_cond] at hN ⊢; have := (nt ix1).isLt; split at hN <;> split <;> omega
  have hle : (nt ix1).toNat ≤ 264 := by omega
  have t0 (t : ℕ) (ht : t < 265) : (wd t).toInt = t := wd_toInt (by omega)
  have t1 (t : ℕ) (ht : t < 264) : wd t + 1#32 = wd (t + 1) := by
    apply BitVec.eq_of_toNat_eq
    rw [BitVec.toNat_add, wd_toNat (k := t) (by omega), wd_toNat (k := t + 1) (by omega)]; show (t + 1) % _ = _; omega
  have named (t : ℕ) (ht : t < (nt ix1).toNat) : (te (ixT t)).toNat < 64 := by
    have := (at_ ⟨t, by omega⟩ 0).2
    dsimp only at this
    rw [t0 t (by omega)] at this
    rcases this with h | h
    · omega
    · have h := h.1; rw [BitVec.toInt_eq_toNat_cond] at h; have := (te (ixT t)).isLt; split at h <;> omega
  have own (t : ℕ) (ht : t < (nt ix1).toNat) := by
    have h := (at_ ⟨t, by omega⟩ ⟨(te (ixT t)).toNat, named t ht⟩).2
    dsimp only at h
    rw [t0 t (by omega), t1 t (by omega), t0 (t + 1) (by omega)] at h
    exact ((h.resolve_left (fun h => h (by omega))).2).resolve_left (fun h => h (eq_wd _))
  refine ⟨by omega, hle, eq_wd _, named, fun t ht => ?_, fun t ht hne => ?_⟩
  · have := (own t (by omega)).1; exact_mod_cast this
  · have h := (own t (by omega)).2
    rw [shifted _ _ _ _ t (by omega)] at h
    exact h.resolve_left (fun h => h ⟨by omega, hne⟩)

end Cert.Proof.KernI.Pre

end
-- ==== Proof.ExpertsIdeal.Frame.lean ====
/-
  The kernel's run under the precondition: it ends with the arguments as launched and every counter at zero.
-/
module

public import proofs.«01_k».proof.Proof.ExpertsIdeal.Run
public import proofs.«01_k».proof.Proof.ExpertsIdeal.Pre

@[expose] public section

noncomputable section

namespace Cert.Proof.KernI

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The precondition at the launch's arguments, on every device. -/
def Holds : Prop := ∀ c : Dev nD,
  Cert.Pre_expert_tables.fn (F := F) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) = fun _ => 1#1

theorem tab_ok (h : Holds m) : (tab m).Ok ((tab m).nt ix1).toNat := Pre.ok (h 0)

theorem frame (h : Holds m) : θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0 :=
  (θ_run defs _ _).mono (fun _ hr => ⟨fun c => (hr.1 c).2, hr.2⟩) (run_main m ρ (tab_ok m h))

end Cert.Proof.KernI

end
-- ==== Proof.ExpertsIdeal.Out.lean ====
/-
  The result array at an index: on the rows of the live tiles it holds what the kernel left in that tile's block.
-/
module

public import proofs.«01_k».proof.Proof.ExpertsIdeal.Run
public import Idealize.ShloMosaic.Lib.Pipeline.ValueKit

@[expose] public section

noncomputable section

namespace Cert.Proof.KernI

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)
variable {n : ℕ} (hn : (tab m).Ok n)

theorem win_index (t : Fin (cfgA m hn).N) : ((cfgA m hn).win 0).index t = ![t.val, 0] :=
  (tile_index (F := F) (tab m) hn _).trans (by rw [grid_coord])

/-- Every point writes its block back: the next point's is another. -/
theorem win_flush (t : Fin (cfgA m hn).N) : ((cfgA m hn).win 0).flush t = true := by
  unfold Pipeline.Window.flush
  rw [Bool.and_eq_true]
  refine ⟨rfl, ?_⟩
  rw [Bool.or_eq_true]
  by_cases h : t.val + 1 = (cfgA m hn).grid.N
  · exact .inl (decide_eq_true h)
  · refine .inr (decide_eq_true ⟨by have := t.isLt; have e : (cfgA m hn).N = (cfgA m hn).grid.N := rfl; omega, fun e => ?_⟩)
    rw [win_index, win_index] at e
    have := congrFun e 0
    simp at this

/-- Where row `r` and column `j` sit in the block of the tile that has the row. -/
def inTile (i : S270336x1024.Idx) : S1024x1024.Idx :=
  Fin.cons ⟨(i 0).val % 1024, Nat.mod_lt _ (by decide)⟩ (Fin.cons ⟨(i 1).val, (i 1).isLt⟩ fun a => a.elim0)

/-- The result array when the run ends, -/
def resA (c : Dev nD) : S270336x1024.Idx → Elt F .bf16 := finalA m ρ hn c 0
/-- and an index of it: the place of an element of the block a point writes back. -/
def place (t : Fin (cfgA m hn).N) (y : (((cfgA m hn).win 0).xblock ((cfgA m hn).grid.coords t)).Idx) : S270336x1024.Idx :=
  (((cfgA m hn).win 0).blk t).view.emb y

theorem place_row (t : Fin (cfgA m hn).N) (y : (((cfgA m hn).win 0).xblock ((cfgA m hn).grid.coords t)).Idx) :
    (place m hn t y 0).val = t.val * 1024 + (y (0 : Fin 2)).val :=
  (Pipeline.Window.rect_emb_val ((cfgA m hn).win 0) t y (0 : Fin 2)).trans (by rw [win_index]; rfl)
theorem place_col (t : Fin (cfgA m hn).N) (y : (((cfgA m hn).win 0).xblock ((cfgA m hn).grid.coords t)).Idx) :
    (place m hn t y 1).val = (y (1 : Fin 2)).val :=
  (Pipeline.Window.rect_emb_val ((cfgA m hn).win 0) t y (1 : Fin 2)).trans (by rw [win_index]; show 0 * 1024 + _ = _; omega)

theorem out_apply (c : Dev nD) (i : S270336x1024.Idx) (hi : (i 0).val < n * 1024) :
    resA m ρ hn c i = outE c (arrs m c) ((i 0).val / 1024) ((tab m).ex ((i 0).val / 1024)) (inTile i) := by
  have hN := cfgA_N m hn
  have ht : (i 0).val / 1024 < (cfgA m hn).N := by omega
  refine Pipeline.Dat.arrAt_forall_of_flushed (dats m ρ hn 0 c) 0
    (fun (i : S270336x1024.Idx) (v : Elt F .bf16) => v = outE c (arrs m c) ((i 0).val / 1024) ((tab m).ex ((i 0).val / 1024)) (inTile i)) (fun t _ y => ?_)
    (cfgA m hn).N ⟨_, ht⟩ i ht (win_flush m hn _) ?_
  · have hy : (y (0 : Fin 2)).val < 1024 := lt_of_lt_of_eq (y (0 : Fin 2)).isLt rfl
    show outE c (arrs m c) t.val ((tab m).ex t.val) _ = outE c (arrs m c) ((place m hn t y 0).val / 1024) ((tab m).ex ((place m hn t y 0).val / 1024)) (inTile (place m hn t y))
    have e : (place m hn t y 0).val / 1024 = t.val := by rw [place_row]; omega
    rw [e]
    refine congrArg (outE c (arrs m c) t.val ((tab m).ex t.val)) (funext fun a => Fin.ext ?_)
    fin_cases a
    · show (y (0 : Fin 2)).val = (place m hn t y 0).val % 1024
      rw [place_row]; omega
    · show (y (1 : Fin 2)).val = (place m hn t y 1).val
      rw [place_col]
  · refine (Pipeline.Window.emb_mem_blk_iff ((cfgA m hn).win 0) ⟨_, ht⟩ i).mpr fun a => ?_
    rw [win_index]
    match a with
    | ⟨0, _⟩ =>
      show (i 0).val / 1024 * 1024 ≤ (i 0).val ∧ (i 0).val < (i 0).val / 1024 * 1024 + 1024
      omega
    | ⟨1, _⟩ =>
      show 0 * 1024 ≤ (i 1).val ∧ (i 1).val < 0 * 1024 + 1024
      have h1 : (i 1).val < 1024 := (i 1).isLt
      omega

end Cert.Proof.KernI

end
-- ==== Proof.ExpertsIdeal.Mlp.lean ====
/-
  An expert's block at the ideal values, entry by entry: the gated two-layer product of a row with the expert's weights.
-/
module

public import proofs.«01_k».proof.Proof.ExpertsIdeal.Out
public import Idealize.ShloMosaic.Lib.StackMember
public import Idealize.ShloMosaic.Lib.KernelVsHost

@[expose] public section

noncomputable section

namespace Cert.Proof.Mlp

open Cert.KernelIdeal Cert.KernelIdeal.Gen Cert.Proof.KernI
open Idealize.ShloMosaic hiding ix1 ix2 ix3 ix4 ix5
open Idealize.ShloMosaic.TcCoe
open Idealize.ShloMosaic.ValueIdx (ix2 ix3 ix4 eq_ix2)
open Idealize.ShloMosaic.StackMember

/-- A row through an expert: hidden entry `j` is the row's product with column `j` of the gate weights, times its logistic,
    times the row's product with column `j` of the up weights; the result is the hidden row's product with the down weights. -/
def mlp (x : Fin 1024 → EReal) (g u : Fin 1024 → Fin 256 → EReal) (d : Fin 256 → Fin 1024 → EReal) (b : Fin 1024) : EReal :=
  ∑ j, (∑ k, x k * g k j) * Ideal.logistic (∑ k, x k * g k j) * (∑ k, x k * u k j) * d j b

theorem dot1 : dot_S1024x1024_S1024x256_S1024x256_1_0_0_1_n_n = DotDims.plain 1024 1024 256 := rfl
theorem dot2 : dot_S1024x256_S256x1024_S1024x1024_1_0_0_1_n_n = DotDims.plain 1024 256 1024 := rfl

variable (c : Dev nD) (A : Arrs (F := Ideal) c)

/-- The arrays the kernel copies, as arrays of numbers. -/
def ax : S278528x1024.Idx → EReal := A.x
def ag : S2x64x1024x256.Idx → EReal := A.g
def au : S2x64x1024x256.Idx → EReal := A.u
def ad : S2x64x256x1024.Idx → EReal := A.d

theorem row_lt (t : ℕ) (a : Fin 1024) : t % 264 * 1024 + a.val < 278528 := by omega

theorem xR_apply (t : ℕ) (a k : Fin 1024) : xR c A t (ix2 a k) = ax c A (ix2 ⟨t % 264 * 1024 + a.val, row_lt t a⟩ k) := by
  refine congrArg A.x (funext fun i => Fin.ext ?_)
  fin_cases i
  · show t % 264 * 1024 + 1 * a.val = _; rw [Nat.one_mul]
  · show 0 + 1 * k.val = k.val; omega

theorem out_eq (t e : ℕ) (a b : Fin 1024) : outE c A t e (ix2 a b) =
    mlp (fun k => xR c A t (ix2 a k)) (fun k j => wG c A e (ix2 k j)) (fun k j => wU c A e (ix2 k j)) (fun j b => wD c A e (ix2 j b)) b := by
  unfold outE k0_pay1 gate mlp
  show matmul (F := Ideal) (φ₁ := .bf16) (φ₂ := .bf16) dot_S1024x256_S256x1024_S1024x1024_1_0_0_1_n_n none _ _ (constant S1024x1024 .f32 0x00000000#32) (ix2 a b) = _
  rw [matmul_zero_eq_dotGeneral, matmul_zero_eq_dotGeneral, matmul_zero_eq_dotGeneral, dot1, dot2, dotGeneral_plain_apply]
  refine Finset.sum_congr rfl fun j _ => ?_
  rw [← dotGeneral_plain_apply none (xR c A t) (wG c A e) a j, ← dotGeneral_plain_apply none (xR c A t) (wU c A e) a j]
  rfl

theorem e_lt (e : ℕ) : e % 64 < 64 := Nat.mod_lt _ (by decide)

theorem wG_apply (e : ℕ) (k : Fin 1024) (j : Fin 256) : wG c A e (ix2 k j) = ag c A (ix4 0 ⟨e % 64, e_lt e⟩ k j) := by
  unfold wG
  rw [shapeCast_self]
  show (gBlk e).view.read (Elt Ideal) A.g (ix2 k j) = _
  unfold gBlk
  rw [Memref.read_squeeze_slice (hc := (by decide : S1x1x1024x256.ShapeCasts S1024x256))]
  rw [shapeCast_apply _ _ (ix2 k j) (ix4 (0 : Fin 1) (0 : Fin 1) k j) (by
    rw [Shape.rowMajor_val_four, Shape.rowMajor_val_two]
    show ((0 * 1 + 0) * 1024 + k.val) * 256 + j.val = k.val * 256 + j.val
    omega)]
  refine congrArg A.g (funext fun i => Fin.ext ?_)
  fin_cases i
  · rfl
  · show e % 64 + 1 * 0 = _; rfl
  · show 0 + 1 * k.val = k.val; omega
  · show 0 + 1 * j.val = j.val; omega

theorem wU_apply (e : ℕ) (k : Fin 1024) (j : Fin 256) : wU c A e (ix2 k j) = au c A (ix4 0 ⟨e % 64, e_lt e⟩ k j) := by
  unfold wU
  rw [shapeCast_self]
  show (uBlk e).view.read (Elt Ideal) A.u (ix2 k j) = _
  unfold uBlk
  rw [Memref.read_squeeze_slice (hc := (by decide : S1x1x1024x256.ShapeCasts S1024x256))]
  rw [shapeCast_apply _ _ (ix2 k j) (ix4 (0 : Fin 1) (0 : Fin 1) k j) (by
    rw [Shape.rowMajor_val_four, Shape.rowMajor_val_two]
    show ((0 * 1 + 0) * 1024 + k.val) * 256 + j.val = k.val * 256 + j.val
    omega)]
  refine congrArg A.u (funext fun i => Fin.ext ?_)
  fin_cases i
  · rfl
  · show e % 64 + 1 * 0 = _; rfl
  · show 0 + 1 * k.val = k.val; omega
  · show 0 + 1 * j.val = j.val; omega

theorem wD_apply (e : ℕ) (k : Fin 256) (j : Fin 1024) : wD c A e (ix2 k j) = ad c A (ix4 0 ⟨e % 64, e_lt e⟩ k j) := by
  unfold wD
  rw [shapeCast_self]
  show (dBlk e).view.read (Elt Ideal) A.d (ix2 k j) = _
  unfold dBlk
  rw [Memref.read_squeeze_slice (hc := (by decide : S1x1x256x1024.ShapeCasts S256x1024))]
  rw [shapeCast_apply _ _ (ix2 k j) (ix4 (0 : Fin 1) (0 : Fin 1) k j) (by
    rw [Shape.rowMajor_val_four, Shape.rowMajor_val_two]
    show ((0 * 1 + 0) * 256 + k.val) * 1024 + j.val = k.val * 1024 + j.val
    omega)]
  refine congrArg A.d (funext fun i => Fin.ext ?_)
  fin_cases i
  · rfl
  · show e % 64 + 1 * 0 = _; rfl
  · show 0 + 1 * k.val = k.val; omega
  · show 0 + 1 * j.val = j.val; omega

end Cert.Proof.Mlp

end
-- ==== Proof.ExpertsIdeal.Ref.lean ====
/-
  The reference's result at the ideal values, entry by entry: row `i` of the result is row `i` of the tokens through the
  expert its tile names.
-/
module

public import proofs.«01_k».proof.Proof.ExpertsIdeal.Mlp
public import proofs.«01_k».proof.Proof.Gen.ReferenceIdeal.Run
public import Idealize.ShloMosaic.Lib.IdealHost

@[expose] public section

noncomputable section

namespace Cert.Proof.Ref

open Cert.ReferenceIdeal Cert.ReferenceIdeal.Gen Cert.Proof.Mlp
open Idealize.ShloMosaic hiding ix1 ix2 ix3 ix4 ix5
open Idealize.ShloMosaic.ValueIdx (ix1 ix2 ix3 ix4 eq_ix2)
open Idealize.ShloMosaic.StackMember

/-- Which member of a stack of 64 matrices a member of the gathered stack is. -/
abbrev takeD {m n : ℕ} (wf : GatherDims.WF ⟨3, ![64, m, n]⟩ ⟨2, ![264, 1]⟩ ⟨3, ![264, m, n]⟩ [1, 2] [0] [] [0] [] 1 ![1, m, n]) :
    GatherDims ⟨3, ![64, m, n]⟩ ⟨2, ![264, 1]⟩ ⟨3, ![264, m, n]⟩ :=
  ⟨[1, 2], [0], [], [], [0], 1, ![1, m, n], wf⟩

theorem take_apply {α : Type} {m n : ℕ} (wf : GatherDims.WF ⟨3, ![64, m, n]⟩ ⟨2, ![264, 1]⟩ ⟨3, ![264, m, n]⟩ [1, 2] [0] [] [0] [] 1 ![1, m, n])
    (x : (⟨3, ![64, m, n]⟩ : Shape).Idx → α) (idx : IVec ⟨2, ![264, 1]⟩ 32) (g : Fin 264) (a : Fin m) (b : Fin n) (h : (idx (ix2 g 0)).toNat < 64) :
    Host.gather (takeD wf) x idx (ix3 g a b) = x (ix3 ⟨(idx (ix2 g 0)).toNat, h⟩ a b) := by
  unfold Host.gather
  refine congrArg x (funext fun i => Fin.ext ?_)
  show (takeD wf).start (ix3 g a b) idx i + (takeD wf).batchCoord (ix3 g a b) i + (takeD wf).offCoord (ix3 g a b) i = _
  rw [GatherDims.batchCoord_eq_zero _ _ _ List.not_mem_nil, Nat.add_zero]
  match i with
  | ⟨0, _⟩ =>
    have hk : (0 : Fin 3) ∉ (takeD wf).sKept := fun h => ((GatherDims.mem_sKept _ _).mp h).1 (List.mem_singleton.mpr rfl)
    have hm : (0 : Fin 3) ∈ (takeD wf).startIndexMap := List.mem_singleton.mpr rfl
    show (takeD wf).start (ix3 g a b) idx 0 + (takeD wf).offCoord (ix3 g a b) 0 = (idx (ix2 g 0)).toNat
    rw [GatherDims.offCoord_eq_zero _ _ _ hk, Nat.add_zero]
    unfold GatherDims.start
    rw [dif_pos hm]
    have hsi : (takeD wf).siIdx (ix3 g a b) ⟨List.idxOf (0 : Fin 3) (takeD wf).startIndexMap, List.idxOf_lt_length_iff.2 hm⟩ = ix2 g 0 := by
      funext j; refine Fin.ext ?_
      match j with
      | ⟨0, _⟩ => rfl
      | ⟨1, _⟩ => rfl
    rw [hsi, BitVec.toInt_eq_toNat_of_lt (by omega)]
    show min ((idx (ix2 g 0)).toNat : Int).toNat (64 - 1) = _
    omega
  | ⟨1, _⟩ =>
    have hk : (1 : Fin 3) ∈ (takeD wf).sKept := (GatherDims.mem_sKept _ _).mpr ⟨by simp, List.not_mem_nil⟩
    have hm : (1 : Fin 3) ∉ (takeD wf).startIndexMap := by simp
    show (takeD wf).start (ix3 g a b) idx 1 + (takeD wf).offCoord (ix3 g a b) 1 = a.val
    unfold GatherDims.start GatherDims.offCoord
    rw [dif_neg hm, dif_pos hk, Nat.zero_add]
    rfl
  | ⟨2, _⟩ =>
    have hk : (2 : Fin 3) ∈ (takeD wf).sKept := (GatherDims.mem_sKept _ _).mpr ⟨by simp, List.not_mem_nil⟩
    have hm : (2 : Fin 3) ∉ (takeD wf).startIndexMap := by simp
    show (takeD wf).start (ix3 g a b) idx 2 + (takeD wf).offCoord (ix3 g a b) 2 = b.val
    unfold GatherDims.start GatherDims.offCoord
    rw [dif_neg hm, dif_pos hk, Nat.zero_add]
    rfl

variable (x : FVec Ideal S278528x1024 .bf16) (g u : FVec Ideal S2x64x1024x256 .f32) (d : FVec Ideal S2x64x256x1024 .f32) (te : IVec S264 32)

/-- The tokens in tiles, a stack of weights with a matrix per tile, and a product of the two. -/
def toks : FVec Ideal S264x1024x1024 .f32 :=
  shapeCast _ (extf .f32 (extractStridedSlice S270336x1024 ![0, 0] x slices_S278528x1024_S270336x1024_0_0) bitsLt_bf16_f32) shapeCasts_S270336x1024_S264x1024x1024
def wts : FVec Ideal S264x1024x256 .f32 :=
  Host.gather gather_S64x1024x256_S264x1_S264x1024x256_12_0_n_n_0_1_11024256 (shapeCast _ (extractStridedSlice S1x64x1024x256 ![0, 0, 0, 0] g slices_S2x64x1024x256_S1x64x1024x256_0_0_0_0) shapeCasts_S1x64x1024x256_S64x1024x256) (broadcastInDim S264x1 ![0] bcast_S264_S264x1_0 te)
def dwn : FVec Ideal S264x256x1024 .f32 :=
  Host.gather gather_S64x256x1024_S264x1_S264x256x1024_12_0_n_n_0_1_12561024 (shapeCast _ (extractStridedSlice S1x64x256x1024 ![0, 0, 0, 0] d slices_S2x64x256x1024_S1x64x256x1024_0_0_0_0) shapeCasts_S1x64x256x1024_S64x256x1024) (broadcastInDim S264x1 ![0] bcast_S264_S264x1_0 te)
def prod : FVec Ideal S264x1024x256 .f32 := Host.dotGeneral dot_S264x1024x1024_S264x1024x256_S264x1024x256_2_1_1_2_0_0 none (toks x) (wts g te)

/-- The tiles of the result. -/
def tiles : FVec Ideal S264x1024x1024 .f32 :=
  Host.dotGeneral dot_S264x1024x256_S264x256x1024_S264x1024x1024_2_1_1_2_0_0 none (mulf (mulf (prod x g te) (Host.divf (broadcastInDim S264x1024x256 ![] bcast_S_S264x1024x256 (constant S_ .f32 0x3F800000#32)) (addf (broadcastInDim S264x1024x256 ![] bcast_S_S264x1024x256 (constant S_ .f32 0x3F800000#32)) (Host.exp (Host.negf (prod x g te)))))) (prod x u te)) (dwn d te)

/-- The reference's result. -/
def out : FVec Ideal S270336x1024 .bf16 :=
  truncf .bf16 (shapeCast _ (tiles x g u d te) shapeCasts_S264x1024x1024_S270336x1024) bitsLt_bf16_f32

theorem tok_lt (t : Fin 264) (a : Fin 1024) : t.val * 1024 + a.val < 278528 := by omega

theorem toks_apply (t : Fin 264) (a k : Fin 1024) : toks x (ix3 t a k) = x (ix2 ⟨t.val * 1024 + a.val, tok_lt t a⟩ k) := by
  unfold toks
  rw [shapeCast_apply _ _ (ix3 t a k) (ix2 (⟨t.val * 1024 + a.val, by omega⟩ : Fin 270336) k) (by
    rw [Shape.rowMajor_val_two, Shape.rowMajor_val_three]
    rfl)]
  refine congrArg x (funext fun i => Fin.ext ?_)
  fin_cases i
  · show 0 + (t.val * 1024 + a.val) = t.val * 1024 + a.val; omega
  · show 0 + k.val = k.val; omega

theorem wts_apply (t : Fin 264) (h : (te (ix1 t)).toNat < 64) (k : Fin 1024) (j : Fin 256) : wts g te (ix3 t k j) = g (ix4 0 ⟨(te (ix1 t)).toNat, h⟩ k j) := by
  have e : broadcastInDim S264x1 ![0] bcast_S264_S264x1_0 te (ix2 t 0) = te (ix1 t) := by
    refine congrArg te (funext fun i => Fin.ext ?_)
    fin_cases i
    rfl
  refine (take_apply gather_S64x1024x256_S264x1_S264x1024x256_12_0_n_n_0_1_11024256_wf _ _ t k j (by rw [e]; exact h)).trans ?_
  rw [shapeCast_apply _ _ _ (ix4 (0 : Fin 1) (⟨(te (ix1 t)).toNat, h⟩ : Fin 64) k j) (by
    rw [Shape.rowMajor_val_four, Shape.rowMajor_val_three]
    show ((0 * 64 + (te (ix1 t)).toNat) * 1024 + k.val) * 256 + j.val = ((broadcastInDim S264x1 ![0] bcast_S264_S264x1_0 te (ix2 t 0)).toNat * 1024 + k.val) * 256 + j.val
    rw [e, Nat.zero_mul, Nat.zero_add])]
  refine congrArg g (funext fun i => Fin.ext ?_)
  fin_cases i
  · rfl
  · show 0 + (te (ix1 t)).toNat = (te (ix1 t)).toNat; omega
  · show 0 + k.val = k.val; omega
  · show 0 + j.val = j.val; omega

theorem dwn_apply (t : Fin 264) (h : (te (ix1 t)).toNat < 64) (k : Fin 256) (j : Fin 1024) : dwn d te (ix3 t k j) = d (ix4 0 ⟨(te (ix1 t)).toNat, h⟩ k j) := by
  have e : broadcastInDim S264x1 ![0] bcast_S264_S264x1_0 te (ix2 t 0) = te (ix1 t) := by
    refine congrArg te (funext fun i => Fin.ext ?_)
    fin_cases i
    rfl
  refine (take_apply gather_S64x256x1024_S264x1_S264x256x1024_12_0_n_n_0_1_12561024_wf _ _ t k j (by rw [e]; exact h)).trans ?_
  rw [shapeCast_apply _ _ _ (ix4 (0 : Fin 1) (⟨(te (ix1 t)).toNat, h⟩ : Fin 64) k j) (by
    rw [Shape.rowMajor_val_four, Shape.rowMajor_val_three]
    show ((0 * 64 + (te (ix1 t)).toNat) * 256 + k.val) * 1024 + j.val = ((broadcastInDim S264x1 ![0] bcast_S264_S264x1_0 te (ix2 t 0)).toNat * 256 + k.val) * 1024 + j.val
    rw [e, Nat.zero_mul, Nat.zero_add])]
  refine congrArg d (funext fun i => Fin.ext ?_)
  fin_cases i
  · rfl
  · show 0 + (te (ix1 t)).toNat = (te (ix1 t)).toNat; omega
  · show 0 + k.val = k.val; omega
  · show 0 + j.val = j.val; omega

theorem prod_apply (t : Fin 264) (h : (te (ix1 t)).toNat < 64) (a : Fin 1024) (j : Fin 256) :
    prod x g te (ix3 t a j) = ∑ k : Fin 1024, x (ix2 ⟨t.val * 1024 + a.val, tok_lt t a⟩ k) * g (ix4 0 ⟨(te (ix1 t)).toNat, h⟩ k j) := by
  unfold prod
  refine (dotGeneral_stack_apply dot_S264x1024x1024_S264x1024x256_S264x1024x256_2_1_1_2_0_0_wf none (toks x) (wts g te) t a j).trans ?_
  exact Finset.sum_congr rfl fun k _ => by rw [toks_apply, wts_apply g te t h]

theorem out_apply (t : Fin 264) (h : (te (ix1 t)).toNat < 64) (i : S270336x1024.Idx) (a b : Fin 1024) (h0 : (i 0).val = t.val * 1024 + a.val) (h1 : (i 1).val = b.val) :
    out x g u d te i = mlp (fun k => x (ix2 ⟨t.val * 1024 + a.val, tok_lt t a⟩ k)) (fun k j => g (ix4 0 ⟨(te (ix1 t)).toNat, h⟩ k j))
      (fun k j => u (ix4 0 ⟨(te (ix1 t)).toNat, h⟩ k j)) (fun j b => d (ix4 0 ⟨(te (ix1 t)).toNat, h⟩ j b)) b := by
  show shapeCast S270336x1024 (tiles x g u d te) shapeCasts_S264x1024x1024_S270336x1024 i = _
  refine (shapeCast_apply _ shapeCasts_S264x1024x1024_S270336x1024 i (ix3 t a b) (by
    rw [Shape.rowMajor_val_two, Shape.rowMajor_val_three, h0, h1]
    rfl)).trans ?_
  unfold tiles
  refine (dotGeneral_stack_apply dot_S264x1024x256_S264x256x1024_S264x1024x1024_2_1_1_2_0_0_wf none _ (dwn d te) t a b).trans ?_
  refine Finset.sum_congr rfl fun j _ => ?_
  rw [dwn_apply d te t h]
  refine congrArg (· * _) ?_
  rw [← prod_apply x g te t h a j, ← prod_apply x u te t h a j]
  refine congrArg (· * _) (congrArg (_ * ·) ?_)
  show Ideal.div (Ideal.ofBits .f32 0x3F800000#32) (Ideal.ofBits .f32 0x3F800000#32 + _) = Ideal.logistic _
  rw [Ideal.ofBits_one_f32]
  rfl

end Cert.Proof.Ref

end
-- ==== Proof.ExpertsIdeal.Value.lean ====
/-
  The value claim: on the rows of the live tiles the kernel's result and the reference's are the same numbers.
-/
module

public import proofs.«01_k».proof.Defs
public import proofs.«01_k».proof.Proof.ExpertsIdeal.Ref
public import proofs.«01_k».proof.Proof.ExpertsIdeal.Frame
public import proofs.«01_k».proof.Proof.Gen.On_live_rows

@[expose] public section

noncomputable section

namespace Cert.Proof.Value

open Cert.KernelIdeal Cert.KernelIdeal.Gen Cert.Proof.KernI Cert.Proof.Mlp
open Idealize.ShloMosaic hiding ix1 ix2 ix3 ix4 ix5
open Idealize.ShloMosaic.TcCoe Idealize.SL.Sem
open Idealize.ShloMosaic.ValueIdx (ix2 ix3 ix4 eq_ix2)

/-- A live row lies in one of the first `n` tiles. -/
theorem live (x : FVec Ideal S278528x1024 .bf16) (g u : FVec Ideal S2x64x1024x256 .f32) (d : FVec Ideal S2x64x256x1024 .f32)
    (te : IVec S264 32) (nt : IVec S1 32) (en : IVec S64 32) (n : ℕ) (hn : n ≤ 264) (h : nt ix1 = wd n) (i : S270336x1024.Idx)
    (hi : Cert.On_live_rows.fn (F := Ideal) x g u d te nt en i = 1#1) : (i 0).val < n * 1024 := by
  have h0 : (i 0).val < 270336 := (i 0).isLt
  have e : Cert.On_live_rows.fn (F := Ideal) x g u d te nt en i = IntOp.cmpi .slt (wd (i 0).val) (nt ix1 * 1024#32) := by
    rw [← Pre.scalar Cert.On_live_rows.Facts.shapeCasts_S1_S_ nt (fun a => a.elim0)]
    unfold Cert.On_live_rows.fn
    refine congrArg (IntOp.cmpi .slt _) (congrArg (fun k => shapeCast _ nt _ k * 1024#32) ?_)
    exact Subsingleton.elim _ _
  have hm : wd n * 1024#32 = wd (n * 1024) := by
    apply BitVec.eq_of_toNat_eq
    rw [BitVec.toNat_mul]
    simp
  rw [e, h, hm] at hi
  have hs : (wd (i 0).val).toInt < (wd (n * 1024)).toInt := by
    by_contra hc
    have : IntOp.cmpi .slt (wd (i 0).val) (wd (n * 1024)) = 0#1 := by
      unfold IntOp.cmpi; simp [BitVec.slt, hc]
    rw [this] at hi; exact absurd hi (by decide)
  rw [wd_toInt (by omega), wd_toInt (by omega)] at hs
  omega

variable (m : (ℓ : Loc nD τ sig) → Buf (Elt Ideal) ℓ) (ρ : Dev nD → PrngReg)

/-- The reference's result of the kernel's arguments. -/
def want (c : Dev nD) : FVec Ideal S270336x1024 .bf16 :=
  Ref.out (m ((c : Thread nD τ).loc main_arg0)) (m ((c : Thread nD τ).loc main_arg1)) (m ((c : Thread nD τ).loc main_arg2))
    (m ((c : Thread nD τ).loc main_arg3)) (m ((c : Thread nD τ).loc main_arg4))

theorem res_eq {n : ℕ} (hn : (tab m).Ok n) (c : Dev nD) (i : S270336x1024.Idx) (hi : (i 0).val < n * 1024) : resA m ρ hn c i = want m c i := by
  obtain rfl : c = 0 := Subsingleton.elim (α := Fin 1) _ _
  have hle := hn.le
  have ht : (i 0).val / 1024 < 264 := by omega
  have he : (tab m).ex ((i 0).val / 1024) < 64 := hn.named _ (by omega)
  have hT : ((m (((0 : Dev nD) : Thread nD τ).loc main_arg4) : S264.Idx → BitVec 32) (ValueIdx.ix1 ⟨(i 0).val / 1024, ht⟩)).toNat = (tab m).ex ((i 0).val / 1024) := by
    show _ = (m (((0 : Dev nD) : Thread nD τ).loc main_arg4) (ixT ((i 0).val / 1024))).toNat
    refine congrArg (fun k => (m (((0 : Dev nD) : Thread nD τ).loc main_arg4) k).toNat) (funext fun a => ?_)
    fin_cases a
    exact Fin.ext (Nat.mod_eq_of_lt ht).symm
  rw [out_apply m ρ hn 0 i hi]
  obtain ⟨b, hb⟩ : ∃ b : Fin 1024, (i 1).val = b.val := ⟨i 1, rfl⟩
  have hin : inTile i = ix2 (⟨(i 0).val % 1024, Nat.mod_lt _ (by decide)⟩ : Fin 1024) b := by
    funext a; fin_cases a
    · rfl
    · exact Fin.ext hb
  rw [hin, out_eq]
  unfold want
  rw [Ref.out_apply _ _ _ _ _ ⟨(i 0).val / 1024, ht⟩ (by rw [hT]; exact he) i ⟨(i 0).val % 1024, Nat.mod_lt _ (by decide)⟩ b
    (by show (i 0).val = (i 0).val / 1024 * 1024 + (i 0).val % 1024; omega) hb]
  have hE : ∀ h, (⟨(tab m).ex ((i 0).val / 1024) % 64, e_lt _⟩ : Fin 64) = ⟨((m (((0 : Dev nD) : Thread nD τ).loc main_arg4) : S264.Idx → BitVec 32) (ValueIdx.ix1 ⟨(i 0).val / 1024, ht⟩)).toNat, h⟩ :=
    fun h => Fin.ext ((Nat.mod_eq_of_lt he).trans hT.symm)
  have e1 : (fun k => xR (0 : Dev nD) (arrs m 0) ((i 0).val / 1024) (ix2 (⟨(i 0).val % 1024, Nat.mod_lt _ (by decide)⟩ : Fin 1024) k))
      = fun k => (m (((0 : Dev nD) : Thread nD τ).loc main_arg0) : S278528x1024.Idx → EReal) (ix2 ⟨(i 0).val / 1024 * 1024 + (i 0).val % 1024, by omega⟩ k) := by
    funext k
    rw [xR_apply]
    refine congrArg (fun p => (m (((0 : Dev nD) : Thread nD τ).loc main_arg0) : S278528x1024.Idx → EReal) (ix2 p k)) (Fin.ext ?_)
    show (i 0).val / 1024 % 264 * 1024 + _ = _
    rw [Nat.mod_eq_of_lt ht]
  have e2 : ∀ h, (fun k j => wG (0 : Dev nD) (arrs m 0) ((tab m).ex ((i 0).val / 1024)) (ix2 k j))
      = fun k j => (m (((0 : Dev nD) : Thread nD τ).loc main_arg1) : S2x64x1024x256.Idx → EReal) (ix4 0 ⟨_, h⟩ k j) := fun h => by
    funext k j
    rw [wG_apply, hE h]; rfl
  have e3 : ∀ h, (fun k j => wU (0 : Dev nD) (arrs m 0) ((tab m).ex ((i 0).val / 1024)) (ix2 k j))
      = fun k j => (m (((0 : Dev nD) : Thread nD τ).loc main_arg2) : S2x64x1024x256.Idx → EReal) (ix4 0 ⟨_, h⟩ k j) := fun h => by
    funext k j
    rw [wU_apply, hE h]; rfl
  have e4 : ∀ h, (fun k j => wD (0 : Dev nD) (arrs m 0) ((tab m).ex ((i 0).val / 1024)) (ix2 k j))
      = fun k j => (m (((0 : Dev nD) : Thread nD τ).loc main_arg3) : S2x64x256x1024.Idx → EReal) (ix4 0 ⟨_, h⟩ k j) := fun h => by
    funext k j
    rw [wD_apply, hE h]; rfl
  rw [e1, e2, e3, e4]

theorem algebraic : Cert.algebraic_KernelIdeal_ReferenceIdeal_on_live_rows := by
  intro m g m' g' hm ha
  have hok := tab_ok m hm
  refine ⟨want m, (θ_run defs _ _).mono (fun r hr c => ⟨fun i hi => ?_, (hr.1 c).2⟩) (run_main m g hok), ?_⟩
  · have hc : c = 0 := Subsingleton.elim (α := Fin 1) _ _
    have hl := live _ _ _ _ _ _ _ _ hok.le (by rw [hc]; exact hok.nt) i hi
    exact (congrFun ((hr.1 c).1 0) i).trans (res_eq m g hok c i hl)
  · refine (θ_run Cert.ReferenceIdeal.defs _ _).mono (fun r hr c => ⟨fun i _ => ?_, (hr c).2⟩) (Cert.ReferenceIdeal.Value.run (F := Ideal) m' g')
    obtain ⟨a0, a1, a2, a3, a4, -, -⟩ := ha c
    have := (hr c).1
    rw [a0, a1, a2, a3, a4] at this
    exact congrFun this i

end Cert.Proof.Value

end
-- ==== Proof.Inproj.Row.lean ====
/-
  A row of the input projection as a formula of its numbers: the row over its root mean square, times the norm's weights,
  scaled and shifted, times the columns of a weight matrix.
-/
module

public import proofs.«01_k».proof.Proof.Gen.Kernel2Ideal.Value
public import Idealize.ShloMosaic.Lib.StackMember
public import Idealize.ShloMosaic.Lib.KernelVsHost
public import Idealize.ShloMosaic.Lib.ValueLayout
public import Idealize.ShloMosaic.Lib.IdealHost

@[expose] public section

noncomputable section

namespace Cert.Proof.Inproj

open Cert.Kernel2Ideal Cert.Kernel2Ideal.Gen
open Idealize.ShloMosaic
open Idealize.ShloMosaic.TcCoe
open Idealize.ShloMosaic.ValueIdx (ix1 ix2 ix3 ix4 eq_ix2 broadcastTo_1b_ab_apply)
open Idealize.ShloMosaic.StackMember

/-- A row over the root of its mean square (with the small number the norm adds), times the weights `w`, times one plus the
    scale `sc`, plus the shift `sh`. -/
def normed (x w sc sh : Fin 1024 → EReal) (k : Fin 1024) : EReal :=
  x k * Ideal.rsqrt (Ideal.div (∑ i, x i * x i) (Ideal.ofBits .f32 0x44800000#32) + Ideal.ofBits .f32 0x358637BD#32) * w k
    * (Ideal.ofBits .f32 0x3F800000#32 + sc k) + sh k

/-- A column of the projection's result: the row's product with the column, in the first 512 columns times one over the
    root of 128. -/
def cell (x w sc sh : Fin 1024 → EReal) (W : Fin 1024 → EReal) (j : ℕ) : EReal :=
  if j < 512 then (∑ k, normed x w sc sh k * W k) * Ideal.ofBits .f32 0x3DB504F3#32 else ∑ k, normed x w sc sh k * W k

/-- Which row of the modulations a tile of 1024 rows uses: the latent rows' batches are rows 1 to 4, the context's row is 0. -/
def modRow (t : ℕ) : ℕ := if t < 16 then 1 + t / 4 else 0

theorem modRow_lt (t : ℕ) : modRow t < 8 := by unfold modRow; split <;> omega

variable (v0 : Vec Ideal S1024x1024 .f32) (v1 : Vec Ideal S1x6x1024 .f32) (v3 : Vec Ideal S1x1024 .f32)

/-- One over the root of each row's mean square. -/
def inv : FVec Ideal S1024x1 .f32 :=
  rsqrt (addf (divf (shapeCast S1024x1 (multiReduction .add [1] S1024 (mulf v0 v0) 0x00000000#32 reduces_S1024x1024_S1024 (.inl rfl) rfl) shapeCasts_S1024_S1024x1)
    (broadcast S1024x1 (Scalar.ofBits .f32 0x44800000#32))) (broadcast S1024x1 (Scalar.ofBits .f32 0x358637BD#32)))

theorem inv_apply (a : Fin 1024) : inv v0 (ix2 a 0) =
    Ideal.rsqrt (Ideal.div (∑ i : Fin 1024, v0 (ix2 a i) * v0 (ix2 a i)) (Ideal.ofBits .f32 0x44800000#32) + Ideal.ofBits .f32 0x358637BD#32) := by
  show Ideal.rsqrt (Ideal.div (shapeCast S1024x1 (multiReduction (F := Ideal) .add [1] S1024 (mulf v0 v0) 0x00000000#32 reduces_S1024x1024_S1024 (.inl rfl) rfl) shapeCasts_S1024_S1024x1 (ix2 a 0)) _ + _) = _
  rw [shapeCast_apply _ _ (ix2 a (0 : Fin 1)) (ix1 a) (by
    rw [Shape.rowMajor_val_two, Shape.rowMajor_val_one]
    show a.val = a.val * 1 + 0; omega)]
  refine congrArg Ideal.rsqrt (congrArg (· + _) (congrArg (Ideal.div · _) ?_))
  refine (Ideal.multiReduction_add_single (mulf v0 v0) _ reduces_S1024x1024_S1024 _ _ (ix1 a)).trans (Finset.sum_congr rfl fun i _ => ?_)
  have e : reduces_S1024x1024_S1024.lift (ix1 a) i = ix2 a i := by
    funext b; refine Fin.ext ?_
    match b with
    | ⟨0, _⟩ => rfl
    | ⟨1, _⟩ => rfl
  rw [e]; rfl

/-- Row `r` of a point's six rows of modulations. -/
theorem mod_apply (r : ℕ) (hr : r < 6) (hs : S6x1024.Slices ![r, 0] S1x1024) (k : Fin 1024) :
    extractStridedSlice S1x1024 ![r, 0] (shapeCast S6x1024 v1 shapeCasts_S1x6x1024_S6x1024) hs (ix2 (0 : Fin 1) k) = v1 (ix3 (0 : Fin 1) ⟨r, hr⟩ k) := by
  rw [extractStridedSlice_apply ![r, 0] _ _ (ix2 (0 : Fin 1) k) (ix2 (⟨r, hr⟩ : Fin 6) k) (fun a => by
    match a with
    | ⟨0, _⟩ => show r = r + 0; omega
    | ⟨1, _⟩ => show k.val = 0 + k.val; omega)]
  exact shapeCast_apply _ _ _ _ (by
    rw [Shape.rowMajor_val_two, Shape.rowMajor_val_three]
    show (0 * 6 + r) * 1024 + k.val = r * 1024 + k.val; omega)

theorem pay4_apply (a k : Fin 1024) : k0_pay4 v0 v1 v3 (ix2 a k) =
    normed (fun i => v0 (ix2 a i)) (fun i => v3 (ix2 0 i)) (fun i => v1 (ix3 0 1 i)) (fun i => v1 (ix3 0 0 i)) k := by
  show v0 (ix2 a k) * broadcastTo S1024x1024 (inv v0) broadcasts_S1024x1_S1024x1024 (ix2 a k) * broadcastTo S1024x1024 v3 broadcasts_S1x1024_S1024x1024 (ix2 a k)
      * broadcastTo S1024x1024 (addf (F := Ideal) (broadcast S1x1024 (Scalar.ofBits .f32 0x3F800000#32)) (extractStridedSlice S1x1024 ![1, 0] (shapeCast S6x1024 v1 shapeCasts_S1x6x1024_S6x1024) slices_S6x1024_o1_0_S1x1024)) broadcasts_S1x1024_S1024x1024 (ix2 a k)
      + broadcastTo S1024x1024 (extractStridedSlice S1x1024 ![0, 0] (shapeCast S6x1024 v1 shapeCasts_S1x6x1024_S6x1024) slices_S6x1024_o0_0_S1x1024) broadcasts_S1x1024_S1024x1024 (ix2 a k) = _
  rw [broadcastTo_apply (inv v0) broadcasts_S1024x1_S1024x1024 (ix2 a k) (ix2 a (0 : Fin 1)) (fun b => by
    match b with
    | ⟨0, _⟩ => rfl
    | ⟨1, _⟩ => rfl), inv_apply]
  rw [show ∀ (v : S1x1024.Idx → EReal), broadcastTo S1024x1024 v broadcasts_S1x1024_S1024x1024 (ix2 a k) = v (ix2 0 k) from fun v => broadcastTo_1b_ab_apply v _ a k]
  rw [show ∀ (v : S1x1024.Idx → EReal), broadcastTo S1024x1024 v broadcasts_S1x1024_S1024x1024 (ix2 a k) = v (ix2 0 k) from fun v => broadcastTo_1b_ab_apply v _ a k]
  rw [show ∀ (v : S1x1024.Idx → EReal), broadcastTo S1024x1024 v broadcasts_S1x1024_S1024x1024 (ix2 a k) = v (ix2 0 k) from fun v => broadcastTo_1b_ab_apply v _ a k]
  rw [mod_apply v1 0 (by decide) slices_S6x1024_o0_0_S1x1024 k]
  show _ * (_ + extractStridedSlice S1x1024 ![1, 0] (shapeCast S6x1024 v1 shapeCasts_S1x6x1024_S6x1024) slices_S6x1024_o1_0_S1x1024 (ix2 0 k)) + _ = _
  rw [mod_apply v1 1 (by decide) slices_S6x1024_o1_0_S1x1024 k]
  rfl

end Cert.Proof.Inproj

end
-- ==== Proof.Inproj.Block.lean ====
/-
  What one grid point leaves in the projection's block: every column of every row is the formula of the row.
-/
module

public import proofs.«01_k».proof.Proof.Inproj.Row

@[expose] public section

noncomputable section

namespace Cert.Proof.Inproj

open Cert.Kernel2Ideal Cert.Kernel2Ideal.Gen
open Idealize.ShloMosaic
open Idealize.ShloMosaic.TcCoe
open Idealize.ShloMosaic.ValueIdx (ix1 ix2 ix3 ix4 eq_ix2)
open Idealize.ShloMosaic.StackMember

theorem dotB : dot_S1024x1024_S1024x512_S1024x512_1_0_0_1_n_n = DotDims.plain 1024 1024 512 := rfl

/-- A product of a block of rows with 512 columns. -/
theorem prod_apply (h : FVec Ideal S1024x1024 .bf16) (v : Vec Ideal S1024x512 .bf16) (a : Fin 1024) (b : Fin 512) :
    matmul (F := Ideal) (φ₁ := .bf16) (φ₂ := .bf16) dot_S1024x1024_S1024x512_S1024x512_1_0_0_1_n_n none h (shapeCast S1024x512 v shapeCasts_S1024x512_S1024x512)
      (constant S1024x512 .f32 0x00000000#32) (ix2 a b) = ∑ k : Fin 1024, h (ix2 a k) * v (ix2 k b) := by
  rw [matmul_zero_eq_dotGeneral, dotB, dotGeneral_plain_apply, shapeCast_self]

variable (x0 : Vec Ideal S1024x1024 .f32) (x1 : Vec Ideal S1x6x1024 .f32) (x2 : Vec Ideal S1x1024 .f32) (x3 : Vec Ideal S1024x3200 .bf16)

theorem ld0 : View.ld x0 r0_0 = x0 := View.ld_unit_zero (by funext a; fin_cases a <;> rfl) _ x0
theorem ld1 : View.ld x1 r0_1 = x1 := View.ld_unit_zero (by funext a; fin_cases a <;> rfl) _ x1
theorem ld2 : View.ld x2 r0_2 = x2 := View.ld_unit_zero (by funext a; fin_cases a <;> rfl) _ x2

/-- A column of a block's row. -/
def cellB (a : Fin 1024) (j : Fin 3200) : EReal :=
  cell (fun i => x0 (ix2 a i)) (fun i => x2 (ix2 0 i)) (fun i => x1 (ix3 0 1 i)) (fun i => x1 (ix3 0 0 i)) (fun k => x3 (ix2 k j)) j.val

/-- The block. -/
def block : Vec Ideal S1024x3072 .bf16 := fun y => cellB x0 x1 x2 x3 ⟨(y 0).val, (y 0).isLt⟩ ⟨(y 1).val, Nat.lt_trans (y 1).isLt (show 3072 < 3200 by decide)⟩

theorem block_emb (o : ℕ) (hb : ∀ a, (![0, o] : Fin 2 → ℕ) a + S1024x512.size a ≤ S1024x3072.size a) (ho : o + 512 ≤ 3072) (a : Fin 1024) (b : Fin 512) :
    block x0 x1 x2 x3 ((Rect.unit (s := S1024x3072) ![0, o] S1024x512.size hb).emb (ix2 a b)) = cellB x0 x1 x2 x3 a ⟨o + b.val, by omega⟩ := by
  unfold block
  refine congrArg₂ (cellB x0 x1 x2 x3) (Fin.ext ?_) (Fin.ext ?_)
  · show 0 + 1 * a.val = a.val; omega
  · show o + 1 * b.val = o + b.val; omega

theorem ld_col (o : ℕ) (hb : ∀ a, (![0, o] : Fin 2 → ℕ) a + S1024x512.size a ≤ S1024x3200.size a) (ho : o + 512 ≤ 3072) (k : Fin 1024) (b : Fin 512) :
    View.ld x3 (Rect.unit (s := S1024x3200) ![0, o] S1024x512.size hb) (ix2 k b) = x3 (ix2 k ⟨o + b.val, by omega⟩) := by
  refine congrArg x3 (funext fun i => Fin.ext ?_)
  match i with
  | ⟨0, _⟩ => show 0 + 1 * k.val = k.val; omega
  | ⟨1, _⟩ => show o + 1 * b.val = o + b.val; omega

/-- A product stored without the scale agrees with the block from column 512 on. -/
theorem late (o : ℕ) (hl : 512 ≤ o) (hb hb') (ho : o + 512 ≤ 3072) (p : FVec Ideal S1024x512 .bf16)
    (hp : ∀ a b, p (ix2 a b) = ∑ k : Fin 1024, k0_pay4 x0 x1 x2 (ix2 a k) * View.ld x3 (Rect.unit (s := S1024x3200) ![0, o] S1024x512.size hb') (ix2 k b))
    (x : S1024x512.Idx) : p x = block x0 x1 x2 x3 ((Rect.unit (s := S1024x3072) ![0, o] S1024x512.size hb).emb x) := by
  obtain ⟨a, b, rfl⟩ : ∃ (a : Fin 1024) (b : Fin 512), x = ix2 a b := ⟨x 0, x 1, eq_ix2 x⟩
  rw [hp, block_emb x0 x1 x2 x3 o hb ho a b]
  unfold cellB cell
  rw [if_neg (by show ¬ o + b.val < 512; omega)]
  exact Finset.sum_congr rfl fun k _ => by rw [pay4_apply, ld_col x3 o hb' ho k b]

theorem out_eq (x4 : Vec Ideal S384x1024 .bf16) (x5 : Vec Ideal S1x1024 .f32) (y : S1024x3072.Idx) :
    out0_6 x0 x1 x2 x3 x4 x5 y = block x0 x1 x2 x3 y := by
  unfold out0_6 k0_pay12
  rw [ld0, ld1, ld2]
  refine View.canon_apply_of_pieces (block x0 x1 x2 x3) _ ?_ y (cover0_6 _ _ _ _ _ _ y)
  intro pc hpc
  rcases List.mem_cons.mp hpc with rfl | hpc
  · exact late x0 x1 x2 x3 2560 (by decide) inb_S1024x3072_S1024x512_0_2560 inb_S1024x3200_S1024x512_0_2560 (by decide) _ fun a b => prod_apply _ _ a b
  rcases List.mem_cons.mp hpc with rfl | hpc
  · exact late x0 x1 x2 x3 2048 (by decide) inb_S1024x3072_S1024x512_0_2048 inb_S1024x3200_S1024x512_0_2048 (by decide) _ fun a b => prod_apply _ _ a b
  rcases List.mem_cons.mp hpc with rfl | hpc
  · exact late x0 x1 x2 x3 1536 (by decide) inb_S1024x3072_S1024x512_0_1536 inb_S1024x3200_S1024x512_0_1536 (by decide) _ fun a b => prod_apply _ _ a b
  rcases List.mem_cons.mp hpc with rfl | hpc
  · exact late x0 x1 x2 x3 1024 (by decide) inb_S1024x3072_S1024x512_0_1024 inb_S1024x3200_S1024x512_0_1024 (by decide) _ fun a b => prod_apply _ _ a b
  rcases List.mem_cons.mp hpc with rfl | hpc
  · exact late x0 x1 x2 x3 512 (by decide) inb_S1024x3072_S1024x512_0_512 inb_S1024x3200_S1024x512_0_512 (by decide) _ fun a b => prod_apply _ _ a b
  rcases List.mem_cons.mp hpc with rfl | hpc
  · intro x
    obtain ⟨a, b, rfl⟩ : ∃ (a : Fin 1024) (b : Fin 512), x = ix2 a b := ⟨x 0, x 1, eq_ix2 x⟩
    refine Eq.trans ?_ (block_emb x0 x1 x2 x3 0 inb_S1024x3072_S1024x512_0_0 (by decide) a b).symm
    unfold cellB cell
    rw [if_pos (by show 0 + b.val < 512; omega)]
    refine congrArg (· * Ideal.ofBits .f32 0x3DB504F3#32) ((prod_apply _ _ a b).trans ?_)
    exact Finset.sum_congr rfl fun k _ => by rw [pay4_apply]; exact congrArg _ (ld_col x3 0 inb_S1024x3200_S1024x512_0_0 (by decide) k b)
  nomatch hpc

end Cert.Proof.Inproj

end
-- ==== Proof.Inproj.Array.lean ====
/-
  The projection's array after the run: the grid's points tile its rows, so every row is the formula of the input's row,
  with the modulations of the row's batch.
-/
module

public import proofs.«01_k».proof.Proof.Inproj.Block

@[expose] public section

noncomputable section

namespace Cert.Proof.Inproj

open Cert.Kernel2Ideal Cert.Kernel2Ideal.Gen
open Idealize.ShloMosaic
open Idealize.ShloMosaic.TcCoe Idealize.SL.Sem
open Idealize.ShloMosaic.ValueIdx (ix1 ix2 ix3 ix4 eq_ix2)

/-- Where the windows' blocks lie. -/
theorem idx_facts : ∀ t : Fin cfg0.N, win0_0.index t (0 : Fin 2) = t.val ∧ win0_0.index t (1 : Fin 2) = 0
    ∧ win0_1.index t (0 : Fin 3) = modRow t.val ∧ win0_1.index t (1 : Fin 3) = 0 ∧ win0_1.index t (2 : Fin 3) = 0
    ∧ win0_2.index t (0 : Fin 2) = 0 ∧ win0_2.index t (1 : Fin 2) = 0 ∧ win0_3.index t (0 : Fin 2) = 0 ∧ win0_3.index t (1 : Fin 2) = 0
    ∧ win0_6.index t (0 : Fin 2) = t.val ∧ win0_6.index t (1 : Fin 2) = 0 :=
  (by decide +kernel : ∀ t : Fin grid0.N, _)

theorem flush6 : ∀ t : Fin cfg0.N, (cfg0.win 6).flush t = true := (by decide +kernel : ∀ t : Fin grid0.N, _)

theorem N_eq : cfg0.N = 17 := by decide +kernel

/-- The arguments' numbers, each array at its shape. -/
abbrev A0 (m : (ℓ : Loc nD τ sig) → Buf (Elt Ideal) ℓ) (c : Dev nD) : S17408x1024.Idx → EReal := m ((c : Thread nD τ).loc main_arg0)
abbrev A1 (m : (ℓ : Loc nD τ sig) → Buf (Elt Ideal) ℓ) (c : Dev nD) : S8x6x1024.Idx → EReal := m ((c : Thread nD τ).loc main_arg1)
abbrev A2 (m : (ℓ : Loc nD τ sig) → Buf (Elt Ideal) ℓ) (c : Dev nD) : S1x1024.Idx → EReal := m ((c : Thread nD τ).loc main_arg2)
abbrev A3 (m : (ℓ : Loc nD τ sig) → Buf (Elt Ideal) ℓ) (c : Dev nD) : S1024x3072.Idx → EReal := m ((c : Thread nD τ).loc main_arg3)

variable (m : (ℓ : Loc nD τ sig) → Buf (Elt Ideal) ℓ)

theorem row_lt (t : Fin cfg0.N) (a : Fin 1024) : t.val * 1024 + a.val < 17408 := by
  have : t.val < 17 := N_eq ▸ t.isLt
  omega

theorem iblk0_apply (c : Dev nD) (t : Fin cfg0.N) (a k : Fin 1024) :
    iblk m c 0 t (ix2 a k) = A0 m c (ix2 ⟨t.val * 1024 + a.val, row_lt t a⟩ k) := by
  obtain ⟨e0, e1, -⟩ := idx_facts t
  show V m c main_arg0 (((cfg0.win 0).blk t).view.emb (ix2 a k)) = _
  rw [V_main_arg0]
  refine congrArg (A0 m c) (funext fun i => Fin.ext ?_)
  match i with
  | ⟨0, _⟩ => show win0_0.index t (0 : Fin 2) * 1024 + 1 * a.val = t.val * 1024 + a.val; rw [e0]; omega
  | ⟨1, _⟩ => show win0_0.index t (1 : Fin 2) * 1024 + 1 * k.val = k.val; rw [e1]; omega

theorem iblk1_apply (c : Dev nD) (t : Fin cfg0.N) (r : Fin 6) (k : Fin 1024) :
    iblk m c 1 t (ix3 (0 : Fin 1) r k) = A1 m c (ix3 ⟨modRow t.val, modRow_lt _⟩ r k) := by
  obtain ⟨-, -, e0, e1, e2, -⟩ := idx_facts t
  show V m c main_arg1 (((cfg0.win 1).blk t).view.emb (ix3 (0 : Fin 1) r k)) = _
  rw [V_main_arg1]
  refine congrArg (A1 m c) (funext fun i => Fin.ext ?_)
  match i with
  | ⟨0, _⟩ => show win0_1.index t (0 : Fin 3) * 1 + 1 * 0 = modRow t.val; rw [e0]; omega
  | ⟨1, _⟩ => show win0_1.index t (1 : Fin 3) * 6 + 1 * r.val = r.val; rw [e1]; omega
  | ⟨2, _⟩ => show win0_1.index t (2 : Fin 3) * 1024 + 1 * k.val = k.val; rw [e2]; omega

theorem iblk2_apply (c : Dev nD) (t : Fin cfg0.N) (k : Fin 1024) : iblk m c 2 t (ix2 (0 : Fin 1) k) = A2 m c (ix2 0 k) := by
  obtain ⟨-, -, -, -, -, e0, e1, -⟩ := idx_facts t
  show V m c main_arg2 (((cfg0.win 2).blk t).view.emb (ix2 (0 : Fin 1) k)) = _
  rw [V_main_arg2]
  refine congrArg (A2 m c) (funext fun i => Fin.ext ?_)
  match i with
  | ⟨0, _⟩ => show win0_2.index t (0 : Fin 2) * 1 + 1 * 0 = 0; rw [e0]
  | ⟨1, _⟩ => show win0_2.index t (1 : Fin 2) * 1024 + 1 * k.val = k.val; rw [e1]; omega

/-- The widened weights are the weights in their first 3072 columns. -/
theorem wide_apply (c : Dev nD) (k : Fin 1024) (j : Fin 3072) (h : j.val < 3200) :
    (V m c main_v2 : S1024x3200.Idx → EReal) (ix2 k ⟨j.val, h⟩) = A3 m c (ix2 k j) := by
  have e : (V m c main_v2 : S1024x3200.Idx → EReal) = concatenate S1024x3200 1 [⟨S1024x3072, A3 m c⟩, ⟨S1024x16, (m ((c : Thread nD τ).loc main_arg4) : S1024x16.Idx → EReal)⟩,
      ⟨S1024x16, (m ((c : Thread nD τ).loc main_arg5) : S1024x16.Idx → EReal)⟩,
      ⟨S1024x96, (broadcastInDim S1024x96 ![] bcast_S_S1024x96 (constant (F := Ideal) S_ .f32 0x00000000#32) : S1024x96.Idx → EReal)⟩]
      concatenates_S1024x3072_S1024x16_S1024x16_S1024x96_S1024x3200_d1 := by
    show StableHlo.after (List.flatten [hostOps0, hostOps0_1, hostOps0_2, hostOps0_3, hostOps0_4]) (fun b => m (c, b)) main_v2 = _
    simp only [hostOps0, hostOps0_1, hostOps0_2, hostOps0_3, hostOps0_4, List.flatten_cons, List.flatten_nil, List.append_nil, List.cons_append, List.nil_append]
    after_results_simp
    rfl
  rw [e]
  exact concatenate_apply_piece (1 : Fin S1024x3200.rank) _ _ (ix2 k (⟨j.val, h⟩ : Fin 3200)) 0 (by simp) S1024x3072 (A3 m c) rfl rfl 0 rfl (ix2 k j)
    (fun b hb => by
      match b with
      | ⟨0, _⟩ => rfl
      | ⟨1, _⟩ => exact absurd rfl hb)
    (Nat.zero_add _)

theorem iblk3_apply (c : Dev nD) (t : Fin cfg0.N) (k : Fin 1024) (j : Fin 3072) (h : j.val < 3200) :
    iblk m c 3 t (ix2 k (⟨j.val, h⟩ : Fin 3200)) = A3 m c (ix2 k j) := by
  obtain ⟨-, -, -, -, -, -, -, e0, e1, -⟩ := idx_facts t
  refine Eq.trans ?_ (wide_apply m c k j h)
  show V m c main_v2 (((cfg0.win 3).blk t).view.emb (ix2 k (⟨j.val, h⟩ : Fin 3200))) = _
  refine congrArg (V m c main_v2 : S1024x3200.Idx → EReal) (funext fun i => Fin.ext ?_)
  match i with
  | ⟨0, _⟩ => show win0_3.index t (0 : Fin 2) * 1024 + 1 * k.val = k.val; rw [e0]; omega
  | ⟨1, _⟩ => show win0_3.index t (1 : Fin 2) * 3200 + 1 * j.val = j.val; rw [e1]; omega

/-- The formula at a row of tile `t` and a column. -/
def want (c : Dev nD) (t : ℕ) (a : ℕ) (h : t * 1024 + a < 17408) (j : Fin 3072) : EReal :=
  cell (fun i => A0 m c (ix2 ⟨t * 1024 + a, h⟩ i)) (fun i => A2 m c (ix2 0 i)) (fun i => A1 m c (ix3 ⟨modRow t, modRow_lt t⟩ 1 i))
    (fun i => A1 m c (ix3 ⟨modRow t, modRow_lt t⟩ 0 i)) (fun k => A3 m c (ix2 k j)) j.val

/-- The projection's array after the run. -/
abbrev res (c : Dev nD) : S17408x3072.Idx → EReal := (dats m 0 c).arrAt 6 cfg0.N

theorem res_apply (c : Dev nD) (t : Fin cfg0.N) (a : Fin 1024) (j : Fin 3072) :
    res m c (ix2 ⟨t.val * 1024 + a.val, row_lt t a⟩ j) = want m c t.val a.val (row_lt t a) j := by
  obtain ⟨-, -, -, -, -, -, -, -, -, e0, e1⟩ := idx_facts t
  have hb := congrFun (Cert.Kernel2Ideal.Value.blocks6 m c t (flush6 t)) (ix2 a j)
  rw [Cert.Kernel2Ideal.Value.flushed6] at hb
  have he : ((cfg0.win 6).blk t).view.emb (ix2 a j) = (ix2 (⟨t.val * 1024 + a.val, row_lt t a⟩ : Fin 17408) j : S17408x3072.Idx) := by
    funext i; refine Fin.ext ?_
    match i with
    | ⟨0, _⟩ => show win0_6.index t (0 : Fin 2) * 1024 + 1 * a.val = t.val * 1024 + a.val; rw [e0]; omega
    | ⟨1, _⟩ => show win0_6.index t (1 : Fin 2) * 3072 + 1 * j.val = j.val; rw [e1]; omega
  have hl : res m c (((cfg0.win 6).blk t).view.emb (ix2 a j)) = out0_6 (iblk m c 0 t) (iblk m c 1 t) (iblk m c 2 t) (iblk m c 3 t) (iblk m c 4 t) (iblk m c 5 t) (ix2 a j) := hb
  rw [he] at hl
  refine hl.trans ((out_eq _ _ _ _ _ _ _).trans ?_)
  show cell _ _ _ _ _ _ = cell _ _ _ _ _ _
  congr 1
  · funext i; exact iblk0_apply m c t a i
  · funext i; exact iblk2_apply m c t i
  · funext i; exact iblk1_apply m c t 1 i
  · funext i; exact iblk1_apply m c t 0 i
  · funext k; exact iblk3_apply m c t k j _

end Cert.Proof.Inproj

end
-- ==== Proof.Inproj.Ref.lean ====
/-
  The reference's projection, entry by entry: the latent rows with their batch's modulations, the context rows with the first
  row of modulations, every row times the weights.
-/
module

public import proofs.«01_k».proof.Proof.Inproj.Row
public import proofs.«01_k».proof.Proof.Gen.Reference2Ideal.Run

@[expose] public section

noncomputable section

namespace Cert.Proof.InprojRef

open Cert.Reference2Ideal Cert.Reference2Ideal.Gen Cert.Proof.Inproj
open Idealize.ShloMosaic
open Idealize.ShloMosaic.ValueIdx (ix0 ix1 ix2 ix3 ix4 eq_ix2 broadcastInDim_scalar_apply)
open Idealize.ShloMosaic.StackMember

variable (x : FVec Ideal S17408x1024 .f32) (md : FVec Ideal S8x6x1024 .f32) (nw : FVec Ideal S1x1024 .f32) (w : FVec Ideal S1024x3072 .f32)

/-- The latent rows by batch, and the context rows. -/
def lat : FVec Ideal S4x4096x1024 .f32 :=
  shapeCast _ (extractStridedSlice S16384x1024 ![0, 0] x slices_S17408x1024_S16384x1024_0_0) shapeCasts_S16384x1024_S4x4096x1024
def ctx : FVec Ideal S1024x1024 .f32 := extractStridedSlice S1024x1024 ![16384, 0] x slices_S17408x1024_S1024x1024_16384_0

/-- One over the root of each row's mean square. -/
def latInv : FVec Ideal S4x4096x1 .f32 :=
  Host.rsqrt (addf (Host.divf (broadcastInDim S4x4096x1 ![0, 1] bcast_S4x4096_S4x4096x1_0_1 (Host.reduceAdd (mulf (lat x) (lat x)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))
def ctxInv : FVec Ideal S1024x1 .f32 :=
  Host.rsqrt (addf (Host.divf (broadcastInDim S1024x1 ![0] bcast_S1024_S1024x1_0 (Host.reduceAdd (mulf (ctx x) (ctx x)) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))

/-- Rows of the modulations: the batches', and the context's. -/
def latScale : FVec Ideal S4x1x1024 .f32 :=
  broadcastInDim S4x1x1024 ![0, 2] bcast_S4x1024_S4x1x1024_0_2 (shapeCast _ (extractStridedSlice S4x1x1024 ![1, 1, 0] md slices_S8x6x1024_S4x1x1024_1_1_0) shapeCasts_S4x1x1024_S4x1024)
def latShift : FVec Ideal S4x1x1024 .f32 :=
  broadcastInDim S4x1x1024 ![0, 2] bcast_S4x1024_S4x1x1024_0_2 (shapeCast _ (extractStridedSlice S4x1x1024 ![1, 0, 0] md slices_S8x6x1024_S4x1x1024_1_0_0) shapeCasts_S4x1x1024_S4x1024)
def ctxScale : FVec Ideal S1024 .f32 := shapeCast _ (extractStridedSlice S1x1x1024 ![0, 1, 0] md slices_S8x6x1024_S1x1x1024_0_1_0) shapeCasts_S1x1x1024_S1024
def ctxShift : FVec Ideal S1024 .f32 := shapeCast _ (extractStridedSlice S1x1x1024 ![0, 0, 0] md slices_S8x6x1024_S1x1x1024_0_0_0) shapeCasts_S1x1x1024_S1024

/-- The norm's weights. -/
def wt : FVec Ideal S1024 .f32 := shapeCast _ nw shapeCasts_S1x1024_S1024

/-- The normed, scaled and shifted rows. -/
def latRows : FVec Ideal S4x4096x1024 .f32 :=
  addf (mulf (mulf (mulf (lat x) (broadcastInDim S4x4096x1024 ![0, 1, 2] bcast_S4x4096x1_S4x4096x1024_0_1_2 (latInv x))) (broadcastInDim S4x4096x1024 ![0, 1, 2] bcast_S1x1x1024_S4x4096x1024_0_1_2 (broadcastInDim S1x1x1024 ![2] bcast_S1024_S1x1x1024_2 (wt nw)))) (broadcastInDim S4x4096x1024 ![0, 1, 2] bcast_S4x1x1024_S4x4096x1024_0_1_2 (addf (broadcastInDim S4x1x1024 ![] bcast_S_S4x1x1024 (constant S_ .f32 0x3F800000#32)) (latScale md)))) (broadcastInDim S4x4096x1024 ![0, 1, 2] bcast_S4x1x1024_S4x4096x1024_0_1_2 (latShift md))
def ctxRows : FVec Ideal S1024x1024 .f32 :=
  addf (mulf (mulf (mulf (ctx x) (broadcastInDim S1024x1024 ![0, 1] bcast_S1024x1_S1024x1024_0_1 (ctxInv x))) (broadcastInDim S1024x1024 ![0, 1] bcast_S1x1024_S1024x1024_0_1 (broadcastInDim S1x1024 ![1] bcast_S1024_S1x1024_1 (wt nw)))) (broadcastInDim S1024x1024 ![0, 1] bcast_S1x1024_S1024x1024_0_1 (broadcastInDim S1x1024 ![1] bcast_S1024_S1x1024_1 (addf (broadcastInDim S1024 ![] bcast_S_S1024 (constant S_ .f32 0x3F800000#32)) (ctxScale md))))) (broadcastInDim S1024x1024 ![0, 1] bcast_S1x1024_S1024x1024_0_1 (broadcastInDim S1x1024 ![1] bcast_S1024_S1x1024_1 (ctxShift md)))
def rows : FVec Ideal S17408x1024 .f32 :=
  concatenate S17408x1024 0 [⟨S16384x1024, shapeCast _ (latRows x md nw) shapeCasts_S4x4096x1024_S16384x1024⟩, ⟨S1024x1024, ctxRows x md nw⟩] concatenates_S16384x1024_S1024x1024_S17408x1024_d0

/-- The product of the rows with the weights. -/
def full : FVec Ideal S17408x3072 .f32 := Host.dotGeneral dot_S17408x1024_S1024x3072_S17408x3072_1_0_0_1_n_n none (rows x md nw) w

/-- The reference's result. -/
def out : FVec Ideal S17408x3072 .bf16 :=
  truncf .bf16 (concatenate S17408x3072 1 [⟨S17408x512, (mulf (extractStridedSlice S17408x512 ![0, 0] (full x md nw w) slices_S17408x3072_S17408x512_0_0) (broadcastInDim S17408x512 ![] bcast_S_S17408x512 (constant S_ .f32 0x3DB504F3#32)))⟩,
    ⟨S17408x2560, (extractStridedSlice S17408x2560 ![0, 512] (full x md nw w) slices_S17408x3072_S17408x2560_0_512)⟩] concatenates_S17408x512_S17408x2560_S17408x3072_d1) bitsLt_bf16_f32

theorem res_eq (m : (ℓ : Loc nD τ sig) → Buf (Elt Ideal) ℓ) (c : Dev nD) : Cert.Reference2Ideal.Value.res_main_v63 m c =
    out (m ((c.tc : Thread nD τ).loc main_arg0)) (m ((c.tc : Thread nD τ).loc main_arg1)) (m ((c.tc : Thread nD τ).loc main_arg2)) (m ((c.tc : Thread nD τ).loc main_arg3)) := rfl

theorem lat_lt (b : Fin 4) (s : Fin 4096) : b.val * 4096 + s.val < 17408 := by omega

theorem lat_apply (b : Fin 4) (s : Fin 4096) (k : Fin 1024) : lat x (ix3 b s k) = x (ix2 ⟨b.val * 4096 + s.val, lat_lt b s⟩ k) := by
  unfold lat
  rw [shapeCast_apply _ _ (ix3 b s k) (ix2 (⟨b.val * 4096 + s.val, by omega⟩ : Fin 16384) k) (by
    rw [Shape.rowMajor_val_two, Shape.rowMajor_val_three]
    rfl)]
  refine congrArg x (funext fun i => Fin.ext ?_)
  match i with
  | ⟨0, _⟩ => show 0 + (b.val * 4096 + s.val) = b.val * 4096 + s.val; omega
  | ⟨1, _⟩ => show 0 + k.val = k.val; omega

theorem ctx_apply (a k : Fin 1024) : ctx x (ix2 a k) = x (ix2 ⟨16384 + a.val, by omega⟩ k) := by
  refine congrArg x (funext fun i => Fin.ext ?_)
  match i with
  | ⟨0, _⟩ => rfl
  | ⟨1, _⟩ => show 0 + k.val = k.val; omega

theorem latSum (b : Fin 4) (s : Fin 4096) : Host.reduceAdd (mulf (lat x) (lat x)) (constant S_ .f32 0x00000000#32) reducesTo_S4x4096x1024_S4x4096_d2 h_S_ (ix2 b s)
    = ∑ k : Fin 1024, lat x (ix3 b s k) * lat x (ix3 b s k) := by
  have hr : S4x4096x1024.Reduces [2] S4x4096 := by decide
  refine (Ideal.hostReduceAdd_single reducesTo_S4x4096x1024_S4x4096_d2 hr (mulf (lat x) (lat x)) _ (ix2 b s)).trans ?_
  show Ideal.ofBits .f32 0x00000000#32 + _ = _
  rw [Ideal.ofBits_zero_f32, zero_add]
  refine Finset.sum_congr rfl fun k _ => ?_
  have e : hr.lift (ix2 b s) k = ix3 b s k := by
    funext i; refine Fin.ext ?_
    match i with
    | ⟨0, _⟩ => rfl
    | ⟨1, _⟩ => rfl
    | ⟨2, _⟩ => rfl
  rw [e]; rfl

theorem ctxSum (a : Fin 1024) : Host.reduceAdd (mulf (ctx x) (ctx x)) (constant S_ .f32 0x00000000#32) reducesTo_S1024x1024_S1024_d1 h_S_ (ix1 a)
    = ∑ k : Fin 1024, ctx x (ix2 a k) * ctx x (ix2 a k) := by
  have hr : S1024x1024.Reduces [1] S1024 := by decide
  refine (Ideal.hostReduceAdd_single reducesTo_S1024x1024_S1024_d1 hr (mulf (ctx x) (ctx x)) _ (ix1 a)).trans ?_
  show Ideal.ofBits .f32 0x00000000#32 + _ = _
  rw [Ideal.ofBits_zero_f32, zero_add]
  refine Finset.sum_congr rfl fun k _ => ?_
  have e : hr.lift (ix1 a) k = ix2 a k := by
    funext i; refine Fin.ext ?_
    match i with
    | ⟨0, _⟩ => rfl
    | ⟨1, _⟩ => rfl
  rw [e]; rfl

theorem latInv_apply (b : Fin 4) (s : Fin 4096) : latInv x (ix3 b s 0) =
    Ideal.rsqrt (Ideal.div (∑ k : Fin 1024, lat x (ix3 b s k) * lat x (ix3 b s k)) (Ideal.ofBits .f32 0x44800000#32) + Ideal.ofBits .f32 0x358637BD#32) := by
  rw [← latSum x b s]
  show Ideal.rsqrt (Ideal.div (broadcastInDim (s := S4x4096) S4x4096x1 ![0, 1] bcast_S4x4096_S4x4096x1_0_1 (Host.reduceAdd (F := Ideal) (mulf (lat x) (lat x)) (constant S_ .f32 0x00000000#32) reducesTo_S4x4096x1024_S4x4096_d2 h_S_) (ix3 b s 0)) _ + _) = _
  rw [broadcastInDim_apply ![0, 1] bcast_S4x4096_S4x4096x1_0_1 _ (ix3 b s (0 : Fin 1)) (ix2 b s) (fun i => by
    match i with
    | ⟨0, _⟩ => rfl
    | ⟨1, _⟩ => rfl)]
  rfl

theorem ctxInv_apply (a : Fin 1024) : ctxInv x (ix2 a 0) =
    Ideal.rsqrt (Ideal.div (∑ k : Fin 1024, ctx x (ix2 a k) * ctx x (ix2 a k)) (Ideal.ofBits .f32 0x44800000#32) + Ideal.ofBits .f32 0x358637BD#32) := by
  rw [← ctxSum x a]
  show Ideal.rsqrt (Ideal.div (broadcastInDim (s := S1024) S1024x1 ![0] bcast_S1024_S1024x1_0 (Host.reduceAdd (F := Ideal) (mulf (ctx x) (ctx x)) (constant S_ .f32 0x00000000#32) reducesTo_S1024x1024_S1024_d1 h_S_) (ix2 a 0)) _ + _) = _
  rw [broadcastInDim_apply ![0] bcast_S1024_S1024x1_0 _ (ix2 a (0 : Fin 1)) (ix1 a) (fun i => by
    match i with
    | ⟨0, _⟩ => rfl)]
  rfl

theorem wt_apply (k : Fin 1024) : wt nw (ix1 k) = nw (ix2 0 k) :=
  shapeCast_apply _ _ (ix1 k) (ix2 (0 : Fin 1) k) (by
    rw [Shape.rowMajor_val_two, Shape.rowMajor_val_one]
    show 0 * 1024 + k.val = k.val; omega)

theorem latScale_apply (b : Fin 4) (k : Fin 1024) : latScale md (ix3 b 0 k) = md (ix3 ⟨1 + b.val, by omega⟩ 1 k) := by
  unfold latScale
  rw [broadcastInDim_apply ![0, 2] bcast_S4x1024_S4x1x1024_0_2 _ (ix3 b (0 : Fin 1) k) (ix2 b k) (fun i => by
    match i with
    | ⟨0, _⟩ => rfl
    | ⟨1, _⟩ => rfl)]
  rw [shapeCast_apply _ _ (ix2 b k) (ix3 b (0 : Fin 1) k) (by
    rw [Shape.rowMajor_val_two, Shape.rowMajor_val_three]
    show (b.val * 1 + 0) * 1024 + k.val = b.val * 1024 + k.val; omega)]
  refine congrArg md (funext fun i => Fin.ext ?_)
  match i with
  | ⟨0, _⟩ => rfl
  | ⟨1, _⟩ => rfl
  | ⟨2, _⟩ => show 0 + k.val = k.val; omega

theorem latShift_apply (b : Fin 4) (k : Fin 1024) : latShift md (ix3 b 0 k) = md (ix3 ⟨1 + b.val, by omega⟩ 0 k) := by
  unfold latShift
  rw [broadcastInDim_apply ![0, 2] bcast_S4x1024_S4x1x1024_0_2 _ (ix3 b (0 : Fin 1) k) (ix2 b k) (fun i => by
    match i with
    | ⟨0, _⟩ => rfl
    | ⟨1, _⟩ => rfl)]
  rw [shapeCast_apply _ _ (ix2 b k) (ix3 b (0 : Fin 1) k) (by
    rw [Shape.rowMajor_val_two, Shape.rowMajor_val_three]
    show (b.val * 1 + 0) * 1024 + k.val = b.val * 1024 + k.val; omega)]
  refine congrArg md (funext fun i => Fin.ext ?_)
  match i with
  | ⟨0, _⟩ => rfl
  | ⟨1, _⟩ => rfl
  | ⟨2, _⟩ => show 0 + k.val = k.val; omega

theorem ctxScale_apply (k : Fin 1024) : ctxScale md (ix1 k) = md (ix3 0 1 k) := by
  unfold ctxScale
  rw [shapeCast_apply _ _ (ix1 k) (ix3 (0 : Fin 1) (0 : Fin 1) k) (by
    rw [Shape.rowMajor_val_one, Shape.rowMajor_val_three]
    show (0 * 1 + 0) * 1024 + k.val = k.val; omega)]
  refine congrArg md (funext fun i => Fin.ext ?_)
  match i with
  | ⟨0, _⟩ => rfl
  | ⟨1, _⟩ => rfl
  | ⟨2, _⟩ => show 0 + k.val = k.val; omega

theorem ctxShift_apply (k : Fin 1024) : ctxShift md (ix1 k) = md (ix3 0 0 k) := by
  unfold ctxShift
  rw [shapeCast_apply _ _ (ix1 k) (ix3 (0 : Fin 1) (0 : Fin 1) k) (by
    rw [Shape.rowMajor_val_one, Shape.rowMajor_val_three]
    show (0 * 1 + 0) * 1024 + k.val = k.val; omega)]
  refine congrArg md (funext fun i => Fin.ext ?_)
  match i with
  | ⟨0, _⟩ => rfl
  | ⟨1, _⟩ => rfl
  | ⟨2, _⟩ => show 0 + k.val = k.val; omega

/-- A row repeated down the latent rows, a row for each batch, and a number for each row. -/
theorem spreadRow (v : FVec Ideal S1024 .f32) (b : Fin 4) (s : Fin 4096) (k : Fin 1024) :
    broadcastInDim S4x4096x1024 ![0, 1, 2] bcast_S1x1x1024_S4x4096x1024_0_1_2 (broadcastInDim S1x1x1024 ![2] bcast_S1024_S1x1x1024_2 v) (ix3 b s k) = v (ix1 k) := by
  rw [broadcastInDim_apply ![0, 1, 2] bcast_S1x1x1024_S4x4096x1024_0_1_2 _ (ix3 b s k) (ix3 (0 : Fin 1) (0 : Fin 1) k) (fun i => by
    match i with
    | ⟨0, _⟩ => rfl
    | ⟨1, _⟩ => rfl
    | ⟨2, _⟩ => rfl)]
  exact broadcastInDim_apply ![2] bcast_S1024_S1x1x1024_2 v (ix3 (0 : Fin 1) (0 : Fin 1) k) (ix1 k) (fun i => by
    match i with
    | ⟨0, _⟩ => rfl)

theorem spreadBatch (v : FVec Ideal S4x1x1024 .f32) (b : Fin 4) (s : Fin 4096) (k : Fin 1024) :
    broadcastInDim S4x4096x1024 ![0, 1, 2] bcast_S4x1x1024_S4x4096x1024_0_1_2 v (ix3 b s k) = v (ix3 b 0 k) :=
  broadcastInDim_apply ![0, 1, 2] bcast_S4x1x1024_S4x4096x1024_0_1_2 v (ix3 b s k) (ix3 b (0 : Fin 1) k) (fun i => by
    match i with
    | ⟨0, _⟩ => rfl
    | ⟨1, _⟩ => rfl
    | ⟨2, _⟩ => rfl)

theorem spreadCol (v : FVec Ideal S4x4096x1 .f32) (b : Fin 4) (s : Fin 4096) (k : Fin 1024) :
    broadcastInDim S4x4096x1024 ![0, 1, 2] bcast_S4x4096x1_S4x4096x1024_0_1_2 v (ix3 b s k) = v (ix3 b s 0) :=
  broadcastInDim_apply ![0, 1, 2] bcast_S4x4096x1_S4x4096x1024_0_1_2 v (ix3 b s k) (ix3 b s (0 : Fin 1)) (fun i => by
    match i with
    | ⟨0, _⟩ => rfl
    | ⟨1, _⟩ => rfl
    | ⟨2, _⟩ => rfl)

theorem spreadRow' (v : FVec Ideal S1024 .f32) (a k : Fin 1024) :
    broadcastInDim S1024x1024 ![0, 1] bcast_S1x1024_S1024x1024_0_1 (broadcastInDim S1x1024 ![1] bcast_S1024_S1x1024_1 v) (ix2 a k) = v (ix1 k) := by
  rw [broadcastInDim_apply ![0, 1] bcast_S1x1024_S1024x1024_0_1 _ (ix2 a k) (ix2 (0 : Fin 1) k) (fun i => by
    match i with
    | ⟨0, _⟩ => rfl
    | ⟨1, _⟩ => rfl)]
  exact broadcastInDim_apply ![1] bcast_S1024_S1x1024_1 v (ix2 (0 : Fin 1) k) (ix1 k) (fun i => by
    match i with
    | ⟨0, _⟩ => rfl)

theorem spreadCol' (v : FVec Ideal S1024x1 .f32) (a k : Fin 1024) :
    broadcastInDim S1024x1024 ![0, 1] bcast_S1024x1_S1024x1024_0_1 v (ix2 a k) = v (ix2 a 0) :=
  broadcastInDim_apply ![0, 1] bcast_S1024x1_S1024x1024_0_1 v (ix2 a k) (ix2 a (0 : Fin 1)) (fun i => by
    match i with
    | ⟨0, _⟩ => rfl
    | ⟨1, _⟩ => rfl)

theorem latRows_apply (b : Fin 4) (s : Fin 4096) (k : Fin 1024) : latRows x md nw (ix3 b s k) =
    normed (fun i => x (ix2 ⟨b.val * 4096 + s.val, lat_lt b s⟩ i)) (fun i => nw (ix2 0 i)) (fun i => md (ix3 ⟨1 + b.val, by omega⟩ 1 i))
      (fun i => md (ix3 ⟨1 + b.val, by omega⟩ 0 i)) k := by
  unfold normed
  show lat x (ix3 b s k) * broadcastInDim S4x4096x1024 ![0, 1, 2] bcast_S4x4096x1_S4x4096x1024_0_1_2 (latInv x) (ix3 b s k)
      * broadcastInDim S4x4096x1024 ![0, 1, 2] bcast_S1x1x1024_S4x4096x1024_0_1_2 (broadcastInDim S1x1x1024 ![2] bcast_S1024_S1x1x1024_2 (wt nw)) (ix3 b s k)
      * broadcastInDim S4x4096x1024 ![0, 1, 2] bcast_S4x1x1024_S4x4096x1024_0_1_2 (addf (F := Ideal) (broadcastInDim S4x1x1024 ![] bcast_S_S4x1x1024 (constant S_ .f32 0x3F800000#32)) (latScale md)) (ix3 b s k)
      + broadcastInDim S4x4096x1024 ![0, 1, 2] bcast_S4x1x1024_S4x4096x1024_0_1_2 (latShift md) (ix3 b s k) = _
  rw [spreadCol, spreadRow, spreadBatch, spreadBatch, latShift_apply, latInv_apply, wt_apply]
  simp only [lat_apply]
  show _ * (_ + latScale md (ix3 b 0 k)) + _ = _
  rw [latScale_apply]
  rfl

theorem ctxRows_apply (a k : Fin 1024) : ctxRows x md nw (ix2 a k) =
    normed (fun i => x (ix2 ⟨16384 + a.val, by omega⟩ i)) (fun i => nw (ix2 0 i)) (fun i => md (ix3 0 1 i)) (fun i => md (ix3 0 0 i)) k := by
  unfold normed
  show ctx x (ix2 a k) * broadcastInDim S1024x1024 ![0, 1] bcast_S1024x1_S1024x1024_0_1 (ctxInv x) (ix2 a k)
      * broadcastInDim S1024x1024 ![0, 1] bcast_S1x1024_S1024x1024_0_1 (broadcastInDim S1x1024 ![1] bcast_S1024_S1x1024_1 (wt nw)) (ix2 a k)
      * broadcastInDim S1024x1024 ![0, 1] bcast_S1x1024_S1024x1024_0_1 (broadcastInDim S1x1024 ![1] bcast_S1024_S1x1024_1 (addf (F := Ideal) (broadcastInDim S1024 ![] bcast_S_S1024 (constant S_ .f32 0x3F800000#32)) (ctxScale md))) (ix2 a k)
      + broadcastInDim S1024x1024 ![0, 1] bcast_S1x1024_S1024x1024_0_1 (broadcastInDim S1x1024 ![1] bcast_S1024_S1x1024_1 (ctxShift md)) (ix2 a k) = _
  rw [spreadCol', spreadRow', spreadRow', spreadRow', ctxShift_apply, ctxInv_apply, wt_apply]
  simp only [ctx_apply]
  show _ * (_ + ctxScale md (ix1 k)) + _ = _
  rw [ctxScale_apply]
  rfl

theorem rows_lat (b : Fin 4) (s : Fin 4096) (k : Fin 1024) (h : b.val * 4096 + s.val < 17408) :
    rows x md nw (ix2 ⟨b.val * 4096 + s.val, h⟩ k) = latRows x md nw (ix3 b s k) := by
  unfold rows
  rw [concatenate_pair_apply_left (s₁ := S16384x1024) (s₂ := S1024x1024) (0 : Fin S17408x1024.rank) _ _ _ (ix2 (⟨b.val * 4096 + s.val, h⟩ : Fin 17408) k) rfl (ix2 (⟨b.val * 4096 + s.val, by omega⟩ : Fin 16384) k) (fun i => by
    match i with
    | ⟨0, _⟩ => rfl
    | ⟨1, _⟩ => rfl)]
  exact shapeCast_apply _ _ _ (ix3 b s k) (by
    rw [Shape.rowMajor_val_two, Shape.rowMajor_val_three]
    rfl)

theorem rows_ctx (a k : Fin 1024) (h : 16384 + a.val < 17408) : rows x md nw (ix2 ⟨16384 + a.val, h⟩ k) = ctxRows x md nw (ix2 a k) := by
  unfold rows
  exact concatenate_pair_apply_right (s₁ := S16384x1024) (s₂ := S1024x1024) (0 : Fin S17408x1024.rank) _ _ _ (ix2 (⟨16384 + a.val, h⟩ : Fin 17408) k) rfl rfl (ix2 a k)
    (fun i hi => by
      match i with
      | ⟨0, _⟩ => exact absurd rfl hi
      | ⟨1, _⟩ => rfl)
    (Nat.add_comm _ _)

/-- Row `a` of tile `t` of the rows. -/
theorem rows_apply (t : ℕ) (a : Fin 1024) (h : t * 1024 + a.val < 17408) (k : Fin 1024) : rows x md nw (ix2 ⟨t * 1024 + a.val, h⟩ k) =
    normed (fun i => x (ix2 ⟨t * 1024 + a.val, h⟩ i)) (fun i => nw (ix2 0 i)) (fun i => md (ix3 ⟨modRow t, modRow_lt t⟩ 1 i))
      (fun i => md (ix3 ⟨modRow t, modRow_lt t⟩ 0 i)) k := by
  by_cases ht : t < 16
  · obtain ⟨b, hb⟩ : ∃ b : Fin 4, b.val = t / 4 := ⟨⟨t / 4, by omega⟩, rfl⟩
    obtain ⟨s, hs⟩ : ∃ s : Fin 4096, s.val = t % 4 * 1024 + a.val := ⟨⟨t % 4 * 1024 + a.val, by omega⟩, rfl⟩
    have e : (⟨t * 1024 + a.val, h⟩ : Fin 17408) = ⟨b.val * 4096 + s.val, by omega⟩ := Fin.ext (by show t * 1024 + a.val = b.val * 4096 + s.val; omega)
    have e' : (⟨modRow t, modRow_lt t⟩ : Fin 8) = ⟨1 + b.val, by omega⟩ := Fin.ext (by show modRow t = 1 + b.val; unfold modRow; rw [if_pos ht, hb])
    rw [e, e', rows_lat, latRows_apply]
  · have e : (⟨t * 1024 + a.val, h⟩ : Fin 17408) = ⟨16384 + a.val, by omega⟩ := Fin.ext (by show t * 1024 + a.val = 16384 + a.val; omega)
    have e' : (⟨modRow t, modRow_lt t⟩ : Fin 8) = 0 := Fin.ext (by show modRow t = 0; unfold modRow; rw [if_neg ht])
    rw [e, e', rows_ctx, ctxRows_apply]

theorem full_apply (r : Fin 17408) (j : Fin 3072) : full x md nw w (ix2 r j) = ∑ k : Fin 1024, rows x md nw (ix2 r k) * w (ix2 k j) :=
  dotGeneral_plain_apply none (rows x md nw) w r j

theorem out_apply (t : ℕ) (a : Fin 1024) (h : t * 1024 + a.val < 17408) (j : Fin 3072) : out x md nw w (ix2 ⟨t * 1024 + a.val, h⟩ j) =
    cell (fun i => x (ix2 ⟨t * 1024 + a.val, h⟩ i)) (fun i => nw (ix2 0 i)) (fun i => md (ix3 ⟨modRow t, modRow_lt t⟩ 1 i))
      (fun i => md (ix3 ⟨modRow t, modRow_lt t⟩ 0 i)) (fun k => w (ix2 k j)) j.val := by
  have hf := full_apply x md nw w ⟨t * 1024 + a.val, h⟩ j
  simp only [rows_apply] at hf
  unfold cell
  rw [← hf]
  unfold out
  show concatenate S17408x3072 1 [⟨S17408x512, (mulf (F := Ideal) (φ := .f32) (extractStridedSlice S17408x512 ![0, 0] (full x md nw w) slices_S17408x3072_S17408x512_0_0) (broadcastInDim S17408x512 ![] bcast_S_S17408x512 (constant S_ .f32 0x3DB504F3#32)))⟩,
    ⟨S17408x2560, (extractStridedSlice S17408x2560 ![0, 512] (full x md nw w) slices_S17408x3072_S17408x2560_0_512)⟩] concatenates_S17408x512_S17408x2560_S17408x3072_d1 (ix2 (⟨t * 1024 + a.val, h⟩ : Fin 17408) j) = _
  split
  · next hj =>
    rw [concatenate_pair_apply_left (s₁ := S17408x512) (s₂ := S17408x2560) (1 : Fin S17408x3072.rank) _ _ _ (ix2 (⟨t * 1024 + a.val, h⟩ : Fin 17408) j) rfl (ix2 (⟨t * 1024 + a.val, h⟩ : Fin 17408) (⟨j.val, hj⟩ : Fin 512)) (fun i => by
      match i with
      | ⟨0, _⟩ => rfl
      | ⟨1, _⟩ => rfl)]
    refine congrArg (· * Ideal.ofBits .f32 0x3DB504F3#32) (congrArg (full x md nw w) (funext fun i => Fin.ext ?_))
    match i with
    | ⟨0, _⟩ => show 0 + (t * 1024 + a.val) = t * 1024 + a.val; omega
    | ⟨1, _⟩ => show 0 + j.val = j.val; omega
  · next hj =>
    rw [concatenate_pair_apply_right (s₁ := S17408x512) (s₂ := S17408x2560) (1 : Fin S17408x3072.rank) _ _ _ (ix2 (⟨t * 1024 + a.val, h⟩ : Fin 17408) j) rfl rfl (ix2 (⟨t * 1024 + a.val, h⟩ : Fin 17408) (⟨j.val - 512, by omega⟩ : Fin 2560)) (fun i hi => by
      match i with
      | ⟨0, _⟩ => rfl
      | ⟨1, _⟩ => exact absurd rfl hi) (by show j.val - 512 + 512 = j.val; omega)]
    refine congrArg (full x md nw w) (funext fun i => Fin.ext ?_)
    match i with
    | ⟨0, _⟩ => show 0 + (t * 1024 + a.val) = t * 1024 + a.val; omega
    | ⟨1, _⟩ => show 512 + (j.val - 512) = j.val; omega

end Cert.Proof.InprojRef

end
-- ==== Proof.Inproj.Value.lean ====
/-
  The second value claim: the input projection's result and the reference's are the same numbers, at every row and column.
-/
module

public import proofs.«01_k».proof.Defs
public import proofs.«01_k».proof.Proof.Inproj.Array
public import proofs.«01_k».proof.Proof.Inproj.Ref

@[expose] public section

noncomputable section

namespace Cert.Proof.InprojValue

open Cert.Kernel2Ideal Cert.Kernel2Ideal.Gen Cert.Proof.Inproj
open Idealize.ShloMosaic
open Idealize.ShloMosaic.TcCoe Idealize.SL.Sem
open Idealize.ShloMosaic.ValueIdx (ix2 ix3 eq_ix2)

variable (m : (ℓ : Loc nD τ sig) → Buf (Elt Ideal) ℓ)

theorem res_eq (c : Dev nD) (i : S17408x3072.Idx) : res m c i = InprojRef.out (A0 m c) (A1 m c) (A2 m c) (A3 m c) i := by
  obtain ⟨r, j, rfl⟩ : ∃ (r : Fin 17408) (j : Fin 3072), i = ix2 r j := ⟨i 0, i 1, eq_ix2 i⟩
  obtain ⟨t, ht⟩ : ∃ t : Fin cfg0.N, t.val = r.val / 1024 := ⟨⟨r.val / 1024, by rw [N_eq]; omega⟩, rfl⟩
  obtain ⟨a, ha⟩ : ∃ a : Fin 1024, a.val = r.val % 1024 := ⟨⟨r.val % 1024, Nat.mod_lt _ (by decide)⟩, rfl⟩
  obtain rfl : r = ⟨t.val * 1024 + a.val, row_lt t a⟩ := Fin.ext (by show r.val = t.val * 1024 + a.val; omega)
  rw [res_apply, InprojRef.out_apply]
  rfl

theorem algebraic : Cert.algebraic_Kernel2Ideal_Reference2Ideal := by
  intro m g m' g' _ ha
  refine ⟨fun c => res m c, (θ_run defs _ _).mono (fun r hr c => ⟨(hr c).1, (hr c).2.2.2⟩) (Cert.Kernel2Ideal.Value.run_blocks m g), ?_⟩
  refine (θ_run Cert.Reference2Ideal.defs _ _).mono (fun r hr c => ⟨?_, (hr c).2⟩) (Cert.Reference2Ideal.Value.run (F := Ideal) m' g')
  obtain ⟨a0, a1, a2, a3, -⟩ := ha c
  have h := ((hr c).1).trans (InprojRef.res_eq m' c)
  rw [a0, a1, a2, a3] at h
  exact h.trans (funext fun i => (res_eq m c i).symm)

end Cert.Proof.InprojValue

end
-- ==== Proof.InprojEven.Want.lean ====
/-
  The first layer's projection as a formula of one row: the row's products with the weights' columns, the keys' scaled, and on
  latent rows the queries and keys turned by the angles of the row's position.
-/
module

public import proofs.«01_k».proof.Proof.Inproj.Row

@[expose] public section

noncomputable section

namespace Cert.Proof.InprojEven

open Cert.Proof.Inproj
open Idealize.ShloMosaic
open Idealize.ShloMosaic.ValueIdx (ix2 ix3)

/-- A row of the tokens: a latent row, or a context row. -/
def stack (x : (⟨2, ![16384, 1024]⟩ : Shape).Idx → EReal) (c : (⟨2, ![1024, 1024]⟩ : Shape).Idx → EReal) (r : Fin 17408) (k : Fin 1024) : EReal :=
  if h : r.val < 16384 then x (ix2 ⟨r.val, h⟩ k) else c (ix2 ⟨r.val - 16384, by omega⟩ k)

/-- A normed row's product with a column of the weights. -/
def base (row nw sc sh : Fin 1024 → EReal) (w : Fin 1024 → Fin 3072 → EReal) (j : Fin 3072) : EReal :=
  ∑ k : Fin 1024, normed row nw sc sh k * w k j

/-- The products with the keys' columns scaled. -/
def scaled (D : Fin 3072 → EReal) (j : Fin 3072) : EReal :=
  if 256 ≤ j.val ∧ j.val < 512 then D j * Ideal.ofBits .f32 0x3E000000#32 else D j

/-- The queries and keys turned, in groups of 64 columns: the first half by the row's angles, the second half by the column's. -/
def turned (D : Fin 3072 → EReal) (cr sr cc cs : Fin 16 → EReal) (j : Fin 3072) : EReal :=
  if h : j.val < 512 then
    if j.val % 64 < 16 then scaled D j * cr ⟨j.val % 16, Nat.mod_lt _ (by decide)⟩ - scaled D ⟨j.val + 16, by omega⟩ * sr ⟨j.val % 16, Nat.mod_lt _ (by decide)⟩
    else if j.val % 64 < 32 then scaled D ⟨j.val - 16, by omega⟩ * sr ⟨j.val % 16, Nat.mod_lt _ (by decide)⟩ + scaled D j * cr ⟨j.val % 16, Nat.mod_lt _ (by decide)⟩
    else if j.val % 64 < 48 then scaled D j * cc ⟨j.val % 16, Nat.mod_lt _ (by decide)⟩ - scaled D ⟨j.val + 16, by omega⟩ * cs ⟨j.val % 16, Nat.mod_lt _ (by decide)⟩
    else scaled D ⟨j.val - 16, by omega⟩ * cs ⟨j.val % 16, Nat.mod_lt _ (by decide)⟩ + scaled D j * cc ⟨j.val % 16, Nat.mod_lt _ (by decide)⟩
  else scaled D j

theorem eighth : Ideal.ofBits .f32 0x3E000000#32 = (((1 : ℝ) / 8 : ℝ) : EReal) := by
  simp [Ideal.ofBits, Ideal.ieee, -EReal.coe_mul]
  norm_num

/-- A scale that is a number at least zero moves out of a sum. -/
theorem sum_scale {ι : Type} (s : Finset ι) (f g : ι → EReal) (e : EReal) (h0 : 0 ≤ e) (ht : e ≠ ⊤) : ∑ k ∈ s, f k * (g k * e) = (∑ k ∈ s, f k * g k) * e := by
  classical
  induction s using Finset.induction_on with
  | empty => simp
  | insert a s ha ih => rw [Finset.sum_insert ha, Finset.sum_insert ha, ih, EReal.right_distrib_of_nonneg_of_ne_top h0 ht, mul_assoc]

theorem sum_eighth (f g : Fin 1024 → EReal) : ∑ k : Fin 1024, f k * (g k * Ideal.ofBits .f32 0x3E000000#32) = (∑ k : Fin 1024, f k * g k) * Ideal.ofBits .f32 0x3E000000#32 := by
  refine sum_scale Finset.univ f g _ ?_ ?_
  · rw [eighth]; exact EReal.coe_nonneg.mpr (by norm_num)
  · rw [eighth]; exact EReal.coe_ne_top _

end Cert.Proof.InprojEven

end
-- ==== Proof.InprojEven.Block.lean ====
/-
  What one grid point of the first layer's projection leaves in its block: in the first 512 columns a product with the column
  times a cosine plus a product with the partner column times a sine, in the others the product with the column.
-/
module

public import proofs.«01_k».proof.Proof.Inproj.Row
public import proofs.«01_k».proof.Proof.Gen.Kernel3Ideal.Value

@[expose] public section

noncomputable section

namespace Cert.Proof.InprojEven

open Cert.Kernel3Ideal Cert.Kernel3Ideal.Gen Cert.Proof.Inproj
open Idealize.ShloMosaic
open Idealize.ShloMosaic.TcCoe
open Idealize.ShloMosaic.ValueIdx (ix1 ix2 ix3 ix4 eq_ix2)
open Idealize.ShloMosaic.StackMember

/-- Whether a point's rows are latent rows. -/
abbrev early (i : grid0.Coords) : BitVec 1 := Scalar.cmpi .slt (BitVec.ofNat 32 (i 0).val) 16#32

theorem dotB : dot_S1024x1024_S1024x512_S1024x512_1_0_0_1_n_n = DotDims.plain 1024 1024 512 := rfl

/-- A product of a block of rows with 512 columns. -/
theorem prod_apply (h : FVec Ideal S1024x1024 .bf16) (v : Vec Ideal S1024x512 .bf16) (a : Fin 1024) (b : Fin 512) :
    matmul (F := Ideal) (φ₁ := .bf16) (φ₂ := .bf16) dot_S1024x1024_S1024x512_S1024x512_1_0_0_1_n_n none h (shapeCast S1024x512 v shapeCasts_S1024x512_S1024x512)
      (constant S1024x512 .f32 0x00000000#32) (ix2 a b) = ∑ k : Fin 1024, h (ix2 a k) * v (ix2 k b) := by
  rw [matmul_zero_eq_dotGeneral, dotB, dotGeneral_plain_apply, shapeCast_self]

variable (i : grid0.Coords) (x0 x1 : Vec Ideal S1024x1024 .f32) (x2 : Vec Ideal S1x6x1024 .f32) (x3 : Vec Ideal S1x1024 .f32) (x4 : Vec Ideal S1024x3584 .bf16)
  (x5 x6 : Vec Ideal S1024x128 .f32)

theorem pay5_eq : k0_pay5 i x0 x1 x2 x3 = Cert.Kernel2Ideal.Gen.k0_pay4 (Scalar.select (early i) x0 x1 : Vec Ideal S1024x1024 .f32) x2 x3 := rfl

/-- The normed rows. -/
def hid (a k : Fin 1024) : EReal :=
  normed (fun l => (Scalar.select (early i) x0 x1 : Vec Ideal S1024x1024 .f32) (ix2 a l)) (fun l => x3 (ix2 0 l)) (fun l => x2 (ix3 0 1 l)) (fun l => x2 (ix3 0 0 l)) k

theorem pay5_apply (a k : Fin 1024) : k0_pay5 i x0 x1 x2 x3 (ix2 a k) = hid i x0 x1 x2 x3 a k := by
  rw [pay5_eq]; exact pay4_apply _ x2 x3 a k

/-- The tables' numbers: those of the tables on the latent rows, one and zero on the context rows. -/
def cosB (a : Fin 1024) (l : Fin 128) : EReal := Scalar.select (early i) (x5 (ix2 a l)) (Ideal.ofBits .f32 0x3F800000#32)
def sinB (a : Fin 1024) (l : Fin 128) : EReal := Scalar.select (early i) (x6 (ix2 a l)) (Ideal.ofBits .f32 0x00000000#32)

/-- A row's product with a column of the widened weights. -/
def dotC (a : Fin 1024) (j : Fin 3584) : EReal := ∑ k : Fin 1024, hid i x0 x1 x2 x3 a k * x4 (ix2 k j)

/-- A column of a block's row. -/
def cellB (a : Fin 1024) (j : Fin 3072) : EReal :=
  if h : j.val < 512 then
    dotC i x0 x1 x2 x3 x4 a ⟨j.val, by omega⟩ * cosB i x5 a ⟨j.val % 128, Nat.mod_lt _ (by decide)⟩
      + dotC i x0 x1 x2 x3 x4 a ⟨3072 + j.val, by omega⟩ * sinB i x6 a ⟨j.val % 128, Nat.mod_lt _ (by decide)⟩
  else dotC i x0 x1 x2 x3 x4 a ⟨j.val, by omega⟩

/-- The block. -/
def block : Vec Ideal S1024x3072 .bf16 := fun y => cellB i x0 x1 x2 x3 x4 x5 x6 ⟨(y 0).val, (y 0).isLt⟩ ⟨(y 1).val, (y 1).isLt⟩

variable (c : Dev nD) (arg1 : Memref sig .tc .vmem S1024x1024 .f32) (harg1 : arg1.IsWhole) (arg2 : Memref sig .tc .vmem S1024x1024 .f32) (harg2 : arg2.IsWhole)
  (arg3 : Memref sig .tc .vmem S1x6x1024 .f32) (harg3 : arg3.IsWhole) (arg4 : Memref sig .tc .vmem S1x1024 .f32) (harg4 : arg4.IsWhole)
  (arg5 : Memref sig .tc .vmem S1024x3584 .bf16) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S1024x3072 .bf16) (harg8 : arg8.IsWhole)

/-- A load through a memref that holds a block. -/
theorem rd {s : Shape} {e : EltTy} (arg : Memref sig .tc .vmem s e) (h : arg.IsWhole) (x : Vec Ideal s e) (r : Rect s) :
    View.readAt (Elt Ideal) arg.view r.toLoadRect (h.unread x) = View.ld x r := by
  rw [View.readAt_eq_ld, h.read_unread]

theorem run_h : kernelRun0_A.sl.r c i arg1 harg1 arg2 harg2 arg3 harg3 arg4 harg4 x0 x1 x2 x3 = k0_pay5 i x0 x1 x2 x3 := by
  unfold kernelRun0_A.sl.r
  have e0 := (rd arg1 harg1 x0 (Rect.unit ![0, 0] S1024x1024.size inb_S1024x1024_S1024x1024_0_0)).trans (View.ld_unit_zero (by funext a; fin_cases a <;> rfl) _ x0)
  have e1 := (rd arg2 harg2 x1 (Rect.unit ![0, 0] S1024x1024.size inb_S1024x1024_S1024x1024_0_0)).trans (View.ld_unit_zero (by funext a; fin_cases a <;> rfl) _ x1)
  have e2 := (rd arg3 harg3 x2 (Rect.unit ![0, 0, 0] S1x6x1024.size inb_S1x6x1024_S1x6x1024_0_0_0)).trans (View.ld_unit_zero (by funext a; fin_cases a <;> rfl) _ x2)
  have e3 := (rd arg4 harg4 x3 (Rect.unit ![0, 0] S1x1024.size inb_S1x1024_S1x1024_0_0)).trans (View.ld_unit_zero (by funext a; fin_cases a <;> rfl) _ x3)
  exact congr (congr (congr (congrArg (k0_pay5 i) e0) e1) e2) e3

theorem rd_col (o : ℕ) (hb : ∀ a, (![0, o] : Fin 2 → ℕ) a + S1024x512.size a ≤ S1024x3584.size a) (ho : o + 512 ≤ 3584) (k : Fin 1024) (b : Fin 512) :
    View.readAt (Elt Ideal) arg5.view (Rect.unit (s := S1024x3584) ![0, o] S1024x512.size hb).toLoadRect (harg5.unread x4) (ix2 k b) = x4 (ix2 k ⟨o + b.val, by omega⟩) := by
  rw [rd]
  refine congrArg x4 (funext fun i => Fin.ext ?_)
  match i with
  | ⟨0, _⟩ => show 0 + 1 * k.val = k.val; omega
  | ⟨1, _⟩ => show o + 1 * b.val = o + b.val; omega

/-- The product of a block of rows with 512 columns of the widened weights. -/
theorem col_apply (o : ℕ) (hb : ∀ a, (![0, o] : Fin 2 → ℕ) a + S1024x512.size a ≤ S1024x3584.size a) (ho : o + 512 ≤ 3584) (a : Fin 1024) (b : Fin 512) :
    matmul (F := Ideal) (φ₁ := .bf16) (φ₂ := .bf16) dot_S1024x1024_S1024x512_S1024x512_1_0_0_1_n_n none (kernelRun0_A.sl.r c i arg1 harg1 arg2 harg2 arg3 harg3 arg4 harg4 x0 x1 x2 x3)
      (shapeCast S1024x512 (View.readAt (Elt Ideal) arg5.view (Rect.unit (s := S1024x3584) ![0, o] S1024x512.size hb).toLoadRect (harg5.unread x4)) shapeCasts_S1024x512_S1024x512)
      (constant S1024x512 .f32 0x00000000#32) (ix2 a b) = dotC i x0 x1 x2 x3 x4 a ⟨o + b.val, by omega⟩ := by
  refine (prod_apply _ _ a b).trans (Finset.sum_congr rfl fun k _ => ?_)
  rw [run_h, pay5_apply, rd_col x4 arg5 harg5 o hb ho k b]

theorem block_emb {n : ℕ} (o : ℕ) (hb : ∀ a, (![0, o] : Fin 2 → ℕ) a + (![1024, n] : Fin 2 → ℕ) a ≤ S1024x3072.size a) (ho : o + n ≤ 3072) (a : Fin 1024) (b : Fin n) :
    block i x0 x1 x2 x3 x4 x5 x6 ((Rect.unit (s := S1024x3072) ![0, o] ![1024, n] hb).emb (ix2 a b)) = cellB i x0 x1 x2 x3 x4 x5 x6 a ⟨o + b.val, by omega⟩ := by
  unfold block
  refine congrArg₂ (cellB i x0 x1 x2 x3 x4 x5 x6) (Fin.ext ?_) (Fin.ext ?_)
  · show 0 + 1 * a.val = a.val; omega
  · show o + 1 * b.val = o + b.val; omega

/-- A product stored as it is agrees with the block from column 512 on. -/
theorem late (o : ℕ) (hl : 512 ≤ o) (hb) (hb') (ho : o + 512 ≤ 3072) (p : FVec Ideal S1024x512 .bf16)
    (hp : p = matmul (F := Ideal) (φ₁ := .bf16) (φ₂ := .bf16) dot_S1024x1024_S1024x512_S1024x512_1_0_0_1_n_n none (kernelRun0_A.sl.r c i arg1 harg1 arg2 harg2 arg3 harg3 arg4 harg4 x0 x1 x2 x3)
      (shapeCast S1024x512 (View.readAt (Elt Ideal) arg5.view (Rect.unit (s := S1024x3584) ![0, o] S1024x512.size hb').toLoadRect (harg5.unread x4)) shapeCasts_S1024x512_S1024x512)
      (constant S1024x512 .f32 0x00000000#32))
    (x : S1024x512.Idx) : p x = block i x0 x1 x2 x3 x4 x5 x6 ((Rect.unit (s := S1024x3072) ![0, o] ![1024, 512] hb).emb x) := by
  obtain ⟨a, b, rfl⟩ : ∃ (a : Fin 1024) (b : Fin 512), x = ix2 a b := ⟨x 0, x 1, eq_ix2 x⟩
  rw [hp, block_emb i x0 x1 x2 x3 x4 x5 x6 o hb ho a b, col_apply i x0 x1 x2 x3 x4 c arg1 harg1 arg2 harg2 arg3 harg3 arg4 harg4 arg5 harg5 o hb' (by omega) a b]
  unfold cellB
  rw [dif_neg (by show ¬ o + b.val < 512; omega)]

theorem pay8_apply (v : BitVec 1) (u : Vec Ideal S1024x128 .f32) (a : Fin 1024) (l : Fin 128) :
    k0_pay8 v u (ix2 a l) = Scalar.select v (u (ix2 a l)) (Ideal.ofBits .f32 0x3F800000#32) := by
  show (Scalar.select v (shapeCast S1024x128 u shapeCasts_S1024x128_S1024x128) _ : Vec Ideal S1024x128 .f32) (ix2 a l) = _
  rw [shapeCast_self]
  unfold Scalar.select
  split <;> rfl

theorem pay9_apply (v : BitVec 1) (u : Vec Ideal S1024x128 .f32) (a : Fin 1024) (l : Fin 128) :
    k0_pay9 v u (ix2 a l) = Scalar.select v (u (ix2 a l)) (Ideal.ofBits .f32 0x00000000#32) := by
  show (Scalar.select v (shapeCast S1024x128 u shapeCasts_S1024x128_S1024x128) _ : Vec Ideal S1024x128 .f32) (ix2 a l) = _
  rw [shapeCast_self]
  unfold Scalar.select
  split <;> rfl

/-- A group of 128 columns of the first 512. -/
theorem head (o : ℕ) (ho : o + 128 ≤ 512) (hm : o % 128 = 0) (hb) (hs : S1024x512.Slices ![0, o] S1024x128) (p : FVec Ideal S1024x128 .bf16)
    (hp : p = addf (F := Ideal) (φ := .f32) (mulf (extractStridedSlice S1024x128 ![0, o] (kernelRun0_A.sl.r_1 c i arg1 harg1 arg2 harg2 arg3 harg3 arg4 harg4 arg5 harg5 x0 x1 x2 x3 x4) hs)
        (k0_pay8 (kernelRun0_A.sl.v34 i) (kernelRun0_A.sl.r_3 c arg6 harg6 x5)))
      (mulf (extractStridedSlice S1024x128 ![0, o] (kernelRun0_A.sl.r_2 c i arg1 harg1 arg2 harg2 arg3 harg3 arg4 harg4 arg5 harg5 x0 x1 x2 x3 x4) hs)
        (k0_pay9 (kernelRun0_A.sl.v34 i) (View.readAt (Elt Ideal) arg7.view (Rect.unit ![0, 0] S1024x128.size inb_S1024x128_S1024x128_0_0).toLoadRect (harg7.unread x6)))))
    (x : S1024x128.Idx) : p x = block i x0 x1 x2 x3 x4 x5 x6 ((Rect.unit (s := S1024x3072) ![0, o] ![1024, 128] hb).emb x) := by
  obtain ⟨a, b, rfl⟩ : ∃ (a : Fin 1024) (b : Fin 128), x = ix2 a b := ⟨x 0, x 1, eq_ix2 x⟩
  rw [hp, block_emb i x0 x1 x2 x3 x4 x5 x6 o hb (by omega) a b]
  have e5 : kernelRun0_A.sl.r_3 c arg6 harg6 x5 = x5 := by
    unfold kernelRun0_A.sl.r_3
    exact (rd arg6 harg6 x5 (Rect.unit ![0, 0] S1024x128.size inb_S1024x128_S1024x128_0_0)).trans (View.ld_unit_zero (by funext a; fin_cases a <;> rfl) _ x5)
  have e6 := (rd arg7 harg7 x6 (Rect.unit ![0, 0] S1024x128.size inb_S1024x128_S1024x128_0_0)).trans (View.ld_unit_zero (by funext a; fin_cases a <;> rfl) _ x6)
  rw [e5, e6]
  have hsl : ∀ v : FVec Ideal S1024x512 .f32, extractStridedSlice S1024x128 ![0, o] v hs (ix2 a b) = v (ix2 a (⟨o + b.val, by omega⟩ : Fin 512)) := fun v =>
    extractStridedSlice_apply ![0, o] v hs (ix2 a b) (ix2 a (⟨o + b.val, by omega⟩ : Fin 512)) (fun d => by
      match d with
      | ⟨0, _⟩ => show a.val = 0 + a.val; omega
      | ⟨1, _⟩ => rfl)
  have key : ∀ (q q' : FVec Ideal S1024x512 .f32) (C S : FVec Ideal S1024x128 .f32),
      addf (F := Ideal) (φ := .f32) (mulf (extractStridedSlice S1024x128 ![0, o] q hs) C) (mulf (extractStridedSlice S1024x128 ![0, o] q' hs) S) (ix2 a b)
        = q (ix2 a (⟨o + b.val, by omega⟩ : Fin 512)) * C (ix2 a b) + q' (ix2 a (⟨o + b.val, by omega⟩ : Fin 512)) * S (ix2 a b) := fun q q' C S => by
    rw [← hsl q, ← hsl q']; rfl
  rw [key, pay8_apply, pay9_apply]
  unfold cellB
  rw [dif_pos (by show o + b.val < 512; omega)]
  have em : (⟨(o + b.val) % 128, Nat.mod_lt _ (by decide)⟩ : Fin 128) = b := Fin.ext (by show (o + b.val) % 128 = b.val; omega)
  refine congrArg₂ (· + ·) (congrArg₂ (· * ·) ?_ ?_) (congrArg₂ (· * ·) ?_ ?_)
  · refine (col_apply i x0 x1 x2 x3 x4 c arg1 harg1 arg2 harg2 arg3 harg3 arg4 harg4 arg5 harg5 0 inb_S1024x3584_S1024x512_0_0 (by decide) a (⟨o + b.val, by omega⟩ : Fin 512)).trans ?_
    exact congrArg (dotC i x0 x1 x2 x3 x4 a) (Fin.ext (Nat.zero_add _))
  · show _ = cosB i x5 a ⟨(o + b.val) % 128, _⟩
    rw [em]; rfl
  · exact col_apply i x0 x1 x2 x3 x4 c arg1 harg1 arg2 harg2 arg3 harg3 arg4 harg4 arg5 harg5 3072 inb_S1024x3584_S1024x512_0_3072 (by decide) a (⟨o + b.val, by omega⟩ : Fin 512)
  · show _ = sinB i x6 a ⟨(o + b.val) % 128, _⟩
    rw [em]; rfl

theorem out_eq (y : S1024x3072.Idx) :
    out0_A_7 c i arg1 harg1 arg2 harg2 arg3 harg3 arg4 harg4 arg5 harg5 arg6 harg6 arg7 harg7 arg8 harg8 x0 x1 x2 x3 x4 x5 x6 y = block i x0 x1 x2 x3 x4 x5 x6 y := by
  unfold out0_A_7
  refine View.read_writes_apply_of_pieces VO0_7 _ (block i x0 x1 x2 x3 x4 x5 x6) _ ?_ y (cover0_A_7 c i arg1 harg1 arg2 harg2 arg3 harg3 arg4 harg4 arg5 harg5 arg6 harg6 arg7 harg7 arg8 harg8 x0 x1 x2 x3 x4 x5 x6 y)
  intro pc hpc
  unfold kernelRun0_A at hpc
  dsimp only at hpc
  rcases List.mem_cons.mp hpc with rfl | hpc
  · exact late i x0 x1 x2 x3 x4 x5 x6 c arg1 harg1 arg2 harg2 arg3 harg3 arg4 harg4 arg5 harg5 2560 (by decide) inb_S1024x3072_S1024x512_0_2560 inb_S1024x3584_S1024x512_0_2560 (by decide) _ rfl
  rcases List.mem_cons.mp hpc with rfl | hpc
  · exact late i x0 x1 x2 x3 x4 x5 x6 c arg1 harg1 arg2 harg2 arg3 harg3 arg4 harg4 arg5 harg5 2048 (by decide) inb_S1024x3072_S1024x512_0_2048 inb_S1024x3584_S1024x512_0_2048 (by decide) _ rfl
  rcases List.mem_cons.mp hpc with rfl | hpc
  · exact late i x0 x1 x2 x3 x4 x5 x6 c arg1 harg1 arg2 harg2 arg3 harg3 arg4 harg4 arg5 harg5 1536 (by decide) inb_S1024x3072_S1024x512_0_1536 inb_S1024x3584_S1024x512_0_1536 (by decide) _ rfl
  rcases List.mem_cons.mp hpc with rfl | hpc
  · exact late i x0 x1 x2 x3 x4 x5 x6 c arg1 harg1 arg2 harg2 arg3 harg3 arg4 harg4 arg5 harg5 1024 (by decide) inb_S1024x3072_S1024x512_0_1024 inb_S1024x3584_S1024x512_0_1024 (by decide) _ rfl
  rcases List.mem_cons.mp hpc with rfl | hpc
  · exact late i x0 x1 x2 x3 x4 x5 x6 c arg1 harg1 arg2 harg2 arg3 harg3 arg4 harg4 arg5 harg5 512 (by decide) inb_S1024x3072_S1024x512_0_512 inb_S1024x3584_S1024x512_0_512 (by decide) _ rfl
  rcases List.mem_cons.mp hpc with rfl | hpc
  · exact head i x0 x1 x2 x3 x4 x5 x6 c arg1 harg1 arg2 harg2 arg3 harg3 arg4 harg4 arg5 harg5 arg6 harg6 arg7 harg7 384 (by decide) (by decide) inb_S1024x3072_S1024x128_0_384 slices_S1024x512_o0_384_S1024x128 _ rfl
  rcases List.mem_cons.mp hpc with rfl | hpc
  · exact head i x0 x1 x2 x3 x4 x5 x6 c arg1 harg1 arg2 harg2 arg3 harg3 arg4 harg4 arg5 harg5 arg6 harg6 arg7 harg7 256 (by decide) (by decide) inb_S1024x3072_S1024x128_0_256 slices_S1024x512_o0_256_S1024x128 _ rfl
  rcases List.mem_cons.mp hpc with rfl | hpc
  · exact head i x0 x1 x2 x3 x4 x5 x6 c arg1 harg1 arg2 harg2 arg3 harg3 arg4 harg4 arg5 harg5 arg6 harg6 arg7 harg7 128 (by decide) (by decide) inb_S1024x3072_S1024x128_0_128 slices_S1024x512_o0_128_S1024x128 _ rfl
  rcases List.mem_cons.mp hpc with rfl | hpc
  · exact head i x0 x1 x2 x3 x4 x5 x6 c arg1 harg1 arg2 harg2 arg3 harg3 arg4 harg4 arg5 harg5 arg6 harg6 arg7 harg7 0 (by decide) (by decide) inb_S1024x3072_S1024x128_0_0 slices_S1024x512_o0_0_S1024x128 _ rfl
  nomatch hpc

end Cert.Proof.InprojEven

end
-- ==== Proof.InprojEven.Weights.lean ====
/-
  What the first layer's projection is given: its weights with the queries' and keys' columns scaled and their partner columns
  appended, and the tables of cosines and signed sines, repeated for two heads.
-/
module

public import proofs.«01_k».proof.Proof.InprojEven.Block

@[expose] public section

noncomputable section

namespace Cert.Proof.InprojEven

open Cert.Kernel3Ideal Cert.Kernel3Ideal.Gen
open Idealize.ShloMosaic
open Idealize.ShloMosaic.TcCoe Idealize.SL.Sem
open Idealize.ShloMosaic.ValueIdx (ix1 ix2 ix3 ix4 eq_ix2)
open Idealize.ShloMosaic.StackMember

theorem cat3 {e : EltTy} {S s₁ s₂ s₃ : Shape} (d : Fin S.rank) {a a' : Vec Ideal s₁ e} {b b' : Vec Ideal s₂ e} {c c' : Vec Ideal s₃ e} (h) (h')
    (ha : a = a') (hb : b = b') (hc : c = c') :
    (concatenate S d [⟨s₁, a⟩, ⟨s₂, b⟩, ⟨s₃, c⟩] h : Vec Ideal S e) = concatenate S d [⟨s₁, a'⟩, ⟨s₂, b'⟩, ⟨s₃, c'⟩] h' := by
  subst ha hb hc; rfl

theorem cat4 {e : EltTy} {S s : Shape} (dd : Fin S.rank) {a a' b b' c c' d d' : Vec Ideal s e} (h) (h')
    (ha : a = a') (hb : b = b') (hc : c = c') (hd : d = d') :
    (concatenate S dd [⟨s, a⟩, ⟨s, b⟩, ⟨s, c⟩, ⟨s, d⟩] h : Vec Ideal S e) = concatenate S dd [⟨s, a'⟩, ⟨s, b'⟩, ⟨s, c'⟩, ⟨s, d'⟩] h' := by
  subst ha hb hc hd; rfl

/-! ## The partner columns' numbers -/

def bcI {w : ℕ} (v : IVec S_ w) : IVec S512 w := broadcastInDim S512 ![] bcast_S_S512 v
def div32 : IVec S_ 32 := select (cmpi .eq (constantI S_ 32 32#32) (constantI S_ 32 0#32)) (constantI S_ 32 1#32) (constantI S_ 32 32#32)
def rem0 : IVec S512 32 := Host.remsi (iotaInDim S512 32 0) (bcI div32)
def rem1 : IVec S512 32 :=
  select (andi (cmpi .ne (cmpi .slt rem0 (bcI (constantI S_ 32 0#32))) (bcI (cmpi .slt div32 (constantI S_ 32 0#32)))) (cmpi .ne rem0 (bcI (constantI S_ 32 0#32))))
    (addi rem0 (bcI div32)) rem0
def part0 : IVec S512 32 := select (cmpi .slt rem1 (bcI (constantI S_ 32 16#32))) (addi (iotaInDim S512 32 0) (bcI (constantI S_ 32 16#32))) (subi (iotaInDim S512 32 0) (bcI (constantI S_ 32 16#32)))
def part1 : IVec S512 32 := select (cmpi .slt part0 (bcI (constantI S_ 32 0#32))) (addi part0 (bcI (constantI S_ 32 512#32))) part0
def part : IVec S512x1 32 := broadcastInDim S512x1 ![0] bcast_S512_S512x1_0 part1

/-- The column sixteen to the right of a column in the lower half of its group of 32, and sixteen to the left of one in the upper half. -/
def partner (j : ℕ) : ℕ := if j % 32 < 16 then j + 16 else j - 16

theorem part1_apply : ∀ j : Fin 512, (part1 (ix1 j)).toNat = partner j.val := by decide +kernel

theorem partner_lt (j : Fin 512) : partner j.val < 512 := by unfold partner; split <;> omega

theorem spread (q : IVec S512 32) (j : Fin 512) : broadcastInDim S512x1 ![0] bcast_S512_S512x1_0 q (ix2 j 0) = q (ix1 j) :=
  broadcastInDim_apply ![0] bcast_S512_S512x1_0 q (ix2 j (0 : Fin 1)) (ix1 j) (fun i => by
    match i with
    | ⟨0, _⟩ => rfl)

theorem part_apply (j : Fin 512) : BitVec.toNat (w := 32) (part (ix2 j 0)) = partner j.val :=
  (congrArg (BitVec.toNat (w := 32)) (spread part1 j)).trans (part1_apply j)

/-- The gathered columns. -/
theorem gather_apply (x : FVec Ideal S1024x512 .f32) (k : Fin 1024) (j : Fin 512) :
    Host.gather gather_S1024x512_S512x1_S1024x512_0_1_n_n_1_1_10241 x part (ix2 k j) = x (ix2 k (⟨partner j.val, partner_lt j⟩ : Fin 512)) := by
  have hp := part_apply j
  have hlt := partner_lt j
  unfold Host.gather
  refine congrArg x (funext fun i => Fin.ext ?_)
  show GatherDims.start gather_S1024x512_S512x1_S1024x512_0_1_n_n_1_1_10241 (ix2 k j) part i + GatherDims.batchCoord gather_S1024x512_S512x1_S1024x512_0_1_n_n_1_1_10241 (ix2 k j) i
    + GatherDims.offCoord gather_S1024x512_S512x1_S1024x512_0_1_n_n_1_1_10241 (ix2 k j) i = _
  rw [GatherDims.batchCoord_eq_zero _ _ _ List.not_mem_nil, Nat.add_zero]
  match i with
  | ⟨1, _⟩ =>
    have hk : (1 : Fin 2) ∉ gather_S1024x512_S512x1_S1024x512_0_1_n_n_1_1_10241.sKept := fun h => ((GatherDims.mem_sKept _ _).mp h).1 (List.mem_singleton.mpr rfl)
    have hm : (1 : Fin 2) ∈ gather_S1024x512_S512x1_S1024x512_0_1_n_n_1_1_10241.startIndexMap := List.mem_singleton.mpr rfl
    show GatherDims.start gather_S1024x512_S512x1_S1024x512_0_1_n_n_1_1_10241 (ix2 k j) part 1 + GatherDims.offCoord gather_S1024x512_S512x1_S1024x512_0_1_n_n_1_1_10241 (ix2 k j) 1 = partner j.val
    rw [GatherDims.offCoord_eq_zero _ _ _ hk, Nat.add_zero]
    unfold GatherDims.start
    rw [dif_pos hm]
    have hsi : GatherDims.siIdx gather_S1024x512_S512x1_S1024x512_0_1_n_n_1_1_10241 (ix2 k j)
        ⟨List.idxOf (1 : Fin 2) gather_S1024x512_S512x1_S1024x512_0_1_n_n_1_1_10241.startIndexMap, List.idxOf_lt_length_iff.2 hm⟩ = ix2 j 0 := by
      funext d; refine Fin.ext ?_
      match d with
      | ⟨0, _⟩ => rfl
      | ⟨1, _⟩ => rfl
    rw [hsi, BitVec.toInt_eq_toNat_of_lt (by omega), hp]
    show min (partner j.val : Int).toNat (512 - 1) = _
    omega
  | ⟨0, _⟩ =>
    have hk : (0 : Fin 2) ∈ gather_S1024x512_S512x1_S1024x512_0_1_n_n_1_1_10241.sKept := (GatherDims.mem_sKept _ _).mpr ⟨by decide, List.not_mem_nil⟩
    have hm : (0 : Fin 2) ∉ gather_S1024x512_S512x1_S1024x512_0_1_n_n_1_1_10241.startIndexMap := by decide
    show GatherDims.start gather_S1024x512_S512x1_S1024x512_0_1_n_n_1_1_10241 (ix2 k j) part 0 + GatherDims.offCoord gather_S1024x512_S512x1_S1024x512_0_1_n_n_1_1_10241 (ix2 k j) 0 = k.val
    unfold GatherDims.start GatherDims.offCoord
    rw [dif_neg hm, dif_pos hk, Nat.zero_add]
    rfl

/-! ## The weights -/

/-- The columns' scales: one for the queries, an eighth for the keys. -/
def scale : FVec Ideal S512 .f32 := concatenate S512 0 [⟨S256, broadcastInDim S256 ![] bcast_S_S256 (constant (F := Ideal) S_ .f32 0x3F800000#32)⟩,
  ⟨S256, broadcastInDim S256 ![] bcast_S_S256 (constant (F := Ideal) S_ .f32 0x3E000000#32)⟩] concatenates_S256_S256_S512_d0

def sc (j : ℕ) : EReal := if j < 256 then Ideal.ofBits .f32 0x3F800000#32 else Ideal.ofBits .f32 0x3E000000#32

theorem scale_apply (j : Fin 512) : scale (ix1 j) = sc j.val := by
  unfold scale sc
  by_cases hj : j.val < 256
  · rw [if_pos hj, concatenate_pair_apply_left (s₁ := S256) (s₂ := S256) (0 : Fin S512.rank) _ _ _ (ix1 j) rfl (ix1 (⟨j.val, hj⟩ : Fin 256)) (fun i => by
      match i with
      | ⟨0, _⟩ => rfl)]
    rfl
  · rw [if_neg hj, concatenate_pair_apply_right (s₁ := S256) (s₂ := S256) (0 : Fin S512.rank) _ _ _ (ix1 j) rfl rfl (ix1 (⟨j.val - 256, by omega⟩ : Fin 256))
      (fun i hi => by
        match i with
        | ⟨0, _⟩ => exact absurd rfl hi)
      (by show j.val - 256 + 256 = j.val; omega)]
    rfl

variable (w : FVec Ideal S1024x3072 .f32)

def first : FVec Ideal S1024x512 .f32 :=
  mulf (extractStridedSlice S1024x512 ![0, 0] w slices_S1024x3072_S1024x512_0_0) (broadcastInDim S1024x512 ![0, 1] bcast_S1x512_S1024x512_0_1 (broadcastInDim S1x512 ![1] bcast_S512_S1x512_1 scale))
def rest : FVec Ideal S1024x2560 .f32 := extractStridedSlice S1024x2560 ![0, 512] w slices_S1024x3072_S1024x2560_0_512
def wide : FVec Ideal S1024x3584 .f32 :=
  concatenate S1024x3584 1 [⟨S1024x512, first w⟩, ⟨S1024x2560, rest w⟩, ⟨S1024x512, Host.gather gather_S1024x512_S512x1_S1024x512_0_1_n_n_1_1_10241 (first w) part⟩]
    concatenates_S1024x512_S1024x2560_S1024x512_S1024x3584_d1

theorem first_apply (k : Fin 1024) (j : Fin 512) : first w (ix2 k j) = w (ix2 k ⟨j.val, by omega⟩) * sc j.val := by
  unfold first
  show extractStridedSlice S1024x512 ![0, 0] w slices_S1024x3072_S1024x512_0_0 (ix2 k j)
    * broadcastInDim (s := S1x512) S1024x512 ![0, 1] bcast_S1x512_S1024x512_0_1 (broadcastInDim S1x512 ![1] bcast_S512_S1x512_1 scale) (ix2 k j) = _
  rw [extractStridedSlice_apply ![0, 0] w _ (ix2 k j) (ix2 k (⟨j.val, by omega⟩ : Fin 3072)) (fun d => by
      match d with
      | ⟨0, _⟩ => show k.val = 0 + k.val; omega
      | ⟨1, _⟩ => show j.val = 0 + j.val; omega)]
  rw [broadcastInDim_apply ![0, 1] bcast_S1x512_S1024x512_0_1 _ (ix2 k j) (ix2 (0 : Fin 1) j) (fun i => by
      match i with
      | ⟨0, _⟩ => rfl
      | ⟨1, _⟩ => rfl)]
  rw [broadcastInDim_apply ![1] bcast_S512_S1x512_1 scale (ix2 (0 : Fin 1) j) (ix1 j) (fun i => by
      match i with
      | ⟨0, _⟩ => rfl), scale_apply]

theorem wide_first (k : Fin 1024) (j : Fin 512) (h : j.val < 3584) : wide w (ix2 k ⟨j.val, h⟩) = w (ix2 k ⟨j.val, by omega⟩) * sc j.val := by
  rw [← first_apply]
  unfold wide
  exact concatenate_apply_piece (1 : Fin S1024x3584.rank) _ _ (ix2 k (⟨j.val, h⟩ : Fin 3584)) 0 (by simp) S1024x512 (first w) rfl rfl 0 rfl (ix2 k j)
    (fun b hb => by
      match b with
      | ⟨0, _⟩ => rfl
      | ⟨1, _⟩ => exact absurd rfl hb)
    (Nat.zero_add _)

theorem wide_rest (k : Fin 1024) (j : Fin 3072) (hj : ¬ j.val < 512) (h : j.val < 3584) : wide w (ix2 k ⟨j.val, h⟩) = w (ix2 k j) := by
  unfold wide
  refine (concatenate_apply_piece (1 : Fin S1024x3584.rank) _ _ (ix2 k (⟨j.val, h⟩ : Fin 3584)) 1 (by simp) S1024x2560 (rest w) rfl rfl 512 rfl (ix2 k (⟨j.val - 512, by omega⟩ : Fin 2560))
    (fun b hb => by
      match b with
      | ⟨0, _⟩ => rfl
      | ⟨1, _⟩ => exact absurd rfl hb)
    (by show 512 + (j.val - 512) = j.val; omega)).trans ?_
  exact extractStridedSlice_apply ![0, 512] w _ (ix2 k (⟨j.val - 512, by omega⟩ : Fin 2560)) (ix2 k j) (fun d => by
      match d with
      | ⟨0, _⟩ => show k.val = 0 + k.val; omega
      | ⟨1, _⟩ => show j.val = 512 + (j.val - 512); omega)

theorem wide_partner (k : Fin 1024) (j : Fin 512) (h : 3072 + j.val < 3584) : wide w (ix2 k ⟨3072 + j.val, h⟩) = w (ix2 k ⟨partner j.val, Nat.lt_trans (partner_lt j) (by decide)⟩) * sc (partner j.val) := by
  unfold wide
  refine (concatenate_apply_piece (1 : Fin S1024x3584.rank) _ _ (ix2 k (⟨3072 + j.val, h⟩ : Fin 3584)) 2 (by simp) S1024x512 (Host.gather gather_S1024x512_S512x1_S1024x512_0_1_n_n_1_1_10241 (first w) part) rfl rfl 3072 rfl (ix2 k j)
    (fun b hb => by
      match b with
      | ⟨0, _⟩ => rfl
      | ⟨1, _⟩ => exact absurd rfl hb)
    rfl).trans ?_
  rw [gather_apply, first_apply]

/-! ## The tables -/

/-- Four tables of 16 columns side by side, repeated twice. -/
def tabs (a b c d : FVec Ideal S4096x16 .f32) : FVec Ideal S4096x64 .f32 :=
  concatenate S4096x64 1 [⟨S4096x16, a⟩, ⟨S4096x16, b⟩, ⟨S4096x16, c⟩, ⟨S4096x16, d⟩] concatenates_S4096x16_S4096x16_S4096x16_S4096x16_S4096x64_d1
def twice (v : FVec Ideal S4096x64 .f32) : FVec Ideal S4096x128 .f32 :=
  shapeCast S4096x128 (broadcastInDim S1x4096x2x64 ![0, 1, 2, 3] bcast_S1x4096x1x64_S1x4096x2x64_0_1_2_3 (shapeCast S1x4096x1x64 v shapeCasts_S4096x64_S1x4096x1x64)) shapeCasts_S1x4096x2x64_S4096x128

theorem twice_apply (v : FVec Ideal S4096x64 .f32) (s : Fin 4096) (l : Fin 128) : twice v (ix2 s l) = v (ix2 s ⟨l.val % 64, Nat.mod_lt _ (by decide)⟩) := by
  unfold twice
  rw [shapeCast_apply _ _ (ix2 s l) (ix4 (0 : Fin 1) s (⟨l.val / 64, by omega⟩ : Fin 2) (⟨l.val % 64, Nat.mod_lt _ (by decide)⟩ : Fin 64)) (by
    rw [Shape.rowMajor_val_two, Shape.rowMajor_val_four]
    show ((0 * 4096 + s.val) * 2 + l.val / 64) * 64 + l.val % 64 = s.val * 128 + l.val
    omega)]
  rw [broadcastInDim_apply ![0, 1, 2, 3] bcast_S1x4096x1x64_S1x4096x2x64_0_1_2_3 _ (ix4 (0 : Fin 1) s (⟨l.val / 64, by omega⟩ : Fin 2) (⟨l.val % 64, Nat.mod_lt _ (by decide)⟩ : Fin 64))
    (ix4 (0 : Fin 1) s (0 : Fin 1) (⟨l.val % 64, Nat.mod_lt _ (by decide)⟩ : Fin 64)) (fun i => by
      match i with
      | ⟨0, _⟩ => rfl
      | ⟨1, _⟩ => rfl
      | ⟨2, _⟩ => rfl
      | ⟨3, _⟩ => rfl)]
  exact shapeCast_apply _ _ _ _ (by
    rw [Shape.rowMajor_val_two, Shape.rowMajor_val_four]
    show s.val * 64 + l.val % 64 = ((0 * 4096 + s.val) * 1 + 0) * 64 + l.val % 64
    omega)

/-- An entry of four tables side by side. -/
def tab (a b c d : FVec Ideal S4096x16 .f32) (s : Fin 4096) (l : Fin 64) : EReal :=
  if l.val < 16 then a (ix2 s ⟨l.val % 16, Nat.mod_lt _ (by decide)⟩) else if l.val < 32 then b (ix2 s ⟨l.val % 16, Nat.mod_lt _ (by decide)⟩)
  else if l.val < 48 then c (ix2 s ⟨l.val % 16, Nat.mod_lt _ (by decide)⟩) else d (ix2 s ⟨l.val % 16, Nat.mod_lt _ (by decide)⟩)

theorem tabs_apply (a b c d : FVec Ideal S4096x16 .f32) (s : Fin 4096) (l : Fin 64) : tabs a b c d (ix2 s l) = tab a b c d s l := by
  unfold tabs tab
  split
  · exact concatenate_apply_piece (1 : Fin S4096x64.rank) _ _ (ix2 s l) 0 (by simp) S4096x16 a rfl rfl 0 rfl (ix2 s (⟨l.val % 16, Nat.mod_lt _ (by decide)⟩ : Fin 16))
      (fun i hi => by
        match i with
        | ⟨0, _⟩ => rfl
        | ⟨1, _⟩ => exact absurd rfl hi)
      (by show 0 + l.val % 16 = l.val; omega)
  split
  · exact concatenate_apply_piece (1 : Fin S4096x64.rank) _ _ (ix2 s l) 1 (by simp) S4096x16 b rfl rfl 16 rfl (ix2 s (⟨l.val % 16, Nat.mod_lt _ (by decide)⟩ : Fin 16))
      (fun i hi => by
        match i with
        | ⟨0, _⟩ => rfl
        | ⟨1, _⟩ => exact absurd rfl hi)
      (by show 16 + l.val % 16 = l.val; omega)
  split
  · exact concatenate_apply_piece (1 : Fin S4096x64.rank) _ _ (ix2 s l) 2 (by simp) S4096x16 c rfl rfl 32 rfl (ix2 s (⟨l.val % 16, Nat.mod_lt _ (by decide)⟩ : Fin 16))
      (fun i hi => by
        match i with
        | ⟨0, _⟩ => rfl
        | ⟨1, _⟩ => exact absurd rfl hi)
      (by show 32 + l.val % 16 = l.val; omega)
  · exact concatenate_apply_piece (1 : Fin S4096x64.rank) _ _ (ix2 s l) 3 (by simp) S4096x16 d rfl rfl 48 rfl (ix2 s (⟨l.val % 16, Nat.mod_lt _ (by decide)⟩ : Fin 16))
      (fun i hi => by
        match i with
        | ⟨0, _⟩ => rfl
        | ⟨1, _⟩ => exact absurd rfl hi)
      (by show 48 + l.val % 16 = l.val; omega)

/-! ## The arrays as the kernel finds them -/

variable (m : (ℓ : Loc nD τ sig) → Buf (Elt Ideal) ℓ)

/-- The arguments' numbers, each array at its shape. -/
abbrev A0 (m : (ℓ : Loc nD τ sig) → Buf (Elt Ideal) ℓ) (c : Dev nD) : S16384x1024.Idx → EReal := m ((c : Thread nD τ).loc main_arg0)
abbrev A1 (m : (ℓ : Loc nD τ sig) → Buf (Elt Ideal) ℓ) (c : Dev nD) : S1024x1024.Idx → EReal := m ((c : Thread nD τ).loc main_arg1)
abbrev A2 (m : (ℓ : Loc nD τ sig) → Buf (Elt Ideal) ℓ) (c : Dev nD) : S8x6x1024.Idx → EReal := m ((c : Thread nD τ).loc main_arg2)
abbrev A3 (m : (ℓ : Loc nD τ sig) → Buf (Elt Ideal) ℓ) (c : Dev nD) : S1x1024.Idx → EReal := m ((c : Thread nD τ).loc main_arg3)
abbrev A4 (m : (ℓ : Loc nD τ sig) → Buf (Elt Ideal) ℓ) (c : Dev nD) : S1024x3072.Idx → EReal := m ((c : Thread nD τ).loc main_arg4)
abbrev A5 (m : (ℓ : Loc nD τ sig) → Buf (Elt Ideal) ℓ) (c : Dev nD) : S4096x16.Idx → EReal := m ((c : Thread nD τ).loc main_arg5)
abbrev A6 (m : (ℓ : Loc nD τ sig) → Buf (Elt Ideal) ℓ) (c : Dev nD) : S4096x16.Idx → EReal := m ((c : Thread nD τ).loc main_arg6)
abbrev A7 (m : (ℓ : Loc nD τ sig) → Buf (Elt Ideal) ℓ) (c : Dev nD) : S4096x16.Idx → EReal := m ((c : Thread nD τ).loc main_arg7)
abbrev A8 (m : (ℓ : Loc nD τ sig) → Buf (Elt Ideal) ℓ) (c : Dev nD) : S4096x16.Idx → EReal := m ((c : Thread nD τ).loc main_arg8)

theorem V_wide (c : Dev nD) : (V m c main_v25 : S1024x3584.Idx → EReal) = wide (A4 m c) := by
  refine Eq.trans ?_ (rfl : truncf (F := Ideal) (φ := .f32) .bf16 (concatenate S1024x3584 1 [⟨S1024x512, first (A4 m c)⟩, ⟨S1024x2560, rest (A4 m c)⟩,
    ⟨S1024x512, Host.gather gather_S1024x512_S512x1_S1024x512_0_1_n_n_1_1_10241 (first (A4 m c)) part⟩] concatenates_S1024x512_S1024x2560_S1024x512_S1024x3584_d1 : FVec Ideal S1024x3584 .f32)
    bitsLt_bf16_f32 = wide (A4 m c))
  show StableHlo.after (List.flatten [hostOps0, hostOps0_1, hostOps0_2, hostOps0_3, hostOps0_4]) (fun b => m (c, b)) main_v25 = _
  simp only [hostOps0, hostOps0_1, hostOps0_2, hostOps0_3, hostOps0_4, List.flatten_cons, List.flatten_nil, List.append_nil, List.cons_append, List.nil_append]
  after_results_simp
  refine congrArg (fun v : FVec Ideal S1024x3584 .f32 => truncf (F := Ideal) (φ := .f32) .bf16 v bitsLt_bf16_f32) (cat3 (e := .f32) (1 : Fin S1024x3584.rank) _ _ ?_ ?_ ?_)
  · dsimp only [Matrix.cons_val]
    after_results_simp
    rfl
  · dsimp only [Matrix.cons_val]
    after_results_simp
    rfl
  · dsimp only [Matrix.cons_val]
    after_results_simp
    rfl

theorem V_cos (c : Dev nD) : (V m c main_v32 : S4096x128.Idx → EReal) = twice (tabs (A5 m c) (A5 m c) (A7 m c) (A7 m c)) := by
  show StableHlo.after (List.flatten [hostOps0, hostOps0_1, hostOps0_2, hostOps0_3, hostOps0_4]) (fun b => m (c, b)) main_v32 = _
  simp only [hostOps0, hostOps0_1, hostOps0_2, hostOps0_3, hostOps0_4, List.flatten_cons, List.flatten_nil, List.append_nil, List.cons_append, List.nil_append]
  after_results_simp
  refine congrArg twice (cat4 (e := .f32) (1 : Fin S4096x64.rank) _ _ ?_ ?_ ?_ ?_)
  all_goals
    dsimp only [Matrix.cons_val]
    after_results_simp
    try rfl

theorem V_sin (c : Dev nD) : (V m c main_v35 : S4096x128.Idx → EReal) = twice (tabs (fun i => -A6 m c i) (A6 m c) (fun i => -A8 m c i) (A8 m c)) := by
  show StableHlo.after (List.flatten [hostOps0, hostOps0_1, hostOps0_2, hostOps0_3, hostOps0_4]) (fun b => m (c, b)) main_v35 = _
  simp only [hostOps0, hostOps0_1, hostOps0_2, hostOps0_3, hostOps0_4, List.flatten_cons, List.flatten_nil, List.append_nil, List.cons_append, List.nil_append]
  after_results_simp
  refine congrArg twice (cat4 (e := .f32) (1 : Fin S4096x64.rank) _ _ ?_ ?_ ?_ ?_)
  all_goals
    dsimp only [Matrix.cons_val]
    after_results_simp
    try rfl

end Cert.Proof.InprojEven

end
-- ==== Proof.InprojEven.Array.lean ====
/-
  The first layer's projection after the run: the grid's points tile its rows, so every row is the formula of its token.
-/
module

public import proofs.«01_k».proof.Proof.InprojEven.Want
public import proofs.«01_k».proof.Proof.InprojEven.Weights

@[expose] public section

noncomputable section

namespace Cert.Proof.InprojEven

open Cert.Kernel3Ideal Cert.Kernel3Ideal.Gen Cert.Proof.Inproj
open Idealize.ShloMosaic
open Idealize.ShloMosaic.TcCoe Idealize.SL.Sem
open Idealize.ShloMosaic.ValueIdx (ix1 ix2 ix3 ix4 eq_ix2)

/-- Where the windows' blocks lie. -/
theorem idx_in : ∀ t : Fin cfg0.N, win0_0.index t (0 : Fin 2) = min t.val 15 ∧ win0_0.index t (1 : Fin 2) = 0
    ∧ win0_1.index t (0 : Fin 2) = 0 ∧ win0_1.index t (1 : Fin 2) = 0
    ∧ win0_2.index t (0 : Fin 3) = modRow t.val ∧ win0_2.index t (1 : Fin 3) = 0 ∧ win0_2.index t (2 : Fin 3) = 0
    ∧ win0_3.index t (0 : Fin 2) = 0 ∧ win0_3.index t (1 : Fin 2) = 0 :=
  (by decide +kernel : ∀ t : Fin grid0.N, _)

theorem idx_rest : ∀ t : Fin cfg0.N, win0_4.index t (0 : Fin 2) = 0 ∧ win0_4.index t (1 : Fin 2) = 0
    ∧ win0_5.index t (0 : Fin 2) = (if t.val < 16 then t.val % 4 else 0) ∧ win0_5.index t (1 : Fin 2) = 0
    ∧ win0_6.index t (0 : Fin 2) = (if t.val < 16 then t.val % 4 else 0) ∧ win0_6.index t (1 : Fin 2) = 0
    ∧ win0_7.index t (0 : Fin 2) = t.val ∧ win0_7.index t (1 : Fin 2) = 0 :=
  (by decide +kernel : ∀ t : Fin grid0.N, _)

theorem early_eq : ∀ t : Fin cfg0.N, early (grid0.coords t) = (if t.val < 16 then 1#1 else 0#1) :=
  (by decide +kernel : ∀ t : Fin grid0.N, _)

theorem flush7 : ∀ t : Fin cfg0.N, (cfg0.win 7).flush t = true := (by decide +kernel : ∀ t : Fin grid0.N, _)

theorem N_eq : cfg0.N = 17 := by decide +kernel

variable (m : (ℓ : Loc nD τ sig) → Buf (Elt Ideal) ℓ)

theorem t_lt (t : Fin cfg0.N) : t.val < 17 := N_eq ▸ t.isLt

theorem row_lt (t : Fin cfg0.N) (a : Fin 1024) : t.val * 1024 + a.val < 17408 := by
  have := t_lt t
  omega

/-- A choice between two values by whether the point's rows are latent rows. -/
theorem pick {α : Type} (t : Fin cfg0.N) (u v : α) : Scalar.select (early (grid0.coords t)) u v = if t.val < 16 then u else v := by
  rw [early_eq]
  unfold Scalar.select
  by_cases h : t.val < 16
  · rw [if_pos h, if_pos h]; rfl
  · rw [if_neg h, if_neg h, if_neg (by decide)]

theorem iblk0_apply (c : Dev nD) (t : Fin cfg0.N) (h : t.val < 16) (a k : Fin 1024) :
    iblk m c 0 t (ix2 a k) = A0 m c (ix2 ⟨t.val * 1024 + a.val, by omega⟩ k) := by
  obtain ⟨e0, e1, -⟩ := idx_in t
  show V m c main_arg0 (((cfg0.win 0).blk t).view.emb (ix2 a k)) = _
  rw [V_main_arg0]
  refine congrArg (A0 m c) (funext fun i => Fin.ext ?_)
  match i with
  | ⟨0, _⟩ => show win0_0.index t (0 : Fin 2) * 1024 + 1 * a.val = t.val * 1024 + a.val; rw [e0]; omega
  | ⟨1, _⟩ => show win0_0.index t (1 : Fin 2) * 1024 + 1 * k.val = k.val; rw [e1]; omega

theorem iblk1_apply (c : Dev nD) (t : Fin cfg0.N) (a k : Fin 1024) : iblk m c 1 t (ix2 a k) = A1 m c (ix2 a k) := by
  obtain ⟨-, -, e0, e1, -⟩ := idx_in t
  show V m c main_arg1 (((cfg0.win 1).blk t).view.emb (ix2 a k)) = _
  rw [V_main_arg1]
  refine congrArg (A1 m c) (funext fun i => Fin.ext ?_)
  match i with
  | ⟨0, _⟩ => show win0_1.index t (0 : Fin 2) * 1024 + 1 * a.val = a.val; rw [e0]; omega
  | ⟨1, _⟩ => show win0_1.index t (1 : Fin 2) * 1024 + 1 * k.val = k.val; rw [e1]; omega

theorem iblk2_apply (c : Dev nD) (t : Fin cfg0.N) (r : Fin 6) (k : Fin 1024) :
    iblk m c 2 t (ix3 (0 : Fin 1) r k) = A2 m c (ix3 ⟨modRow t.val, modRow_lt _⟩ r k) := by
  obtain ⟨-, -, -, -, e0, e1, e2, -⟩ := idx_in t
  show V m c main_arg2 (((cfg0.win 2).blk t).view.emb (ix3 (0 : Fin 1) r k)) = _
  rw [V_main_arg2]
  refine congrArg (A2 m c) (funext fun i => Fin.ext ?_)
  match i with
  | ⟨0, _⟩ => show win0_2.index t (0 : Fin 3) * 1 + 1 * 0 = modRow t.val; rw [e0]; omega
  | ⟨1, _⟩ => show win0_2.index t (1 : Fin 3) * 6 + 1 * r.val = r.val; rw [e1]; omega
  | ⟨2, _⟩ => show win0_2.index t (2 : Fin 3) * 1024 + 1 * k.val = k.val; rw [e2]; omega

theorem iblk3_apply (c : Dev nD) (t : Fin cfg0.N) (k : Fin 1024) : iblk m c 3 t (ix2 (0 : Fin 1) k) = A3 m c (ix2 0 k) := by
  obtain ⟨-, -, -, -, -, -, -, e0, e1⟩ := idx_in t
  show V m c main_arg3 (((cfg0.win 3).blk t).view.emb (ix2 (0 : Fin 1) k)) = _
  rw [V_main_arg3]
  refine congrArg (A3 m c) (funext fun i => Fin.ext ?_)
  match i with
  | ⟨0, _⟩ => show win0_3.index t (0 : Fin 2) * 1 + 1 * 0 = 0; rw [e0]
  | ⟨1, _⟩ => show win0_3.index t (1 : Fin 2) * 1024 + 1 * k.val = k.val; rw [e1]; omega

theorem iblk4_apply (c : Dev nD) (t : Fin cfg0.N) (k : Fin 1024) (j : Fin 3584) : iblk m c 4 t (ix2 k j) = wide (A4 m c) (ix2 k j) := by
  obtain ⟨e0, e1, -⟩ := idx_rest t
  refine Eq.trans ?_ (congrFun (V_wide m c) (ix2 k j))
  show V m c main_v25 (((cfg0.win 4).blk t).view.emb (ix2 k j)) = _
  refine congrArg (V m c main_v25 : S1024x3584.Idx → EReal) (funext fun i => Fin.ext ?_)
  match i with
  | ⟨0, _⟩ => show win0_4.index t (0 : Fin 2) * 1024 + 1 * k.val = k.val; rw [e0]; omega
  | ⟨1, _⟩ => show win0_4.index t (1 : Fin 2) * 3584 + 1 * j.val = j.val; rw [e1]; omega

theorem iblk5_apply (c : Dev nD) (t : Fin cfg0.N) (h : t.val < 16) (a : Fin 1024) (l : Fin 128) :
    iblk m c 5 t (ix2 a l) = tab (A5 m c) (A5 m c) (A7 m c) (A7 m c) ⟨t.val % 4 * 1024 + a.val, by omega⟩ ⟨l.val % 64, Nat.mod_lt _ (by decide)⟩ := by
  obtain ⟨-, -, e0, e1, -⟩ := idx_rest t
  rw [if_pos h] at e0
  refine Eq.trans ?_ ((congrFun (V_cos m c) (ix2 (⟨t.val % 4 * 1024 + a.val, by omega⟩ : Fin 4096) l)).trans ((twice_apply _ _ l).trans (tabs_apply _ _ _ _ _ _)))
  show V m c main_v32 (((cfg0.win 5).blk t).view.emb (ix2 a l)) = _
  refine congrArg (V m c main_v32 : S4096x128.Idx → EReal) (funext fun i => Fin.ext ?_)
  match i with
  | ⟨0, _⟩ => show win0_5.index t (0 : Fin 2) * 1024 + 1 * a.val = t.val % 4 * 1024 + a.val; rw [e0]; omega
  | ⟨1, _⟩ => show win0_5.index t (1 : Fin 2) * 128 + 1 * l.val = l.val; rw [e1]; omega

theorem iblk6_apply (c : Dev nD) (t : Fin cfg0.N) (h : t.val < 16) (a : Fin 1024) (l : Fin 128) :
    iblk m c 6 t (ix2 a l) = tab (fun i => -A6 m c i) (A6 m c) (fun i => -A8 m c i) (A8 m c) ⟨t.val % 4 * 1024 + a.val, by omega⟩ ⟨l.val % 64, Nat.mod_lt _ (by decide)⟩ := by
  obtain ⟨-, -, -, -, e0, e1, -⟩ := idx_rest t
  rw [if_pos h] at e0
  refine Eq.trans ?_ ((congrFun (V_sin m c) (ix2 (⟨t.val % 4 * 1024 + a.val, by omega⟩ : Fin 4096) l)).trans ((twice_apply _ _ l).trans (tabs_apply _ _ _ _ _ _)))
  show V m c main_v35 (((cfg0.win 6).blk t).view.emb (ix2 a l)) = _
  refine congrArg (V m c main_v35 : S4096x128.Idx → EReal) (funext fun i => Fin.ext ?_)
  match i with
  | ⟨0, _⟩ => show win0_6.index t (0 : Fin 2) * 1024 + 1 * a.val = t.val % 4 * 1024 + a.val; rw [e0]; omega
  | ⟨1, _⟩ => show win0_6.index t (1 : Fin 2) * 128 + 1 * l.val = l.val; rw [e1]; omega

/-- The products of a row of tile `t` with the weights' columns. -/
def bases (c : Dev nD) (t a : ℕ) (h : t * 1024 + a < 17408) : Fin 3072 → EReal :=
  base (stack (A0 m c) (A1 m c) ⟨t * 1024 + a, h⟩) (fun i => A3 m c (ix2 0 i)) (fun i => A2 m c (ix3 ⟨modRow t, modRow_lt t⟩ 1 i))
    (fun i => A2 m c (ix3 ⟨modRow t, modRow_lt t⟩ 0 i)) (fun k j => A4 m c (ix2 k j))

/-- The formula at a row of tile `t` and a column. -/
def want (c : Dev nD) (t a : ℕ) (h : t * 1024 + a < 17408) (ha : a < 1024) (j : Fin 3072) : EReal :=
  if t < 16 then turned (bases m c t a h) (fun l => A5 m c (ix2 ⟨t % 4 * 1024 + a, by omega⟩ l)) (fun l => A6 m c (ix2 ⟨t % 4 * 1024 + a, by omega⟩ l))
    (fun l => A7 m c (ix2 ⟨t % 4 * 1024 + a, by omega⟩ l)) (fun l => A8 m c (ix2 ⟨t % 4 * 1024 + a, by omega⟩ l)) j
  else scaled (bases m c t a h) j

theorem hid_apply (c : Dev nD) (t : Fin cfg0.N) (a k : Fin 1024) :
    hid (grid0.coords t) (iblk m c 0 t) (iblk m c 1 t) (iblk m c 2 t) (iblk m c 3 t) a k
      = normed (stack (A0 m c) (A1 m c) ⟨t.val * 1024 + a.val, row_lt t a⟩) (fun i => A3 m c (ix2 0 i)) (fun i => A2 m c (ix3 ⟨modRow t.val, modRow_lt _⟩ 1 i))
          (fun i => A2 m c (ix3 ⟨modRow t.val, modRow_lt _⟩ 0 i)) k := by
  have hx : (fun l => (Scalar.select (early (grid0.coords t)) (iblk m c 0 t) (iblk m c 1 t) : Vec Ideal S1024x1024 .f32) (ix2 a l)) = stack (A0 m c) (A1 m c) ⟨t.val * 1024 + a.val, row_lt t a⟩ := by
    funext l
    rw [pick]
    have := t_lt t
    unfold stack
    by_cases h : t.val < 16
    · rw [if_pos h, dif_pos (by show t.val * 1024 + a.val < 16384; omega)]
      exact iblk0_apply m c t h a l
    · rw [if_neg h, dif_neg (by show ¬ t.val * 1024 + a.val < 16384; omega)]
      refine (iblk1_apply m c t a l).trans (congrArg (fun q => A1 m c (ix2 q l)) (Fin.ext ?_))
      show a.val = t.val * 1024 + a.val - 16384
      omega
  unfold hid
  rw [hx]
  refine congrArg (fun f => f k) (congr (congr (congrArg (normed _) ?_) ?_) ?_)
  · funext l; exact iblk3_apply m c t l
  · funext l; exact iblk2_apply m c t 1 l
  · funext l; exact iblk2_apply m c t 0 l

/-- A row's product with the widened weights' column `n`. -/
abbrev prodC (c : Dev nD) (t : Fin cfg0.N) (a : Fin 1024) (n : Fin 3584) : EReal :=
  dotC (grid0.coords t) (iblk m c 0 t) (iblk m c 1 t) (iblk m c 2 t) (iblk m c 3 t) (iblk m c 4 t) a n

theorem prodC_eq (c : Dev nD) (t : Fin cfg0.N) (a : Fin 1024) (n : Fin 3584) (j : Fin 3072) (e : EReal)
    (h : ∀ k : Fin 1024, wide (A4 m c) (ix2 k n) = A4 m c (ix2 k j) * e) (he : (e = 1 ∧ ¬ (256 ≤ j.val ∧ j.val < 512)) ∨ (e = Ideal.ofBits .f32 0x3E000000#32 ∧ 256 ≤ j.val ∧ j.val < 512)) :
    prodC m c t a n = scaled (bases m c t.val a.val (row_lt t a)) j := by
  show (∑ k : Fin 1024, hid (grid0.coords t) (iblk m c 0 t) (iblk m c 1 t) (iblk m c 2 t) (iblk m c 3 t) a k * iblk m c 4 t (ix2 k n)) = _
  have e1 : ∀ k : Fin 1024, hid (grid0.coords t) (iblk m c 0 t) (iblk m c 1 t) (iblk m c 2 t) (iblk m c 3 t) a k * iblk m c 4 t (ix2 k n)
      = normed (stack (A0 m c) (A1 m c) ⟨t.val * 1024 + a.val, row_lt t a⟩) (fun i => A3 m c (ix2 0 i)) (fun i => A2 m c (ix3 ⟨modRow t.val, modRow_lt _⟩ 1 i))
          (fun i => A2 m c (ix3 ⟨modRow t.val, modRow_lt _⟩ 0 i)) k * (A4 m c (ix2 k j) * e) := fun k => by
    rw [hid_apply, iblk4_apply, h]
  refine (Finset.sum_congr rfl fun k _ => e1 k).trans ?_
  unfold scaled bases base
  rcases he with ⟨rfl, hn⟩ | ⟨rfl, hp⟩
  · rw [if_neg hn]
    exact Finset.sum_congr rfl fun k _ => by rw [mul_one]
  · rw [if_pos hp]
    exact sum_eighth _ _

theorem sc_cases (j : ℕ) (hj : j < 512) : (sc j = 1 ∧ ¬ (256 ≤ j ∧ j < 512)) ∨ (sc j = Ideal.ofBits .f32 0x3E000000#32 ∧ 256 ≤ j ∧ j < 512) := by
  unfold sc
  by_cases h : j < 256
  · exact Or.inl ⟨by rw [if_pos h, Ideal.ofBits_one_f32], by omega⟩
  · exact Or.inr ⟨by rw [if_neg h], by omega, hj⟩

theorem prod_first (c : Dev nD) (t : Fin cfg0.N) (a : Fin 1024) (j : Fin 3072) (hj : j.val < 512) (h : j.val < 3584) :
    prodC m c t a ⟨j.val, h⟩ = scaled (bases m c t.val a.val (row_lt t a)) j :=
  prodC_eq m c t a _ j (sc j.val) (fun k => wide_first (A4 m c) k ⟨j.val, hj⟩ h) (sc_cases j.val hj)

theorem prod_rest (c : Dev nD) (t : Fin cfg0.N) (a : Fin 1024) (j : Fin 3072) (hj : ¬ j.val < 512) (h : j.val < 3584) :
    prodC m c t a ⟨j.val, h⟩ = scaled (bases m c t.val a.val (row_lt t a)) j :=
  prodC_eq m c t a _ j 1 (fun k => by rw [mul_one]; exact wide_rest (A4 m c) k j hj h) (Or.inl ⟨rfl, by omega⟩)

theorem prod_partner (c : Dev nD) (t : Fin cfg0.N) (a : Fin 1024) (j p : Fin 3072) (hj : j.val < 512) (hp : p.val = partner j.val) (h : 3072 + j.val < 3584) :
    prodC m c t a ⟨3072 + j.val, h⟩ = scaled (bases m c t.val a.val (row_lt t a)) p := by
  have hl := partner_lt ⟨j.val, hj⟩
  refine prodC_eq m c t a _ p (sc p.val) (fun k => ?_) (sc_cases p.val (by rw [hp]; exact hl))
  refine (wide_partner (A4 m c) k ⟨j.val, hj⟩ h).trans ?_
  have e : (⟨partner j.val, Nat.lt_trans hl (by decide)⟩ : Fin 3072) = p := Fin.ext hp.symm
  show A4 m c (ix2 k ⟨partner j.val, _⟩) * sc (partner j.val) = _
  rw [e, hp]

/-- The block's cell is the formula. -/
theorem cell_eq (c : Dev nD) (t : Fin cfg0.N) (a : Fin 1024) (j : Fin 3072) :
    cellB (grid0.coords t) (iblk m c 0 t) (iblk m c 1 t) (iblk m c 2 t) (iblk m c 3 t) (iblk m c 4 t) (iblk m c 5 t) (iblk m c 6 t) a j
      = want m c t.val a.val (row_lt t a) a.isLt j := by
  unfold cellB want
  by_cases hj : j.val < 512
  · rw [dif_pos hj]
    have f1 := prod_first m c t a j hj (by omega)
    have f2 := fun p hp => prod_partner m c t a j p hj hp (by omega)
    have hq := partner_lt ⟨j.val, hj⟩
    unfold cosB sinB
    by_cases ht : t.val < 16
    · rw [if_pos ht, pick, pick, if_pos ht, if_pos ht, iblk5_apply m c t ht, iblk6_apply m c t ht]
      have em : j.val % 128 % 64 = j.val % 64 := by omega
      have em16 : j.val % 64 % 16 = j.val % 16 := by omega
      unfold turned tab
      rw [dif_pos hj]
      simp only [em16, em]
      show prodC m c t a _ * _ + prodC m c t a _ * _ = _
      rw [f1]
      unfold partner at f2
      by_cases h1 : j.val % 64 < 16
      · rw [f2 ⟨j.val + 16, by omega⟩ (by show j.val + 16 = _; rw [if_pos (by omega)])]
        simp only [if_pos h1]
        rw [mul_neg, ← sub_eq_add_neg]
      by_cases h2 : j.val % 64 < 32
      · rw [f2 ⟨j.val - 16, by omega⟩ (by show j.val - 16 = _; rw [if_neg (by omega)])]
        simp only [if_neg h1, if_pos h2]
        rw [add_comm]
      by_cases h3 : j.val % 64 < 48
      · rw [f2 ⟨j.val + 16, by omega⟩ (by show j.val + 16 = _; rw [if_pos (by omega)])]
        simp only [if_neg h1, if_neg h2, if_pos h3]
        rw [mul_neg, ← sub_eq_add_neg]
      · rw [f2 ⟨j.val - 16, by omega⟩ (by show j.val - 16 = _; rw [if_neg (by omega)])]
        simp only [if_neg h1, if_neg h2, if_neg h3]
        rw [add_comm]
    · rw [if_neg ht, pick, pick, if_neg ht, if_neg ht, Ideal.ofBits_one_f32, Ideal.ofBits_zero_f32, mul_one, mul_zero, add_zero]
      exact f1
  · rw [dif_neg hj]
    refine (prod_rest m c t a j hj (by omega)).trans ?_
    by_cases ht : t.val < 16
    · rw [if_pos ht]
      unfold turned
      rw [dif_neg hj]
    · rw [if_neg ht]

/-- The projection's array after the run. -/
abbrev res (c : Dev nD) : S17408x3072.Idx → EReal := (dats m 0 c).arrAt 7 cfg0.N

theorem res_apply (c : Dev nD) (t : Fin cfg0.N) (a : Fin 1024) (j : Fin 3072) :
    res m c (ix2 ⟨t.val * 1024 + a.val, row_lt t a⟩ j) = want m c t.val a.val (row_lt t a) a.isLt j := by
  obtain ⟨-, -, -, -, -, -, e0, e1⟩ := idx_rest t
  have hb := congrFun (Cert.Kernel3Ideal.Value.blocks7 m c t (flush7 t)) (ix2 a j)
  rw [Cert.Kernel3Ideal.Value.flushed7_A] at hb
  have he : ((cfg0.win 7).blk t).view.emb (ix2 a j) = (ix2 (⟨t.val * 1024 + a.val, row_lt t a⟩ : Fin 17408) j : S17408x3072.Idx) := by
    funext i; refine Fin.ext ?_
    match i with
    | ⟨0, _⟩ => show win0_7.index t (0 : Fin 2) * 1024 + 1 * a.val = t.val * 1024 + a.val; rw [e0]; omega
    | ⟨1, _⟩ => show win0_7.index t (1 : Fin 2) * 3072 + 1 * j.val = j.val; rw [e1]; omega
  have hl : res m c (((cfg0.win 7).blk t).view.emb (ix2 a j)) = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      (iblk m c 0 t) (iblk m c 1 t) (iblk m c 2 t) (iblk m c 3 t) (iblk m c 4 t) (iblk m c 5 t) (iblk m c 6 t) (ix2 a j) := hb
  rw [he] at hl
  refine hl.trans ((out_eq _ _ _ _ _ _ _ _ _ _ _ _ _ _ _ _ _ _ _ _ _ _ _ _ _ _).trans ?_)
  exact cell_eq m c t a j

end Cert.Proof.InprojEven

end
-- ==== Proof.InprojEven.Ref.lean ====
/-
  The reference's projection of the first layer, entry by entry: the rows' products, the keys' scaled, and the latent rows'
  queries and keys turned by the angles.
-/
module

public import proofs.«01_k».proof.Proof.InprojEven.Want
public import proofs.«01_k».proof.Proof.Inproj.Ref
public import proofs.«01_k».proof.Proof.Gen.Reference3Ideal.Run

@[expose] public section

noncomputable section

namespace Cert.Proof.InprojEvenRef

open Cert.Reference3Ideal Cert.Reference3Ideal.Gen Cert.Proof.Inproj Cert.Proof.InprojEven
open Idealize.ShloMosaic
open Idealize.ShloMosaic.TcCoe Idealize.SL.Sem Idealize.ShloMosaic.StableHlo
open Idealize.ShloMosaic.ValueIdx (ix0 ix1 ix2 ix3 ix4 eq_ix2 eq_ix3)
open Idealize.ShloMosaic.StackMember

/-! ## The rows and their products -/

section Rows

variable (x : FVec Ideal S16384x1024 .f32) (cx : FVec Ideal S1024x1024 .f32) (md : FVec Ideal S8x6x1024 .f32) (nw : FVec Ideal S1x1024 .f32) (w : FVec Ideal S1024x3072 .f32)

/-- The tokens' rows, the latent ones first. -/
def tokens : FVec Ideal S17408x1024 .f32 := fun i => stack x cx ⟨(i 0).val, (i 0).isLt⟩ ⟨(i 1).val, (i 1).isLt⟩

theorem lat_eq : InprojRef.lat (tokens x cx) = shapeCast S4x4096x1024 x shapeCasts_S16384x1024_S4x4096x1024 := by
  funext i
  obtain ⟨b, s, k, rfl⟩ : ∃ (b : Fin 4) (s : Fin 4096) (k : Fin 1024), i = ix3 b s k := ⟨i 0, i 1, i 2, eq_ix3 i⟩
  rw [InprojRef.lat_apply]
  refine Eq.trans ?_ (shapeCast_apply x shapeCasts_S16384x1024_S4x4096x1024 (ix3 b s k) (ix2 (⟨b.val * 4096 + s.val, by omega⟩ : Fin 16384) k) (by
    rw [Shape.rowMajor_val_two, Shape.rowMajor_val_three]
    rfl)).symm
  show stack x cx ⟨b.val * 4096 + s.val, _⟩ k = _
  unfold stack
  rw [dif_pos (by show b.val * 4096 + s.val < 16384; omega)]

theorem ctx_eq : InprojRef.ctx (tokens x cx) = cx := by
  funext i
  obtain ⟨a, k, rfl⟩ : ∃ (a : Fin 1024) (k : Fin 1024), i = ix2 a k := ⟨i 0, i 1, eq_ix2 i⟩
  rw [InprojRef.ctx_apply]
  show stack x cx ⟨16384 + a.val, _⟩ k = _
  unfold stack
  rw [dif_neg (by show ¬ 16384 + a.val < 16384; omega)]
  refine congrArg (fun q => cx (ix2 q k)) (Fin.ext ?_)
  show 16384 + a.val - 16384 = a.val
  omega

/-- The rows' products with the weights. -/
def prods : FVec Ideal S17408x3072 .f32 := InprojRef.full (tokens x cx) md nw w

theorem prods_apply (t : ℕ) (a : Fin 1024) (h : t * 1024 + a.val < 17408) (j : Fin 3072) : prods x cx md nw w (ix2 ⟨t * 1024 + a.val, h⟩ j) =
    base (stack x cx ⟨t * 1024 + a.val, h⟩) (fun i => nw (ix2 0 i)) (fun i => md (ix3 ⟨modRow t, modRow_lt t⟩ 1 i))
      (fun i => md (ix3 ⟨modRow t, modRow_lt t⟩ 0 i)) (fun k j => w (ix2 k j)) j := by
  have hf := InprojRef.full_apply (tokens x cx) md nw w ⟨t * 1024 + a.val, h⟩ j
  simp only [InprojRef.rows_apply] at hf
  exact hf

end Rows

theorem res55_eq (m : (ℓ : Loc nD τ sig) → Buf (Elt Ideal) ℓ) (c : Dev nD) : Cert.Reference3Ideal.Value.res_main_v55 (launchContents m c) =
    prods (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) := by
  unfold prods InprojRef.full InprojRef.rows InprojRef.latRows InprojRef.ctxRows InprojRef.latInv InprojRef.ctxInv
  rw [lat_eq, ctx_eq]
  rfl

/-! ## The keys scaled -/

variable (p : FVec Ideal S17408x3072 .f32)

def keyed : FVec Ideal S17408x3072 .f32 :=
  concatenate S17408x3072 1 [⟨S17408x256, extractStridedSlice S17408x256 ![0, 0] p slices_S17408x3072_S17408x256_0_0⟩,
    ⟨S17408x256, mulf (extractStridedSlice S17408x256 ![0, 256] p slices_S17408x3072_S17408x256_0_256) (broadcastInDim S17408x256 ![] bcast_S_S17408x256 (constant S_ .f32 0x3E000000#32))⟩,
    ⟨S17408x2560, extractStridedSlice S17408x2560 ![0, 512] p slices_S17408x3072_S17408x2560_0_512⟩] concatenates_S17408x256_S17408x256_S17408x2560_S17408x3072_d1

theorem keyed_apply (r : Fin 17408) (j : Fin 3072) : keyed p (ix2 r j) = scaled (fun l => p (ix2 r l)) j := by
  unfold keyed scaled
  by_cases h1 : j.val < 256
  · rw [if_neg (by omega)]
    refine (concatenate_apply_piece (1 : Fin S17408x3072.rank) _ _ (ix2 r j) 0 (by simp) S17408x256 (extractStridedSlice S17408x256 ![0, 0] p slices_S17408x3072_S17408x256_0_0) rfl rfl 0 rfl
      (ix2 r (⟨j.val, h1⟩ : Fin 256))
      (fun b hb => by
        match b with
        | ⟨0, _⟩ => rfl
        | ⟨1, _⟩ => exact absurd rfl hb)
      (Nat.zero_add _)).trans ?_
    refine congrArg p (funext fun i => Fin.ext ?_)
    match i with
    | ⟨0, _⟩ => show 0 + r.val = r.val; omega
    | ⟨1, _⟩ => show 0 + j.val = j.val; omega
  by_cases h2 : j.val < 512
  · rw [if_pos ⟨by omega, h2⟩]
    refine (concatenate_apply_piece (1 : Fin S17408x3072.rank) _ _ (ix2 r j) 1 (by simp) S17408x256
      (mulf (extractStridedSlice S17408x256 ![0, 256] p slices_S17408x3072_S17408x256_0_256) (broadcastInDim S17408x256 ![] bcast_S_S17408x256 (constant (F := Ideal) S_ .f32 0x3E000000#32))) rfl rfl 256 rfl
      (ix2 r (⟨j.val - 256, by omega⟩ : Fin 256))
      (fun b hb => by
        match b with
        | ⟨0, _⟩ => rfl
        | ⟨1, _⟩ => exact absurd rfl hb)
      (by show 256 + (j.val - 256) = j.val; omega)).trans ?_
    refine congrArg (· * Ideal.ofBits .f32 0x3E000000#32) (congrArg p (funext fun i => Fin.ext ?_))
    match i with
    | ⟨0, _⟩ => show 0 + r.val = r.val; omega
    | ⟨1, _⟩ => show 256 + (j.val - 256) = j.val; omega
  · rw [if_neg (by omega)]
    refine (concatenate_apply_piece (1 : Fin S17408x3072.rank) _ _ (ix2 r j) 2 (by simp) S17408x2560 (extractStridedSlice S17408x2560 ![0, 512] p slices_S17408x3072_S17408x2560_0_512) rfl rfl 512 rfl
      (ix2 r (⟨j.val - 512, by omega⟩ : Fin 2560))
      (fun b hb => by
        match b with
        | ⟨0, _⟩ => rfl
        | ⟨1, _⟩ => exact absurd rfl hb)
      (by show 512 + (j.val - 512) = j.val; omega)).trans ?_
    refine congrArg p (funext fun i => Fin.ext ?_)
    match i with
    | ⟨0, _⟩ => show 0 + r.val = r.val; omega
    | ⟨1, _⟩ => show 512 + (j.val - 512) = j.val; omega

/-! ## The turns -/

variable (y : FVec Ideal S17408x3072 .f32)

/-- The latent rows' queries and keys, by batch, position and head. -/
def heads : FVec Ideal S4x4096x8x64 .f32 := shapeCast _ (extractStridedSlice S16384x512 ![0, 0] y slices_S17408x3072_S16384x512_0_0) shapeCasts_S16384x512_S4x4096x8x64

theorem heads_apply (b : Fin 4) (s : Fin 4096) (h : Fin 8) (i : Fin 64) : heads y (ix4 b s h i) = y (ix2 ⟨b.val * 4096 + s.val, by omega⟩ ⟨h.val * 64 + i.val, by omega⟩) := by
  unfold heads
  rw [shapeCast_apply _ _ (ix4 b s h i) (ix2 (⟨b.val * 4096 + s.val, by omega⟩ : Fin 16384) (⟨h.val * 64 + i.val, by omega⟩ : Fin 512)) (by
    rw [Shape.rowMajor_val_two, Shape.rowMajor_val_four]
    show (b.val * 4096 + s.val) * 512 + (h.val * 64 + i.val) = ((b.val * 4096 + s.val) * 8 + h.val) * 64 + i.val
    omega)]
  refine congrArg y (funext fun i => Fin.ext ?_)
  match i with
  | ⟨0, _⟩ => show 0 + (b.val * 4096 + s.val) = b.val * 4096 + s.val; omega
  | ⟨1, _⟩ => show 0 + (h.val * 64 + _) = h.val * 64 + _; omega

/-- A table spread over batches and heads. -/
def over (v : FVec Ideal S4096x16 .f32) : FVec Ideal S4x4096x8x16 .f32 :=
  broadcastInDim S4x4096x8x16 ![0, 1, 2, 3] bcast_S1x4096x1x16_S4x4096x8x16_0_1_2_3 (broadcastInDim S1x4096x1x16 ![1, 2, 3] bcast_S4096x1x16_S1x4096x1x16_1_2_3
    (broadcastInDim S4096x1x16 ![0, 2] bcast_S4096x16_S4096x1x16_0_2 v))

theorem over_apply (v : FVec Ideal S4096x16 .f32) (b : Fin 4) (s : Fin 4096) (h : Fin 8) (i : Fin 16) : over v (ix4 b s h i) = v (ix2 s i) := by
  unfold over
  rw [broadcastInDim_apply ![0, 1, 2, 3] bcast_S1x4096x1x16_S4x4096x8x16_0_1_2_3 _ (ix4 b s h i) (ix4 (0 : Fin 1) s (0 : Fin 1) i) (fun d => by
    match d with
    | ⟨0, _⟩ => rfl
    | ⟨1, _⟩ => rfl
    | ⟨2, _⟩ => rfl
    | ⟨3, _⟩ => rfl)]
  rw [broadcastInDim_apply ![1, 2, 3] bcast_S4096x1x16_S1x4096x1x16_1_2_3 _ (ix4 (0 : Fin 1) s (0 : Fin 1) i) (ix3 s (0 : Fin 1) i) (fun d => by
    match d with
    | ⟨0, _⟩ => rfl
    | ⟨1, _⟩ => rfl
    | ⟨2, _⟩ => rfl)]
  exact broadcastInDim_apply ![0, 2] bcast_S4096x16_S4096x1x16_0_2 v (ix3 s (0 : Fin 1) i) (ix2 s i) (fun d => by
    match d with
    | ⟨0, _⟩ => rfl
    | ⟨1, _⟩ => rfl)

/-- A turn of two groups of 16 columns. -/
def turn (u v : FVec Ideal S4x4096x8x16 .f32) (C S : FVec Ideal S4096x16 .f32) : FVec Ideal S4x4096x8x32 .f32 :=
  concatenate S4x4096x8x32 3 [⟨S4x4096x8x16, subf (mulf u (over C)) (mulf v (over S))⟩, ⟨S4x4096x8x16, addf (mulf u (over S)) (mulf v (over C))⟩] concatenates_S4x4096x8x16_S4x4096x8x16_S4x4096x8x32_d3

theorem turn_left (u v : FVec Ideal S4x4096x8x16 .f32) (C S : FVec Ideal S4096x16 .f32) (b : Fin 4) (s : Fin 4096) (h : Fin 8) (i : Fin 32) (i' : Fin 16) (hi : i.val = i'.val) :
    turn u v C S (ix4 b s h i) = u (ix4 b s h i') * C (ix2 s i') - v (ix4 b s h i') * S (ix2 s i') := by
  unfold turn
  rw [concatenate_pair_apply_left (s₁ := S4x4096x8x16) (s₂ := S4x4096x8x16) (3 : Fin S4x4096x8x32.rank) _ _ _ (ix4 b s h i) rfl (ix4 b s h i') (fun d => by
    match d with
    | ⟨0, _⟩ => rfl
    | ⟨1, _⟩ => rfl
    | ⟨2, _⟩ => rfl
    | ⟨3, _⟩ => exact hi.symm), ← over_apply C b s h i', ← over_apply S b s h i']
  rfl

theorem turn_right (u v : FVec Ideal S4x4096x8x16 .f32) (C S : FVec Ideal S4096x16 .f32) (b : Fin 4) (s : Fin 4096) (h : Fin 8) (i : Fin 32) (i' : Fin 16) (hi : i'.val + 16 = i.val) :
    turn u v C S (ix4 b s h i) = u (ix4 b s h i') * S (ix2 s i') + v (ix4 b s h i') * C (ix2 s i') := by
  unfold turn
  rw [concatenate_pair_apply_right (s₁ := S4x4096x8x16) (s₂ := S4x4096x8x16) (3 : Fin S4x4096x8x32.rank) _ _ _ (ix4 b s h i) rfl rfl (ix4 b s h i') (fun d hd => by
    match d with
    | ⟨0, _⟩ => rfl
    | ⟨1, _⟩ => rfl
    | ⟨2, _⟩ => rfl
    | ⟨3, _⟩ => exact absurd rfl hd) hi, ← over_apply C b s h i', ← over_apply S b s h i']
  rfl

/-- The latent rows' queries and keys turned. -/
def both (C S C' S' : FVec Ideal S4096x16 .f32) : FVec Ideal S4x4096x8x64 .f32 :=
  concatenate S4x4096x8x64 3 [⟨S4x4096x8x32, turn (extractStridedSlice S4x4096x8x16 ![0, 0, 0, 0] (heads y) slices_S4x4096x8x64_S4x4096x8x16_0_0_0_0)
      (extractStridedSlice S4x4096x8x16 ![0, 0, 0, 16] (heads y) slices_S4x4096x8x64_S4x4096x8x16_0_0_0_16) C S⟩,
    ⟨S4x4096x8x32, turn (extractStridedSlice S4x4096x8x16 ![0, 0, 0, 32] (heads y) slices_S4x4096x8x64_S4x4096x8x16_0_0_0_32)
      (extractStridedSlice S4x4096x8x16 ![0, 0, 0, 48] (heads y) slices_S4x4096x8x64_S4x4096x8x16_0_0_0_48) C' S'⟩] concatenates_S4x4096x8x32_S4x4096x8x32_S4x4096x8x64_d3

theorem cut_apply (o : ℕ) (ho : o + 16 ≤ 64) (hs : S4x4096x8x64.Slices ![0, 0, 0, o] S4x4096x8x16) (b : Fin 4) (s : Fin 4096) (h : Fin 8) (i : Fin 16) (r : Fin 17408) (j : Fin 3072)
    (hr : r.val = b.val * 4096 + s.val) (hj : j.val = h.val * 64 + o + i.val) :
    extractStridedSlice S4x4096x8x16 ![0, 0, 0, o] (heads y) hs (ix4 b s h i) = y (ix2 r j) := by
  rw [extractStridedSlice_apply ![0, 0, 0, o] (heads y) hs (ix4 b s h i) (ix4 b s h (⟨o + i.val, by omega⟩ : Fin 64)) (fun d => by
    match d with
    | ⟨0, _⟩ => show b.val = 0 + b.val; omega
    | ⟨1, _⟩ => show s.val = 0 + s.val; omega
    | ⟨2, _⟩ => show h.val = 0 + h.val; omega
    | ⟨3, _⟩ => rfl), heads_apply]
  refine congrArg₂ (fun q q' => y (ix2 q q')) (Fin.ext hr.symm) (Fin.ext ?_)
  show h.val * 64 + (o + i.val) = j.val
  omega

theorem both_low (C S C' S' : FVec Ideal S4096x16 .f32) (b : Fin 4) (s : Fin 4096) (h : Fin 8) (i : Fin 64) (i' : Fin 32) (hi : i.val = i'.val) :
    both y C S C' S' (ix4 b s h i) = turn (extractStridedSlice S4x4096x8x16 ![0, 0, 0, 0] (heads y) slices_S4x4096x8x64_S4x4096x8x16_0_0_0_0)
      (extractStridedSlice S4x4096x8x16 ![0, 0, 0, 16] (heads y) slices_S4x4096x8x64_S4x4096x8x16_0_0_0_16) C S (ix4 b s h i') := by
  unfold both
  exact concatenate_pair_apply_left (s₁ := S4x4096x8x32) (s₂ := S4x4096x8x32) (3 : Fin S4x4096x8x64.rank) _ _ _ (ix4 b s h i) rfl (ix4 b s h i') (fun d => by
    match d with
    | ⟨0, _⟩ => rfl
    | ⟨1, _⟩ => rfl
    | ⟨2, _⟩ => rfl
    | ⟨3, _⟩ => exact hi.symm)

theorem both_high (C S C' S' : FVec Ideal S4096x16 .f32) (b : Fin 4) (s : Fin 4096) (h : Fin 8) (i : Fin 64) (i' : Fin 32) (hi : i'.val + 32 = i.val) :
    both y C S C' S' (ix4 b s h i) = turn (extractStridedSlice S4x4096x8x16 ![0, 0, 0, 32] (heads y) slices_S4x4096x8x64_S4x4096x8x16_0_0_0_32)
      (extractStridedSlice S4x4096x8x16 ![0, 0, 0, 48] (heads y) slices_S4x4096x8x64_S4x4096x8x16_0_0_0_48) C' S' (ix4 b s h i') := by
  unfold both
  exact concatenate_pair_apply_right (s₁ := S4x4096x8x32) (s₂ := S4x4096x8x32) (3 : Fin S4x4096x8x64.rank) _ _ _ (ix4 b s h i) rfl rfl (ix4 b s h i') (fun d hd => by
    match d with
    | ⟨0, _⟩ => rfl
    | ⟨1, _⟩ => rfl
    | ⟨2, _⟩ => rfl
    | ⟨3, _⟩ => exact absurd rfl hd) hi

/-- A turned entry is the formula. -/
theorem both_apply (C S C' S' : FVec Ideal S4096x16 .f32) (D : Fin 3072 → EReal) (r : Fin 17408) (hD : ∀ j, y (ix2 r j) = scaled D j) (b : Fin 4) (s : Fin 4096) (h : Fin 8) (i : Fin 64)
    (j : Fin 3072) (hr : r.val = b.val * 4096 + s.val) (hj : j.val = h.val * 64 + i.val) :
    both y C S C' S' (ix4 b s h i) = turned D (fun l => C (ix2 s l)) (fun l => S (ix2 s l)) (fun l => C' (ix2 s l)) (fun l => S' (ix2 s l)) j := by
  unfold turned
  rw [dif_pos (by omega)]
  have em : j.val % 64 = i.val := by omega
  have e16 : (⟨j.val % 16, Nat.mod_lt _ (by decide)⟩ : Fin 16) = ⟨i.val % 16, Nat.mod_lt _ (by decide)⟩ := Fin.ext (by show j.val % 16 = i.val % 16; omega)
  simp only [em, e16]
  by_cases h1 : i.val < 16
  · simp only [if_pos h1]
    rw [both_low y C S C' S' b s h i ⟨i.val, by omega⟩ rfl, turn_left _ _ C S b s h _ ⟨i.val % 16, Nat.mod_lt _ (by decide)⟩ (by show i.val = i.val % 16; omega),
      cut_apply y 0 (by decide) _ b s h _ r j hr (by show j.val = h.val * 64 + 0 + i.val % 16; omega),
      cut_apply y 16 (by decide) _ b s h _ r ⟨j.val + 16, by omega⟩ hr (by show j.val + 16 = h.val * 64 + 16 + i.val % 16; omega), hD, hD]
  by_cases h2 : i.val < 32
  · simp only [if_neg h1, if_pos h2]
    rw [both_low y C S C' S' b s h i ⟨i.val, by omega⟩ rfl, turn_right _ _ C S b s h _ ⟨i.val % 16, Nat.mod_lt _ (by decide)⟩ (by show i.val % 16 + 16 = i.val; omega),
      cut_apply y 0 (by decide) _ b s h _ r ⟨j.val - 16, by omega⟩ hr (by show j.val - 16 = h.val * 64 + 0 + i.val % 16; omega),
      cut_apply y 16 (by decide) _ b s h _ r j hr (by show j.val = h.val * 64 + 16 + i.val % 16; omega), hD, hD]
  by_cases h3 : i.val < 48
  · simp only [if_neg h1, if_neg h2, if_pos h3]
    rw [both_high y C S C' S' b s h i ⟨i.val - 32, by omega⟩ (by show i.val - 32 + 32 = i.val; omega), turn_left _ _ C' S' b s h _ ⟨i.val % 16, Nat.mod_lt _ (by decide)⟩ (by show i.val - 32 = i.val % 16; omega),
      cut_apply y 32 (by decide) _ b s h _ r j hr (by show j.val = h.val * 64 + 32 + i.val % 16; omega),
      cut_apply y 48 (by decide) _ b s h _ r ⟨j.val + 16, by omega⟩ hr (by show j.val + 16 = h.val * 64 + 48 + i.val % 16; omega), hD, hD]
  · simp only [if_neg h1, if_neg h2, if_neg h3]
    rw [both_high y C S C' S' b s h i ⟨i.val - 32, by omega⟩ (by show i.val - 32 + 32 = i.val; omega), turn_right _ _ C' S' b s h _ ⟨i.val % 16, Nat.mod_lt _ (by decide)⟩ (by show i.val % 16 + 16 = i.val - 32; omega),
      cut_apply y 32 (by decide) _ b s h _ r ⟨j.val - 16, by omega⟩ hr (by show j.val - 16 = h.val * 64 + 32 + i.val % 16; omega),
      cut_apply y 48 (by decide) _ b s h _ r j hr (by show j.val = h.val * 64 + 48 + i.val % 16; omega), hD, hD]

/-! ## The result -/

/-- The queries and keys of all rows. -/
def qk (C S C' S' : FVec Ideal S4096x16 .f32) : FVec Ideal S17408x512 .f32 :=
  concatenate S17408x512 0 [⟨S16384x512, shapeCast _ (both y C S C' S') shapeCasts_S4x4096x8x64_S16384x512⟩,
    ⟨S1024x512, extractStridedSlice S1024x512 ![16384, 0] y slices_S17408x3072_S1024x512_16384_0⟩] concatenates_S16384x512_S1024x512_S17408x512_d0

def out (C S C' S' : FVec Ideal S4096x16 .f32) : FVec Ideal S17408x3072 .f32 :=
  concatenate S17408x3072 1 [⟨S17408x512, qk y C S C' S'⟩, ⟨S17408x2560, extractStridedSlice S17408x2560 ![0, 512] y slices_S17408x3072_S17408x2560_0_512⟩] concatenates_S17408x512_S17408x2560_S17408x3072_d1

theorem qk_lat (C S C' S' : FVec Ideal S4096x16 .f32) (r : Fin 17408) (hr : r.val < 16384) (j : Fin 512) :
    qk y C S C' S' (ix2 r j) = both y C S C' S' (ix4 (⟨r.val / 4096, by omega⟩ : Fin 4) (⟨r.val % 4096, Nat.mod_lt _ (by decide)⟩ : Fin 4096) (⟨j.val / 64, by omega⟩ : Fin 8) (⟨j.val % 64, Nat.mod_lt _ (by decide)⟩ : Fin 64)) := by
  unfold qk
  rw [concatenate_pair_apply_left (s₁ := S16384x512) (s₂ := S1024x512) (0 : Fin S17408x512.rank) _ _ _ (ix2 r j) rfl (ix2 (⟨r.val, hr⟩ : Fin 16384) j) (fun d => by
    match d with
    | ⟨0, _⟩ => rfl
    | ⟨1, _⟩ => rfl)]
  exact shapeCast_apply _ _ _ _ (by
    rw [Shape.rowMajor_val_two, Shape.rowMajor_val_four]
    show ((r.val / 4096 * 4096 + r.val % 4096) * 8 + j.val / 64) * 64 + j.val % 64 = r.val * 512 + j.val
    omega)

theorem qk_ctx (C S C' S' : FVec Ideal S4096x16 .f32) (r : Fin 17408) (hr : ¬ r.val < 16384) (j : Fin 512) : qk y C S C' S' (ix2 r j) = y (ix2 r ⟨j.val, by omega⟩) := by
  unfold qk
  rw [concatenate_pair_apply_right (s₁ := S16384x512) (s₂ := S1024x512) (0 : Fin S17408x512.rank) _ _ _ (ix2 r j) rfl rfl (ix2 (⟨r.val - 16384, by omega⟩ : Fin 1024) j) (fun d hd => by
    match d with
    | ⟨0, _⟩ => exact absurd rfl hd
    | ⟨1, _⟩ => rfl) (by show r.val - 16384 + 16384 = r.val; omega)]
  refine congrArg y (funext fun i => Fin.ext ?_)
  match i with
  | ⟨0, _⟩ => show 16384 + (r.val - 16384) = r.val; omega
  | ⟨1, _⟩ => show 0 + j.val = j.val; omega

theorem out_qk (C S C' S' : FVec Ideal S4096x16 .f32) (r : Fin 17408) (j : Fin 3072) (hj : j.val < 512) : out y C S C' S' (ix2 r j) = qk y C S C' S' (ix2 r ⟨j.val, hj⟩) := by
  unfold out
  exact concatenate_pair_apply_left (s₁ := S17408x512) (s₂ := S17408x2560) (1 : Fin S17408x3072.rank) _ _ _ (ix2 r j) rfl (ix2 r (⟨j.val, hj⟩ : Fin 512)) (fun d => by
    match d with
    | ⟨0, _⟩ => rfl
    | ⟨1, _⟩ => rfl)

theorem out_rest (C S C' S' : FVec Ideal S4096x16 .f32) (r : Fin 17408) (j : Fin 3072) (hj : ¬ j.val < 512) : out y C S C' S' (ix2 r j) = y (ix2 r j) := by
  unfold out
  rw [concatenate_pair_apply_right (s₁ := S17408x512) (s₂ := S17408x2560) (1 : Fin S17408x3072.rank) _ _ _ (ix2 r j) rfl rfl (ix2 r (⟨j.val - 512, by omega⟩ : Fin 2560)) (fun d hd => by
    match d with
    | ⟨0, _⟩ => rfl
    | ⟨1, _⟩ => exact absurd rfl hd) (by show j.val - 512 + 512 = j.val; omega)]
  refine congrArg y (funext fun i => Fin.ext ?_)
  match i with
  | ⟨0, _⟩ => show 0 + r.val = r.val; omega
  | ⟨1, _⟩ => show 512 + (j.val - 512) = j.val; omega

theorem out_apply (C S C' S' : FVec Ideal S4096x16 .f32) (t : ℕ) (a : Fin 1024) (h : t * 1024 + a.val < 17408) (D : Fin 3072 → EReal)
    (hD : ∀ j, y (ix2 ⟨t * 1024 + a.val, h⟩ j) = scaled D j) (j : Fin 3072) : out y C S C' S' (ix2 ⟨t * 1024 + a.val, h⟩ j) =
    if t < 16 then turned D (fun l => C (ix2 ⟨t % 4 * 1024 + a.val, by omega⟩ l)) (fun l => S (ix2 ⟨t % 4 * 1024 + a.val, by omega⟩ l))
      (fun l => C' (ix2 ⟨t % 4 * 1024 + a.val, by omega⟩ l)) (fun l => S' (ix2 ⟨t % 4 * 1024 + a.val, by omega⟩ l)) j
    else scaled D j := by
  by_cases hj : j.val < 512
  · rw [out_qk y C S C' S' _ j hj]
    by_cases ht : t < 16
    · rw [if_pos ht, qk_lat y C S C' S' _ (by show t * 1024 + a.val < 16384; omega)]
      refine (both_apply y C S C' S' D ⟨t * 1024 + a.val, h⟩ hD _ _ _ _ j ?_ ?_).trans ?_
      · show t * 1024 + a.val = (t * 1024 + a.val) / 4096 * 4096 + (t * 1024 + a.val) % 4096; omega
      · show j.val = j.val / 64 * 64 + j.val % 64; omega
      · have e : (⟨(t * 1024 + a.val) % 4096, Nat.mod_lt _ (by decide)⟩ : Fin 4096) = ⟨t % 4 * 1024 + a.val, by omega⟩ := Fin.ext (by
          show (t * 1024 + a.val) % 4096 = t % 4 * 1024 + a.val; omega)
        show turned D (fun l => C (ix2 ⟨(t * 1024 + a.val) % 4096, _⟩ l)) (fun l => S (ix2 ⟨(t * 1024 + a.val) % 4096, _⟩ l)) (fun l => C' (ix2 ⟨(t * 1024 + a.val) % 4096, _⟩ l))
          (fun l => S' (ix2 ⟨(t * 1024 + a.val) % 4096, _⟩ l)) j = _
        rw [e]
    · rw [if_neg ht, qk_ctx y C S C' S' _ (by show ¬ t * 1024 + a.val < 16384; omega)]
      exact hD j
  · rw [out_rest y C S C' S' _ j hj, hD]
    by_cases ht : t < 16
    · rw [if_pos ht]
      unfold turned
      rw [dif_neg hj]
    · rw [if_neg ht]

end Cert.Proof.InprojEvenRef

end
-- ==== Proof.InprojEven.Value.lean ====
/-
  The third value claim: the first layer's input projection and the reference's are the same numbers, at every row and column.
-/
module

public import proofs.«01_k».proof.Defs
public import proofs.«01_k».proof.Proof.InprojEven.Array
public import proofs.«01_k».proof.Proof.InprojEven.Ref

@[expose] public section

noncomputable section

namespace Cert.Proof.InprojEvenValue

open Cert.Kernel3Ideal Cert.Kernel3Ideal.Gen Cert.Proof.Inproj Cert.Proof.InprojEven
open Idealize.ShloMosaic
open Idealize.ShloMosaic.TcCoe Idealize.SL.Sem
open Idealize.ShloMosaic.ValueIdx (ix2 ix3 eq_ix2)

variable (m : (ℓ : Loc nD τ sig) → Buf (Elt Ideal) ℓ)

/-- The reference's result as a function of the arguments. -/
abbrev refOut (x0 x1 x2 x3 x4 x5 x6 x7 x8) :=
  InprojEvenRef.out (InprojEvenRef.keyed (InprojEvenRef.prods x0 x1 x2 x3 x4)) x5 x6 x7 x8

theorem res_eq (c : Dev nD) (i : S17408x3072.Idx) : res m c i = refOut (A0 m c) (A1 m c) (A2 m c) (A3 m c) (A4 m c) (A5 m c) (A6 m c) (A7 m c) (A8 m c) i := by
  obtain ⟨r, j, rfl⟩ : ∃ (r : Fin 17408) (j : Fin 3072), i = ix2 r j := ⟨i 0, i 1, eq_ix2 i⟩
  obtain ⟨t, ht⟩ : ∃ t : Fin cfg0.N, t.val = r.val / 1024 := ⟨⟨r.val / 1024, by rw [N_eq]; omega⟩, rfl⟩
  obtain ⟨a, ha⟩ : ∃ a : Fin 1024, a.val = r.val % 1024 := ⟨⟨r.val % 1024, Nat.mod_lt _ (by decide)⟩, rfl⟩
  obtain rfl : r = ⟨t.val * 1024 + a.val, row_lt t a⟩ := Fin.ext (by show r.val = t.val * 1024 + a.val; omega)
  rw [res_apply]
  refine Eq.trans ?_ (InprojEvenRef.out_apply _ (A5 m c) (A6 m c) (A7 m c) (A8 m c) t.val a (row_lt t a) (bases m c t.val a.val (row_lt t a)) (fun j => ?_) j).symm
  · rfl
  · rw [InprojEvenRef.keyed_apply]
    refine congrArg (fun D => scaled D j) (funext fun l => ?_)
    exact InprojEvenRef.prods_apply (A0 m c) (A1 m c) (A2 m c) (A3 m c) (A4 m c) t.val a (row_lt t a) l

theorem ref_eq (m : (ℓ : Loc Cert.Reference3Ideal.nD Cert.Reference3Ideal.τ Cert.Reference3Ideal.sig) → Buf (Elt Ideal) ℓ) (c : Dev Cert.Reference3Ideal.nD) :
    InprojEvenRef.out (Cert.Reference3Ideal.Value.res_main_v61 (StableHlo.launchContents m c)) (m ((c.tc : Thread _ _).loc Cert.Reference3Ideal.main_arg5)) (m ((c.tc : Thread _ _).loc Cert.Reference3Ideal.main_arg6))
      (m ((c.tc : Thread _ _).loc Cert.Reference3Ideal.main_arg7)) (m ((c.tc : Thread _ _).loc Cert.Reference3Ideal.main_arg8))
    = refOut (m ((c.tc : Thread _ _).loc Cert.Reference3Ideal.main_arg0)) (m ((c.tc : Thread _ _).loc Cert.Reference3Ideal.main_arg1)) (m ((c.tc : Thread _ _).loc Cert.Reference3Ideal.main_arg2))
        (m ((c.tc : Thread _ _).loc Cert.Reference3Ideal.main_arg3)) (m ((c.tc : Thread _ _).loc Cert.Reference3Ideal.main_arg4)) (m ((c.tc : Thread _ _).loc Cert.Reference3Ideal.main_arg5))
        (m ((c.tc : Thread _ _).loc Cert.Reference3Ideal.main_arg6)) (m ((c.tc : Thread _ _).loc Cert.Reference3Ideal.main_arg7)) (m ((c.tc : Thread _ _).loc Cert.Reference3Ideal.main_arg8)) := by
  have e : Cert.Reference3Ideal.Value.res_main_v61 (StableHlo.launchContents m c) = InprojEvenRef.keyed (Cert.Reference3Ideal.Value.res_main_v55 (StableHlo.launchContents m c)) := rfl
  rw [e, InprojEvenRef.res55_eq]

theorem algebraic : Cert.algebraic_Kernel3Ideal_Reference3Ideal := by
  intro m g m' g' _ ha
  refine ⟨fun c => res m c, (θ_run defs _ _).mono (fun r hr c => ⟨(hr c).1, (hr c).2⟩) (Cert.Kernel3Ideal.Value.run_blocks m g), ?_⟩
  refine (θ_run Cert.Reference3Ideal.defs _ _).mono (fun r hr c => ⟨?_, (hr c).2⟩) (Cert.Reference3Ideal.Value.run (F := Ideal) m' g')
  obtain ⟨a0, a1, a2, a3, a4, a5, a6, a7, a8⟩ := ha c
  have h := ((hr c).1).trans (ref_eq m' c)
  rw [a0, a1, a2, a3, a4, a5, a6, a7, a8] at h
  exact h.trans (funext fun i => (res_eq m c i).symm)

end Cert.Proof.InprojEvenValue

end
-- ==== Proof.Outproj.Block.lean ====
/-
  What one grid point of the output projection leaves in its blocks: the tokens' rows plus the gate times the mixed rows'
  products with the weights, and the norm of those rows, scaled and shifted.
-/
module

public import proofs.«01_k».proof.Proof.Inproj.Row
public import proofs.«01_k».proof.Proof.Gen.Kernel4Ideal.Value

@[expose] public section

noncomputable section

namespace Cert.Proof.Outproj

open Cert.Kernel4Ideal Cert.Kernel4Ideal.Gen Cert.Proof.Inproj
open Idealize.ShloMosaic
open Idealize.ShloMosaic.TcCoe
open Idealize.ShloMosaic.ValueIdx (ix1 ix2 ix3 ix4 eq_ix2 broadcastTo_1b_ab_apply)
open Idealize.ShloMosaic.StackMember

/-- Whether a point's rows are latent rows. -/
abbrev early (i : grid0.Coords) : BitVec 1 := Scalar.cmpi .slt (BitVec.ofNat 32 (i 0).val) 16#32

theorem dotA : dot_S1024x512_S512x1024_S1024x1024_1_0_0_1_n_n = DotDims.plain 1024 512 1024 := rfl

/-- A product of a block of 512 columns with 512 rows of the weights. -/
theorem prod_apply (h : Vec Ideal S1024x512 .bf16) (v : Vec Ideal S512x1024 .bf16) (a b : Fin 1024) :
    matmul (F := Ideal) (φ₁ := .bf16) (φ₂ := .bf16) dot_S1024x512_S512x1024_S1024x1024_1_0_0_1_n_n none h (shapeCast S512x1024 v shapeCasts_S512x1024_S512x1024)
      (constant S1024x1024 .f32 0x00000000#32) (ix2 a b) = ∑ k : Fin 512, h (ix2 a k) * v (ix2 k b) := by
  rw [matmul_zero_eq_dotGeneral, dotA, dotGeneral_plain_apply, shapeCast_self]

section Norm

variable (v15 : Vec Ideal S1x6x1024 .f32) (v24 : FVec Ideal S1024x1024 .f32) (v26 : Vec Ideal S1x1024 .f32)

/-- The normed rows, scaled by row 4 of the modulations and shifted by row 3. -/
theorem pay2_apply (a k : Fin 1024) :
    k0_pay2 (k0_pay4 v15) v24 v26 (multiReduction .add [1] S1024 (mulf v24 v24) 0x00000000#32 reduces_S1024x1024_S1024 (.inl rfl) rfl) (ix2 a k) =
      normed (fun i => v24 (ix2 a i)) (fun i => v26 (ix2 0 i)) (fun i => v15 (ix3 0 4 i)) (fun i => v15 (ix3 0 3 i)) k := by
  show v24 (ix2 a k) * broadcastTo S1024x1024 (inv v24) broadcasts_S1024x1_S1024x1024 (ix2 a k) * broadcastTo S1024x1024 v26 broadcasts_S1x1024_S1024x1024 (ix2 a k)
      * broadcastTo S1024x1024 (addf (F := Ideal) (broadcast S1x1024 (Scalar.ofBits .f32 0x3F800000#32)) (extractStridedSlice S1x1024 ![4, 0] (shapeCast S6x1024 v15 shapeCasts_S1x6x1024_S6x1024) slices_S6x1024_o4_0_S1x1024)) broadcasts_S1x1024_S1024x1024 (ix2 a k)
      + broadcastTo S1024x1024 (extractStridedSlice S1x1024 ![3, 0] (shapeCast S6x1024 v15 shapeCasts_S1x6x1024_S6x1024) slices_S6x1024_o3_0_S1x1024) broadcasts_S1x1024_S1024x1024 (ix2 a k) = _
  rw [broadcastTo_apply (inv v24) broadcasts_S1024x1_S1024x1024 (ix2 a k) (ix2 a (0 : Fin 1)) (fun b => by
    match b with
    | ⟨0, _⟩ => rfl
    | ⟨1, _⟩ => rfl), inv_apply]
  rw [show ∀ (v : S1x1024.Idx → EReal), broadcastTo S1024x1024 v broadcasts_S1x1024_S1024x1024 (ix2 a k) = v (ix2 0 k) from fun v => broadcastTo_1b_ab_apply v _ a k]
  rw [show ∀ (v : S1x1024.Idx → EReal), broadcastTo S1024x1024 v broadcasts_S1x1024_S1024x1024 (ix2 a k) = v (ix2 0 k) from fun v => broadcastTo_1b_ab_apply v _ a k]
  rw [show ∀ (v : S1x1024.Idx → EReal), broadcastTo S1024x1024 v broadcasts_S1x1024_S1024x1024 (ix2 a k) = v (ix2 0 k) from fun v => broadcastTo_1b_ab_apply v _ a k]
  rw [mod_apply v15 3 (by decide) slices_S6x1024_o3_0_S1x1024 k]
  show _ * (_ + extractStridedSlice S1x1024 ![4, 0] (shapeCast S6x1024 v15 shapeCasts_S1x6x1024_S6x1024) slices_S6x1024_o4_0_S1x1024 (ix2 0 k)) + _ = _
  rw [mod_apply v15 4 (by decide) slices_S6x1024_o4_0_S1x1024 k]
  rfl

end Norm

variable (i : grid0.Coords) (x0 x1 x2 x3 : Vec Ideal S1024x512 .bf16) (x4 x5 : Vec Ideal S1024x1024 .f32) (x6 : Vec Ideal S1x6x1024 .f32) (x7 : Vec Ideal S1x1024 .f32)
  (x8 : Vec Ideal S1024x1024 .bf16) (x9 : Vec Ideal S2x64x1024 .bf16)

theorem ldM (x : Vec Ideal S1024x512 .bf16) : View.ld x r0_0 = x := View.ld_unit_zero (by funext a; fin_cases a <;> rfl) _ x
theorem ldX (x : Vec Ideal S1024x1024 .f32) : View.ld x r0_4 = x := View.ld_unit_zero (by funext a; fin_cases a <;> rfl) _ x
theorem ld6 : View.ld x6 r0_3 = x6 := View.ld_unit_zero (by funext a; fin_cases a <;> rfl) _ x6
theorem ld7 : View.ld x7 r0_5 = x7 := View.ld_unit_zero (by funext a; fin_cases a <;> rfl) _ x7

theorem ldLo (k : Fin 512) (j : Fin 1024) : View.ld x8 r0_1 (ix2 k j) = x8 (ix2 ⟨k.val, by omega⟩ j) := by
  refine congrArg x8 (funext fun i => Fin.ext ?_)
  match i with
  | ⟨0, _⟩ => show 0 + 1 * k.val = k.val; omega
  | ⟨1, _⟩ => show 0 + 1 * j.val = j.val; omega

theorem ldHi (k : Fin 512) (j : Fin 1024) : View.ld x8 r0_2 (ix2 k j) = x8 (ix2 ⟨512 + k.val, by omega⟩ j) := by
  refine congrArg x8 (funext fun i => Fin.ext ?_)
  match i with
  | ⟨0, _⟩ => show 512 + 1 * k.val = 512 + k.val; omega
  | ⟨1, _⟩ => show 0 + 1 * j.val = j.val; omega

/-- A sum over 1024 columns as two sums over 512. -/
theorem sum_halves (f : Fin 1024 → EReal) : ∑ k, f k = (∑ k : Fin 512, f ⟨k.val, by omega⟩) + ∑ k : Fin 512, f ⟨512 + k.val, by omega⟩ :=
  Fin.sum_univ_add (a := 512) (b := 512) f

/-- A row of the mixed columns, the first mixer's first. -/
def mixB (a k : Fin 1024) : EReal :=
  if h : k.val < 512 then (Scalar.select (early i) x0 x1 : Vec Ideal S1024x512 .bf16) (ix2 a ⟨k.val, h⟩)
  else (Scalar.select (early i) x2 x3 : Vec Ideal S1024x512 .bf16) (ix2 a ⟨k.val - 512, by omega⟩)

/-- A number of the rows after the projection. -/
def midB (a j : Fin 1024) : EReal :=
  (Scalar.select (early i) x4 x5 : Vec Ideal S1024x1024 .f32) (ix2 a j) + x6 (ix3 0 2 j) * ∑ k : Fin 1024, mixB i x0 x1 x2 x3 a k * x8 (ix2 k j)

theorem pay8_apply (a j : Fin 1024) : k0_pay8 i x0 x1 x2 x3 x4 x5 x6 x7 x8 x9 (ix2 a j) = midB i x0 x1 x2 x3 x4 x5 x6 x8 a j := by
  unfold k0_pay8 k0_pay5
  rw [ldM, ldM, ldM, ldM, ldX, ldX, ld6]
  unfold midB
  refine congrArg ((Scalar.select (early i) x4 x5 : Vec Ideal S1024x1024 .f32) (ix2 a j) + ·) ?_
  refine congr (congrArg (fun p q : EReal => p * q) ?_) ?_
  · refine (broadcastTo_1b_ab_apply _ broadcasts_S1x1024_S1024x1024 a j).trans ?_
    exact mod_apply x6 2 (by decide) slices_S6x1024_o2_0_S1x1024 j
  · rw [sum_halves]
    refine congr (congrArg (fun p q : EReal => p + q) ((prod_apply _ _ a j).trans ?_)) ((prod_apply _ _ a j).trans ?_)
    · refine Finset.sum_congr rfl fun k _ => ?_
      rw [ldLo]
      unfold mixB
      rw [dif_pos (by show k.val < 512; omega)]
    · refine Finset.sum_congr rfl fun k _ => ?_
      rw [ldHi]
      unfold mixB
      rw [dif_neg (by show ¬ 512 + k.val < 512; omega)]
      refine congrArg (· * _) (congrArg (fun q => (Scalar.select (early i) x2 x3 : Vec Ideal S1024x512 .bf16) (ix2 a q)) (Fin.ext ?_))
      show k.val = 512 + k.val - 512
      omega

theorem emb4 (y : S1024x1024.Idx) : (r0_4).emb y = y := by
  funext i; refine Fin.ext ?_
  match i with
  | ⟨0, _⟩ => show 0 + 1 * (y 0).val = (y 0).val; omega
  | ⟨1, _⟩ => show 0 + 1 * (y 1).val = (y 1).val; omega

/-- The two blocks as they are stored. -/
def stored0 : Vec Ideal S1024x1024 .f32 := k0_pay8 i x0 x1 x2 x3 x4 x5 x6 x7 x8 x9
def stored1 : Vec Ideal S1024x1024 .bf16 := k0_pay2 (k0_pay4 x6) (k0_pay8 i x0 x1 x2 x3 x4 x5 x6 x7 x8 x9) x7
  (multiReduction .add [1] S1024 (mulf (k0_pay8 i x0 x1 x2 x3 x4 x5 x6 x7 x8 x9) (k0_pay8 i x0 x1 x2 x3 x4 x5 x6 x7 x8 x9)) 0x00000000#32 reduces_S1024x1024_S1024 (.inl rfl) rfl)

theorem out10_eq (a j : Fin 1024) : out0_10 i x0 x1 x2 x3 x4 x5 x6 x7 x8 x9 (ix2 a j) = midB i x0 x1 x2 x3 x4 x5 x6 x8 a j := by
  rw [← pay8_apply i x0 x1 x2 x3 x4 x5 x6 x7 x8 x9]
  unfold out0_10
  refine View.canon_apply_of_pieces (stored0 i x0 x1 x2 x3 x4 x5 x6 x7 x8 x9) _ ?_ (ix2 a j) (cover0_10 _ _)
  intro pc hpc
  rcases List.mem_cons.mp hpc with rfl | hpc
  · intro x
    exact congrArg (stored0 i x0 x1 x2 x3 x4 x5 x6 x7 x8 x9) (emb4 x).symm
  nomatch hpc

theorem out11_eq (a j : Fin 1024) : out0_11 i x0 x1 x2 x3 x4 x5 x6 x7 x8 x9 (ix2 a j) =
    normed (fun l => midB i x0 x1 x2 x3 x4 x5 x6 x8 a l) (fun l => x7 (ix2 0 l)) (fun l => x6 (ix3 0 4 l)) (fun l => x6 (ix3 0 3 l)) j := by
  have h := pay2_apply x6 (k0_pay8 i x0 x1 x2 x3 x4 x5 x6 x7 x8 x9) x7 a j
  simp only [pay8_apply] at h
  rw [← h]
  unfold out0_11 k0_pay7 k0_pay9
  rw [ld6, ld7]
  refine View.canon_apply_of_pieces (stored1 i x0 x1 x2 x3 x4 x5 x6 x7 x8 x9) _ ?_ (ix2 a j) (cover0_11 _ _)
  intro pc hpc
  rcases List.mem_cons.mp hpc with rfl | hpc
  · intro x
    refine Eq.trans ?_ (congrArg (stored1 i x0 x1 x2 x3 x4 x5 x6 x7 x8 x9) (emb4 x).symm)
    unfold stored1 k0_pay6 k0_pay8
    rw [ld6]
  nomatch hpc

end Cert.Proof.Outproj

end
-- ==== Proof.Outproj.Want.lean ====
/-
  A row after the output projection as a formula of the arguments' numbers.
-/
module

public import proofs.«01_k».proof.Proof.InprojEven.Want

@[expose] public section

noncomputable section

namespace Cert.Proof.Outproj

open Cert.Proof.Inproj Cert.Proof.InprojEven
open Idealize.ShloMosaic
open Idealize.ShloMosaic.ValueIdx (ix1 ix2 ix3 ix4 eq_ix2)

/-- A row of a mixer's output: a latent row, or a context row. -/
def half (x : (⟨2, ![16384, 512]⟩ : Shape).Idx → EReal) (c : (⟨2, ![1024, 512]⟩ : Shape).Idx → EReal) (r : Fin 17408) (k : Fin 512) : EReal :=
  if h : r.val < 16384 then x (ix2 ⟨r.val, h⟩ k) else c (ix2 ⟨r.val - 16384, by omega⟩ k)

/-- A row of the two mixers' outputs side by side. -/
def mixed (a b : (⟨2, ![16384, 512]⟩ : Shape).Idx → EReal) (ac bc : (⟨2, ![1024, 512]⟩ : Shape).Idx → EReal) (r : Fin 17408) (k : Fin 1024) : EReal :=
  if h : k.val < 512 then half a ac r ⟨k.val, h⟩ else half b bc r ⟨k.val - 512, by omega⟩

/-- A row plus the gate times the mixed row's products with the weights. -/
def mid (row gate mix : Fin 1024 → EReal) (w : Fin 1024 → Fin 1024 → EReal) (j : Fin 1024) : EReal :=
  row j + gate j * ∑ k : Fin 1024, mix k * w k j

end Cert.Proof.Outproj

end
-- ==== Proof.Outproj.Array.lean ====
/-
  The output projection's arrays after the run: the grid's points tile their rows, so every row is the formula of its token.
-/
module

public import proofs.«01_k».proof.Proof.Outproj.Block
public import proofs.«01_k».proof.Proof.Outproj.Want

@[expose] public section

noncomputable section

namespace Cert.Proof.Outproj

open Cert.Kernel4Ideal Cert.Kernel4Ideal.Gen Cert.Proof.Inproj
open Cert.Proof.InprojEven (stack)
open Idealize.ShloMosaic
open Idealize.ShloMosaic.TcCoe Idealize.SL.Sem
open Idealize.ShloMosaic.ValueIdx (ix1 ix2 ix3 ix4 eq_ix2)

/-- Where the windows' blocks lie. -/
theorem idx_mix : ∀ t : Fin cfg0.N, win0_0.index t (0 : Fin 2) = min t.val 15 ∧ win0_0.index t (1 : Fin 2) = 0
    ∧ win0_1.index t (0 : Fin 2) = 0 ∧ win0_1.index t (1 : Fin 2) = 0
    ∧ win0_2.index t (0 : Fin 2) = min t.val 15 ∧ win0_2.index t (1 : Fin 2) = 0
    ∧ win0_3.index t (0 : Fin 2) = 0 ∧ win0_3.index t (1 : Fin 2) = 0 :=
  (by decide +kernel : ∀ t : Fin grid0.N, _)

theorem idx_in : ∀ t : Fin cfg0.N, win0_4.index t (0 : Fin 2) = min t.val 15 ∧ win0_4.index t (1 : Fin 2) = 0
    ∧ win0_5.index t (0 : Fin 2) = 0 ∧ win0_5.index t (1 : Fin 2) = 0
    ∧ win0_6.index t (0 : Fin 3) = modRow t.val ∧ win0_6.index t (1 : Fin 3) = 0 ∧ win0_6.index t (2 : Fin 3) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem idx_out : ∀ t : Fin cfg0.N, win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

theorem early_eq : ∀ t : Fin cfg0.N, early (grid0.coords t) = (if t.val < 16 then 1#1 else 0#1) :=
  (by decide +kernel : ∀ t : Fin grid0.N, _)

theorem flush10 : ∀ t : Fin cfg0.N, (cfg0.win 10).flush t = true := (by decide +kernel : ∀ t : Fin grid0.N, _)
theorem flush11 : ∀ t : Fin cfg0.N, (cfg0.win 11).flush t = true := (by decide +kernel : ∀ t : Fin grid0.N, _)

theorem N_eq : cfg0.N = 17 := by decide +kernel

variable (m : (ℓ : Loc nD τ sig) → Buf (Elt Ideal) ℓ)

abbrev A0 (m : (ℓ : Loc nD τ sig) → Buf (Elt Ideal) ℓ) (c : Dev nD) : S16384x512.Idx → EReal := m ((c : Thread nD τ).loc main_arg0)
abbrev A1 (m : (ℓ : Loc nD τ sig) → Buf (Elt Ideal) ℓ) (c : Dev nD) : S1024x512.Idx → EReal := m ((c : Thread nD τ).loc main_arg1)
abbrev A2 (m : (ℓ : Loc nD τ sig) → Buf (Elt Ideal) ℓ) (c : Dev nD) : S16384x512.Idx → EReal := m ((c : Thread nD τ).loc main_arg2)
abbrev A3 (m : (ℓ : Loc nD τ sig) → Buf (Elt Ideal) ℓ) (c : Dev nD) : S1024x512.Idx → EReal := m ((c : Thread nD τ).loc main_arg3)
abbrev A4 (m : (ℓ : Loc nD τ sig) → Buf (Elt Ideal) ℓ) (c : Dev nD) : S16384x1024.Idx → EReal := m ((c : Thread nD τ).loc main_arg4)
abbrev A5 (m : (ℓ : Loc nD τ sig) → Buf (Elt Ideal) ℓ) (c : Dev nD) : S1024x1024.Idx → EReal := m ((c : Thread nD τ).loc main_arg5)
abbrev A6 (m : (ℓ : Loc nD τ sig) → Buf (Elt Ideal) ℓ) (c : Dev nD) : S8x6x1024.Idx → EReal := m ((c : Thread nD τ).loc main_arg6)
abbrev A7 (m : (ℓ : Loc nD τ sig) → Buf (Elt Ideal) ℓ) (c : Dev nD) : S1x1024.Idx → EReal := m ((c : Thread nD τ).loc main_arg7)
abbrev A8 (m : (ℓ : Loc nD τ sig) → Buf (Elt Ideal) ℓ) (c : Dev nD) : S1024x1024.Idx → EReal := m ((c : Thread nD τ).loc main_arg8)

/-- The weights the kernel is given are the argument's: a change of format is the identity here. -/
theorem V_w (c : Dev nD) : (V m c main_v8 : S1024x1024.Idx → EReal) = A8 m c := by
  show StableHlo.after (List.flatten [hostOps0]) (fun b => m (c, b)) main_v8 = _
  simp only [hostOps0, List.flatten_cons, List.flatten_nil, List.append_nil, List.cons_append, List.nil_append]
  after_results_simp
  rfl

theorem t_lt (t : Fin cfg0.N) : t.val < 17 := N_eq ▸ t.isLt

theorem row_lt (t : Fin cfg0.N) (a : Fin 1024) : t.val * 1024 + a.val < 17408 := by
  have := t_lt t
  omega

/-- A choice between two values by whether the point's rows are latent rows. -/
theorem pick {α : Type} (t : Fin cfg0.N) (u v : α) : Scalar.select (early (grid0.coords t)) u v = if t.val < 16 then u else v := by
  rw [early_eq]
  unfold Scalar.select
  by_cases h : t.val < 16
  · rw [if_pos h, if_pos h]; rfl
  · rw [if_neg h, if_neg h, if_neg (by decide)]

theorem iblk0_apply (c : Dev nD) (t : Fin cfg0.N) (h : t.val < 16) (a : Fin 1024) (k : Fin 512) :
    iblk m c 0 t (ix2 a k) = A0 m c (ix2 ⟨t.val * 1024 + a.val, by omega⟩ k) := by
  obtain ⟨e0, e1, -⟩ := idx_mix t
  show V m c main_arg0 (((cfg0.win 0).blk t).view.emb (ix2 a k)) = _
  rw [V_main_arg0]
  refine congrArg (A0 m c) (funext fun i => Fin.ext ?_)
  match i with
  | ⟨0, _⟩ => show win0_0.index t (0 : Fin 2) * 1024 + 1 * a.val = t.val * 1024 + a.val; rw [e0]; omega
  | ⟨1, _⟩ => show win0_0.index t (1 : Fin 2) * 512 + 1 * k.val = k.val; rw [e1]; omega

theorem iblk1_apply (c : Dev nD) (t : Fin cfg0.N) (a : Fin 1024) (k : Fin 512) : iblk m c 1 t (ix2 a k) = A1 m c (ix2 a k) := by
  obtain ⟨-, -, e0, e1, -⟩ := idx_mix t
  show V m c main_arg1 (((cfg0.win 1).blk t).view.emb (ix2 a k)) = _
  rw [V_main_arg1]
  refine congrArg (A1 m c) (funext fun i => Fin.ext ?_)
  match i with
  | ⟨0, _⟩ => show win0_1.index t (0 : Fin 2) * 1024 + 1 * a.val = a.val; rw [e0]; omega
  | ⟨1, _⟩ => show win0_1.index t (1 : Fin 2) * 512 + 1 * k.val = k.val; rw [e1]; omega

theorem iblk2_apply (c : Dev nD) (t : Fin cfg0.N) (h : t.val < 16) (a : Fin 1024) (k : Fin 512) :
    iblk m c 2 t (ix2 a k) = A2 m c (ix2 ⟨t.val * 1024 + a.val, by omega⟩ k) := by
  obtain ⟨-, -, -, -, e0, e1, -⟩ := idx_mix t
  show V m c main_arg2 (((cfg0.win 2).blk t).view.emb (ix2 a k)) = _
  rw [V_main_arg2]
  refine congrArg (A2 m c) (funext fun i => Fin.ext ?_)
  match i with
  | ⟨0, _⟩ => show win0_2.index t (0 : Fin 2) * 1024 + 1 * a.val = t.val * 1024 + a.val; rw [e0]; omega
  | ⟨1, _⟩ => show win0_2.index t (1 : Fin 2) * 512 + 1 * k.val = k.val; rw [e1]; omega

theorem iblk3_apply (c : Dev nD) (t : Fin cfg0.N) (a : Fin 1024) (k : Fin 512) : iblk m c 3 t (ix2 a k) = A3 m c (ix2 a k) := by
  obtain ⟨-, -, -, -, -, -, e0, e1⟩ := idx_mix t
  show V m c main_arg3 (((cfg0.win 3).blk t).view.emb (ix2 a k)) = _
  rw [V_main_arg3]
  refine congrArg (A3 m c) (funext fun i => Fin.ext ?_)
  match i with
  | ⟨0, _⟩ => show win0_3.index t (0 : Fin 2) * 1024 + 1 * a.val = a.val; rw [e0]; omega
  | ⟨1, _⟩ => show win0_3.index t (1 : Fin 2) * 512 + 1 * k.val = k.val; rw [e1]; omega

theorem iblk4_apply (c : Dev nD) (t : Fin cfg0.N) (h : t.val < 16) (a k : Fin 1024) :
    iblk m c 4 t (ix2 a k) = A4 m c (ix2 ⟨t.val * 1024 + a.val, by omega⟩ k) := by
  obtain ⟨e0, e1, -⟩ := idx_in t
  show V m c main_arg4 (((cfg0.win 4).blk t).view.emb (ix2 a k)) = _
  rw [V_main_arg4]
  refine congrArg (A4 m c) (funext fun i => Fin.ext ?_)
  match i with
  | ⟨0, _⟩ => show win0_4.index t (0 : Fin 2) * 1024 + 1 * a.val = t.val * 1024 + a.val; rw [e0]; omega
  | ⟨1, _⟩ => show win0_4.index t (1 : Fin 2) * 1024 + 1 * k.val = k.val; rw [e1]; omega

theorem iblk5_apply (c : Dev nD) (t : Fin cfg0.N) (a k : Fin 1024) : iblk m c 5 t (ix2 a k) = A5 m c (ix2 a k) := by
  obtain ⟨-, -, e0, e1, -⟩ := idx_in t
  show V m c main_arg5 (((cfg0.win 5).blk t).view.emb (ix2 a k)) = _
  rw [V_main_arg5]
  refine congrArg (A5 m c) (funext fun i => Fin.ext ?_)
  match i with
  | ⟨0, _⟩ => show win0_5.index t (0 : Fin 2) * 1024 + 1 * a.val = a.val; rw [e0]; omega
  | ⟨1, _⟩ => show win0_5.index t (1 : Fin 2) * 1024 + 1 * k.val = k.val; rw [e1]; omega

theorem iblk6_apply (c : Dev nD) (t : Fin cfg0.N) (r : Fin 6) (k : Fin 1024) :
    iblk m c 6 t (ix3 (0 : Fin 1) r k) = A6 m c (ix3 ⟨modRow t.val, modRow_lt _⟩ r k) := by
  obtain ⟨-, -, -, -, e0, e1, e2, -⟩ := idx_in t
  show V m c main_arg6 (((cfg0.win 6).blk t).view.emb (ix3 (0 : Fin 1) r k)) = _
  rw [V_main_arg6]
  refine congrArg (A6 m c) (funext fun i => Fin.ext ?_)
  match i with
  | ⟨0, _⟩ => show win0_6.index t (0 : Fin 3) * 1 + 1 * 0 = modRow t.val; rw [e0]; omega
  | ⟨1, _⟩ => show win0_6.index t (1 : Fin 3) * 6 + 1 * r.val = r.val; rw [e1]; omega
  | ⟨2, _⟩ => show win0_6.index t (2 : Fin 3) * 1024 + 1 * k.val = k.val; rw [e2]; omega

theorem iblk7_apply (c : Dev nD) (t : Fin cfg0.N) (k : Fin 1024) : iblk m c 7 t (ix2 (0 : Fin 1) k) = A7 m c (ix2 0 k) := by
  obtain ⟨-, -, -, -, -, -, -, e0, e1, -⟩ := idx_in t
  show V m c main_arg7 (((cfg0.win 7).blk t).view.emb (ix2 (0 : Fin 1) k)) = _
  rw [V_main_arg7]
  refine congrArg (A7 m c) (funext fun i => Fin.ext ?_)
  match i with
  | ⟨0, _⟩ => show win0_7.index t (0 : Fin 2) * 1 + 1 * 0 = 0; rw [e0]
  | ⟨1, _⟩ => show win0_7.index t (1 : Fin 2) * 1024 + 1 * k.val = k.val; rw [e1]; omega

theorem iblk8_apply (c : Dev nD) (t : Fin cfg0.N) (k j : Fin 1024) : iblk m c 8 t (ix2 k j) = A8 m c (ix2 k j) := by
  obtain ⟨-, -, -, -, -, -, -, -, -, e0, e1⟩ := idx_in t
  refine Eq.trans ?_ (congrFun (V_w m c) (ix2 k j))
  show V m c main_v8 (((cfg0.win 8).blk t).view.emb (ix2 k j)) = _
  refine congrArg (V m c main_v8 : S1024x1024.Idx → EReal) (funext fun i => Fin.ext ?_)
  match i with
  | ⟨0, _⟩ => show win0_8.index t (0 : Fin 2) * 1024 + 1 * k.val = k.val; rw [e0]; omega
  | ⟨1, _⟩ => show win0_8.index t (1 : Fin 2) * 1024 + 1 * j.val = j.val; rw [e1]; omega

/-- A row of tile `t` after the projection. -/
def mids (c : Dev nD) (t a : ℕ) (h : t * 1024 + a < 17408) : Fin 1024 → EReal :=
  mid (stack (A4 m c) (A5 m c) ⟨t * 1024 + a, h⟩) (fun i => A6 m c (ix3 ⟨modRow t, modRow_lt t⟩ 2 i))
    (mixed (A0 m c) (A2 m c) (A1 m c) (A3 m c) ⟨t * 1024 + a, h⟩) (fun k j => A8 m c (ix2 k j))

/-- The same row normed. -/
def norms (c : Dev nD) (t a : ℕ) (h : t * 1024 + a < 17408) : Fin 1024 → EReal :=
  normed (mids m c t a h) (fun i => A7 m c (ix2 0 i)) (fun i => A6 m c (ix3 ⟨modRow t, modRow_lt t⟩ 4 i)) (fun i => A6 m c (ix3 ⟨modRow t, modRow_lt t⟩ 3 i))

theorem half_a (c : Dev nD) (t : Fin cfg0.N) (a : Fin 1024) (k : Fin 512) : (Scalar.select (early (grid0.coords t)) (iblk m c 0 t) (iblk m c 1 t) : Vec Ideal S1024x512 .bf16) (ix2 a k)
    = half (A0 m c) (A1 m c) ⟨t.val * 1024 + a.val, row_lt t a⟩ k := by
  rw [pick]
  have := t_lt t
  unfold half
  by_cases h : t.val < 16
  · rw [if_pos h, dif_pos (by show t.val * 1024 + a.val < 16384; omega)]
    exact iblk0_apply m c t h a k
  · rw [if_neg h, dif_neg (by show ¬ t.val * 1024 + a.val < 16384; omega)]
    refine (iblk1_apply m c t a k).trans (congrArg (fun q => A1 m c (ix2 q k)) (Fin.ext ?_))
    show a.val = t.val * 1024 + a.val - 16384
    omega

theorem half_b (c : Dev nD) (t : Fin cfg0.N) (a : Fin 1024) (k : Fin 512) : (Scalar.select (early (grid0.coords t)) (iblk m c 2 t) (iblk m c 3 t) : Vec Ideal S1024x512 .bf16) (ix2 a k)
    = half (A2 m c) (A3 m c) ⟨t.val * 1024 + a.val, row_lt t a⟩ k := by
  rw [pick]
  have := t_lt t
  unfold half
  by_cases h : t.val < 16
  · rw [if_pos h, dif_pos (by show t.val * 1024 + a.val < 16384; omega)]
    exact iblk2_apply m c t h a k
  · rw [if_neg h, dif_neg (by show ¬ t.val * 1024 + a.val < 16384; omega)]
    refine (iblk3_apply m c t a k).trans (congrArg (fun q => A3 m c (ix2 q k)) (Fin.ext ?_))
    show a.val = t.val * 1024 + a.val - 16384
    omega

theorem row_x (c : Dev nD) (t : Fin cfg0.N) (a k : Fin 1024) : (Scalar.select (early (grid0.coords t)) (iblk m c 4 t) (iblk m c 5 t) : Vec Ideal S1024x1024 .f32) (ix2 a k)
    = stack (A4 m c) (A5 m c) ⟨t.val * 1024 + a.val, row_lt t a⟩ k := by
  rw [pick]
  have := t_lt t
  unfold stack
  by_cases h : t.val < 16
  · rw [if_pos h, dif_pos (by show t.val * 1024 + a.val < 16384; omega)]
    exact iblk4_apply m c t h a k
  · rw [if_neg h, dif_neg (by show ¬ t.val * 1024 + a.val < 16384; omega)]
    refine (iblk5_apply m c t a k).trans (congrArg (fun q => A5 m c (ix2 q k)) (Fin.ext ?_))
    show a.val = t.val * 1024 + a.val - 16384
    omega

theorem mix_row (c : Dev nD) (t : Fin cfg0.N) (a k : Fin 1024) : mixB (grid0.coords t) (iblk m c 0 t) (iblk m c 1 t) (iblk m c 2 t) (iblk m c 3 t) a k
    = mixed (A0 m c) (A2 m c) (A1 m c) (A3 m c) ⟨t.val * 1024 + a.val, row_lt t a⟩ k := by
  unfold mixB mixed
  by_cases h : k.val < 512
  · rw [dif_pos h, dif_pos h]
    exact half_a m c t a _
  · rw [dif_neg h, dif_neg h]
    exact half_b m c t a _

theorem mid_row (c : Dev nD) (t : Fin cfg0.N) (a j : Fin 1024) :
    midB (grid0.coords t) (iblk m c 0 t) (iblk m c 1 t) (iblk m c 2 t) (iblk m c 3 t) (iblk m c 4 t) (iblk m c 5 t) (iblk m c 6 t) (iblk m c 8 t) a j
      = mids m c t.val a.val (row_lt t a) j := by
  unfold midB mids mid
  refine congr (congrArg (fun p q : EReal => p + q) (row_x m c t a j)) (congr (congrArg (fun p q : EReal => p * q) (iblk6_apply m c t 2 j)) ?_)
  exact Finset.sum_congr rfl fun k _ => congr (congrArg (fun p q : EReal => p * q) (mix_row m c t a k)) (iblk8_apply m c t k j)

/-- The two arrays after the run. -/
abbrev res0 (c : Dev nD) : S17408x1024.Idx → EReal := (dats m 0 c).arrAt 10 cfg0.N
abbrev res1 (c : Dev nD) : S17408x1024.Idx → EReal := (dats m 0 c).arrAt 11 cfg0.N

theorem res0_apply (c : Dev nD) (t : Fin cfg0.N) (a j : Fin 1024) :
    res0 m c (ix2 ⟨t.val * 1024 + a.val, row_lt t a⟩ j) = mids m c t.val a.val (row_lt t a) j := by
  obtain ⟨e0, e1, -⟩ := idx_out t
  have hb := congrFun (Cert.Kernel4Ideal.Value.blocks10 m c t (flush10 t)) (ix2 a j)
  rw [Cert.Kernel4Ideal.Value.flushed10] at hb
  have he : ((cfg0.win 10).blk t).view.emb (ix2 a j) = (ix2 (⟨t.val * 1024 + a.val, row_lt t a⟩ : Fin 17408) j : S17408x1024.Idx) := by
    funext i; refine Fin.ext ?_
    match i with
    | ⟨0, _⟩ => show win0_10.index t (0 : Fin 2) * 1024 + 1 * a.val = t.val * 1024 + a.val; rw [e0]; omega
    | ⟨1, _⟩ => show win0_10.index t (1 : Fin 2) * 1024 + 1 * j.val = j.val; rw [e1]; omega
  have hl : res0 m c (((cfg0.win 10).blk t).view.emb (ix2 a j)) = out0_10 (grid0.coords t)
      (iblk m c 0 t) (iblk m c 1 t) (iblk m c 2 t) (iblk m c 3 t) (iblk m c 4 t) (iblk m c 5 t) (iblk m c 6 t) (iblk m c 7 t) (iblk m c 8 t) (iblk m c 9 t) (ix2 a j) := hb
  rw [he] at hl
  exact hl.trans ((out10_eq _ _ _ _ _ _ _ _ _ _ _ _ _).trans (mid_row m c t a j))

theorem res1_apply (c : Dev nD) (t : Fin cfg0.N) (a j : Fin 1024) :
    res1 m c (ix2 ⟨t.val * 1024 + a.val, row_lt t a⟩ j) = norms m c t.val a.val (row_lt t a) j := by
  obtain ⟨-, -, e0, e1⟩ := idx_out t
  have hb := congrFun (Cert.Kernel4Ideal.Value.blocks11 m c t (flush11 t)) (ix2 a j)
  rw [Cert.Kernel4Ideal.Value.flushed11] at hb
  have he : ((cfg0.win 11).blk t).view.emb (ix2 a j) = (ix2 (⟨t.val * 1024 + a.val, row_lt t a⟩ : Fin 17408) j : S17408x1024.Idx) := by
    funext i; refine Fin.ext ?_
    match i with
    | ⟨0, _⟩ => show win0_11.index t (0 : Fin 2) * 1024 + 1 * a.val = t.val * 1024 + a.val; rw [e0]; omega
    | ⟨1, _⟩ => show win0_11.index t (1 : Fin 2) * 1024 + 1 * j.val = j.val; rw [e1]; omega
  have hl : res1 m c (((cfg0.win 11).blk t).view.emb (ix2 a j)) = out0_11 (grid0.coords t)
      (iblk m c 0 t) (iblk m c 1 t) (iblk m c 2 t) (iblk m c 3 t) (iblk m c 4 t) (iblk m c 5 t) (iblk m c 6 t) (iblk m c 7 t) (iblk m c 8 t) (iblk m c 9 t) (ix2 a j) := hb
  rw [he] at hl
  refine hl.trans ((out11_eq _ _ _ _ _ _ _ _ _ _ _ _ _).trans ?_)
  unfold norms
  refine congrArg (fun f => f j) (congr (congr (congr (congrArg normed ?_) ?_) ?_) ?_)
  · funext l; exact mid_row m c t a l
  · funext l; exact iblk7_apply m c t l
  · funext l; exact iblk6_apply m c t 4 l
  · funext l; exact iblk6_apply m c t 3 l

end Cert.Proof.Outproj

end
-- ==== Proof.Outproj.Ref.lean ====
/-
  The reference's output projection, entry by entry: the tokens' rows plus the gate times the mixed rows' products with the
  weights, and the norm of those rows, scaled and shifted.
-/
module

public import proofs.«01_k».proof.Proof.Outproj.Want
public import proofs.«01_k».proof.Proof.InprojEven.Ref
public import proofs.«01_k».proof.Proof.Gen.Reference4Ideal.Run

@[expose] public section

noncomputable section

namespace Cert.Proof.OutprojRef

open Cert.Reference4Ideal Cert.Reference4Ideal.Gen Cert.Proof.Inproj Cert.Proof.Outproj
open Cert.Proof.InprojEven (stack)
open Cert.Proof.InprojEvenRef (tokens)
open Idealize.ShloMosaic
open Idealize.ShloMosaic.TcCoe Idealize.SL.Sem Idealize.ShloMosaic.StableHlo
open Idealize.ShloMosaic.ValueIdx (ix0 ix1 ix2 ix3 ix4 eq_ix2 eq_ix3)
open Idealize.ShloMosaic.StackMember

/-! ## The modulations read from a later row -/

variable (md : FVec Ideal S8x6x1024 .f32)

/-- The six rows turned, so that row `r` is row `r + q`. -/
def later (q : ℕ) : FVec Ideal S8x6x1024 .f32 := fun i => md (ix3 ⟨(i 0).val, (i 0).isLt⟩ ⟨((i 1).val + q) % 6, Nat.mod_lt _ (by decide)⟩ ⟨(i 2).val, (i 2).isLt⟩)

theorem slice_lat (o q r : ℕ) (hq : (r + q) % 6 = o) (h : S8x6x1024.Slices ![1, r, 0] S4x1x1024) (h' : S8x6x1024.Slices ![1, o, 0] S4x1x1024) :
    extractStridedSlice S4x1x1024 ![1, r, 0] (later md q) h = extractStridedSlice S4x1x1024 ![1, o, 0] md h' := by
  funext i
  obtain ⟨b, s, k, rfl⟩ : ∃ (b : Fin 4) (s : Fin 1) (k : Fin 1024), i = ix3 b s k := ⟨i 0, i 1, i 2, eq_ix3 i⟩
  refine congrArg md (funext fun d => Fin.ext ?_)
  match d with
  | ⟨0, _⟩ => rfl
  | ⟨1, _⟩ => show (r + s.val + q) % 6 = o + s.val; omega
  | ⟨2, _⟩ => rfl

theorem slice_ctx (o q r : ℕ) (hq : (r + q) % 6 = o) (h : S8x6x1024.Slices ![0, r, 0] S1x1x1024) (h' : S8x6x1024.Slices ![0, o, 0] S1x1x1024) :
    extractStridedSlice S1x1x1024 ![0, r, 0] (later md q) h = extractStridedSlice S1x1x1024 ![0, o, 0] md h' := by
  funext i
  obtain ⟨b, s, k, rfl⟩ : ∃ (b : Fin 1) (s : Fin 1) (k : Fin 1024), i = ix3 b s k := ⟨i 0, i 1, i 2, eq_ix3 i⟩
  refine congrArg md (funext fun d => Fin.ext ?_)
  match d with
  | ⟨0, _⟩ => rfl
  | ⟨1, _⟩ => show (r + s.val + q) % 6 = o + s.val; omega
  | ⟨2, _⟩ => rfl

/-! ## The mixed rows -/

variable (a b : FVec Ideal S16384x512 .bf16) (ac bc : FVec Ideal S1024x512 .bf16)

def mixLat : FVec Ideal S16384x1024 .bf16 := concatenate S16384x1024 1 [⟨S16384x512, a⟩, ⟨S16384x512, b⟩] concatenates_S16384x512_S16384x512_S16384x1024_d1
def mixCtx : FVec Ideal S1024x1024 .bf16 := concatenate S1024x1024 1 [⟨S1024x512, ac⟩, ⟨S1024x512, bc⟩] concatenates_S1024x512_S1024x512_S1024x1024_d1
def mix : FVec Ideal S17408x1024 .f32 :=
  extf .f32 (concatenate S17408x1024 0 [⟨S16384x1024, mixLat a b⟩, ⟨S1024x1024, mixCtx ac bc⟩] concatenates_S16384x1024_S1024x1024_S17408x1024_d0) bitsLt_bf16_f32

theorem mixLat_apply (r : Fin 16384) (k : Fin 1024) : mixLat a b (ix2 r k) = if h : k.val < 512 then a (ix2 r ⟨k.val, h⟩) else b (ix2 r ⟨k.val - 512, by omega⟩) := by
  unfold mixLat
  by_cases h : k.val < 512
  · rw [dif_pos h]
    exact concatenate_pair_apply_left (s₁ := S16384x512) (s₂ := S16384x512) (1 : Fin S16384x1024.rank) _ _ _ (ix2 r k) rfl (ix2 r (⟨k.val, h⟩ : Fin 512)) (fun d => by
      match d with
      | ⟨0, _⟩ => rfl
      | ⟨1, _⟩ => rfl)
  · rw [dif_neg h]
    exact concatenate_pair_apply_right (s₁ := S16384x512) (s₂ := S16384x512) (1 : Fin S16384x1024.rank) _ _ _ (ix2 r k) rfl rfl (ix2 r (⟨k.val - 512, by omega⟩ : Fin 512)) (fun d hd => by
      match d with
      | ⟨0, _⟩ => rfl
      | ⟨1, _⟩ => exact absurd rfl hd) (by show k.val - 512 + 512 = k.val; omega)

theorem mixCtx_apply (r k : Fin 1024) : mixCtx ac bc (ix2 r k) = if h : k.val < 512 then ac (ix2 r ⟨k.val, h⟩) else bc (ix2 r ⟨k.val - 512, by omega⟩) := by
  unfold mixCtx
  by_cases h : k.val < 512
  · rw [dif_pos h]
    exact concatenate_pair_apply_left (s₁ := S1024x512) (s₂ := S1024x512) (1 : Fin S1024x1024.rank) _ _ _ (ix2 r k) rfl (ix2 r (⟨k.val, h⟩ : Fin 512)) (fun d => by
      match d with
      | ⟨0, _⟩ => rfl
      | ⟨1, _⟩ => rfl)
  · rw [dif_neg h]
    exact concatenate_pair_apply_right (s₁ := S1024x512) (s₂ := S1024x512) (1 : Fin S1024x1024.rank) _ _ _ (ix2 r k) rfl rfl (ix2 r (⟨k.val - 512, by omega⟩ : Fin 512)) (fun d hd => by
      match d with
      | ⟨0, _⟩ => rfl
      | ⟨1, _⟩ => exact absurd rfl hd) (by show k.val - 512 + 512 = k.val; omega)

theorem mix_apply (r : Fin 17408) (k : Fin 1024) : mix a b ac bc (ix2 r k) = mixed a b ac bc r k := by
  unfold mix
  show concatenate S17408x1024 0 [⟨S16384x1024, mixLat a b⟩, ⟨S1024x1024, mixCtx ac bc⟩] concatenates_S16384x1024_S1024x1024_S17408x1024_d0 (ix2 r k) = _
  unfold mixed half
  by_cases h : r.val < 16384
  · rw [concatenate_pair_apply_left (s₁ := S16384x1024) (s₂ := S1024x1024) (0 : Fin S17408x1024.rank) _ _ _ (ix2 r k) rfl (ix2 (⟨r.val, h⟩ : Fin 16384) k) (fun d => by
      match d with
      | ⟨0, _⟩ => rfl
      | ⟨1, _⟩ => rfl), mixLat_apply]
    simp only [dif_pos h]
  · rw [concatenate_pair_apply_right (s₁ := S16384x1024) (s₂ := S1024x1024) (0 : Fin S17408x1024.rank) _ _ _ (ix2 r k) rfl rfl (ix2 (⟨r.val - 16384, by omega⟩ : Fin 1024) k) (fun d hd => by
      match d with
      | ⟨0, _⟩ => exact absurd rfl hd
      | ⟨1, _⟩ => rfl) (by show r.val - 16384 + 16384 = r.val; omega), mixCtx_apply]
    simp only [dif_neg h]

/-! ## The rows after the projection -/

variable (x : FVec Ideal S16384x1024 .f32) (cx : FVec Ideal S1024x1024 .f32) (w : FVec Ideal S1024x1024 .f32) (nw : FVec Ideal S1x1024 .f32)

def prods : FVec Ideal S17408x1024 .f32 := Host.dotGeneral dot_S17408x1024_S1024x1024_S17408x1024_1_0_0_1_n_n none (mix a b ac bc) w

theorem prods_apply (r : Fin 17408) (j : Fin 1024) : prods a b ac bc w (ix2 r j) = ∑ k : Fin 1024, mixed a b ac bc r k * w (ix2 k j) := by
  refine (dotGeneral_plain_apply none (mix a b ac bc) w r j).trans (Finset.sum_congr rfl fun k _ => ?_)
  rw [mix_apply]

def latMid : FVec Ideal S4x4096x1024 .f32 :=
  addf (InprojRef.lat (tokens x cx)) (mulf (broadcastInDim S4x4096x1024 ![0, 1, 2] bcast_S4x1x1024_S4x4096x1024_0_1_2 (InprojRef.latScale (later md 1))) (InprojRef.lat (prods a b ac bc w)))
def ctxMid : FVec Ideal S1024x1024 .f32 :=
  addf (InprojRef.ctx (tokens x cx)) (mulf (broadcastInDim S1024x1024 ![0, 1] bcast_S1x1024_S1024x1024_0_1 (broadcastInDim S1x1024 ![1] bcast_S1024_S1x1024_1 (InprojRef.ctxScale (later md 1)))) (InprojRef.ctx (prods a b ac bc w)))
def rowsMid : FVec Ideal S17408x1024 .f32 :=
  concatenate S17408x1024 0 [⟨S16384x1024, shapeCast _ (latMid md a b ac bc x cx w) shapeCasts_S4x4096x1024_S16384x1024⟩, ⟨S1024x1024, ctxMid md a b ac bc x cx w⟩] concatenates_S16384x1024_S1024x1024_S17408x1024_d0

theorem tokens_apply (r : Fin 17408) (k : Fin 1024) : tokens x cx (ix2 r k) = stack x cx r k := rfl

theorem later_apply (q : ℕ) (n : Fin 8) (r r' : Fin 6) (k : Fin 1024) (h : (r.val + q) % 6 = r'.val) : later md q (ix3 n r k) = md (ix3 n r' k) :=
  congrArg (fun z => md (ix3 n z k)) (Fin.ext h)

theorem addmul_apply {S : Shape} (u v z : FVec Ideal S .f32) (i : S.Idx) : addf u (mulf v z) i = u i + v i * z i := rfl

theorem gate_lat (n : Fin 4) (s : Fin 4096) (j : Fin 1024) :
    broadcastInDim S4x4096x1024 ![0, 1, 2] bcast_S4x1x1024_S4x4096x1024_0_1_2 (InprojRef.latScale (later md 1)) (ix3 n s j) = md (ix3 ⟨1 + n.val, by omega⟩ 2 j) :=
  (InprojRef.spreadBatch (InprojRef.latScale (later md 1)) n s j).trans ((InprojRef.latScale_apply (later md 1) n j).trans (later_apply md 1 _ 1 2 j (by decide)))

theorem lat_prods (n : Fin 4) (s : Fin 4096) (j : Fin 1024) :
    InprojRef.lat (prods a b ac bc w) (ix3 n s j) = ∑ k : Fin 1024, mixed a b ac bc ⟨n.val * 4096 + s.val, InprojRef.lat_lt n s⟩ k * w (ix2 k j) :=
  (InprojRef.lat_apply (prods a b ac bc w) n s j).trans (prods_apply a b ac bc w _ j)

theorem lat_tokens (n : Fin 4) (s : Fin 4096) (j : Fin 1024) : InprojRef.lat (tokens x cx) (ix3 n s j) = stack x cx ⟨n.val * 4096 + s.val, InprojRef.lat_lt n s⟩ j :=
  (InprojRef.lat_apply (tokens x cx) n s j).trans (tokens_apply x cx _ j)

theorem latMid_apply (n : Fin 4) (s : Fin 4096) (j : Fin 1024) : latMid md a b ac bc x cx w (ix3 n s j) =
    mid (stack x cx ⟨n.val * 4096 + s.val, InprojRef.lat_lt n s⟩) (fun i => md (ix3 ⟨1 + n.val, by omega⟩ 2 i)) (mixed a b ac bc ⟨n.val * 4096 + s.val, InprojRef.lat_lt n s⟩) (fun k j => w (ix2 k j)) j := by
  unfold latMid mid
  rw [addmul_apply]
  exact congr (congrArg (fun p q : EReal => p + q) (lat_tokens x cx n s j)) (congr (congrArg (fun p q : EReal => p * q) (gate_lat md n s j)) (lat_prods a b ac bc w n s j))

theorem ctxMid_apply (r j : Fin 1024) : ctxMid md a b ac bc x cx w (ix2 r j) =
    mid (stack x cx ⟨16384 + r.val, by omega⟩) (fun i => md (ix3 0 2 i)) (mixed a b ac bc ⟨16384 + r.val, by omega⟩) (fun k j => w (ix2 k j)) j := by
  show InprojRef.ctx (tokens x cx) (ix2 r j) + broadcastInDim S1024x1024 ![0, 1] bcast_S1x1024_S1024x1024_0_1 (broadcastInDim S1x1024 ![1] bcast_S1024_S1x1024_1 (InprojRef.ctxScale (later md 1))) (ix2 r j) * InprojRef.ctx (prods a b ac bc w) (ix2 r j) = _
  rw [InprojRef.spreadRow', InprojRef.ctxScale_apply, InprojRef.ctx_apply, InprojRef.ctx_apply, prods_apply, tokens_apply, later_apply md 1 _ 1 2 j (by decide)]
  unfold mid
  exact Eq.refl _

theorem rowsMid_lat (n : Fin 4) (s : Fin 4096) (k : Fin 1024) (h : n.val * 4096 + s.val < 17408) :
    rowsMid md a b ac bc x cx w (ix2 ⟨n.val * 4096 + s.val, h⟩ k) = latMid md a b ac bc x cx w (ix3 n s k) := by
  unfold rowsMid
  rw [concatenate_pair_apply_left (s₁ := S16384x1024) (s₂ := S1024x1024) (0 : Fin S17408x1024.rank) _ _ _ (ix2 (⟨n.val * 4096 + s.val, h⟩ : Fin 17408) k) rfl (ix2 (⟨n.val * 4096 + s.val, by omega⟩ : Fin 16384) k) (fun i => by
    match i with
    | ⟨0, _⟩ => rfl
    | ⟨1, _⟩ => rfl)]
  exact shapeCast_apply _ _ _ (ix3 n s k) (by
    rw [Shape.rowMajor_val_two, Shape.rowMajor_val_three]
    rfl)

theorem rowsMid_ctx (r k : Fin 1024) (h : 16384 + r.val < 17408) : rowsMid md a b ac bc x cx w (ix2 ⟨16384 + r.val, h⟩ k) = ctxMid md a b ac bc x cx w (ix2 r k) := by
  unfold rowsMid
  exact concatenate_pair_apply_right (s₁ := S16384x1024) (s₂ := S1024x1024) (0 : Fin S17408x1024.rank) _ _ _ (ix2 (⟨16384 + r.val, h⟩ : Fin 17408) k) rfl rfl (ix2 r k)
    (fun i hi => by
      match i with
      | ⟨0, _⟩ => exact absurd rfl hi
      | ⟨1, _⟩ => rfl)
    (Nat.add_comm _ _)

/-- Row `r` of tile `t` after the projection. -/
theorem rowsMid_apply (t : ℕ) (r : Fin 1024) (h : t * 1024 + r.val < 17408) (j : Fin 1024) : rowsMid md a b ac bc x cx w (ix2 ⟨t * 1024 + r.val, h⟩ j) =
    mid (stack x cx ⟨t * 1024 + r.val, h⟩) (fun i => md (ix3 ⟨modRow t, modRow_lt t⟩ 2 i)) (mixed a b ac bc ⟨t * 1024 + r.val, h⟩) (fun k j => w (ix2 k j)) j := by
  by_cases ht : t < 16
  · obtain ⟨n, hn⟩ : ∃ n : Fin 4, n.val = t / 4 := ⟨⟨t / 4, by omega⟩, rfl⟩
    obtain ⟨s, hs⟩ : ∃ s : Fin 4096, s.val = t % 4 * 1024 + r.val := ⟨⟨t % 4 * 1024 + r.val, by omega⟩, rfl⟩
    have e : (⟨t * 1024 + r.val, h⟩ : Fin 17408) = ⟨n.val * 4096 + s.val, by omega⟩ := Fin.ext (by show t * 1024 + r.val = n.val * 4096 + s.val; omega)
    have e' : (⟨modRow t, modRow_lt t⟩ : Fin 8) = ⟨1 + n.val, by omega⟩ := Fin.ext (by show modRow t = 1 + n.val; unfold modRow; rw [if_pos ht, hn])
    rw [e, e', rowsMid_lat, latMid_apply]
  · have e : (⟨t * 1024 + r.val, h⟩ : Fin 17408) = ⟨16384 + r.val, by omega⟩ := Fin.ext (by show t * 1024 + r.val = 16384 + r.val; omega)
    have e' : (⟨modRow t, modRow_lt t⟩ : Fin 8) = 0 := Fin.ext (by show modRow t = 0; unfold modRow; rw [if_neg ht])
    rw [e, e', rowsMid_ctx, ctxMid_apply]

theorem lat_mid : InprojRef.lat (rowsMid md a b ac bc x cx w) = latMid md a b ac bc x cx w := by
  funext i
  obtain ⟨n, s, k, rfl⟩ : ∃ (n : Fin 4) (s : Fin 4096) (k : Fin 1024), i = ix3 n s k := ⟨i 0, i 1, i 2, eq_ix3 i⟩
  rw [InprojRef.lat_apply, rowsMid_lat]

theorem ctx_mid : InprojRef.ctx (rowsMid md a b ac bc x cx w) = ctxMid md a b ac bc x cx w := by
  funext i
  obtain ⟨r, k, rfl⟩ : ∃ (r : Fin 1024) (k : Fin 1024), i = ix2 r k := ⟨i 0, i 1, eq_ix2 i⟩
  rw [InprojRef.ctx_apply, rowsMid_ctx]

/-- The normed rows. -/
def rowsNorm : FVec Ideal S17408x1024 .f32 := InprojRef.rows (rowsMid md a b ac bc x cx w) (later md 3) nw

theorem rowsNorm_apply (t : ℕ) (r : Fin 1024) (h : t * 1024 + r.val < 17408) (j : Fin 1024) : rowsNorm md a b ac bc x cx w nw (ix2 ⟨t * 1024 + r.val, h⟩ j) =
    normed (mid (stack x cx ⟨t * 1024 + r.val, h⟩) (fun i => md (ix3 ⟨modRow t, modRow_lt t⟩ 2 i)) (mixed a b ac bc ⟨t * 1024 + r.val, h⟩) (fun k j => w (ix2 k j)))
      (fun i => nw (ix2 0 i)) (fun i => md (ix3 ⟨modRow t, modRow_lt t⟩ 4 i)) (fun i => md (ix3 ⟨modRow t, modRow_lt t⟩ 3 i)) j := by
  unfold rowsNorm
  rw [InprojRef.rows_apply]
  simp only [rowsMid_apply, later_apply md 3 _ 1 4 _ (by decide), later_apply md 3 _ 0 3 _ (by decide)]

/-! ## The reference's results -/

section Results

variable (m : (ℓ : Loc nD τ sig) → Buf (Elt Ideal) ℓ) (c : Dev nD)

abbrev B0 : S16384x512.Idx → EReal := m ((c.tc : Thread nD τ).loc main_arg0)
abbrev B1 : S1024x512.Idx → EReal := m ((c.tc : Thread nD τ).loc main_arg1)
abbrev B2 : S16384x512.Idx → EReal := m ((c.tc : Thread nD τ).loc main_arg2)
abbrev B3 : S1024x512.Idx → EReal := m ((c.tc : Thread nD τ).loc main_arg3)
abbrev B4 : S16384x1024.Idx → EReal := m ((c.tc : Thread nD τ).loc main_arg4)
abbrev B5 : S1024x1024.Idx → EReal := m ((c.tc : Thread nD τ).loc main_arg5)
abbrev B6 : S8x6x1024.Idx → EReal := m ((c.tc : Thread nD τ).loc main_arg6)
abbrev B7 : S1x1024.Idx → EReal := m ((c.tc : Thread nD τ).loc main_arg7)
abbrev B8 : S1024x1024.Idx → EReal := m ((c.tc : Thread nD τ).loc main_arg8)

theorem scale_gate : InprojRef.latScale (later md 1) =
    broadcastInDim S4x1x1024 ![0, 2] bcast_S4x1024_S4x1x1024_0_2 (shapeCast _ (extractStridedSlice S4x1x1024 ![1, 2, 0] md slices_S8x6x1024_S4x1x1024_1_2_0) shapeCasts_S4x1x1024_S4x1024) := by
  unfold InprojRef.latScale
  rw [slice_lat md 2 1 1 (by decide) _ slices_S8x6x1024_S4x1x1024_1_2_0]

theorem scale_gate' : InprojRef.ctxScale (later md 1) = shapeCast _ (extractStridedSlice S1x1x1024 ![0, 2, 0] md slices_S8x6x1024_S1x1x1024_0_2_0) shapeCasts_S1x1x1024_S1024 := by
  unfold InprojRef.ctxScale
  rw [slice_ctx md 2 1 1 (by decide) _ slices_S8x6x1024_S1x1x1024_0_2_0]

theorem scale_norm : InprojRef.latScale (later md 3) =
    broadcastInDim S4x1x1024 ![0, 2] bcast_S4x1024_S4x1x1024_0_2 (shapeCast _ (extractStridedSlice S4x1x1024 ![1, 4, 0] md slices_S8x6x1024_S4x1x1024_1_4_0) shapeCasts_S4x1x1024_S4x1024) := by
  unfold InprojRef.latScale
  rw [slice_lat md 4 3 1 (by decide) _ slices_S8x6x1024_S4x1x1024_1_4_0]

theorem scale_norm' : InprojRef.ctxScale (later md 3) = shapeCast _ (extractStridedSlice S1x1x1024 ![0, 4, 0] md slices_S8x6x1024_S1x1x1024_0_4_0) shapeCasts_S1x1x1024_S1024 := by
  unfold InprojRef.ctxScale
  rw [slice_ctx md 4 3 1 (by decide) _ slices_S8x6x1024_S1x1x1024_0_4_0]

theorem shift_norm : InprojRef.latShift (later md 3) =
    broadcastInDim S4x1x1024 ![0, 2] bcast_S4x1024_S4x1x1024_0_2 (shapeCast _ (extractStridedSlice S4x1x1024 ![1, 3, 0] md slices_S8x6x1024_S4x1x1024_1_3_0) shapeCasts_S4x1x1024_S4x1024) := by
  unfold InprojRef.latShift
  rw [slice_lat md 3 3 0 (by decide) _ slices_S8x6x1024_S4x1x1024_1_3_0]

theorem shift_norm' : InprojRef.ctxShift (later md 3) = shapeCast _ (extractStridedSlice S1x1x1024 ![0, 3, 0] md slices_S8x6x1024_S1x1x1024_0_3_0) shapeCasts_S1x1x1024_S1024 := by
  unfold InprojRef.ctxShift
  rw [slice_ctx md 3 3 0 (by decide) _ slices_S8x6x1024_S1x1x1024_0_3_0]

/-- The rows before they are joined, as the reference states them. -/
theorem latMid_eq : latMid md a b ac bc x cx w = addf (shapeCast _ x shapeCasts_S16384x1024_S4x4096x1024)
    (mulf (broadcastInDim S4x4096x1024 ![0, 1, 2] bcast_S4x1x1024_S4x4096x1024_0_1_2 (broadcastInDim S4x1x1024 ![0, 2] bcast_S4x1024_S4x1x1024_0_2 (shapeCast _ (extractStridedSlice S4x1x1024 ![1, 2, 0] md slices_S8x6x1024_S4x1x1024_1_2_0) shapeCasts_S4x1x1024_S4x1024)))
      (shapeCast _ (extractStridedSlice S16384x1024 ![0, 0] (prods a b ac bc w) slices_S17408x1024_S16384x1024_0_0) shapeCasts_S16384x1024_S4x4096x1024)) := by
  unfold latMid
  rw [InprojEvenRef.lat_eq, scale_gate]
  rfl

theorem ctxMid_eq : ctxMid md a b ac bc x cx w = addf cx
    (mulf (broadcastInDim S1024x1024 ![0, 1] bcast_S1x1024_S1024x1024_0_1 (broadcastInDim S1x1024 ![1] bcast_S1024_S1x1024_1 (shapeCast _ (extractStridedSlice S1x1x1024 ![0, 2, 0] md slices_S8x6x1024_S1x1x1024_0_2_0) shapeCasts_S1x1x1024_S1024)))
      (extractStridedSlice S1024x1024 ![16384, 0] (prods a b ac bc w) slices_S17408x1024_S1024x1024_16384_0)) := by
  unfold ctxMid
  rw [InprojEvenRef.ctx_eq, scale_gate']
  rfl

theorem res77_eq : Cert.Reference4Ideal.Value.res_main_v77 m c = rowsNorm (B6 m c) (B0 m c) (B2 m c) (B1 m c) (B3 m c) (B4 m c) (B5 m c) (B8 m c) (B7 m c) := by
  unfold rowsNorm InprojRef.rows InprojRef.latRows InprojRef.ctxRows InprojRef.latInv InprojRef.ctxInv
  rw [lat_mid, ctx_mid, scale_norm, scale_norm', shift_norm, shift_norm', latMid_eq, ctxMid_eq]
  rfl

end Results

end Cert.Proof.OutprojRef

end
-- ==== Proof.Outproj.Value.lean ====
/-
  The fourth value claim: the rows after the output projection, and their norms, are the reference's numbers, at every row
  and column.
-/
module

public import proofs.«01_k».proof.Defs
public import proofs.«01_k».proof.Proof.Outproj.Array
public import proofs.«01_k».proof.Proof.Outproj.Ref

@[expose] public section

noncomputable section

namespace Cert.Proof.OutprojValue

open Cert.Kernel4Ideal Cert.Kernel4Ideal.Gen Cert.Proof.Inproj Cert.Proof.Outproj
open Idealize.ShloMosaic
open Idealize.ShloMosaic.TcCoe Idealize.SL.Sem
open Idealize.ShloMosaic.ValueIdx (ix2 ix3 eq_ix2)

variable (m : (ℓ : Loc nD τ sig) → Buf (Elt Ideal) ℓ)

/-- Every index is a row of some tile. -/
theorem tile (i : S17408x1024.Idx) : ∃ (t : Fin cfg0.N) (a j : Fin 1024), i = ix2 (⟨t.val * 1024 + a.val, row_lt t a⟩ : Fin 17408) j := by
  obtain ⟨r, j, rfl⟩ : ∃ (r : Fin 17408) (j : Fin 1024), i = ix2 r j := ⟨i 0, i 1, eq_ix2 i⟩
  obtain ⟨t, ht⟩ : ∃ t : Fin cfg0.N, t.val = r.val / 1024 := ⟨⟨r.val / 1024, by rw [N_eq]; omega⟩, rfl⟩
  obtain ⟨a, ha⟩ : ∃ a : Fin 1024, a.val = r.val % 1024 := ⟨⟨r.val % 1024, Nat.mod_lt _ (by decide)⟩, rfl⟩
  exact ⟨t, a, j, congrArg (fun q => ix2 q j) (Fin.ext (by show r.val = t.val * 1024 + a.val; omega))⟩

theorem res0_eq (c : Dev nD) : res0 m c = OutprojRef.rowsMid (A6 m c) (A0 m c) (A2 m c) (A1 m c) (A3 m c) (A4 m c) (A5 m c) (A8 m c) := by
  funext i
  obtain ⟨t, a, j, rfl⟩ := tile i
  rw [res0_apply]
  exact (OutprojRef.rowsMid_apply (A6 m c) (A0 m c) (A2 m c) (A1 m c) (A3 m c) (A4 m c) (A5 m c) (A8 m c) t.val a (row_lt t a) j).symm

theorem res1_eq (c : Dev nD) : res1 m c = OutprojRef.rowsNorm (A6 m c) (A0 m c) (A2 m c) (A1 m c) (A3 m c) (A4 m c) (A5 m c) (A8 m c) (A7 m c) := by
  funext i
  obtain ⟨t, a, j, rfl⟩ := tile i
  rw [res1_apply]
  exact (OutprojRef.rowsNorm_apply (A6 m c) (A0 m c) (A2 m c) (A1 m c) (A3 m c) (A4 m c) (A5 m c) (A8 m c) (A7 m c) t.val a (row_lt t a) j).symm

theorem algebraic : Cert.algebraic_Kernel4Ideal_Reference4Ideal := by
  intro m g m' g' _ ha
  refine ⟨fun c => res0 m c, fun c => res1 m c, (θ_run defs _ _).mono (fun r hr c => ⟨(hr c).1, (hr c).2.1, (hr c).2.2.2⟩) (Cert.Kernel4Ideal.Value.run_blocks m g), ?_⟩
  refine (θ_run Cert.Reference4Ideal.defs _ _).mono (fun r hr c => ⟨?_, ?_, (hr c).2.2⟩) (Cert.Reference4Ideal.Value.run (F := Ideal) m' g')
  · obtain ⟨a0, a1, a2, a3, a4, a5, a6, a7, a8, -⟩ := ha c
    have h := (hr c).1.trans (show _ = OutprojRef.rowsMid (OutprojRef.B6 m' c) (OutprojRef.B0 m' c) (OutprojRef.B2 m' c) (OutprojRef.B1 m' c) (OutprojRef.B3 m' c) (OutprojRef.B4 m' c) (OutprojRef.B5 m' c) (OutprojRef.B8 m' c) from by
      unfold OutprojRef.rowsMid
      rw [OutprojRef.latMid_eq, OutprojRef.ctxMid_eq]
      rfl)
    unfold OutprojRef.B0 OutprojRef.B1 OutprojRef.B2 OutprojRef.B3 OutprojRef.B4 OutprojRef.B5 OutprojRef.B6 OutprojRef.B8 at h
    rw [a0, a1, a2, a3, a4, a5, a6, a8] at h
    exact h.trans (res0_eq m c).symm
  · obtain ⟨a0, a1, a2, a3, a4, a5, a6, a7, a8, -⟩ := ha c
    have h := (hr c).2.1.trans (OutprojRef.res77_eq m' c)
    unfold OutprojRef.B0 OutprojRef.B1 OutprojRef.B2 OutprojRef.B3 OutprojRef.B4 OutprojRef.B5 OutprojRef.B6 OutprojRef.B7 OutprojRef.B8 at h
    rw [a0, a1, a2, a3, a4, a5, a6, a7, a8] at h
    exact h.trans (res1_eq m c).symm

end Cert.Proof.OutprojValue

end
-- ==== Proof.lean ====
/-
  The claims of this certificate: the expert kernel and its ideal program end without fault, with their arguments and
  counters as the launch left them; so does the reference; and over the extended reals the kernel and the reference
  have the same result on the rows of the live tiles. The same for the input projections of
  the two layers and the output projection of the first, with the same results everywhere.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_expert_tables
public import proofs.«01_k».proof.Proof.Gen.On_live_rows
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Experts.Frame
public import proofs.«01_k».proof.Proof.ExpertsIdeal.Frame
public import proofs.«01_k».proof.Proof.ExpertsIdeal.Value
public import proofs.«01_k».proof.Proof.Inproj.Value
public import proofs.«01_k».proof.Proof.InprojEven.Value
public import proofs.«01_k».proof.Proof.Outproj.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ h => Cert.Proof.Kern.frame m ρ h

theorem frame_kernelIdeal : Cert.quiescent_KernelIdeal := fun m ρ h => Cert.Proof.KernI.frame m ρ h

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_pre : Cert.quiescent_ReferenceIdeal_pre_expert_tables := fun m ρ _ => frame_referenceIdeal m ρ ⟨⟩

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_reference4Ideal : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_expert_tables.Gen.facts, Cert.On_live_rows.Gen.facts,
  frame_kernel, frame_kernelIdeal, frame_referenceIdeal, frame_referenceIdeal_pre, frame_kernel2, frame_kernel2Ideal,
  frame_reference2Ideal, frame_kernel3, frame_kernel3Ideal, frame_reference3Ideal, frame_kernel4, frame_kernel4Ideal, frame_reference4Ideal, trivial, Cert.Proof.Value.algebraic,
  trivial, Cert.Proof.InprojValue.algebraic, trivial, Cert.Proof.InprojEvenValue.algebraic, trivial, Cert.Proof.OutprojValue.algebraic⟩

end Cert.Proof

end
